-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_QkvSample (m : (ℓ : Loc Cert.QkvSample.nD Cert.QkvSample.τ Cert.QkvSample.sig) → Buf (Elt Bits) ℓ) : Prop :=
  True

def Pre_QkvSampleIdeal (m : (ℓ : Loc Cert.QkvSampleIdeal.nD Cert.QkvSampleIdeal.τ Cert.QkvSampleIdeal.sig) → Buf (Elt Ideal) ℓ) : Prop :=
  True

def Pre_QkvSampleReferenceIdeal (m : (ℓ : Loc Cert.QkvSampleReferenceIdeal.nD Cert.QkvSampleReferenceIdeal.τ Cert.QkvSampleReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_MixerSample (m : (ℓ : Loc Cert.MixerSample.nD Cert.MixerSample.τ Cert.MixerSample.sig) → Buf (Elt Bits) ℓ) : Prop :=
  True

def Pre_MixerSampleIdeal (m : (ℓ : Loc Cert.MixerSampleIdeal.nD Cert.MixerSampleIdeal.τ Cert.MixerSampleIdeal.sig) → Buf (Elt Ideal) ℓ) : Prop :=
  True

def Pre_MixerSampleReferenceIdeal (m : (ℓ : Loc Cert.MixerSampleReferenceIdeal.nD Cert.MixerSampleReferenceIdeal.τ Cert.MixerSampleReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_QkvSample [hQkvSample : Cert.QkvSample.Facts] : Prop :=
  ∀ (m : (ℓ : Loc Cert.QkvSample.nD Cert.QkvSample.τ Cert.QkvSample.sig) → Buf (Elt Bits) ℓ) (g : Dev Cert.QkvSample.nD → PrngReg), Pre_QkvSample m →
    θ_run (Cert.QkvSample.defs (F := Bits)) (onTc (τ := Cert.QkvSample.τ) (Cert.QkvSample.main (F := Bits))) ⟨m, fun _ => 0, g⟩ (fun r => (∀ c : Dev Cert.QkvSample.nD,
      r.2.mem ((c.tc : Thread Cert.QkvSample.nD Cert.QkvSample.τ).loc Cert.QkvSample.main_arg0) = m ((c.tc : Thread Cert.QkvSample.nD Cert.QkvSample.τ).loc Cert.QkvSample.main_arg0)
      ∧ r.2.mem ((c.tc : Thread Cert.QkvSample.nD Cert.QkvSample.τ).loc Cert.QkvSample.main_arg1) = m ((c.tc : Thread Cert.QkvSample.nD Cert.QkvSample.τ).loc Cert.QkvSample.main_arg1)
      ∧ r.2.mem ((c.tc : Thread Cert.QkvSample.nD Cert.QkvSample.τ).loc Cert.QkvSample.main_arg2) = m ((c.tc : Thread Cert.QkvSample.nD Cert.QkvSample.τ).loc Cert.QkvSample.main_arg2)
      ∧ r.2.mem ((c.tc : Thread Cert.QkvSample.nD Cert.QkvSample.τ).loc Cert.QkvSample.main_arg3) = m ((c.tc : Thread Cert.QkvSample.nD Cert.QkvSample.τ).loc Cert.QkvSample.main_arg3)
      ∧ r.2.mem ((c.tc : Thread Cert.QkvSample.nD Cert.QkvSample.τ).loc Cert.QkvSample.main_arg4) = m ((c.tc : Thread Cert.QkvSample.nD Cert.QkvSample.τ).loc Cert.QkvSample.main_arg4))
      ∧ r.2.sem = fun _ => 0)

def quiescent_QkvSampleIdeal [hQkvSampleIdeal : Cert.QkvSampleIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg), Pre_QkvSampleIdeal m →
    θ_run (Cert.QkvSampleIdeal.defs (F := Ideal)) (onTc (τ := Cert.QkvSampleIdeal.τ) (Cert.QkvSampleIdeal.main (F := Ideal))) ⟨m, fun _ => 0, g⟩ (fun r => (∀ c : Dev Cert.QkvSampleIdeal.nD,
      r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
      ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
      ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2)
      ∧ r.2.mem ((c.tc : Thread Cert.QkvSampleIdeal.nD Cert.QkvSampleIdeal.τ).loc Cert.QkvSampleIdeal.main_arg3) = m ((c.tc : Thread Cert.QkvSampleIdeal.nD Cert.QkvSampleIdeal.τ).loc Cert.QkvSampleIdeal.main_arg3)
      ∧ r.2.mem ((c.tc : Thread Cert.QkvSampleIdeal.nD Cert.QkvSampleIdeal.τ).loc Cert.QkvSampleIdeal.main_arg4) = m ((c.tc : Thread Cert.QkvSampleIdeal.nD Cert.QkvSampleIdeal.τ).loc Cert.QkvSampleIdeal.main_arg4))
      ∧ r.2.sem = fun _ => 0)

def quiescent_QkvSampleReferenceIdeal [hQkvSampleReferenceIdeal : Cert.QkvSampleReferenceIdeal.Facts] : Prop :=
  ∀ (m : (ℓ : Loc Cert.QkvSampleReferenceIdeal.nD Cert.QkvSampleReferenceIdeal.τ Cert.QkvSampleReferenceIdeal.sig) → Buf (Elt Ideal) ℓ) (g : Dev Cert.QkvSampleReferenceIdeal.nD → PrngReg), Pre_QkvSampleReferenceIdeal m →
    θ_run (Cert.QkvSampleReferenceIdeal.defs (F := Ideal)) (onTc (τ := Cert.QkvSampleReferenceIdeal.τ) (Cert.QkvSampleReferenceIdeal.main (F := Ideal))) ⟨m, fun _ => 0, g⟩ (fun r => (∀ c : Dev Cert.QkvSampleReferenceIdeal.nD,
      r.2.mem ((c.tc : Thread Cert.QkvSampleReferenceIdeal.nD Cert.QkvSampleReferenceIdeal.τ).loc Cert.QkvSampleReferenceIdeal.main_arg0) = m ((c.tc : Thread Cert.QkvSampleReferenceIdeal.nD Cert.QkvSampleReferenceIdeal.τ).loc Cert.QkvSampleReferenceIdeal.main_arg0)
      ∧ r.2.mem ((c.tc : Thread Cert.QkvSampleReferenceIdeal.nD Cert.QkvSampleReferenceIdeal.τ).loc Cert.QkvSampleReferenceIdeal.main_arg1) = m ((c.tc : Thread Cert.QkvSampleReferenceIdeal.nD Cert.QkvSampleReferenceIdeal.τ).loc Cert.QkvSampleReferenceIdeal.main_arg1)
      ∧ r.2.mem ((c.tc : Thread Cert.QkvSampleReferenceIdeal.nD Cert.QkvSampleReferenceIdeal.τ).loc Cert.QkvSampleReferenceIdeal.main_arg2) = m ((c.tc : Thread Cert.QkvSampleReferenceIdeal.nD Cert.QkvSampleReferenceIdeal.τ).loc Cert.QkvSampleReferenceIdeal.main_arg2)
      ∧ r.2.mem ((c.tc : Thread Cert.QkvSampleReferenceIdeal.nD Cert.QkvSampleReferenceIdeal.τ).loc Cert.QkvSampleReferenceIdeal.main_arg3) = m ((c.tc : Thread Cert.QkvSampleReferenceIdeal.nD Cert.QkvSampleReferenceIdeal.τ).loc Cert.QkvSampleReferenceIdeal.main_arg3)
      ∧ r.2.mem ((c.tc : Thread Cert.QkvSampleReferenceIdeal.nD Cert.QkvSampleReferenceIdeal.τ).loc Cert.QkvSampleReferenceIdeal.main_arg4) = m ((c.tc : Thread Cert.QkvSampleReferenceIdeal.nD Cert.QkvSampleReferenceIdeal.τ).loc Cert.QkvSampleReferenceIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4))
      ∧ r.2.sem = fun _ => 0)

def quiescent_MixerSample [hMixerSample : Cert.MixerSample.Facts] : Prop :=
  ∀ (m : (ℓ : Loc Cert.MixerSample.nD Cert.MixerSample.τ Cert.MixerSample.sig) → Buf (Elt Bits) ℓ) (g : Dev Cert.MixerSample.nD → PrngReg), Pre_MixerSample m →
    θ_run (Cert.MixerSample.defs (F := Bits)) (onTc (τ := Cert.MixerSample.τ) (Cert.MixerSample.main (F := Bits))) ⟨m, fun _ => 0, g⟩ (fun r => (∀ c : Dev Cert.MixerSample.nD,
      r.2.mem ((c.tc : Thread Cert.MixerSample.nD Cert.MixerSample.τ).loc Cert.MixerSample.main_arg0) = m ((c.tc : Thread Cert.MixerSample.nD Cert.MixerSample.τ).loc Cert.MixerSample.main_arg0)
      ∧ r.2.mem ((c.tc : Thread Cert.MixerSample.nD Cert.MixerSample.τ).loc Cert.MixerSample.main_arg1) = m ((c.tc : Thread Cert.MixerSample.nD Cert.MixerSample.τ).loc Cert.MixerSample.main_arg1)
      ∧ r.2.mem ((c.tc : Thread Cert.MixerSample.nD Cert.MixerSample.τ).loc Cert.MixerSample.main_arg2) = m ((c.tc : Thread Cert.MixerSample.nD Cert.MixerSample.τ).loc Cert.MixerSample.main_arg2)
      ∧ r.2.mem ((c.tc : Thread Cert.MixerSample.nD Cert.MixerSample.τ).loc Cert.MixerSample.main_arg3) = m ((c.tc : Thread Cert.MixerSample.nD Cert.MixerSample.τ).loc Cert.MixerSample.main_arg3)
      ∧ r.2.mem ((c.tc : Thread Cert.MixerSample.nD Cert.MixerSample.τ).loc Cert.MixerSample.main_arg4) = m ((c.tc : Thread Cert.MixerSample.nD Cert.MixerSample.τ).loc Cert.MixerSample.main_arg4)
      ∧ r.2.mem ((c.tc : Thread Cert.MixerSample.nD Cert.MixerSample.τ).loc Cert.MixerSample.main_arg5) = m ((c.tc : Thread Cert.MixerSample.nD Cert.MixerSample.τ).loc Cert.MixerSample.main_arg5)
      ∧ r.2.mem ((c.tc : Thread Cert.MixerSample.nD Cert.MixerSample.τ).loc Cert.MixerSample.main_arg6) = m ((c.tc : Thread Cert.MixerSample.nD Cert.MixerSample.τ).loc Cert.MixerSample.main_arg6)
      ∧ r.2.mem ((c.tc : Thread Cert.MixerSample.nD Cert.MixerSample.τ).loc Cert.MixerSample.main_arg7) = m ((c.tc : Thread Cert.MixerSample.nD Cert.MixerSample.τ).loc Cert.MixerSample.main_arg7)
      ∧ r.2.mem ((c.tc : Thread Cert.MixerSample.nD Cert.MixerSample.τ).loc Cert.MixerSample.main_arg8) = m ((c.tc : Thread Cert.MixerSample.nD Cert.MixerSample.τ).loc Cert.MixerSample.main_arg8)
      ∧ r.2.mem ((c.tc : Thread Cert.MixerSample.nD Cert.MixerSample.τ).loc Cert.MixerSample.main_arg9) = m ((c.tc : Thread Cert.MixerSample.nD Cert.MixerSample.τ).loc Cert.MixerSample.main_arg9)
      ∧ r.2.mem ((c.tc : Thread Cert.MixerSample.nD Cert.MixerSample.τ).loc Cert.MixerSample.main_arg10) = m ((c.tc : Thread Cert.MixerSample.nD Cert.MixerSample.τ).loc Cert.MixerSample.main_arg10)
      ∧ r.2.mem ((c.tc : Thread Cert.MixerSample.nD Cert.MixerSample.τ).loc Cert.MixerSample.main_arg11) = m ((c.tc : Thread Cert.MixerSample.nD Cert.MixerSample.τ).loc Cert.MixerSample.main_arg11)
      ∧ r.2.mem ((c.tc : Thread Cert.MixerSample.nD Cert.MixerSample.τ).loc Cert.MixerSample.main_arg12) = m ((c.tc : Thread Cert.MixerSample.nD Cert.MixerSample.τ).loc Cert.MixerSample.main_arg12)
      ∧ r.2.mem ((c.tc : Thread Cert.MixerSample.nD Cert.MixerSample.τ).loc Cert.MixerSample.main_arg13) = m ((c.tc : Thread Cert.MixerSample.nD Cert.MixerSample.τ).loc Cert.MixerSample.main_arg13)
      ∧ r.2.mem ((c.tc : Thread Cert.MixerSample.nD Cert.MixerSample.τ).loc Cert.MixerSample.main_arg14) = m ((c.tc : Thread Cert.MixerSample.nD Cert.MixerSample.τ).loc Cert.MixerSample.main_arg14)
      ∧ r.2.mem ((c.tc : Thread Cert.MixerSample.nD Cert.MixerSample.τ).loc Cert.MixerSample.main_arg15) = m ((c.tc : Thread Cert.MixerSample.nD Cert.MixerSample.τ).loc Cert.MixerSample.main_arg15)
      ∧ r.2.mem ((c.tc : Thread Cert.MixerSample.nD Cert.MixerSample.τ).loc Cert.MixerSample.main_arg16) = m ((c.tc : Thread Cert.MixerSample.nD Cert.MixerSample.τ).loc Cert.MixerSample.main_arg16)
      ∧ r.2.mem ((c.tc : Thread Cert.MixerSample.nD Cert.MixerSample.τ).loc Cert.MixerSample.main_arg17) = m ((c.tc : Thread Cert.MixerSample.nD Cert.MixerSample.τ).loc Cert.MixerSample.main_arg17)
      ∧ r.2.mem ((c.tc : Thread Cert.MixerSample.nD Cert.MixerSample.τ).loc Cert.MixerSample.main_arg18) = m ((c.tc : Thread Cert.MixerSample.nD Cert.MixerSample.τ).loc Cert.MixerSample.main_arg18))
      ∧ r.2.sem = fun _ => 0)

def quiescent_MixerSampleIdeal [hMixerSampleIdeal : Cert.MixerSampleIdeal.Facts] : Prop :=
  ∀ (m : (ℓ : Loc Cert.MixerSampleIdeal.nD Cert.MixerSampleIdeal.τ Cert.MixerSampleIdeal.sig) → Buf (Elt Ideal) ℓ) (g : Dev Cert.MixerSampleIdeal.nD → PrngReg), Pre_MixerSampleIdeal m →
    θ_run (Cert.MixerSampleIdeal.defs (F := Ideal)) (onTc (τ := Cert.MixerSampleIdeal.τ) (Cert.MixerSampleIdeal.main (F := Ideal))) ⟨m, fun _ => 0, g⟩ (fun r => (∀ c : Dev Cert.MixerSampleIdeal.nD,
      r.2.mem ((c.tc : Thread Cert.MixerSampleIdeal.nD Cert.MixerSampleIdeal.τ).loc Cert.MixerSampleIdeal.main_arg0) = m ((c.tc : Thread Cert.MixerSampleIdeal.nD Cert.MixerSampleIdeal.τ).loc Cert.MixerSampleIdeal.main_arg0)
      ∧ r.2.mem ((c.tc : Thread Cert.MixerSampleIdeal.nD Cert.MixerSampleIdeal.τ).loc Cert.MixerSampleIdeal.main_arg1) = m ((c.tc : Thread Cert.MixerSampleIdeal.nD Cert.MixerSampleIdeal.τ).loc Cert.MixerSampleIdeal.main_arg1)
      ∧ r.2.mem ((c.tc : Thread Cert.MixerSampleIdeal.nD Cert.MixerSampleIdeal.τ).loc Cert.MixerSampleIdeal.main_arg2) = m ((c.tc : Thread Cert.MixerSampleIdeal.nD Cert.MixerSampleIdeal.τ).loc Cert.MixerSampleIdeal.main_arg2)
      ∧ r.2.mem ((c.tc : Thread Cert.MixerSampleIdeal.nD Cert.MixerSampleIdeal.τ).loc Cert.MixerSampleIdeal.main_arg3) = m ((c.tc : Thread Cert.MixerSampleIdeal.nD Cert.MixerSampleIdeal.τ).loc Cert.MixerSampleIdeal.main_arg3)
      ∧ r.2.mem ((c.tc : Thread Cert.MixerSampleIdeal.nD Cert.MixerSampleIdeal.τ).loc Cert.MixerSampleIdeal.main_arg4) = m ((c.tc : Thread Cert.MixerSampleIdeal.nD Cert.MixerSampleIdeal.τ).loc Cert.MixerSampleIdeal.main_arg4)
      ∧ r.2.mem ((c.tc : Thread Cert.MixerSampleIdeal.nD Cert.MixerSampleIdeal.τ).loc Cert.MixerSampleIdeal.main_arg5) = m ((c.tc : Thread Cert.MixerSampleIdeal.nD Cert.MixerSampleIdeal.τ).loc Cert.MixerSampleIdeal.main_arg5)
      ∧ r.2.mem ((c.tc : Thread Cert.MixerSampleIdeal.nD Cert.MixerSampleIdeal.τ).loc Cert.MixerSampleIdeal.main_arg6) = m ((c.tc : Thread Cert.MixerSampleIdeal.nD Cert.MixerSampleIdeal.τ).loc Cert.MixerSampleIdeal.main_arg6)
      ∧ r.2.mem ((c.tc : Thread Cert.MixerSampleIdeal.nD Cert.MixerSampleIdeal.τ).loc Cert.MixerSampleIdeal.main_arg7) = m ((c.tc : Thread Cert.MixerSampleIdeal.nD Cert.MixerSampleIdeal.τ).loc Cert.MixerSampleIdeal.main_arg7)
      ∧ r.2.mem ((c.tc : Thread Cert.MixerSampleIdeal.nD Cert.MixerSampleIdeal.τ).loc Cert.MixerSampleIdeal.main_arg8) = m ((c.tc : Thread Cert.MixerSampleIdeal.nD Cert.MixerSampleIdeal.τ).loc Cert.MixerSampleIdeal.main_arg8)
      ∧ r.2.mem ((c.tc : Thread Cert.MixerSampleIdeal.nD Cert.MixerSampleIdeal.τ).loc Cert.MixerSampleIdeal.main_arg9) = m ((c.tc : Thread Cert.MixerSampleIdeal.nD Cert.MixerSampleIdeal.τ).loc Cert.MixerSampleIdeal.main_arg9)
      ∧ r.2.mem ((c.tc : Thread Cert.MixerSampleIdeal.nD Cert.MixerSampleIdeal.τ).loc Cert.MixerSampleIdeal.main_arg10) = m ((c.tc : Thread Cert.MixerSampleIdeal.nD Cert.MixerSampleIdeal.τ).loc Cert.MixerSampleIdeal.main_arg10)
      ∧ r.2.mem ((c.tc : Thread Cert.MixerSampleIdeal.nD Cert.MixerSampleIdeal.τ).loc Cert.MixerSampleIdeal.main_arg11) = m ((c.tc : Thread Cert.MixerSampleIdeal.nD Cert.MixerSampleIdeal.τ).loc Cert.MixerSampleIdeal.main_arg11)
      ∧ r.2.mem ((c.tc : Thread Cert.MixerSampleIdeal.nD Cert.MixerSampleIdeal.τ).loc Cert.MixerSampleIdeal.main_arg12) = m ((c.tc : Thread Cert.MixerSampleIdeal.nD Cert.MixerSampleIdeal.τ).loc Cert.MixerSampleIdeal.main_arg12)
      ∧ r.2.mem ((c.tc : Thread Cert.MixerSampleIdeal.nD Cert.MixerSampleIdeal.τ).loc Cert.MixerSampleIdeal.main_arg13) = m ((c.tc : Thread Cert.MixerSampleIdeal.nD Cert.MixerSampleIdeal.τ).loc Cert.MixerSampleIdeal.main_arg13)
      ∧ r.2.mem ((c.tc : Thread Cert.MixerSampleIdeal.nD Cert.MixerSampleIdeal.τ).loc Cert.MixerSampleIdeal.main_arg14) = m ((c.tc : Thread Cert.MixerSampleIdeal.nD Cert.MixerSampleIdeal.τ).loc Cert.MixerSampleIdeal.main_arg14)
      ∧ r.2.mem ((c.tc : Thread Cert.MixerSampleIdeal.nD Cert.MixerSampleIdeal.τ).loc Cert.MixerSampleIdeal.main_arg15) = m ((c.tc : Thread Cert.MixerSampleIdeal.nD Cert.MixerSampleIdeal.τ).loc Cert.MixerSampleIdeal.main_arg15)
      ∧ r.2.mem ((c.tc : Thread Cert.MixerSampleIdeal.nD Cert.MixerSampleIdeal.τ).loc Cert.MixerSampleIdeal.main_arg16) = m ((c.tc : Thread Cert.MixerSampleIdeal.nD Cert.MixerSampleIdeal.τ).loc Cert.MixerSampleIdeal.main_arg16)
      ∧ r.2.mem ((c.tc : Thread Cert.MixerSampleIdeal.nD Cert.MixerSampleIdeal.τ).loc Cert.MixerSampleIdeal.main_arg17) = m ((c.tc : Thread Cert.MixerSampleIdeal.nD Cert.MixerSampleIdeal.τ).loc Cert.MixerSampleIdeal.main_arg17)
      ∧ r.2.mem ((c.tc : Thread Cert.MixerSampleIdeal.nD Cert.MixerSampleIdeal.τ).loc Cert.MixerSampleIdeal.main_arg18) = m ((c.tc : Thread Cert.MixerSampleIdeal.nD Cert.MixerSampleIdeal.τ).loc Cert.MixerSampleIdeal.main_arg18))
      ∧ r.2.sem = fun _ => 0)

def quiescent_MixerSampleReferenceIdeal [hMixerSampleReferenceIdeal : Cert.MixerSampleReferenceIdeal.Facts] : Prop :=
  ∀ (m : (ℓ : Loc Cert.MixerSampleReferenceIdeal.nD Cert.MixerSampleReferenceIdeal.τ Cert.MixerSampleReferenceIdeal.sig) → Buf (Elt Ideal) ℓ) (g : Dev Cert.MixerSampleReferenceIdeal.nD → PrngReg), Pre_MixerSampleReferenceIdeal m →
    θ_run (Cert.MixerSampleReferenceIdeal.defs (F := Ideal)) (onTc (τ := Cert.MixerSampleReferenceIdeal.τ) (Cert.MixerSampleReferenceIdeal.main (F := Ideal))) ⟨m, fun _ => 0, g⟩ (fun r => (∀ c : Dev Cert.MixerSampleReferenceIdeal.nD,
      r.2.mem ((c.tc : Thread Cert.MixerSampleReferenceIdeal.nD Cert.MixerSampleReferenceIdeal.τ).loc Cert.MixerSampleReferenceIdeal.main_arg0) = m ((c.tc : Thread Cert.MixerSampleReferenceIdeal.nD Cert.MixerSampleReferenceIdeal.τ).loc Cert.MixerSampleReferenceIdeal.main_arg0)
      ∧ r.2.mem ((c.tc : Thread Cert.MixerSampleReferenceIdeal.nD Cert.MixerSampleReferenceIdeal.τ).loc Cert.MixerSampleReferenceIdeal.main_arg1) = m ((c.tc : Thread Cert.MixerSampleReferenceIdeal.nD Cert.MixerSampleReferenceIdeal.τ).loc Cert.MixerSampleReferenceIdeal.main_arg1)
      ∧ r.2.mem ((c.tc : Thread Cert.MixerSampleReferenceIdeal.nD Cert.MixerSampleReferenceIdeal.τ).loc Cert.MixerSampleReferenceIdeal.main_arg2) = m ((c.tc : Thread Cert.MixerSampleReferenceIdeal.nD Cert.MixerSampleReferenceIdeal.τ).loc Cert.MixerSampleReferenceIdeal.main_arg2)
      ∧ r.2.mem ((c.tc : Thread Cert.MixerSampleReferenceIdeal.nD Cert.MixerSampleReferenceIdeal.τ).loc Cert.MixerSampleReferenceIdeal.main_arg3) = m ((c.tc : Thread Cert.MixerSampleReferenceIdeal.nD Cert.MixerSampleReferenceIdeal.τ).loc Cert.MixerSampleReferenceIdeal.main_arg3)
      ∧ r.2.mem ((c.tc : Thread Cert.MixerSampleReferenceIdeal.nD Cert.MixerSampleReferenceIdeal.τ).loc Cert.MixerSampleReferenceIdeal.main_arg4) = m ((c.tc : Thread Cert.MixerSampleReferenceIdeal.nD Cert.MixerSampleReferenceIdeal.τ).loc Cert.MixerSampleReferenceIdeal.main_arg4)
      ∧ r.2.mem ((c.tc : Thread Cert.MixerSampleReferenceIdeal.nD Cert.MixerSampleReferenceIdeal.τ).loc Cert.MixerSampleReferenceIdeal.main_arg5) = m ((c.tc : Thread Cert.MixerSampleReferenceIdeal.nD Cert.MixerSampleReferenceIdeal.τ).loc Cert.MixerSampleReferenceIdeal.main_arg5)
      ∧ r.2.mem ((c.tc : Thread Cert.MixerSampleReferenceIdeal.nD Cert.MixerSampleReferenceIdeal.τ).loc Cert.MixerSampleReferenceIdeal.main_arg6) = m ((c.tc : Thread Cert.MixerSampleReferenceIdeal.nD Cert.MixerSampleReferenceIdeal.τ).loc Cert.MixerSampleReferenceIdeal.main_arg6)
      ∧ r.2.mem ((c.tc : Thread Cert.MixerSampleReferenceIdeal.nD Cert.MixerSampleReferenceIdeal.τ).loc Cert.MixerSampleReferenceIdeal.main_arg7) = m ((c.tc : Thread Cert.MixerSampleReferenceIdeal.nD Cert.MixerSampleReferenceIdeal.τ).loc Cert.MixerSampleReferenceIdeal.main_arg7)
      ∧ r.2.mem ((c.tc : Thread Cert.MixerSampleReferenceIdeal.nD Cert.MixerSampleReferenceIdeal.τ).loc Cert.MixerSampleReferenceIdeal.main_arg8) = m ((c.tc : Thread Cert.MixerSampleReferenceIdeal.nD Cert.MixerSampleReferenceIdeal.τ).loc Cert.MixerSampleReferenceIdeal.main_arg8)
      ∧ r.2.mem ((c.tc : Thread Cert.MixerSampleReferenceIdeal.nD Cert.MixerSampleReferenceIdeal.τ).loc Cert.MixerSampleReferenceIdeal.main_arg9) = m ((c.tc : Thread Cert.MixerSampleReferenceIdeal.nD Cert.MixerSampleReferenceIdeal.τ).loc Cert.MixerSampleReferenceIdeal.main_arg9)
      ∧ r.2.mem ((c.tc : Thread Cert.MixerSampleReferenceIdeal.nD Cert.MixerSampleReferenceIdeal.τ).loc Cert.MixerSampleReferenceIdeal.main_arg10) = m ((c.tc : Thread Cert.MixerSampleReferenceIdeal.nD Cert.MixerSampleReferenceIdeal.τ).loc Cert.MixerSampleReferenceIdeal.main_arg10)
      ∧ r.2.mem ((c.tc : Thread Cert.MixerSampleReferenceIdeal.nD Cert.MixerSampleReferenceIdeal.τ).loc Cert.MixerSampleReferenceIdeal.main_arg11) = m ((c.tc : Thread Cert.MixerSampleReferenceIdeal.nD Cert.MixerSampleReferenceIdeal.τ).loc Cert.MixerSampleReferenceIdeal.main_arg11)
      ∧ r.2.mem ((c.tc : Thread Cert.MixerSampleReferenceIdeal.nD Cert.MixerSampleReferenceIdeal.τ).loc Cert.MixerSampleReferenceIdeal.main_arg12) = m ((c.tc : Thread Cert.MixerSampleReferenceIdeal.nD Cert.MixerSampleReferenceIdeal.τ).loc Cert.MixerSampleReferenceIdeal.main_arg12)
      ∧ r.2.mem ((c.tc : Thread Cert.MixerSampleReferenceIdeal.nD Cert.MixerSampleReferenceIdeal.τ).loc Cert.MixerSampleReferenceIdeal.main_arg13) = m ((c.tc : Thread Cert.MixerSampleReferenceIdeal.nD Cert.MixerSampleReferenceIdeal.τ).loc Cert.MixerSampleReferenceIdeal.main_arg13)
      ∧ r.2.mem ((c.tc : Thread Cert.MixerSampleReferenceIdeal.nD Cert.MixerSampleReferenceIdeal.τ).loc Cert.MixerSampleReferenceIdeal.main_arg14) = m ((c.tc : Thread Cert.MixerSampleReferenceIdeal.nD Cert.MixerSampleReferenceIdeal.τ).loc Cert.MixerSampleReferenceIdeal.main_arg14)
      ∧ r.2.mem ((c.tc : Thread Cert.MixerSampleReferenceIdeal.nD Cert.MixerSampleReferenceIdeal.τ).loc Cert.MixerSampleReferenceIdeal.main_arg15) = m ((c.tc : Thread Cert.MixerSampleReferenceIdeal.nD Cert.MixerSampleReferenceIdeal.τ).loc Cert.MixerSampleReferenceIdeal.main_arg15)
      ∧ r.2.mem ((c.tc : Thread Cert.MixerSampleReferenceIdeal.nD Cert.MixerSampleReferenceIdeal.τ).loc Cert.MixerSampleReferenceIdeal.main_arg16) = m ((c.tc : Thread Cert.MixerSampleReferenceIdeal.nD Cert.MixerSampleReferenceIdeal.τ).loc Cert.MixerSampleReferenceIdeal.main_arg16)
      ∧ r.2.mem ((c.tc : Thread Cert.MixerSampleReferenceIdeal.nD Cert.MixerSampleReferenceIdeal.τ).loc Cert.MixerSampleReferenceIdeal.main_arg17) = m ((c.tc : Thread Cert.MixerSampleReferenceIdeal.nD Cert.MixerSampleReferenceIdeal.τ).loc Cert.MixerSampleReferenceIdeal.main_arg17)
      ∧ r.2.mem ((c.tc : Thread Cert.MixerSampleReferenceIdeal.nD Cert.MixerSampleReferenceIdeal.τ).loc Cert.MixerSampleReferenceIdeal.main_arg18) = m ((c.tc : Thread Cert.MixerSampleReferenceIdeal.nD Cert.MixerSampleReferenceIdeal.τ).loc Cert.MixerSampleReferenceIdeal.main_arg18))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6)
      ∧ r.2.mem ((c.tc : Thread Cert.MixOutReferenceIdeal.nD Cert.MixOutReferenceIdeal.τ).loc Cert.MixOutReferenceIdeal.main_arg7) = m ((c.tc : Thread Cert.MixOutReferenceIdeal.nD Cert.MixOutReferenceIdeal.τ).loc Cert.MixOutReferenceIdeal.main_arg7)
      ∧ r.2.mem ((c.tc : Thread Cert.MixOutReferenceIdeal.nD Cert.MixOutReferenceIdeal.τ).loc Cert.MixOutReferenceIdeal.main_arg8) = m ((c.tc : Thread Cert.MixOutReferenceIdeal.nD Cert.MixOutReferenceIdeal.τ).loc Cert.MixOutReferenceIdeal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v9_0)) (v1 : (c : Dev Cert.QkvIdeal.nD) → Buf (Elt Ideal) ((c.tc : Thread Cert.QkvIdeal.nD Cert.QkvIdeal.τ).loc Cert.QkvIdeal.main_v9_1)) (v2 : (c : Dev Cert.QkvIdeal.nD) → Buf (Elt Ideal) ((c.tc : Thread Cert.QkvIdeal.nD Cert.QkvIdeal.τ).loc Cert.QkvIdeal.main_v9_2)) (v3 : (c : Dev Cert.QkvIdeal.nD) → Buf (Elt Ideal) ((c.tc : Thread Cert.QkvIdeal.nD Cert.QkvIdeal.τ).loc Cert.QkvIdeal.main_v9_3)) (v4 : (c : Dev Cert.QkvIdeal.nD) → Buf (Elt Ideal) ((c.tc : Thread Cert.QkvIdeal.nD Cert.QkvIdeal.τ).loc Cert.QkvIdeal.main_v9_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v9_0) = v0 c
          ∧ r.2.mem ((c.tc : Thread Cert.QkvIdeal.nD Cert.QkvIdeal.τ).loc Cert.QkvIdeal.main_v9_1) = v1 c
          ∧ r.2.mem ((c.tc : Thread Cert.QkvIdeal.nD Cert.QkvIdeal.τ).loc Cert.QkvIdeal.main_v9_2) = v2 c
          ∧ r.2.mem ((c.tc : Thread Cert.QkvIdeal.nD Cert.QkvIdeal.τ).loc Cert.QkvIdeal.main_v9_3) = v3 c
          ∧ r.2.mem ((c.tc : Thread Cert.QkvIdeal.nD Cert.QkvIdeal.τ).loc Cert.QkvIdeal.main_v9_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v32) = v0 c
          ∧ r.2.mem ((c.tc : Thread Cert.QkvReferenceIdeal.nD Cert.QkvReferenceIdeal.τ).loc Cert.QkvReferenceIdeal.main_v27) = v1 c
          ∧ r.2.mem ((c.tc : Thread Cert.QkvReferenceIdeal.nD Cert.QkvReferenceIdeal.τ).loc Cert.QkvReferenceIdeal.main_v33) = v2 c
          ∧ r.2.mem ((c.tc : Thread Cert.QkvReferenceIdeal.nD Cert.QkvReferenceIdeal.τ).loc Cert.QkvReferenceIdeal.main_v29) = v3 c
          ∧ r.2.mem ((c.tc : Thread Cert.QkvReferenceIdeal.nD Cert.QkvReferenceIdeal.τ).loc Cert.QkvReferenceIdeal.main_v34) = v4 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_QkvSample_QkvSampleIdeal : Prop :=
  True

def algebraic_QkvSampleIdeal_QkvSampleReferenceIdeal [hQkvSampleIdeal : Cert.QkvSampleIdeal.Facts] [hQkvSampleReferenceIdeal : Cert.QkvSampleReferenceIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg)
    (m' : (ℓ : Loc Cert.QkvSampleReferenceIdeal.nD Cert.QkvSampleReferenceIdeal.τ Cert.QkvSampleReferenceIdeal.sig) → Buf (Elt Ideal) ℓ) (g' : Dev Cert.QkvSampleReferenceIdeal.nD → PrngReg), Pre_QkvSampleIdeal m →
    (∀ c : Dev Cert.QkvSampleIdeal.nD,
      m' ((c.tc : Thread Cert.QkvSampleReferenceIdeal.nD Cert.QkvSampleReferenceIdeal.τ).loc Cert.QkvSampleReferenceIdeal.main_arg0) = m ((c.tc : Thread Cert.QkvSampleIdeal.nD Cert.QkvSampleIdeal.τ).loc Cert.QkvSampleIdeal.main_arg0)
      ∧ m' ((c.tc : Thread Cert.QkvSampleReferenceIdeal.nD Cert.QkvSampleReferenceIdeal.τ).loc Cert.QkvSampleReferenceIdeal.main_arg1) = m ((c.tc : Thread Cert.QkvSampleIdeal.nD Cert.QkvSampleIdeal.τ).loc Cert.QkvSampleIdeal.main_arg1)
      ∧ m' ((c.tc : Thread Cert.QkvSampleReferenceIdeal.nD Cert.QkvSampleReferenceIdeal.τ).loc Cert.QkvSampleReferenceIdeal.main_arg2) = m ((c.tc : Thread Cert.QkvSampleIdeal.nD Cert.QkvSampleIdeal.τ).loc Cert.QkvSampleIdeal.main_arg2)
      ∧ m' ((c.tc : Thread Cert.QkvSampleReferenceIdeal.nD Cert.QkvSampleReferenceIdeal.τ).loc Cert.QkvSampleReferenceIdeal.main_arg3) = m ((c.tc : Thread Cert.QkvSampleIdeal.nD Cert.QkvSampleIdeal.τ).loc Cert.QkvSampleIdeal.main_arg3)
      ∧ m' ((c.tc : Thread Cert.QkvSampleReferenceIdeal.nD Cert.QkvSampleReferenceIdeal.τ).loc Cert.QkvSampleReferenceIdeal.main_arg4) = m ((c.tc : Thread Cert.QkvSampleIdeal.nD Cert.QkvSampleIdeal.τ).loc Cert.QkvSampleIdeal.main_arg4)) →
    ∃ (v0 : (c : Dev Cert.QkvSampleIdeal.nD) → Buf (Elt Ideal) ((c.tc : Thread Cert.QkvSampleIdeal.nD Cert.QkvSampleIdeal.τ).loc Cert.QkvSampleIdeal.main_v11_0)) (v1 : (c : Dev Cert.QkvSampleIdeal.nD) → Buf (Elt Ideal) ((c.tc : Thread Cert.QkvSampleIdeal.nD Cert.QkvSampleIdeal.τ).loc Cert.QkvSampleIdeal.main_v11_1)) (v2 : (c : Dev Cert.QkvSampleIdeal.nD) → Buf (Elt Ideal) ((c.tc : Thread Cert.QkvSampleIdeal.nD Cert.QkvSampleIdeal.τ).loc Cert.QkvSampleIdeal.main_v11_2)) (v3 : (c : Dev Cert.QkvSampleIdeal.nD) → Buf (Elt Ideal) ((c.tc : Thread Cert.QkvSampleIdeal.nD Cert.QkvSampleIdeal.τ).loc Cert.QkvSampleIdeal.main_v11_3)) (v4 : (c : Dev Cert.QkvSampleIdeal.nD) → Buf (Elt Ideal) ((c.tc : Thread Cert.QkvSampleIdeal.nD Cert.QkvSampleIdeal.τ).loc Cert.QkvSampleIdeal.main_v11_4)),
      θ_run (Cert.QkvSampleIdeal.defs (F := Ideal)) (onTc (τ := Cert.QkvSampleIdeal.τ) (Cert.QkvSampleIdeal.main (F := Ideal))) ⟨m, fun _ => 0, g⟩ (fun r => ∀ c : Dev Cert.QkvSampleIdeal.nD,
          r.2.mem ((c.tc : Thread Cert.QkvSampleIdeal.nD Cert.QkvSampleIdeal.τ).loc Cert.QkvSampleIdeal.main_v11_0) = v0 c
          ∧ r.2.mem ((c.tc : Thread Cert.QkvSampleIdeal.nD Cert.QkvSampleIdeal.τ).loc Cert.QkvSampleIdeal.main_v11_1) = v1 c
          ∧ r.2.mem ((c.tc : Thread Cert.QkvSampleIdeal.nD Cert.QkvSampleIdeal.τ).loc Cert.QkvSampleIdeal.main_v11_2) = v2 c
          ∧ r.2.mem ((c.tc : Thread Cert.QkvSampleIdeal.nD Cert.QkvSampleIdeal.τ).loc Cert.QkvSampleIdeal.main_v11_3) = v3 c
          ∧ r.2.mem ((c.tc : Thread Cert.QkvSampleIdeal.nD Cert.QkvSampleIdeal.τ).loc Cert.QkvSampleIdeal.main_v11_4) = v4 c
          ∧ r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
          ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
          ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2)
          ∧ r.2.mem ((c.tc : Thread Cert.QkvSampleIdeal.nD Cert.QkvSampleIdeal.τ).loc Cert.QkvSampleIdeal.main_arg3) = m ((c.tc : Thread Cert.QkvSampleIdeal.nD Cert.QkvSampleIdeal.τ).loc Cert.QkvSampleIdeal.main_arg3)
          ∧ r.2.mem ((c.tc : Thread Cert.QkvSampleIdeal.nD Cert.QkvSampleIdeal.τ).loc Cert.QkvSampleIdeal.main_arg4) = m ((c.tc : Thread Cert.QkvSampleIdeal.nD Cert.QkvSampleIdeal.τ).loc Cert.QkvSampleIdeal.main_arg4))
      ∧ θ_run (Cert.QkvSampleReferenceIdeal.defs (F := Ideal)) (onTc (τ := Cert.QkvSampleReferenceIdeal.τ) (Cert.QkvSampleReferenceIdeal.main (F := Ideal))) ⟨m', fun _ => 0, g'⟩ (fun r => ∀ c : Dev Cert.QkvSampleReferenceIdeal.nD,
          r.2.mem ((c.tc : Thread Cert.QkvSampleReferenceIdeal.nD Cert.QkvSampleReferenceIdeal.τ).loc Cert.QkvSampleReferenceIdeal.main_v32) = v0 c
          ∧ r.2.mem ((c.tc : Thread Cert.QkvSampleReferenceIdeal.nD Cert.QkvSampleReferenceIdeal.τ).loc Cert.QkvSampleReferenceIdeal.main_v27) = v1 c
          ∧ r.2.mem ((c.tc : Thread Cert.QkvSampleReferenceIdeal.nD Cert.QkvSampleReferenceIdeal.τ).loc Cert.QkvSampleReferenceIdeal.main_v33) = v2 c
          ∧ r.2.mem ((c.tc : Thread Cert.QkvSampleReferenceIdeal.nD Cert.QkvSampleReferenceIdeal.τ).loc Cert.QkvSampleReferenceIdeal.main_v29) = v3 c
          ∧ r.2.mem ((c.tc : Thread Cert.QkvSampleReferenceIdeal.nD Cert.QkvSampleReferenceIdeal.τ).loc Cert.QkvSampleReferenceIdeal.main_v34) = v4 c
          ∧ r.2.mem ((c.tc : Thread Cert.QkvSampleReferenceIdeal.nD Cert.QkvSampleReferenceIdeal.τ).loc Cert.QkvSampleReferenceIdeal.main_arg0) = m' ((c.tc : Thread Cert.QkvSampleReferenceIdeal.nD Cert.QkvSampleReferenceIdeal.τ).loc Cert.QkvSampleReferenceIdeal.main_arg0)
          ∧ r.2.mem ((c.tc : Thread Cert.QkvSampleReferenceIdeal.nD Cert.QkvSampleReferenceIdeal.τ).loc Cert.QkvSampleReferenceIdeal.main_arg1) = m' ((c.tc : Thread Cert.QkvSampleReferenceIdeal.nD Cert.QkvSampleReferenceIdeal.τ).loc Cert.QkvSampleReferenceIdeal.main_arg1)
          ∧ r.2.mem ((c.tc : Thread Cert.QkvSampleReferenceIdeal.nD Cert.QkvSampleReferenceIdeal.τ).loc Cert.QkvSampleReferenceIdeal.main_arg2) = m' ((c.tc : Thread Cert.QkvSampleReferenceIdeal.nD Cert.QkvSampleReferenceIdeal.τ).loc Cert.QkvSampleReferenceIdeal.main_arg2)
          ∧ r.2.mem ((c.tc : Thread Cert.QkvSampleReferenceIdeal.nD Cert.QkvSampleReferenceIdeal.τ).loc Cert.QkvSampleReferenceIdeal.main_arg3) = m' ((c.tc : Thread Cert.QkvSampleReferenceIdeal.nD Cert.QkvSampleReferenceIdeal.τ).loc Cert.QkvSampleReferenceIdeal.main_arg3)
          ∧ r.2.mem ((c.tc : Thread Cert.QkvSampleReferenceIdeal.nD Cert.QkvSampleReferenceIdeal.τ).loc Cert.QkvSampleReferenceIdeal.main_arg4) = m' ((c.tc : Thread Cert.QkvSampleReferenceIdeal.nD Cert.QkvSampleReferenceIdeal.τ).loc Cert.QkvSampleReferenceIdeal.main_arg4))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)
      ∧ m' ((c.tc : Thread Cert.MixInReferenceIdeal.nD Cert.MixInReferenceIdeal.τ).loc Cert.MixInReferenceIdeal.main_arg3) = m ((c.tc : Thread Cert.MixInIdeal.nD Cert.MixInIdeal.τ).loc Cert.MixInIdeal.main_arg3)
      ∧ m' ((c.tc : Thread Cert.MixInReferenceIdeal.nD Cert.MixInReferenceIdeal.τ).loc Cert.MixInReferenceIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v16_0)) (v1 : (c : Dev Cert.MixInIdeal.nD) → Buf (Elt Ideal) ((c.tc : Thread Cert.MixInIdeal.nD Cert.MixInIdeal.τ).loc Cert.MixInIdeal.main_v16_1)) (v2 : (c : Dev Cert.MixInIdeal.nD) → Buf (Elt Ideal) ((c.tc : Thread Cert.MixInIdeal.nD Cert.MixInIdeal.τ).loc Cert.MixInIdeal.main_v16_2)) (v3 : (c : Dev Cert.MixInIdeal.nD) → Buf (Elt Ideal) ((c.tc : Thread Cert.MixInIdeal.nD Cert.MixInIdeal.τ).loc Cert.MixInIdeal.main_v16_3)) (v4 : (c : Dev Cert.MixInIdeal.nD) → Buf (Elt Ideal) ((c.tc : Thread Cert.MixInIdeal.nD Cert.MixInIdeal.τ).loc Cert.MixInIdeal.main_v16_4)) (v5 : (c : Dev Cert.MixInIdeal.nD) → Buf (Elt Ideal) ((c.tc : Thread Cert.MixInIdeal.nD Cert.MixInIdeal.τ).loc Cert.MixInIdeal.main_v16_5)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v16_0) = v0 c
          ∧ r.2.mem ((c.tc : Thread Cert.MixInIdeal.nD Cert.MixInIdeal.τ).loc Cert.MixInIdeal.main_v16_1) = v1 c
          ∧ r.2.mem ((c.tc : Thread Cert.MixInIdeal.nD Cert.MixInIdeal.τ).loc Cert.MixInIdeal.main_v16_2) = v2 c
          ∧ r.2.mem ((c.tc : Thread Cert.MixInIdeal.nD Cert.MixInIdeal.τ).loc Cert.MixInIdeal.main_v16_3) = v3 c
          ∧ r.2.mem ((c.tc : Thread Cert.MixInIdeal.nD Cert.MixInIdeal.τ).loc Cert.MixInIdeal.main_v16_4) = v4 c
          ∧ r.2.mem ((c.tc : Thread Cert.MixInIdeal.nD Cert.MixInIdeal.τ).loc Cert.MixInIdeal.main_v16_5) = v5 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v24) = v0 c
          ∧ r.2.mem ((c.tc : Thread Cert.MixInReferenceIdeal.nD Cert.MixInReferenceIdeal.τ).loc Cert.MixInReferenceIdeal.main_v25) = v1 c
          ∧ r.2.mem ((c.tc : Thread Cert.MixInReferenceIdeal.nD Cert.MixInReferenceIdeal.τ).loc Cert.MixInReferenceIdeal.main_v26) = v2 c
          ∧ r.2.mem ((c.tc : Thread Cert.MixInReferenceIdeal.nD Cert.MixInReferenceIdeal.τ).loc Cert.MixInReferenceIdeal.main_v30) = v3 c
          ∧ r.2.mem ((c.tc : Thread Cert.MixInReferenceIdeal.nD Cert.MixInReferenceIdeal.τ).loc Cert.MixInReferenceIdeal.main_v28) = v4 c
          ∧ r.2.mem ((c.tc : Thread Cert.MixInReferenceIdeal.nD Cert.MixInReferenceIdeal.τ).loc Cert.MixInReferenceIdeal.main_v29) = v5 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4))

def preserves_MixerSample_MixerSampleIdeal : Prop :=
  True

def algebraic_MixerSampleIdeal_MixerSampleReferenceIdeal_on_states_only [hMixerSampleIdeal : Cert.MixerSampleIdeal.Facts] [hMixerSampleReferenceIdeal : Cert.MixerSampleReferenceIdeal.Facts] [hOn_states_only : Cert.On_states_only.Facts] : Prop :=
  ∀ (m : (ℓ : Loc Cert.MixerSampleIdeal.nD Cert.MixerSampleIdeal.τ Cert.MixerSampleIdeal.sig) → Buf (Elt Ideal) ℓ) (g : Dev Cert.MixerSampleIdeal.nD → PrngReg)
    (m' : (ℓ : Loc Cert.MixerSampleReferenceIdeal.nD Cert.MixerSampleReferenceIdeal.τ Cert.MixerSampleReferenceIdeal.sig) → Buf (Elt Ideal) ℓ) (g' : Dev Cert.MixerSampleReferenceIdeal.nD → PrngReg), Pre_MixerSampleIdeal m →
    (∀ c : Dev Cert.MixerSampleIdeal.nD,
      m' ((c.tc : Thread Cert.MixerSampleReferenceIdeal.nD Cert.MixerSampleReferenceIdeal.τ).loc Cert.MixerSampleReferenceIdeal.main_arg0) = m ((c.tc : Thread Cert.MixerSampleIdeal.nD Cert.MixerSampleIdeal.τ).loc Cert.MixerSampleIdeal.main_arg0)
      ∧ m' ((c.tc : Thread Cert.MixerSampleReferenceIdeal.nD Cert.MixerSampleReferenceIdeal.τ).loc Cert.MixerSampleReferenceIdeal.main_arg1) = m ((c.tc : Thread Cert.MixerSampleIdeal.nD Cert.MixerSampleIdeal.τ).loc Cert.MixerSampleIdeal.main_arg1)
      ∧ m' ((c.tc : Thread Cert.MixerSampleReferenceIdeal.nD Cert.MixerSampleReferenceIdeal.τ).loc Cert.MixerSampleReferenceIdeal.main_arg2) = m ((c.tc : Thread Cert.MixerSampleIdeal.nD Cert.MixerSampleIdeal.τ).loc Cert.MixerSampleIdeal.main_arg2)
      ∧ m' ((c.tc : Thread Cert.MixerSampleReferenceIdeal.nD Cert.MixerSampleReferenceIdeal.τ).loc Cert.MixerSampleReferenceIdeal.main_arg3) = m ((c.tc : Thread Cert.MixerSampleIdeal.nD Cert.MixerSampleIdeal.τ).loc Cert.MixerSampleIdeal.main_arg3)
      ∧ m' ((c.tc : Thread Cert.MixerSampleReferenceIdeal.nD Cert.MixerSampleReferenceIdeal.τ).loc Cert.MixerSampleReferenceIdeal.main_arg4) = m ((c.tc : Thread Cert.MixerSampleIdeal.nD Cert.MixerSampleIdeal.τ).loc Cert.MixerSampleIdeal.main_arg4)
      ∧ m' ((c.tc : Thread Cert.MixerSampleReferenceIdeal.nD Cert.MixerSampleReferenceIdeal.τ).loc Cert.MixerSampleReferenceIdeal.main_arg5) = m ((c.tc : Thread Cert.MixerSampleIdeal.nD Cert.MixerSampleIdeal.τ).loc Cert.MixerSampleIdeal.main_arg5)
      ∧ m' ((c.tc : Thread Cert.MixerSampleReferenceIdeal.nD Cert.MixerSampleReferenceIdeal.τ).loc Cert.MixerSampleReferenceIdeal.main_arg6) = m ((c.tc : Thread Cert.MixerSampleIdeal.nD Cert.MixerSampleIdeal.τ).loc Cert.MixerSampleIdeal.main_arg6)
      ∧ m' ((c.tc : Thread Cert.MixerSampleReferenceIdeal.nD Cert.MixerSampleReferenceIdeal.τ).loc Cert.MixerSampleReferenceIdeal.main_arg7) = m ((c.tc : Thread Cert.MixerSampleIdeal.nD Cert.MixerSampleIdeal.τ).loc Cert.MixerSampleIdeal.main_arg7)
      ∧ m' ((c.tc : Thread Cert.MixerSampleReferenceIdeal.nD Cert.MixerSampleReferenceIdeal.τ).loc Cert.MixerSampleReferenceIdeal.main_arg8) = m ((c.tc : Thread Cert.MixerSampleIdeal.nD Cert.MixerSampleIdeal.τ).loc Cert.MixerSampleIdeal.main_arg8)
      ∧ m' ((c.tc : Thread Cert.MixerSampleReferenceIdeal.nD Cert.MixerSampleReferenceIdeal.τ).loc Cert.MixerSampleReferenceIdeal.main_arg9) = m ((c.tc : Thread Cert.MixerSampleIdeal.nD Cert.MixerSampleIdeal.τ).loc Cert.MixerSampleIdeal.main_arg9)
      ∧ m' ((c.tc : Thread Cert.MixerSampleReferenceIdeal.nD Cert.MixerSampleReferenceIdeal.τ).loc Cert.MixerSampleReferenceIdeal.main_arg10) = m ((c.tc : Thread Cert.MixerSampleIdeal.nD Cert.MixerSampleIdeal.τ).loc Cert.MixerSampleIdeal.main_arg10)
      ∧ m' ((c.tc : Thread Cert.MixerSampleReferenceIdeal.nD Cert.MixerSampleReferenceIdeal.τ).loc Cert.MixerSampleReferenceIdeal.main_arg11) = m ((c.tc : Thread Cert.MixerSampleIdeal.nD Cert.MixerSampleIdeal.τ).loc Cert.MixerSampleIdeal.main_arg11)
      ∧ m' ((c.tc : Thread Cert.MixerSampleReferenceIdeal.nD Cert.MixerSampleReferenceIdeal.τ).loc Cert.MixerSampleReferenceIdeal.main_arg12) = m ((c.tc : Thread Cert.MixerSampleIdeal.nD Cert.MixerSampleIdeal.τ).loc Cert.MixerSampleIdeal.main_arg12)
      ∧ m' ((c.tc : Thread Cert.MixerSampleReferenceIdeal.nD Cert.MixerSampleReferenceIdeal.τ).loc Cert.MixerSampleReferenceIdeal.main_arg13) = m ((c.tc : Thread Cert.MixerSampleIdeal.nD Cert.MixerSampleIdeal.τ).loc Cert.MixerSampleIdeal.main_arg13)
      ∧ m' ((c.tc : Thread Cert.MixerSampleReferenceIdeal.nD Cert.MixerSampleReferenceIdeal.τ).loc Cert.MixerSampleReferenceIdeal.main_arg14) = m ((c.tc : Thread Cert.MixerSampleIdeal.nD Cert.MixerSampleIdeal.τ).loc Cert.MixerSampleIdeal.main_arg14)
      ∧ m' ((c.tc : Thread Cert.MixerSampleReferenceIdeal.nD Cert.MixerSampleReferenceIdeal.τ).loc Cert.MixerSampleReferenceIdeal.main_arg15) = m ((c.tc : Thread Cert.MixerSampleIdeal.nD Cert.MixerSampleIdeal.τ).loc Cert.MixerSampleIdeal.main_arg15)
      ∧ m' ((c.tc : Thread Cert.MixerSampleReferenceIdeal.nD Cert.MixerSampleReferenceIdeal.τ).loc Cert.MixerSampleReferenceIdeal.main_arg16) = m ((c.tc : Thread Cert.MixerSampleIdeal.nD Cert.MixerSampleIdeal.τ).loc Cert.MixerSampleIdeal.main_arg16)
      ∧ m' ((c.tc : Thread Cert.MixerSampleReferenceIdeal.nD Cert.MixerSampleReferenceIdeal.τ).loc Cert.MixerSampleReferenceIdeal.main_arg17) = m ((c.tc : Thread Cert.MixerSampleIdeal.nD Cert.MixerSampleIdeal.τ).loc Cert.MixerSampleIdeal.main_arg17)
      ∧ m' ((c.tc : Thread Cert.MixerSampleReferenceIdeal.nD Cert.MixerSampleReferenceIdeal.τ).loc Cert.MixerSampleReferenceIdeal.main_arg18) = m ((c.tc : Thread Cert.MixerSampleIdeal.nD Cert.MixerSampleIdeal.τ).loc Cert.MixerSampleIdeal.main_arg18)) →
    ∃ (v0 : (c : Dev Cert.MixerSampleIdeal.nD) → Buf (Elt Ideal) ((c.tc : Thread Cert.MixerSampleIdeal.nD Cert.MixerSampleIdeal.τ).loc Cert.MixerSampleIdeal.main_v51_0)) (v1 : (c : Dev Cert.MixerSampleIdeal.nD) → Buf (Elt Ideal) ((c.tc : Thread Cert.MixerSampleIdeal.nD Cert.MixerSampleIdeal.τ).loc Cert.MixerSampleIdeal.main_v51_1)) (v2 : (c : Dev Cert.MixerSampleIdeal.nD) → Buf (Elt Ideal) ((c.tc : Thread Cert.MixerSampleIdeal.nD Cert.MixerSampleIdeal.τ).loc Cert.MixerSampleIdeal.main_v51_2)) (v3 : (c : Dev Cert.MixerSampleIdeal.nD) → Buf (Elt Ideal) ((c.tc : Thread Cert.MixerSampleIdeal.nD Cert.MixerSampleIdeal.τ).loc Cert.MixerSampleIdeal.main_v51_3)),
      θ_run (Cert.MixerSampleIdeal.defs (F := Ideal)) (onTc (τ := Cert.MixerSampleIdeal.τ) (Cert.MixerSampleIdeal.main (F := Ideal))) ⟨m, fun _ => 0, g⟩ (fun r => ∀ c : Dev Cert.MixerSampleIdeal.nD,
          (∀ i : (⟨2, ![512, 1024]⟩ : Shape).Idx, (Cert.On_states_only.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13)) (m ((c.tc : Thread Cert.MixerSampleIdeal.nD Cert.MixerSampleIdeal.τ).loc Cert.MixerSampleIdeal.main_arg14)) (m ((c.tc : Thread Cert.MixerSampleIdeal.nD Cert.MixerSampleIdeal.τ).loc Cert.MixerSampleIdeal.main_arg15)) (m ((c.tc : Thread Cert.MixerSampleIdeal.nD Cert.MixerSampleIdeal.τ).loc Cert.MixerSampleIdeal.main_arg16)) (m ((c.tc : Thread Cert.MixerSampleIdeal.nD Cert.MixerSampleIdeal.τ).loc Cert.MixerSampleIdeal.main_arg17)) (m ((c.tc : Thread Cert.MixerSampleIdeal.nD Cert.MixerSampleIdeal.τ).loc Cert.MixerSampleIdeal.main_arg18))).1 i = 1#1 → r.2.mem ((c.tc : Thread Cert.MixerSampleIdeal.nD Cert.MixerSampleIdeal.τ).loc Cert.MixerSampleIdeal.main_v51_0) i = v0 c i)
          ∧ (∀ i : (⟨3, ![32, 512, 256]⟩ : Shape).Idx, (Cert.On_states_only.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13)) (m ((c.tc : Thread Cert.MixerSampleIdeal.nD Cert.MixerSampleIdeal.τ).loc Cert.MixerSampleIdeal.main_arg14)) (m ((c.tc : Thread Cert.MixerSampleIdeal.nD Cert.MixerSampleIdeal.τ).loc Cert.MixerSampleIdeal.main_arg15)) (m ((c.tc : Thread Cert.MixerSampleIdeal.nD Cert.MixerSampleIdeal.τ).loc Cert.MixerSampleIdeal.main_arg16)) (m ((c.tc : Thread Cert.MixerSampleIdeal.nD Cert.MixerSampleIdeal.τ).loc Cert.MixerSampleIdeal.main_arg17)) (m ((c.tc : Thread Cert.MixerSampleIdeal.nD Cert.MixerSampleIdeal.τ).loc Cert.MixerSampleIdeal.main_arg18))).2.1 i = 1#1 → r.2.mem ((c.tc : Thread Cert.MixerSampleIdeal.nD Cert.MixerSampleIdeal.τ).loc Cert.MixerSampleIdeal.main_v51_1) i = v1 c i)
          ∧ (∀ i : (⟨3, ![32, 1, 512]⟩ : Shape).Idx, (Cert.On_states_only.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13)) (m ((c.tc : Thread Cert.MixerSampleIdeal.nD Cert.MixerSampleIdeal.τ).loc Cert.MixerSampleIdeal.main_arg14)) (m ((c.tc : Thread Cert.MixerSampleIdeal.nD Cert.MixerSampleIdeal.τ).loc Cert.MixerSampleIdeal.main_arg15)) (m ((c.tc : Thread Cert.MixerSampleIdeal.nD Cert.MixerSampleIdeal.τ).loc Cert.MixerSampleIdeal.main_arg16)) (m ((c.tc : Thread Cert.MixerSampleIdeal.nD Cert.MixerSampleIdeal.τ).loc Cert.MixerSampleIdeal.main_arg17)) (m ((c.tc : Thread Cert.MixerSampleIdeal.nD Cert.MixerSampleIdeal.τ).loc Cert.MixerSampleIdeal.main_arg18))).2.2.1 i = 1#1 → r.2.mem ((c.tc : Thread Cert.MixerSampleIdeal.nD Cert.MixerSampleIdeal.τ).loc Cert.MixerSampleIdeal.main_v51_2) i = v2 c i)
          ∧ (∀ i : (⟨3, ![32, 8, 512]⟩ : Shape).Idx, (Cert.On_states_only.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13)) (m ((c.tc : Thread Cert.MixerSampleIdeal.nD Cert.MixerSampleIdeal.τ).loc Cert.MixerSampleIdeal.main_arg14)) (m ((c.tc : Thread Cert.MixerSampleIdeal.nD Cert.MixerSampleIdeal.τ).loc Cert.MixerSampleIdeal.main_arg15)) (m ((c.tc : Thread Cert.MixerSampleIdeal.nD Cert.MixerSampleIdeal.τ).loc Cert.MixerSampleIdeal.main_arg16)) (m ((c.tc : Thread Cert.MixerSampleIdeal.nD Cert.MixerSampleIdeal.τ).loc Cert.MixerSampleIdeal.main_arg17)) (m ((c.tc : Thread Cert.MixerSampleIdeal.nD Cert.MixerSampleIdeal.τ).loc Cert.MixerSampleIdeal.main_arg18))).2.2.2 i = 1#1 → r.2.mem ((c.tc : Thread Cert.MixerSampleIdeal.nD Cert.MixerSampleIdeal.τ).loc Cert.MixerSampleIdeal.main_v51_3) i = v3 c i)
          ∧ r.2.mem ((c.tc : Thread Cert.MixerSampleIdeal.nD Cert.MixerSampleIdeal.τ).loc Cert.MixerSampleIdeal.main_arg0) = m ((c.tc : Thread Cert.MixerSampleIdeal.nD Cert.MixerSampleIdeal.τ).loc Cert.MixerSampleIdeal.main_arg0)
          ∧ r.2.mem ((c.tc : Thread Cert.MixerSampleIdeal.nD Cert.MixerSampleIdeal.τ).loc Cert.MixerSampleIdeal.main_arg1) = m ((c.tc : Thread Cert.MixerSampleIdeal.nD Cert.MixerSampleIdeal.τ).loc Cert.MixerSampleIdeal.main_arg1)
          ∧ r.2.mem ((c.tc : Thread Cert.MixerSampleIdeal.nD Cert.MixerSampleIdeal.τ).loc Cert.MixerSampleIdeal.main_arg2) = m ((c.tc : Thread Cert.MixerSampleIdeal.nD Cert.MixerSampleIdeal.τ).loc Cert.MixerSampleIdeal.main_arg2)
          ∧ r.2.mem ((c.tc : Thread Cert.MixerSampleIdeal.nD Cert.MixerSampleIdeal.τ).loc Cert.MixerSampleIdeal.main_arg3) = m ((c.tc : Thread Cert.MixerSampleIdeal.nD Cert.MixerSampleIdeal.τ).loc Cert.MixerSampleIdeal.main_arg3)
          ∧ r.2.mem ((c.tc : Thread Cert.MixerSampleIdeal.nD Cert.MixerSampleIdeal.τ).loc Cert.MixerSampleIdeal.main_arg4) = m ((c.tc : Thread Cert.MixerSampleIdeal.nD Cert.MixerSampleIdeal.τ).loc Cert.MixerSampleIdeal.main_arg4)
          ∧ r.2.mem ((c.tc : Thread Cert.MixerSampleIdeal.nD Cert.MixerSampleIdeal.τ).loc Cert.MixerSampleIdeal.main_arg5) = m ((c.tc : Thread Cert.MixerSampleIdeal.nD Cert.MixerSampleIdeal.τ).loc Cert.MixerSampleIdeal.main_arg5)
          ∧ r.2.mem ((c.tc : Thread Cert.MixerSampleIdeal.nD Cert.MixerSampleIdeal.τ).loc Cert.MixerSampleIdeal.main_arg6) = m ((c.tc : Thread Cert.MixerSampleIdeal.nD Cert.MixerSampleIdeal.τ).loc Cert.MixerSampleIdeal.main_arg6)
          ∧ r.2.mem ((c.tc : Thread Cert.MixerSampleIdeal.nD Cert.MixerSampleIdeal.τ).loc Cert.MixerSampleIdeal.main_arg7) = m ((c.tc : Thread Cert.MixerSampleIdeal.nD Cert.MixerSampleIdeal.τ).loc Cert.MixerSampleIdeal.main_arg7)
          ∧ r.2.mem ((c.tc : Thread Cert.MixerSampleIdeal.nD Cert.MixerSampleIdeal.τ).loc Cert.MixerSampleIdeal.main_arg8) = m ((c.tc : Thread Cert.MixerSampleIdeal.nD Cert.MixerSampleIdeal.τ).loc Cert.MixerSampleIdeal.main_arg8)
          ∧ r.2.mem ((c.tc : Thread Cert.MixerSampleIdeal.nD Cert.MixerSampleIdeal.τ).loc Cert.MixerSampleIdeal.main_arg9) = m ((c.tc : Thread Cert.MixerSampleIdeal.nD Cert.MixerSampleIdeal.τ).loc Cert.MixerSampleIdeal.main_arg9)
          ∧ r.2.mem ((c.tc : Thread Cert.MixerSampleIdeal.nD Cert.MixerSampleIdeal.τ).loc Cert.MixerSampleIdeal.main_arg10) = m ((c.tc : Thread Cert.MixerSampleIdeal.nD Cert.MixerSampleIdeal.τ).loc Cert.MixerSampleIdeal.main_arg10)
          ∧ r.2.mem ((c.tc : Thread Cert.MixerSampleIdeal.nD Cert.MixerSampleIdeal.τ).loc Cert.MixerSampleIdeal.main_arg11) = m ((c.tc : Thread Cert.MixerSampleIdeal.nD Cert.MixerSampleIdeal.τ).loc Cert.MixerSampleIdeal.main_arg11)
          ∧ r.2.mem ((c.tc : Thread Cert.MixerSampleIdeal.nD Cert.MixerSampleIdeal.τ).loc Cert.MixerSampleIdeal.main_arg12) = m ((c.tc : Thread Cert.MixerSampleIdeal.nD Cert.MixerSampleIdeal.τ).loc Cert.MixerSampleIdeal.main_arg12)
          ∧ r.2.mem ((c.tc : Thread Cert.MixerSampleIdeal.nD Cert.MixerSampleIdeal.τ).loc Cert.MixerSampleIdeal.main_arg13) = m ((c.tc : Thread Cert.MixerSampleIdeal.nD Cert.MixerSampleIdeal.τ).loc Cert.MixerSampleIdeal.main_arg13)
          ∧ r.2.mem ((c.tc : Thread Cert.MixerSampleIdeal.nD Cert.MixerSampleIdeal.τ).loc Cert.MixerSampleIdeal.main_arg14) = m ((c.tc : Thread Cert.MixerSampleIdeal.nD Cert.MixerSampleIdeal.τ).loc Cert.MixerSampleIdeal.main_arg14)
          ∧ r.2.mem ((c.tc : Thread Cert.MixerSampleIdeal.nD Cert.MixerSampleIdeal.τ).loc Cert.MixerSampleIdeal.main_arg15) = m ((c.tc : Thread Cert.MixerSampleIdeal.nD Cert.MixerSampleIdeal.τ).loc Cert.MixerSampleIdeal.main_arg15)
          ∧ r.2.mem ((c.tc : Thread Cert.MixerSampleIdeal.nD Cert.MixerSampleIdeal.τ).loc Cert.MixerSampleIdeal.main_arg16) = m ((c.tc : Thread Cert.MixerSampleIdeal.nD Cert.MixerSampleIdeal.τ).loc Cert.MixerSampleIdeal.main_arg16)
          ∧ r.2.mem ((c.tc : Thread Cert.MixerSampleIdeal.nD Cert.MixerSampleIdeal.τ).loc Cert.MixerSampleIdeal.main_arg17) = m ((c.tc : Thread Cert.MixerSampleIdeal.nD Cert.MixerSampleIdeal.τ).loc Cert.MixerSampleIdeal.main_arg17)
          ∧ r.2.mem ((c.tc : Thread Cert.MixerSampleIdeal.nD Cert.MixerSampleIdeal.τ).loc Cert.MixerSampleIdeal.main_arg18) = m ((c.tc : Thread Cert.MixerSampleIdeal.nD Cert.MixerSampleIdeal.τ).loc Cert.MixerSampleIdeal.main_arg18))
      ∧ θ_run (Cert.MixerSampleReferenceIdeal.defs (F := Ideal)) (onTc (τ := Cert.MixerSampleReferenceIdeal.τ) (Cert.MixerSampleReferenceIdeal.main (F := Ideal))) ⟨m', fun _ => 0, g'⟩ (fun r => ∀ c : Dev Cert.MixerSampleReferenceIdeal.nD,
          (∀ i : (⟨2, ![512, 1024]⟩ : Shape).Idx, (Cert.On_states_only.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13)) (m ((c.tc : Thread Cert.MixerSampleIdeal.nD Cert.MixerSampleIdeal.τ).loc Cert.MixerSampleIdeal.main_arg14)) (m ((c.tc : Thread Cert.MixerSampleIdeal.nD Cert.MixerSampleIdeal.τ).loc Cert.MixerSampleIdeal.main_arg15)) (m ((c.tc : Thread Cert.MixerSampleIdeal.nD Cert.MixerSampleIdeal.τ).loc Cert.MixerSampleIdeal.main_arg16)) (m ((c.tc : Thread Cert.MixerSampleIdeal.nD Cert.MixerSampleIdeal.τ).loc Cert.MixerSampleIdeal.main_arg17)) (m ((c.tc : Thread Cert.MixerSampleIdeal.nD Cert.MixerSampleIdeal.τ).loc Cert.MixerSampleIdeal.main_arg18))).1 i = 1#1 → r.2.mem ((c.tc : Thread Cert.MixerSampleReferenceIdeal.nD Cert.MixerSampleReferenceIdeal.τ).loc Cert.MixerSampleReferenceIdeal.main_v217) i = v0 c i)
          ∧ (∀ i : (⟨3, ![32, 512, 256]⟩ : Shape).Idx, (Cert.On_states_only.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13)) (m ((c.tc : Thread Cert.MixerSampleIdeal.nD Cert.MixerSampleIdeal.τ).loc Cert.MixerSampleIdeal.main_arg14)) (m ((c.tc : Thread Cert.MixerSampleIdeal.nD Cert.MixerSampleIdeal.τ).loc Cert.MixerSampleIdeal.main_arg15)) (m ((c.tc : Thread Cert.MixerSampleIdeal.nD Cert.MixerSampleIdeal.τ).loc Cert.MixerSampleIdeal.main_arg16)) (m ((c.tc : Thread Cert.MixerSampleIdeal.nD Cert.MixerSampleIdeal.τ).loc Cert.MixerSampleIdeal.main_arg17)) (m ((c.tc : Thread Cert.MixerSampleIdeal.nD Cert.MixerSampleIdeal.τ).loc Cert.MixerSampleIdeal.main_arg18))).2.1 i = 1#1 → r.2.mem ((c.tc : Thread Cert.MixerSampleReferenceIdeal.nD Cert.MixerSampleReferenceIdeal.τ).loc Cert.MixerSampleReferenceIdeal.main_v216) i = v1 c i)
          ∧ (∀ i : (⟨3, ![32, 1, 512]⟩ : Shape).Idx, (Cert.On_states_only.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13)) (m ((c.tc : Thread Cert.MixerSampleIdeal.nD Cert.MixerSampleIdeal.τ).loc Cert.MixerSampleIdeal.main_arg14)) (m ((c.tc : Thread Cert.MixerSampleIdeal.nD Cert.MixerSampleIdeal.τ).loc Cert.MixerSampleIdeal.main_arg15)) (m ((c.tc : Thread Cert.MixerSampleIdeal.nD Cert.MixerSampleIdeal.τ).loc Cert.MixerSampleIdeal.main_arg16)) (m ((c.tc : Thread Cert.MixerSampleIdeal.nD Cert.MixerSampleIdeal.τ).loc Cert.MixerSampleIdeal.main_arg17)) (m ((c.tc : Thread Cert.MixerSampleIdeal.nD Cert.MixerSampleIdeal.τ).loc Cert.MixerSampleIdeal.main_arg18))).2.2.1 i = 1#1 → r.2.mem ((c.tc : Thread Cert.MixerSampleReferenceIdeal.nD Cert.MixerSampleReferenceIdeal.τ).loc Cert.MixerSampleReferenceIdeal.main_v218) i = v2 c i)
          ∧ (∀ i : (⟨3, ![32, 8, 512]⟩ : Shape).Idx, (Cert.On_states_only.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13)) (m ((c.tc : Thread Cert.MixerSampleIdeal.nD Cert.MixerSampleIdeal.τ).loc Cert.MixerSampleIdeal.main_arg14)) (m ((c.tc : Thread Cert.MixerSampleIdeal.nD Cert.MixerSampleIdeal.τ).loc Cert.MixerSampleIdeal.main_arg15)) (m ((c.tc : Thread Cert.MixerSampleIdeal.nD Cert.MixerSampleIdeal.τ).loc Cert.MixerSampleIdeal.main_arg16)) (m ((c.tc : Thread Cert.MixerSampleIdeal.nD Cert.MixerSampleIdeal.τ).loc Cert.MixerSampleIdeal.main_arg17)) (m ((c.tc : Thread Cert.MixerSampleIdeal.nD Cert.MixerSampleIdeal.τ).loc Cert.MixerSampleIdeal.main_arg18))).2.2.2 i = 1#1 → r.2.mem ((c.tc : Thread Cert.MixerSampleReferenceIdeal.nD Cert.MixerSampleReferenceIdeal.τ).loc Cert.MixerSampleReferenceIdeal.main_v219) i = v3 c i)
          ∧ r.2.mem ((c.tc : Thread Cert.MixerSampleReferenceIdeal.nD Cert.MixerSampleReferenceIdeal.τ).loc Cert.MixerSampleReferenceIdeal.main_arg0) = m' ((c.tc : Thread Cert.MixerSampleReferenceIdeal.nD Cert.MixerSampleReferenceIdeal.τ).loc Cert.MixerSampleReferenceIdeal.main_arg0)
          ∧ r.2.mem ((c.tc : Thread Cert.MixerSampleReferenceIdeal.nD Cert.MixerSampleReferenceIdeal.τ).loc Cert.MixerSampleReferenceIdeal.main_arg1) = m' ((c.tc : Thread Cert.MixerSampleReferenceIdeal.nD Cert.MixerSampleReferenceIdeal.τ).loc Cert.MixerSampleReferenceIdeal.main_arg1)
          ∧ r.2.mem ((c.tc : Thread Cert.MixerSampleReferenceIdeal.nD Cert.MixerSampleReferenceIdeal.τ).loc Cert.MixerSampleReferenceIdeal.main_arg2) = m' ((c.tc : Thread Cert.MixerSampleReferenceIdeal.nD Cert.MixerSampleReferenceIdeal.τ).loc Cert.MixerSampleReferenceIdeal.main_arg2)
          ∧ r.2.mem ((c.tc : Thread Cert.MixerSampleReferenceIdeal.nD Cert.MixerSampleReferenceIdeal.τ).loc Cert.MixerSampleReferenceIdeal.main_arg3) = m' ((c.tc : Thread Cert.MixerSampleReferenceIdeal.nD Cert.MixerSampleReferenceIdeal.τ).loc Cert.MixerSampleReferenceIdeal.main_arg3)
          ∧ r.2.mem ((c.tc : Thread Cert.MixerSampleReferenceIdeal.nD Cert.MixerSampleReferenceIdeal.τ).loc Cert.MixerSampleReferenceIdeal.main_arg4) = m' ((c.tc : Thread Cert.MixerSampleReferenceIdeal.nD Cert.MixerSampleReferenceIdeal.τ).loc Cert.MixerSampleReferenceIdeal.main_arg4)
          ∧ r.2.mem ((c.tc : Thread Cert.MixerSampleReferenceIdeal.nD Cert.MixerSampleReferenceIdeal.τ).loc Cert.MixerSampleReferenceIdeal.main_arg5) = m' ((c.tc : Thread Cert.MixerSampleReferenceIdeal.nD Cert.MixerSampleReferenceIdeal.τ).loc Cert.MixerSampleReferenceIdeal.main_arg5)
          ∧ r.2.mem ((c.tc : Thread Cert.MixerSampleReferenceIdeal.nD Cert.MixerSampleReferenceIdeal.τ).loc Cert.MixerSampleReferenceIdeal.main_arg6) = m' ((c.tc : Thread Cert.MixerSampleReferenceIdeal.nD Cert.MixerSampleReferenceIdeal.τ).loc Cert.MixerSampleReferenceIdeal.main_arg6)
          ∧ r.2.mem ((c.tc : Thread Cert.MixerSampleReferenceIdeal.nD Cert.MixerSampleReferenceIdeal.τ).loc Cert.MixerSampleReferenceIdeal.main_arg7) = m' ((c.tc : Thread Cert.MixerSampleReferenceIdeal.nD Cert.MixerSampleReferenceIdeal.τ).loc Cert.MixerSampleReferenceIdeal.main_arg7)
          ∧ r.2.mem ((c.tc : Thread Cert.MixerSampleReferenceIdeal.nD Cert.MixerSampleReferenceIdeal.τ).loc Cert.MixerSampleReferenceIdeal.main_arg8) = m' ((c.tc : Thread Cert.MixerSampleReferenceIdeal.nD Cert.MixerSampleReferenceIdeal.τ).loc Cert.MixerSampleReferenceIdeal.main_arg8)
          ∧ r.2.mem ((c.tc : Thread Cert.MixerSampleReferenceIdeal.nD Cert.MixerSampleReferenceIdeal.τ).loc Cert.MixerSampleReferenceIdeal.main_arg9) = m' ((c.tc : Thread Cert.MixerSampleReferenceIdeal.nD Cert.MixerSampleReferenceIdeal.τ).loc Cert.MixerSampleReferenceIdeal.main_arg9)
          ∧ r.2.mem ((c.tc : Thread Cert.MixerSampleReferenceIdeal.nD Cert.MixerSampleReferenceIdeal.τ).loc Cert.MixerSampleReferenceIdeal.main_arg10) = m' ((c.tc : Thread Cert.MixerSampleReferenceIdeal.nD Cert.MixerSampleReferenceIdeal.τ).loc Cert.MixerSampleReferenceIdeal.main_arg10)
          ∧ r.2.mem ((c.tc : Thread Cert.MixerSampleReferenceIdeal.nD Cert.MixerSampleReferenceIdeal.τ).loc Cert.MixerSampleReferenceIdeal.main_arg11) = m' ((c.tc : Thread Cert.MixerSampleReferenceIdeal.nD Cert.MixerSampleReferenceIdeal.τ).loc Cert.MixerSampleReferenceIdeal.main_arg11)
          ∧ r.2.mem ((c.tc : Thread Cert.MixerSampleReferenceIdeal.nD Cert.MixerSampleReferenceIdeal.τ).loc Cert.MixerSampleReferenceIdeal.main_arg12) = m' ((c.tc : Thread Cert.MixerSampleReferenceIdeal.nD Cert.MixerSampleReferenceIdeal.τ).loc Cert.MixerSampleReferenceIdeal.main_arg12)
          ∧ r.2.mem ((c.tc : Thread Cert.MixerSampleReferenceIdeal.nD Cert.MixerSampleReferenceIdeal.τ).loc Cert.MixerSampleReferenceIdeal.main_arg13) = m' ((c.tc : Thread Cert.MixerSampleReferenceIdeal.nD Cert.MixerSampleReferenceIdeal.τ).loc Cert.MixerSampleReferenceIdeal.main_arg13)
          ∧ r.2.mem ((c.tc : Thread Cert.MixerSampleReferenceIdeal.nD Cert.MixerSampleReferenceIdeal.τ).loc Cert.MixerSampleReferenceIdeal.main_arg14) = m' ((c.tc : Thread Cert.MixerSampleReferenceIdeal.nD Cert.MixerSampleReferenceIdeal.τ).loc Cert.MixerSampleReferenceIdeal.main_arg14)
          ∧ r.2.mem ((c.tc : Thread Cert.MixerSampleReferenceIdeal.nD Cert.MixerSampleReferenceIdeal.τ).loc Cert.MixerSampleReferenceIdeal.main_arg15) = m' ((c.tc : Thread Cert.MixerSampleReferenceIdeal.nD Cert.MixerSampleReferenceIdeal.τ).loc Cert.MixerSampleReferenceIdeal.main_arg15)
          ∧ r.2.mem ((c.tc : Thread Cert.MixerSampleReferenceIdeal.nD Cert.MixerSampleReferenceIdeal.τ).loc Cert.MixerSampleReferenceIdeal.main_arg16) = m' ((c.tc : Thread Cert.MixerSampleReferenceIdeal.nD Cert.MixerSampleReferenceIdeal.τ).loc Cert.MixerSampleReferenceIdeal.main_arg16)
          ∧ r.2.mem ((c.tc : Thread Cert.MixerSampleReferenceIdeal.nD Cert.MixerSampleReferenceIdeal.τ).loc Cert.MixerSampleReferenceIdeal.main_arg17) = m' ((c.tc : Thread Cert.MixerSampleReferenceIdeal.nD Cert.MixerSampleReferenceIdeal.τ).loc Cert.MixerSampleReferenceIdeal.main_arg17)
          ∧ r.2.mem ((c.tc : Thread Cert.MixerSampleReferenceIdeal.nD Cert.MixerSampleReferenceIdeal.τ).loc Cert.MixerSampleReferenceIdeal.main_arg18) = m' ((c.tc : Thread Cert.MixerSampleReferenceIdeal.nD Cert.MixerSampleReferenceIdeal.τ).loc Cert.MixerSampleReferenceIdeal.main_arg18))

def preserves_MixOut_MixOutIdeal : Prop :=
  True

def algebraic_MixOutIdeal_MixOutReferenceIdeal_on_stream_only [hMixOutIdeal : Cert.MixOutIdeal.Facts] [hMixOutReferenceIdeal : Cert.MixOutReferenceIdeal.Facts] [hOn_stream_only : Cert.On_stream_only.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)
      ∧ m' ((c.tc : Thread Cert.MixOutReferenceIdeal.nD Cert.MixOutReferenceIdeal.τ).loc Cert.MixOutReferenceIdeal.main_arg7) = m ((c.tc : Thread Cert.MixOutIdeal.nD Cert.MixOutIdeal.τ).loc Cert.MixOutIdeal.main_arg7)
      ∧ m' ((c.tc : Thread Cert.MixOutReferenceIdeal.nD Cert.MixOutReferenceIdeal.τ).loc Cert.MixOutReferenceIdeal.main_arg8) = m ((c.tc : Thread Cert.MixOutIdeal.nD Cert.MixOutIdeal.τ).loc Cert.MixOutIdeal.main_arg8)) →
    ∃ (v0 : (c : Dev Cert.MixOutIdeal.nD) → Buf (Elt Ideal) ((c.tc : Thread Cert.MixOutIdeal.nD Cert.MixOutIdeal.τ).loc Cert.MixOutIdeal.main_v11_0)) (v1 : (c : Dev Cert.MixOutIdeal.nD) → Buf (Elt Ideal) ((c.tc : Thread Cert.MixOutIdeal.nD Cert.MixOutIdeal.τ).loc Cert.MixOutIdeal.main_v11_1)) (v2 : (c : Dev Cert.MixOutIdeal.nD) → Buf (Elt Ideal) ((c.tc : Thread Cert.MixOutIdeal.nD Cert.MixOutIdeal.τ).loc Cert.MixOutIdeal.main_v11_2)) (v3 : (c : Dev Cert.MixOutIdeal.nD) → Buf (Elt Ideal) ((c.tc : Thread Cert.MixOutIdeal.nD Cert.MixOutIdeal.τ).loc Cert.MixOutIdeal.main_v11_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          (∀ i : (⟨2, ![65536, 1024]⟩ : Shape).Idx, (Cert.On_stream_only.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).1 i = 1#1 → r.2.mem ((c.tc : Thread Cert.MixOutIdeal.nD Cert.MixOutIdeal.τ).loc Cert.MixOutIdeal.main_v11_0) i = v0 c i)
          ∧ (∀ i : (⟨2, ![65536, 1024]⟩ : Shape).Idx, (Cert.On_stream_only.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).2.1 i = 1#1 → r.2.mem ((c.tc : Thread Cert.MixOutIdeal.nD Cert.MixOutIdeal.τ).loc Cert.MixOutIdeal.main_v11_1) i = v1 c i)
          ∧ (∀ i : (⟨2, ![8, 65536]⟩ : Shape).Idx, (Cert.On_stream_only.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).2.2.1 i = 1#1 → r.2.mem ((c.tc : Thread Cert.MixOutIdeal.nD Cert.MixOutIdeal.τ).loc Cert.MixOutIdeal.main_v11_2) i = v2 c i)
          ∧ (∀ i : (⟨2, ![8, 65536]⟩ : Shape).Idx, (Cert.On_stream_only.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).2.2.2 i = 1#1 → r.2.mem ((c.tc : Thread Cert.MixOutIdeal.nD Cert.MixOutIdeal.τ).loc Cert.MixOutIdeal.main_v11_3) i = v3 c i)
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          (∀ i : (⟨2, ![65536, 1024]⟩ : Shape).Idx, (Cert.On_stream_only.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).1 i = 1#1 → r.2.mem ((c.tc : Thread Cert.MixOutReferenceIdeal.nD Cert.MixOutReferenceIdeal.τ).loc Cert.MixOutReferenceIdeal.main_v29) i = v0 c i)
          ∧ (∀ i : (⟨2, ![65536, 1024]⟩ : Shape).Idx, (Cert.On_stream_only.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).2.1 i = 1#1 → r.2.mem ((c.tc : Thread Cert.MixOutReferenceIdeal.nD Cert.MixOutReferenceIdeal.τ).loc Cert.MixOutReferenceIdeal.main_v30) i = v1 c i)
          ∧ (∀ i : (⟨2, ![8, 65536]⟩ : Shape).Idx, (Cert.On_stream_only.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).2.2.1 i = 1#1 → r.2.mem ((c.tc : Thread Cert.MixOutReferenceIdeal.nD Cert.MixOutReferenceIdeal.τ).loc Cert.MixOutReferenceIdeal.main_v31) i = v2 c i)
          ∧ (∀ i : (⟨2, ![8, 65536]⟩ : Shape).Idx, (Cert.On_stream_only.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).2.2.2 i = 1#1 → r.2.mem ((c.tc : Thread Cert.MixOutReferenceIdeal.nD Cert.MixOutReferenceIdeal.τ).loc Cert.MixOutReferenceIdeal.main_v32) i = v3 c i)
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6)
          ∧ r.2.mem ((c.tc : Thread Cert.MixOutReferenceIdeal.nD Cert.MixOutReferenceIdeal.τ).loc Cert.MixOutReferenceIdeal.main_arg7) = m' ((c.tc : Thread Cert.MixOutReferenceIdeal.nD Cert.MixOutReferenceIdeal.τ).loc Cert.MixOutReferenceIdeal.main_arg7)
          ∧ r.2.mem ((c.tc : Thread Cert.MixOutReferenceIdeal.nD Cert.MixOutReferenceIdeal.τ).loc Cert.MixOutReferenceIdeal.main_arg8) = m' ((c.tc : Thread Cert.MixOutReferenceIdeal.nD Cert.MixOutReferenceIdeal.τ).loc Cert.MixOutReferenceIdeal.main_arg8))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hQkvSample : Cert.QkvSample.Facts) (hQkvSampleIdeal : Cert.QkvSampleIdeal.Facts) (hQkvSampleReferenceIdeal : Cert.QkvSampleReferenceIdeal.Facts) (hMixIn : Cert.MixIn.Facts) (hMixInIdeal : Cert.MixInIdeal.Facts) (hMixInReferenceIdeal : Cert.MixInReferenceIdeal.Facts) (hMixerSample : Cert.MixerSample.Facts) (hMixerSampleIdeal : Cert.MixerSampleIdeal.Facts) (hMixerSampleReferenceIdeal : Cert.MixerSampleReferenceIdeal.Facts) (hMixOut : Cert.MixOut.Facts) (hMixOutIdeal : Cert.MixOutIdeal.Facts) (hMixOutReferenceIdeal : Cert.MixOutReferenceIdeal.Facts) (hPre_finite_qk : Cert.Pre_finite_qk.Facts) (hOn_states_only : Cert.On_states_only.Facts) (hOn_stream_only : Cert.On_stream_only.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Qkv (hQkv := hQkv)
    ∧ quiescent_QkvIdeal (hQkvIdeal := hQkvIdeal)
    ∧ quiescent_QkvReferenceIdeal (hQkvReferenceIdeal := hQkvReferenceIdeal)
    ∧ quiescent_QkvSample (hQkvSample := hQkvSample)
    ∧ quiescent_QkvSampleIdeal (hQkvSampleIdeal := hQkvSampleIdeal)
    ∧ quiescent_QkvSampleReferenceIdeal (hQkvSampleReferenceIdeal := hQkvSampleReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_MixerSample (hMixerSample := hMixerSample)
    ∧ quiescent_MixerSampleIdeal (hMixerSampleIdeal := hMixerSampleIdeal)
    ∧ quiescent_MixerSampleReferenceIdeal (hMixerSampleReferenceIdeal := hMixerSampleReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Qkv_QkvIdeal
    ∧ algebraic_QkvIdeal_QkvReferenceIdeal (hQkvIdeal := hQkvIdeal) (hQkvReferenceIdeal := hQkvReferenceIdeal)
    ∧ preserves_QkvSample_QkvSampleIdeal
    ∧ algebraic_QkvSampleIdeal_QkvSampleReferenceIdeal (hQkvSampleIdeal := hQkvSampleIdeal) (hQkvSampleReferenceIdeal := hQkvSampleReferenceIdeal)
    ∧ preserves_MixIn_MixInIdeal
    ∧ algebraic_MixInIdeal_MixInReferenceIdeal (hMixInIdeal := hMixInIdeal) (hMixInReferenceIdeal := hMixInReferenceIdeal)
    ∧ preserves_MixerSample_MixerSampleIdeal
    ∧ algebraic_MixerSampleIdeal_MixerSampleReferenceIdeal_on_states_only (hMixerSampleIdeal := hMixerSampleIdeal) (hMixerSampleReferenceIdeal := hMixerSampleReferenceIdeal) (hOn_states_only := hOn_states_only)
    ∧ preserves_MixOut_MixOutIdeal
    ∧ algebraic_MixOutIdeal_MixOutReferenceIdeal_on_stream_only (hMixOutIdeal := hMixOutIdeal) (hMixOutReferenceIdeal := hMixOutReferenceIdeal) (hOn_stream_only := hOn_stream_only)
-- ==== On_states_only.lean ====
abbrev S512x512 : Shape := ⟨2, ![512, 512]⟩
abbrev S512x128 : Shape := ⟨2, ![512, 128]⟩
abbrev S32x4x64x128 : Shape := ⟨4, ![32, 4, 64, 128]⟩
abbrev S32x512 : Shape := ⟨2, ![32, 512]⟩
abbrev S32x3x512 : Shape := ⟨3, ![32, 3, 512]⟩
abbrev S16x256 : Shape := ⟨2, ![16, 256]⟩
abbrev S256 : Shape := ⟨1, ![256]⟩
abbrev S128 : Shape := ⟨1, ![128]⟩
abbrev S4x512 : Shape := ⟨2, ![4, 512]⟩
abbrev S512 : Shape := ⟨1, ![512]⟩
abbrev S8x64x64 : Shape := ⟨3, ![8, 64, 64]⟩
abbrev S_ : Shape := ⟨0, ![]⟩
abbrev S512x1024 : Shape := ⟨2, ![512, 1024]⟩
abbrev S32x512x256 : Shape := ⟨3, ![32, 512, 256]⟩
abbrev S32x1x512 : Shape := ⟨3, ![32, 1, 512]⟩
abbrev S32x8x512 : Shape := ⟨3, ![32, 8, 512]⟩

class Facts : Prop where
  bcast_S_S512x1024 : S_.BroadcastsInDim S512x1024 (![] : Fin 0 → Fin S512x1024.rank)
  bcast_S_S32x512x256 : S_.BroadcastsInDim S32x512x256 (![] : Fin 0 → Fin S32x512x256.rank)
  bcast_S_S32x1x512 : S_.BroadcastsInDim S32x1x512 (![] : Fin 0 → Fin S32x1x512.rank)
  bcast_S_S32x8x512 : S_.BroadcastsInDim S32x8x512 (![] : Fin 0 → Fin S32x8x512.rank)

variable [Facts]

def fn {F : FTy → Type} [FloatOps F] (main_arg0 : FVec F S512x512 .f32) (main_arg1 : FVec F S512x512 .f32) (main_arg2 : FVec F S512x512 .f32) (main_arg3 : FVec F S512x128 .f32) (main_arg4 : FVec F S512x512 .f32) (main_arg5 : FVec F S512x512 .f32) (main_arg6 : FVec F S32x4x64x128 .f32) (main_arg7 : FVec F S32x512 .f32) (main_arg8 : FVec F S32x3x512 .f32) (main_arg9 : FVec F S16x256 .f32) (main_arg10 : FVec F S256 .f32) (main_arg11 : FVec F S128 .f32) (main_arg12 : FVec F S4x512 .f32) (main_arg13 : FVec F S512 .f32) (main_arg14 : FVec F S8x64x64 .f32) (main_arg15 : FVec F S512 .f32) (main_arg16 : FVec F S8x64x64 .f32) (main_arg17 : FVec F S512 .f32) (main_arg18 : FVec F S512 .f32) : IVec S512x1024 1 × IVec S32x512x256 1 × IVec S32x1x512 1 × IVec S32x8x512 1 :=
  let main_c : IVec S_ 1 := constantI S_ 1 0#1
  let main_v0 : IVec S512x1024 1 := broadcastInDim S512x1024 ![] bcast_S_S512x1024 main_c
  let main_c_0 : IVec S_ 1 := constantI S_ 1 1#1
  let main_v1 : IVec S32x512x256 1 := broadcastInDim S32x512x256 ![] bcast_S_S32x512x256 main_c_0
  let main_c_1 : IVec S_ 1 := constantI S_ 1 1#1
  let main_v2 : IVec S32x1x512 1 := broadcastInDim S32x1x512 ![] bcast_S_S32x1x512 main_c_1
  let main_c_2 : IVec S_ 1 := constantI S_ 1 1#1
  let main_v3 : IVec S32x8x512 1 := broadcastInDim S32x8x512 ![] bcast_S_S32x8x512 main_c_2
  (main_v0, main_v1, main_v2, main_v3)
-- ==== On_stream_only.lean ====
abbrev S65536x1024 : Shape := ⟨2, ![65536, 1024]⟩
abbrev S1024x1024 : Shape := ⟨2, ![1024, 1024]⟩
abbrev S8x1024 : Shape := ⟨2, ![8, 1024]⟩
abbrev S1024 : Shape := ⟨1, ![1024]⟩
abbrev S1024x16 : Shape := ⟨2, ![1024, 16]⟩
abbrev S16 : Shape := ⟨1, ![16]⟩
abbrev S_ : Shape := ⟨0, ![]⟩
abbrev S8x65536 : Shape := ⟨2, ![8, 65536]⟩

class Facts : Prop where
  bcast_S_S65536x1024 : S_.BroadcastsInDim S65536x1024 (![] : Fin 0 → Fin S65536x1024.rank)
  bcast_S_S8x65536 : S_.BroadcastsInDim S8x65536 (![] : Fin 0 → Fin S8x65536.rank)

variable [Facts]

def fn {F : FTy → Type} [FloatOps F] (main_arg0 : FVec F S65536x1024 .bf16) (main_arg1 : FVec F S1024x1024 .f32) (main_arg2 : FVec F S65536x1024 .f32) (main_arg3 : FVec F S8x1024 .f32) (main_arg4 : FVec F S1024 .f32) (main_arg5 : FVec F S8x1024 .f32) (main_arg6 : FVec F S8x1024 .f32) (main_arg7 : FVec F S1024x16 .f32) (main_arg8 : FVec F S16 .f32) : IVec S65536x1024 1 × IVec S65536x1024 1 × IVec S8x65536 1 × IVec S8x65536 1 :=
  let main_c : IVec S_ 1 := constantI S_ 1 1#1
  let main_v0 : IVec S65536x1024 1 := broadcastInDim S65536x1024 ![] bcast_S_S65536x1024 main_c
  let main_c_0 : IVec S_ 1 := constantI S_ 1 0#1
  let main_v1 : IVec S8x65536 1 := broadcastInDim S8x65536 ![] bcast_S_S8x65536 main_c_0
  (main_v0, main_v0, main_v1, main_v1)
-- ==== Pre_finite_qk.lean ====
abbrev S65536x1024 : Shape := ⟨2, ![65536, 1024]⟩
abbrev S_ : Shape := ⟨0, ![]⟩

class Facts : Prop where
  bitsLt_bf16_f32 : FTy.bits .bf16 < FTy.bits .f32
  bcast_S_S65536x1024 : S_.BroadcastsInDim S65536x1024 (![] : Fin 0 → Fin S65536x1024.rank)

variable [Facts]

def fn {F : FTy → Type} [FloatOps F] (main_arg0 : FVec F S65536x1024 .bf16) (main_arg1 : FVec F S65536x1024 .bf16) (main_arg2 : FVec F S65536x1024 .bf16) : IVec S65536x1024 1 :=
  let main_v0 : FVec F S65536x1024 .f32 := (extf .f32 · bitsLt_bf16_f32) main_arg0
  let main_v1 : FVec F S65536x1024 .f32 := Host.absf main_v0
  let main_cst : FVec F S_ .f32 := constant S_ .f32 0x7F800000#32
  let main_v2 : FVec F S65536x1024 .f32 := broadcastInDim S65536x1024 ![] bcast_S_S65536x1024 main_cst
  let main_v3 : IVec S65536x1024 1 := cmpf .olt main_v1 main_v2
  let main_v4 : FVec F S65536x1024 .f32 := (extf .f32 · bitsLt_bf16_f32) main_arg1
  let main_v5 : FVec F S65536x1024 .f32 := Host.absf main_v4
  let main_cst_0 : FVec F S_ .f32 := constant S_ .f32 0x7F800000#32
  let main_v6 : FVec F S65536x1024 .f32 := broadcastInDim S65536x1024 ![] bcast_S_S65536x1024 main_cst_0
  let main_v7 : IVec S65536x1024 1 := cmpf .olt main_v5 main_v6
  let main_v8 : IVec S65536x1024 1 := andi main_v3 main_v7
  main_v8
-- ==== Kernel.lean ====
abbrev S65536x1024 : Shape := ⟨2, ![65536, 1024]⟩
abbrev S256x128 : Shape := ⟨2, ![256, 128]⟩
abbrev S8192x128 : Shape := ⟨2, ![8192, 128]⟩
abbrev S2x256x128 : Shape := ⟨3, ![2, 256, 128]⟩
abbrev S2x256x1 : Shape := ⟨3, ![2, 256, 1]⟩
abbrev S1x128 : Shape := ⟨2, ![1, 128]⟩
abbrev S256x256 : Shape := ⟨2, ![256, 256]⟩
abbrev S256x1 : Shape := ⟨2, ![256, 1]⟩
abbrev S256 : Shape := ⟨1, ![256]⟩
abbrev S1x256x128 : Shape := ⟨3, ![1, 256, 128]⟩
abbrev S1x256x1 : Shape := ⟨3, ![1, 256, 1]⟩

abbrev nBuf : Space → Nat
  | .hbm => 4
  | .vmem => 10
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x1024, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S2x256x128, .f32⟩
  | .local _ .vmem, ⟨9, _⟩ => ⟨S2x256x1, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 32], ![false, false, false]⟩

def k0_mult1 (i : grid0.Coords) : BitVec 32 :=
  let arg2 : BitVec 32 := BitVec.ofNat 32 (i 2).val
  let c256_i32 : BitVec 32 := 256#32
  let v24 : BitVec 32 := Scalar.muli arg2 c256_i32
  v24
def k0_off1 (i : grid0.Coords) : Fin 2 → Nat :=
  let arg2 : BitVec 32 := BitVec.ofNat 32 (i 2).val
  let c256_i32 : BitVec 32 := 256#32
  let v24 : BitVec 32 := Scalar.muli arg2 c256_i32
  let v25 : BitVec 32 := v24
  let v26 : Index := Scalar.indexCast v25
  let c0_6 : Index := 0#32
  ![v26.toNat, 0]
@[reducible] def k0_t1_loop (i : grid0.Coords) : Scf.Loop 32 :=
  let c0_i32_37 : BitVec 32 := 0#32
  let arg2 : BitVec 32 := BitVec.ofNat 32 (i 2).val
  let v105 : BitVec 32 := Scalar.subi arg2 c0_i32_37
  let c1_i32 : BitVec 32 := 1#32
  let v107 : BitVec 32 := Scalar.divsi v105 c1_i32
  let v108 : BitVec 32 := Scalar.muli v107 c1_i32
  let v109 : BitVec 32 := Scalar.addi c0_i32_37 v108
  let c1_i32_38 : BitVec 32 := 1#32
  ⟨c0_i32_37, v109, c1_i32_38⟩
def k0_mult2 (i : grid0.Coords) (k0_t1 : Fin (k0_t1_loop i).trips) : BitVec 32 :=
  let arg2 : BitVec 32 := BitVec.ofNat 32 (i 2).val
  let c1_i32_49 : BitVec 32 := 1#32
  let v121 : BitVec 32 := Scalar.subi arg2 c1_i32_49
  let c0_i32_37 : BitVec 32 := 0#32
  let c1_i32_38 : BitVec 32 := 1#32
  let arg9 : BitVec 32 := Scf.iv c0_i32_37 c1_i32_38 k0_t1
  let v122 : BitVec 32 := Scalar.subi v121 arg9
  let c256_i32_50 : BitVec 32 := 256#32
  let v123 : BitVec 32 := Scalar.muli v122 c256_i32_50
  v123
def k0_off2 (i : grid0.Coords) (k0_t1 : Fin (k0_t1_loop i).trips) : Fin 2 → Nat :=
  let arg2 : BitVec 32 := BitVec.ofNat 32 (i 2).val
  let c1_i32_49 : BitVec 32 := 1#32
  let v121 : BitVec 32 := Scalar.subi arg2 c1_i32_49
  let c0_i32_37 : BitVec 32 := 0#32
  let c1_i32_38 : BitVec 32 := 1#32
  let arg9 : BitVec 32 := Scf.iv c0_i32_37 c1_i32_38 k0_t1
  let v122 : BitVec 32 := Scalar.subi v121 arg9
  let c256_i32_50 : BitVec 32 := 256#32
  let v123 : BitVec 32 := Scalar.muli v122 c256_i32_50
  let v124 : BitVec 32 := v123
  let v125 : Index := Scalar.indexCast v124
  let c0_51 : Index := 0#32
  ![v125.toNat, 0]
@[reducible] def k0_t2_loop (i : grid0.Coords) : Scf.Loop 32 :=
  let c0_i32_37 : BitVec 32 := 0#32
  let arg2 : BitVec 32 := BitVec.ofNat 32 (i 2).val
  let v105 : BitVec 32 := Scalar.subi arg2 c0_i32_37
  let c1_i32 : BitVec 32 := 1#32
  let v107 : BitVec 32 := Scalar.divsi v105 c1_i32
  let v108 : BitVec 32 := Scalar.muli v107 c1_i32
  let v109 : BitVec 32 := Scalar.addi c0_i32_37 v108
  let v106 : BitVec 32 := Scalar.addi c0_i32_37 v105
  let c1_i32_39 : BitVec 32 := 1#32
  ⟨v109, v106, c1_i32_39⟩
def k0_mult3 (i : grid0.Coords) (k0_t2 : Fin (k0_t2_loop i).trips) : BitVec 32 :=
  let arg2 : BitVec 32 := BitVec.ofNat 32 (i 2).val
  let c1_i32_49 : BitVec 32 := 1#32
  let v121 : BitVec 32 := Scalar.subi arg2 c1_i32_49
  let c0_i32_37 : BitVec 32 := 0#32
  let v105 : BitVec 32 := Scalar.subi arg2 c0_i32_37
  let c1_i32 : BitVec 32 := 1#32
  let v107 : BitVec 32 := Scalar.divsi v105 c1_i32
  let v108 : BitVec 32 := Scalar.muli v107 c1_i32
  let v109 : BitVec 32 := Scalar.addi c0_i32_37 v108
  let c1_i32_39 : BitVec 32 := 1#32
  let arg9 : BitVec 32 := Scf.iv v109 c1_i32_39 k0_t2
  let v122 : BitVec 32 := Scalar.subi v121 arg9
  let c256_i32_50 : BitVec 32 := 256#32
  let v123 : BitVec 32 := Scalar.muli v122 c256_i32_50
  v123
def k0_off3 (i : grid0.Coords) (k0_t2 : Fin (k0_t2_loop i).trips) : Fin 2 → Nat :=
  let arg2 : BitVec 32 := BitVec.ofNat 32 (i 2).val
  let c1_i32_49 : BitVec 32 := 1#32
  let v121 : BitVec 32 := Scalar.subi arg2 c1_i32_49
  let c0_i32_37 : BitVec 32 := 0#32
  let v105 : BitVec 32 := Scalar.subi arg2 c0_i32_37
  let c1_i32 : BitVec 32 := 1#32
  let v107 : BitVec 32 := Scalar.divsi v105 c1_i32
  let v108 : BitVec 32 := Scalar.muli v107 c1_i32
  let v109 : BitVec 32 := Scalar.addi c0_i32_37 v108
  let c1_i32_39 : BitVec 32 := 1#32
  let arg9 : BitVec 32 := Scf.iv v109 c1_i32_39 k0_t2
  let v122 : BitVec 32 := Scalar.subi v121 arg9
  let c256_i32_50 : BitVec 32 := 256#32
  let v123 : BitVec 32 := Scalar.muli v122 c256_i32_50
  let v124 : BitVec 32 := v123
  let v125 : Index := Scalar.indexCast v124
  let c0_51 : Index := 0#32
  ![v125.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S65536x1024 : Shape := ⟨2, ![65536, 1024]⟩
abbrev S8x8192x16x64 : Shape := ⟨4, ![8, 8192, 16, 64]⟩
abbrev S8x16x8192x64 : Shape := ⟨4, ![8, 16, 8192, 64]⟩
abbrev S8192 : Shape := ⟨1, ![8192]⟩
abbrev S8x16x8192x8192 : Shape := ⟨4, ![8, 16, 8192, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x16x8192x1 : Shape := ⟨4, ![8, 16, 8192, 1]⟩
abbrev S8x16x8192 : Shape := ⟨3, ![8, 16, 8192]⟩

abbrev nBuf : Space → Nat
  | .hbm => 76
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x1024, .f32⟩
  | .hbm, ⟨4, _⟩ => ⟨S8x8192x16x64, .f32⟩
  | .hbm, ⟨5, _⟩ => ⟨S8x16x8192x64, .f32⟩
  | .hbm, ⟨6, _⟩ => ⟨S65536x1024, .f32⟩
  | .hbm, ⟨7, _⟩ => ⟨S8x8192x16x64, .f32⟩
  | .hbm, ⟨8, _⟩ => ⟨S8x16x8192x64, .f32⟩
  | .hbm, ⟨9, _⟩ => ⟨S65536x1024, .f32⟩
  | .hbm, ⟨10, _⟩ => ⟨S8x8192x16x64, .f32⟩
  | .hbm, ⟨11, _⟩ => ⟨S8x16x8192x64, .f32⟩
  | .hbm, ⟨12, _⟩ => ⟨S8192, .i32⟩
  | .hbm, ⟨13, _⟩ => ⟨S8x16x8192x8192, .f32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8x16x8192x8192, .f32⟩
  | .hbm, ⟨20, _⟩ => ⟨S8x16x8192x8192, .f32⟩
  | .hbm, ⟨21, _⟩ => ⟨S_, .f32⟩
  | .hbm, ⟨22, _⟩ => ⟨S8x16x8192x8192, .f32⟩
  | .hbm, ⟨23, _⟩ => ⟨S8x16x8192x8192, .f32⟩
  | .hbm, ⟨24, _⟩ => ⟨S8x16x8192x8192, .f32⟩
  | .hbm, ⟨25, _⟩ => ⟨S8x16x8192x8192, .f32⟩
  | .hbm, ⟨26, _⟩ => ⟨S8x16x8192x8192, .i1⟩
  | .hbm, ⟨27, _⟩ => ⟨S8x16x8192x8192, .f32⟩
  | .hbm, ⟨28, _⟩ => ⟨S8x16x8192x8192, .f32⟩
  | .hbm, ⟨29, _⟩ => ⟨S8x16x8192x8192, .f32⟩
  | .hbm, ⟨30, _⟩ => ⟨S8x16x8192x8192, .f32⟩
  | .hbm, ⟨31, _⟩ => ⟨S8x16x8192x8192, .f32⟩
  | .hbm, ⟨32, _⟩ => ⟨S8x16x8192x8192, .f32⟩
  | .hbm, ⟨33, _⟩ => ⟨S8x16x8192x8192, .f32⟩
  | .hbm, ⟨34, _⟩ => ⟨S8x16x8192x8192, .f32⟩
  | .hbm, ⟨35, _⟩ => ⟨S8x16x8192x8192, .f32⟩
  | .hbm, ⟨36, _⟩ => ⟨S_, .f32⟩
  | .hbm, ⟨37, _⟩ => ⟨S_, .f32⟩
  | .hbm, ⟨38, _⟩ => ⟨S8x16x8192x8192, .i1⟩
  | .hbm, ⟨39, _⟩ => ⟨S8x16x8192x8192, .f32⟩
  | .hbm, ⟨40, _⟩ => ⟨S8x16x8192x8192, .f32⟩
  | .hbm, ⟨41, _⟩ => ⟨S_, .f32⟩
  | .hbm, ⟨42, _⟩ => ⟨S_, .f32⟩
  | .hbm, ⟨43, _⟩ => ⟨S8x16x8192x8192, .f32⟩
  | .hbm, ⟨44, _⟩ => ⟨S8x16x8192x1, .f32⟩
  | .hbm, ⟨45, _⟩ => ⟨S8x16x8192, .f32⟩
  | .hbm, ⟨46, _⟩ => ⟨S8x16x8192x8192, .f32⟩
  | .hbm, ⟨47, _⟩ => ⟨S_, .f32⟩
  | .hbm, ⟨48, _⟩ => ⟨S8x16x8192x8192, .f32⟩
  | .hbm, ⟨49, _⟩ => ⟨S8x16x8192x8192, .f32⟩
  | .hbm, ⟨50, _⟩ => ⟨S8x16x8192x8192, .f32⟩
  | .hbm, ⟨51, _⟩ => ⟨S8x16x8192x8192, .f32⟩
  | .hbm, ⟨52, _⟩ => ⟨S8x16x8192x8192, .i1⟩
  | .hbm, ⟨53, _⟩ => ⟨S8x16x8192x8192, .f32⟩
  | .hbm, ⟨54, _⟩ => ⟨S8x16x8192x8192, .f32⟩
  | .hbm, ⟨55, _⟩ => ⟨S8x16x8192x8192, .f32⟩
  | .hbm, ⟨56, _⟩ => ⟨S8x16x8192x8192, .f32⟩
  | .hbm, ⟨57, _⟩ => ⟨S8x16x8192x8192, .f32⟩
  | .hbm, ⟨58, _⟩ => ⟨S8x16x8192x8192, .f32⟩
  | .hbm, ⟨59, _⟩ => ⟨S8x16x8192x8192, .f32⟩
  | .hbm, ⟨60, _⟩ => ⟨S8x16x8192x8192, .f32⟩
  | .hbm, ⟨61, _⟩ => ⟨S8x16x8192x8192, .f32⟩
  | .hbm, ⟨62, _⟩ => ⟨S8x16x8192x1, .f32⟩
  | .hbm, ⟨63, _⟩ => ⟨S8x16x8192x8192, .f32⟩
  | .hbm, ⟨64, _⟩ => ⟨S8x16x8192x8192, .f32⟩
  | .hbm, ⟨65, _⟩ => ⟨S8x16x8192x8192, .f32⟩
  | .hbm, ⟨66, _⟩ => ⟨S8x16x8192x8192, .f32⟩
  | .hbm, ⟨67, _⟩ => ⟨S_, .f32⟩
  | .hbm, ⟨68, _⟩ => ⟨S_, .f32⟩
  | .hbm, ⟨69, _⟩ => ⟨S8x16x8192x8192, .i1⟩
  | .hbm, ⟨70, _⟩ => ⟨S8x16x8192x8192, .f32⟩
  | .hbm, ⟨71, _⟩ => ⟨S8x16x8192x8192, .f32⟩
  | .hbm, ⟨72, _⟩ => ⟨S8x16x8192x64, .f32⟩
  | .hbm, ⟨73, _⟩ => ⟨S8x8192x16x64, .f32⟩
  | .hbm, ⟨74, _⟩ => ⟨S65536x1024, .f32⟩
  | .hbm, ⟨75, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_call2_call0_cst : Ref sig .tc := ⟨.hbm, 41, rfl⟩
abbrev main_call2_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_0 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩

abbrev nD : Nat := 1
abbrev τ : Topo := Topo.v7x

variable {F : FTy → Type} [FloatOps F]
-- ==== Qkv.lean ====
abbrev S65536x1024 : Shape := ⟨2, ![65536, 1024]⟩
abbrev S1024 : Shape := ⟨1, ![1024]⟩
abbrev S8x1024 : Shape := ⟨2, ![8, 1024]⟩
abbrev S1024x3072 : Shape := ⟨2, ![1024, 3072]⟩
abbrev S1024x1024 : Shape := ⟨2, ![1024, 1024]⟩
abbrev S8x1x1024 : Shape := ⟨3, ![8, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 19
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x3072, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S8x1x1024, .f32⟩
  | .hbm, ⟨12, _⟩ => ⟨S8x1x1024, .f32⟩
  | .hbm, ⟨13, _⟩ => ⟨S1x1024, .f32⟩
  | .hbm, ⟨14, _⟩ => ⟨S65536x1024, .bf16⟩
  | .hbm, ⟨15, _⟩ => ⟨S65536x1024, .f32⟩
  | .hbm, ⟨16, _⟩ => ⟨S65536x1024, .bf16⟩
  | .hbm, ⟨17, _⟩ => ⟨S65536x1024, .f32⟩
  | .hbm, ⟨18, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QkvReferenceIdeal.lean ====
abbrev S65536x1024 : Shape := ⟨2, ![65536, 1024]⟩
abbrev S1024 : Shape := ⟨1, ![1024]⟩
abbrev S8x1024 : Shape := ⟨2, ![8, 1024]⟩
abbrev S1024x3072 : Shape := ⟨2, ![1024, 3072]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x8192x3072 : Shape := ⟨3, ![8, 8192, 3072]⟩
abbrev S65536x3x1024 : Shape := ⟨3, ![65536, 3, 1024]⟩
abbrev S65536x1x1024 : Shape := ⟨3, ![65536, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x3072, .f32⟩
  | .hbm, ⟨5, _⟩ => ⟨S8x8192x1024, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x8192x1024, .f32⟩
  | .hbm, ⟨27, _⟩ => ⟨S8x8192x1024, .f32⟩
  | .hbm, ⟨28, _⟩ => ⟨S8x1x1024, .f32⟩
  | .hbm, ⟨29, _⟩ => ⟨S8x8192x1024, .f32⟩
  | .hbm, ⟨30, _⟩ => ⟨S8x8192x1024, .f32⟩
  | .hbm, ⟨31, _⟩ => ⟨S8x8192x3072, .f32⟩
  | .hbm, ⟨32, _⟩ => ⟨S65536x3x1024, .f32⟩
  | .hbm, ⟨33, _⟩ => ⟨S65536x1x1024, .f32⟩
  | .hbm, ⟨34, _⟩ => ⟨S65536x1024, .f32⟩
  | .hbm, ⟨35, _⟩ => ⟨S65536x1x1024, .f32⟩
  | .hbm, ⟨36, _⟩ => ⟨S65536x1024, .f32⟩
  | .hbm, ⟨37, _⟩ => ⟨S65536x1x1024, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S65536x1024, .bf16⟩
  | .hbm, ⟨43, _⟩ => ⟨S65536x1024, .bf16⟩
  | .hbm, ⟨44, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== QkvSample.lean ====
abbrev S512x1024 : Shape := ⟨2, ![512, 1024]⟩
abbrev S1024 : Shape := ⟨1, ![1024]⟩
abbrev S32x1024 : Shape := ⟨2, ![32, 1024]⟩
abbrev S1024x3072 : Shape := ⟨2, ![1024, 3072]⟩
abbrev S1024x1024 : Shape := ⟨2, ![1024, 1024]⟩
abbrev S32x16x1024 : Shape := ⟨3, ![32, 16, 1024]⟩
abbrev S1x1024 : Shape := ⟨2, ![1, 1024]⟩
abbrev S512 : Shape := ⟨1, ![512]⟩
abbrev S512x1 : Shape := ⟨2, ![512, 1]⟩

abbrev nBuf : Space → Nat
  | .hbm => 21
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x3072, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S32x16x1024, .f32⟩
  | .hbm, ⟨12, _⟩ => ⟨S512x1024, .f32⟩
  | .hbm, ⟨13, _⟩ => ⟨S32x16x1024, .f32⟩
  | .hbm, ⟨14, _⟩ => ⟨S512x1024, .f32⟩
  | .hbm, ⟨15, _⟩ => ⟨S1x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | .local _ .vmem, ⟨11, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== QkvSampleReferenceIdeal.lean ====
abbrev S512x1024 : Shape := ⟨2, ![512, 1024]⟩
abbrev S1024 : Shape := ⟨1, ![1024]⟩
abbrev S32x1024 : Shape := ⟨2, ![32, 1024]⟩
abbrev S1024x3072 : Shape := ⟨2, ![1024, 3072]⟩
abbrev S32x16x1024 : Shape := ⟨3, ![32, 16, 1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S32x1x1024 : Shape := ⟨3, ![32, 1, 1024]⟩
abbrev S32x16x3072 : Shape := ⟨3, ![32, 16, 3072]⟩
abbrev S512x3x1024 : Shape := ⟨3, ![512, 3, 1024]⟩
abbrev S512x1x1024 : Shape := ⟨3, ![512, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x3072, .f32⟩
  | .hbm, ⟨5, _⟩ => ⟨S32x16x1024, .f32⟩
  | .hbm, ⟨6, _⟩ => ⟨S32x16x1024, .f32⟩
  | .hbm, ⟨7, _⟩ => ⟨S_, .f32⟩
  | .hbm, ⟨8, _⟩ => ⟨S32x16, .f32⟩
  | .hbm, ⟨9, _⟩ => ⟨S32x16x1, .f32⟩
  | .hbm, ⟨10, _⟩ => ⟨S_, .f32⟩
  | .hbm, ⟨11, _⟩ => ⟨S32x16x1, .f32⟩
  | .hbm, ⟨12, _⟩ => ⟨S32x16x1, .f32⟩
  | .hbm, ⟨13, _⟩ => ⟨S_, .f32⟩
  | .hbm, ⟨14, _⟩ => ⟨S32x16x1, .f32⟩
  | .hbm, ⟨15, _⟩ => ⟨S32x16x1, .f32⟩
  | .hbm, ⟨16, _⟩ => ⟨S32x16x1, .f32⟩
  | .hbm, ⟨17, _⟩ => ⟨S32x16x1024, .f32⟩
  | .hbm, ⟨18, _⟩ => ⟨S32x16x1024, .f32⟩
  | .hbm, ⟨19, _⟩ => ⟨S1x1x1024, .f32⟩
  | .hbm, ⟨20, _⟩ => ⟨S32x16x1024, .f32⟩
  | .hbm, ⟨21, _⟩ => ⟨S32x16x1024, .f32⟩
  | .hbm, ⟨22, _⟩ => ⟨S32x1x1024, .f32⟩
  | .hbm, ⟨23, _⟩ => ⟨S_, .f32⟩
  | .hbm, ⟨24, _⟩ => ⟨S32x1x1024, .f32⟩
  | .hbm, ⟨25, _⟩ => ⟨S32x1x1024, .f32⟩
  | .hbm, ⟨26, _⟩ => ⟨S32x16x1024, .f32⟩
  | .hbm, ⟨27, _⟩ => ⟨S32x16x1024, .f32⟩
  | .hbm, ⟨28, _⟩ => ⟨S32x1x1024, .f32⟩
  | .hbm, ⟨29, _⟩ => ⟨S32x16x1024, .f32⟩
  | .hbm, ⟨30, _⟩ => ⟨S32x16x1024, .f32⟩
  | .hbm, ⟨31, _⟩ => ⟨S32x16x3072, .f32⟩
  | .hbm, ⟨32, _⟩ => ⟨S512x3x1024, .f32⟩
  | .hbm, ⟨33, _⟩ => ⟨S512x1x1024, .f32⟩
  | .hbm, ⟨34, _⟩ => ⟨S512x1024, .f32⟩
  | .hbm, ⟨35, _⟩ => ⟨S512x1x1024, .f32⟩
  | .hbm, ⟨36, _⟩ => ⟨S512x1024, .f32⟩
  | .hbm, ⟨37, _⟩ => ⟨S512x1x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .bf16⟩
  | .hbm, ⟨43, _⟩ => ⟨S512x1024, .bf16⟩
  | .hbm, ⟨44, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== MixIn.lean ====
abbrev S65536x1024 : Shape := ⟨2, ![65536, 1024]⟩
abbrev S1024 : Shape := ⟨1, ![1024]⟩
abbrev S8x1024 : Shape := ⟨2, ![8, 1024]⟩
abbrev S1024x2576 : Shape := ⟨2, ![1024, 2576]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S8x1x1024 : Shape := ⟨3, ![8, 1, 1024]⟩
abbrev S1x1024 : Shape := ⟨2, ![1, 1024]⟩
abbrev S65536x512 : Shape := ⟨2, ![65536, 512]⟩
abbrev S65536x128 : Shape := ⟨2, ![65536, 128]⟩
abbrev S512x1024 : Shape := ⟨2, ![512, 1024]⟩
abbrev S1x1x1024 : Shape := ⟨3, ![1, 1, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 29
  | .vmem => 25
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2576, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x16, .f32⟩
  | .hbm, ⟨9, _⟩ => ⟨S1024x512, .f32⟩
  | .hbm, ⟨10, _⟩ => ⟨S1024x512, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x512, .bf16⟩
  | .hbm, ⟨15, _⟩ => ⟨S1024x512, .bf16⟩
  | .hbm, ⟨16, _⟩ => ⟨S1024x512, .bf16⟩
  | .hbm, ⟨17, _⟩ => ⟨S1024x128, .bf16⟩
  | .hbm, ⟨18, _⟩ => ⟨S1024x512, .bf16⟩
  | .hbm, ⟨19, _⟩ => ⟨S1024x512, .bf16⟩
  | .hbm, ⟨20, _⟩ => ⟨S8x1x1024, .f32⟩
  | .hbm, ⟨21, _⟩ => ⟨S8x1x1024, .f32⟩
  | .hbm, ⟨22, _⟩ => ⟨S1x1024, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S65536x128, .f32⟩
  | .hbm, ⟨27, _⟩ => ⟨S65536x512, .f32⟩
  | .hbm, ⟨28, _⟩ => ⟨S65536x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x512, .bf16⟩
  | .local _ .vmem, ⟨12, _⟩ => ⟨S1024x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x128, .f32⟩
  | .local _ .vmem, ⟨20, _⟩ => ⟨S512x128, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixInReferenceIdeal.lean ====
abbrev S65536x1024 : Shape := ⟨2, ![65536, 1024]⟩
abbrev S1024 : Shape := ⟨1, ![1024]⟩
abbrev S8x1024 : Shape := ⟨2, ![8, 1024]⟩
abbrev S1024x2576 : Shape := ⟨2, ![1024, 2576]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x8192x2576 : Shape := ⟨3, ![8, 8192, 2576]⟩
abbrev S65536x2576 : Shape := ⟨2, ![65536, 2576]⟩
abbrev S65536x512 : Shape := ⟨2, ![65536, 512]⟩
abbrev S65536x16 : Shape := ⟨2, ![65536, 16]⟩
abbrev S65536x128 : Shape := ⟨2, ![65536, 128]⟩

abbrev nBuf : Space → Nat
  | .hbm => 42
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2576, .f32⟩
  | .hbm, ⟨5, _⟩ => ⟨S8x8192x1024, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x8192x1024, .f32⟩
  | .hbm, ⟨27, _⟩ => ⟨S8x8192x1024, .f32⟩
  | .hbm, ⟨28, _⟩ => ⟨S8x1x1024, .f32⟩
  | .hbm, ⟨29, _⟩ => ⟨S8x8192x1024, .f32⟩
  | .hbm, ⟨30, _⟩ => ⟨S8x8192x1024, .f32⟩
  | .hbm, ⟨31, _⟩ => ⟨S8x8192x2576, .f32⟩
  | .hbm, ⟨32, _⟩ => ⟨S65536x2576, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x16, .f32⟩
  | .hbm, ⟨37, _⟩ => ⟨S65536x512, .f32⟩
  | .hbm, ⟨38, _⟩ => ⟨S65536x512, .f32⟩
  | .hbm, ⟨39, _⟩ => ⟨S_, .i32⟩
  | .hbm, ⟨40, _⟩ => ⟨S_, .f32⟩
  | .hbm, ⟨41, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_call0_v0 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MixerSample.lean ====
abbrev S512x512 : Shape := ⟨2, ![512, 512]⟩
abbrev S512x128 : Shape := ⟨2, ![512, 128]⟩
abbrev S32x4x64x128 : Shape := ⟨4, ![32, 4, 64, 128]⟩
abbrev S32x512 : Shape := ⟨2, ![32, 512]⟩
abbrev S32x3x512 : Shape := ⟨3, ![32, 3, 512]⟩
abbrev S16x256 : Shape := ⟨2, ![16, 256]⟩
abbrev S256 : Shape := ⟨1, ![256]⟩
abbrev S128 : Shape := ⟨1, ![128]⟩
abbrev S4x512 : Shape := ⟨2, ![4, 512]⟩
abbrev S512 : Shape := ⟨1, ![512]⟩
abbrev S8x64x64 : Shape := ⟨3, ![8, 64, 64]⟩
abbrev S4x4 : Shape := ⟨2, ![4, 4]⟩
abbrev S_ : Shape := ⟨0, ![]⟩
abbrev S32x4x128x64 : Shape := ⟨4, ![32, 4, 128, 64]⟩
abbrev S32x4x128x1x64 : Shape := ⟨5, ![32, 4, 128, 1, 64]⟩
abbrev S1x4x1x4x1 : Shape := ⟨5, ![1, 4, 1, 4, 1]⟩
abbrev S32x4x128x4x64 : Shape := ⟨5, ![32, 4, 128, 4, 64]⟩
abbrev S32x512x256 : Shape := ⟨3, ![32, 512, 256]⟩
abbrev S32x8x512 : Shape := ⟨3, ![32, 8, 512]⟩
abbrev S128x256 : Shape := ⟨2, ![128, 256]⟩
abbrev S32x1x512 : Shape := ⟨3, ![32, 1, 512]⟩
abbrev S1x256 : Shape := ⟨2, ![1, 256]⟩
abbrev S1x128 : Shape := ⟨2, ![1, 128]⟩
abbrev S1x512 : Shape := ⟨2, ![1, 512]⟩
abbrev S2x4x64x64 : Shape := ⟨4, ![2, 4, 64, 64]⟩
abbrev S2x4x64x1x64 : Shape := ⟨5, ![2, 4, 64, 1, 64]⟩
abbrev S2x4x64x4x64 : Shape := ⟨5, ![2, 4, 64, 4, 64]⟩
abbrev S2x256x256 : Shape := ⟨3, ![2, 256, 256]⟩
abbrev S512x1024 : Shape := ⟨2, ![512, 1024]⟩
abbrev S16x512 : Shape := ⟨2, ![16, 512]⟩
abbrev S16x128 : Shape := ⟨2, ![16, 128]⟩
abbrev S1x512x256 : Shape := ⟨3, ![1, 512, 256]⟩
abbrev S1x1x512 : Shape := ⟨3, ![1, 1, 512]⟩
abbrev S1x8x512 : Shape := ⟨3, ![1, 8, 512]⟩
abbrev S16x1024 : Shape := ⟨2, ![16, 1024]⟩
abbrev S512x256 : Shape := ⟨2, ![512, 256]⟩
abbrev S24x512 : Shape := ⟨2, ![24, 512]⟩
abbrev S8x512 : Shape := ⟨2, ![8, 512]⟩
abbrev S1x256x256 : Shape := ⟨3, ![1, 256, 256]⟩
abbrev S256x256 : Shape := ⟨2, ![256, 256]⟩
abbrev S16x16 : Shape := ⟨2, ![16, 16]⟩
abbrev S16 : Shape := ⟨1, ![16]⟩
abbrev S16x1 : Shape := ⟨2, ![16, 1]⟩

abbrev nBuf : Space → Nat
  | .hbm => 81
  | .vmem => 39
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x128, .f32⟩
  | .hbm, ⟨4, _⟩ => ⟨S512x512, .f32⟩
  | .hbm, ⟨5, _⟩ => ⟨S512x512, .f32⟩
  | .hbm, ⟨6, _⟩ => ⟨S32x4x64x128, .f32⟩
  | .hbm, ⟨7, _⟩ => ⟨S32x512, .f32⟩
  | .hbm, ⟨8, _⟩ => ⟨S32x3x512, .f32⟩
  | .hbm, ⟨9, _⟩ => ⟨S16x256, .f32⟩
  | .hbm, ⟨10, _⟩ => ⟨S256, .f32⟩
  | .hbm, ⟨11, _⟩ => ⟨S128, .f32⟩
  | .hbm, ⟨12, _⟩ => ⟨S4x512, .f32⟩
  | .hbm, ⟨13, _⟩ => ⟨S512, .f32⟩
  | .hbm, ⟨14, _⟩ => ⟨S8x64x64, .f32⟩
  | .hbm, ⟨15, _⟩ => ⟨S512, .f32⟩
  | .hbm, ⟨16, _⟩ => ⟨S8x64x64, .f32⟩
  | .hbm, ⟨17, _⟩ => ⟨S512, .f32⟩
  | .hbm, ⟨18, _⟩ => ⟨S512, .f32⟩
  | .hbm, ⟨19, _⟩ => ⟨S4x4, .i32⟩
  | .hbm, ⟨20, _⟩ => ⟨S4x4, .i32⟩
  | .hbm, ⟨21, _⟩ => ⟨S_, .i32⟩
  | .hbm, ⟨22, _⟩ => ⟨S4x4, .i32⟩
  | .hbm, ⟨23, _⟩ => ⟨S4x4, .i32⟩
  | .hbm, ⟨24, _⟩ => ⟨S4x4, .i1⟩
  | .hbm, ⟨25, _⟩ => ⟨S4x4, .f32⟩
  | .hbm, ⟨26, _⟩ => ⟨S32x4x128x64, .f32⟩
  | .hbm, ⟨27, _⟩ => ⟨S32x4x128x1x64, .f32⟩
  | .hbm, ⟨28, _⟩ => ⟨S1x4x1x4x1, .f32⟩
  | .hbm, ⟨29, _⟩ => ⟨S32x4x128x4x64, .f32⟩
  | .hbm, ⟨30, _⟩ => ⟨S32x4x128x4x64, .f32⟩
  | .hbm, ⟨31, _⟩ => ⟨S32x4x128x4x64, .f32⟩
  | .hbm, ⟨32, _⟩ => ⟨S32x512x256, .f32⟩
  | .hbm, ⟨33, _⟩ => ⟨S_, .i32⟩
  | .hbm, ⟨34, _⟩ => ⟨S_, .f32⟩
  | .hbm, ⟨35, _⟩ => ⟨S32x8x512, .f32⟩
  | .hbm, ⟨36, _⟩ => ⟨S_, .i32⟩
  | .hbm, ⟨37, _⟩ => ⟨S_, .f32⟩
  | .hbm, ⟨38, _⟩ => ⟨S128x256, .f32⟩
  | .hbm, ⟨39, _⟩ => ⟨S128x256, .bf16⟩
  | .hbm, ⟨40, _⟩ => ⟨S32x1x512, .f32⟩
  | .hbm, ⟨41, _⟩ => ⟨S1x256, .f32⟩
  | .hbm, ⟨42, _⟩ => ⟨S1x128, .f32⟩
  | .hbm, ⟨43, _⟩ => ⟨S1x512, .f32⟩
  | .hbm, ⟨44, _⟩ => ⟨S4x4, .i32⟩
  | .hbm, ⟨45, _⟩ => ⟨S4x4, .i32⟩
  | .hbm, ⟨46, _⟩ => ⟨S_, .i32⟩
  | .hbm, ⟨47, _⟩ => ⟨S4x4, .i32⟩
  | .hbm, ⟨48, _⟩ => ⟨S4x4, .i32⟩
  | .hbm, ⟨49, _⟩ => ⟨S4x4, .i1⟩
  | .hbm, ⟨50, _⟩ => ⟨S4x4, .f32⟩
  | .hbm, ⟨51, _⟩ => ⟨S2x4x64x64, .f32⟩
  | .hbm, ⟨52, _⟩ => ⟨S2x4x64x1x64, .f32⟩
  | .hbm, ⟨53, _⟩ => ⟨S1x4x1x4x1, .f32⟩
  | .hbm, ⟨54, _⟩ => ⟨S2x4x64x4x64, .f32⟩
  | .hbm, ⟨55, _⟩ => ⟨S2x4x64x4x64, .f32⟩
  | .hbm, ⟨56, _⟩ => ⟨S2x4x64x4x64, .f32⟩
  | .hbm, ⟨57, _⟩ => ⟨S2x256x256, .f32⟩
  | .hbm, ⟨58, _⟩ => ⟨S2x256x256, .bf16⟩
  | .hbm, ⟨59, _⟩ => ⟨S4x4, .i32⟩
  | .hbm, ⟨60, _⟩ => ⟨S4x4, .i32⟩
  | .hbm, ⟨61, _⟩ => ⟨S_, .i32⟩
  | .hbm, ⟨62, _⟩ => ⟨S4x4, .i32⟩
  | .hbm, ⟨63, _⟩ => ⟨S4x4, .i32⟩
  | .hbm, ⟨64, _⟩ => ⟨S4x4, .i1⟩
  | .hbm, ⟨65, _⟩ => ⟨S4x4, .f32⟩
  | .hbm, ⟨66, _⟩ => ⟨S2x4x64x64, .f32⟩
  | .hbm, ⟨67, _⟩ => ⟨S2x4x64x1x64, .f32⟩
  | .hbm, ⟨68, _⟩ => ⟨S1x4x1x4x1, .f32⟩
  | .hbm, ⟨69, _⟩ => ⟨S2x4x64x4x64, .f32⟩
  | .hbm, ⟨70, _⟩ => ⟨S2x4x64x4x64, .f32⟩
  | .hbm, ⟨71, _⟩ => ⟨S2x4x64x4x64, .f32⟩
  | .hbm, ⟨72, _⟩ => ⟨S2x256x256, .f32⟩
  | .hbm, ⟨73, _⟩ => ⟨S2x256x256, .bf16⟩
  | .hbm, ⟨74, _⟩ => ⟨S1x512, .f32⟩
  | .hbm, ⟨75, _⟩ => ⟨S1x512, .f32⟩
  | .hbm, ⟨76, _⟩ => ⟨S1x512, .f32⟩
  | .hbm, ⟨77, _⟩ => ⟨S512x1024, .bf16⟩
  | .hbm, ⟨78, _⟩ => ⟨S32x512x256, .f32⟩
  | .hbm, ⟨79, _⟩ => ⟨S32x1x512, .f32⟩
  | .hbm, ⟨80, _⟩ => ⟨S32x8x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x128, .f32⟩
  | .local _ .vmem, ⟨7, _⟩ => ⟨S16x128, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S1x512x256, .f32⟩
  | .local _ .vmem, ⟨13, _⟩ => ⟨S1x512x256, .f32⟩
  | .local _ .vmem, ⟨14, _⟩ => ⟨S1x1x512, .f32⟩
  | .local _ .vmem, ⟨15, _⟩ => ⟨S1x1x512, .f32⟩
  | .local _ .vmem, ⟨16, _⟩ => ⟨S1x8x512, .f32⟩
  | .local _ .vmem, ⟨17, _⟩ => ⟨S1x8x512, .f32⟩
  | .local _ .vmem, ⟨18, _⟩ => ⟨S128x256, .bf16⟩
  | .local _ .vmem, ⟨19, _⟩ => ⟨S1x256, .f32⟩
  | .local _ .vmem, ⟨20, _⟩ => ⟨S1x128, .f32⟩
  | .local _ .vmem, ⟨21, _⟩ => ⟨S4x512, .f32⟩
  | .local _ .vmem, ⟨22, _⟩ => ⟨S1x512, .f32⟩
  | .local _ .vmem, ⟨23, _⟩ => ⟨S2x256x256, .bf16⟩
  | .local _ .vmem, ⟨24, _⟩ => ⟨S2x256x256, .bf16⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S16x1024, .bf16⟩
  | .local _ .vmem, ⟨29, _⟩ => ⟨S16x1024, .bf16⟩
  | .local _ .vmem, ⟨30, _⟩ => ⟨S1x512x256, .f32⟩
  | .local _ .vmem, ⟨31, _⟩ => ⟨S1x512x256, .f32⟩
  | .local _ .vmem, ⟨32, _⟩ => ⟨S1x1x512, .f32⟩
  | .local _ .vmem, ⟨33, _⟩ => ⟨S1x1x512, .f32⟩
  | .local _ .vmem, ⟨34, _⟩ => ⟨S1x8x512, .f32⟩
  | .local _ .vmem, ⟨35, _⟩ => ⟨S1x8x512, .f32⟩
  | .local _ .vmem, ⟨36, _⟩ => ⟨S512x256, .f32⟩
  | .local _ .vmem, ⟨37, _⟩ => ⟨S1x512, .f32⟩
  | .local _ .vmem, ⟨38, _⟩ => ⟨S24x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_0 : Ref sig .tc := ⟨.hbm, 33, rfl⟩
abbrev main_call0_v0 : Ref sig .tc := ⟨.hbm, 34, rfl⟩
abbrev main_v13 : Ref sig .tc := ⟨.hbm, 35, rfl⟩
abbrev main_c_1 : Ref sig .tc := ⟨.hbm, 36, rfl⟩
abbrev main_call1_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51_0 : Ref sig .tc := ⟨.hbm, 77, rfl⟩
abbrev main_v51_1 : Ref sig .tc := ⟨.hbm, 78, rfl⟩
abbrev main_v51_2 : Ref sig .tc := ⟨.hbm, 79, rfl⟩
abbrev main_v51_3 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_177 : BitVec 32 := 0#32
  let v465 : BitVec 1 := Scalar.cmpi .eq arg1 c0_i32_177
  let v466 : BitVec 32 := Scalar.extui v465
  let c0_i32_178 : BitVec 32 := 0#32
  let v467 : BitVec 1 := Scalar.cmpi .ne v466 c0_i32_178
  v467

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2x256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S16x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x1x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]
-- ==== MixerSampleReferenceIdeal.lean ====
abbrev S512x512 : Shape := ⟨2, ![512, 512]⟩
abbrev S512x128 : Shape := ⟨2, ![512, 128]⟩
abbrev S32x4x64x128 : Shape := ⟨4, ![32, 4, 64, 128]⟩
abbrev S32x512 : Shape := ⟨2, ![32, 512]⟩
abbrev S32x3x512 : Shape := ⟨3, ![32, 3, 512]⟩
abbrev S16x256 : Shape := ⟨2, ![16, 256]⟩
abbrev S256 : Shape := ⟨1, ![256]⟩
abbrev S128 : Shape := ⟨1, ![128]⟩
abbrev S4x512 : Shape := ⟨2, ![4, 512]⟩
abbrev S512 : Shape := ⟨1, ![512]⟩
abbrev S8x64x64 : Shape := ⟨3, ![8, 64, 64]⟩
abbrev S512x256 : Shape := ⟨2, ![512, 256]⟩
abbrev S32x16x4x64 : Shape := ⟨4, ![32, 16, 4, 64]⟩
abbrev S512x16 : Shape := ⟨2, ![512, 16]⟩
abbrev S32x16x16 : Shape := ⟨3, ![32, 16, 16]⟩
abbrev S32x16x256 : Shape := ⟨3, ![32, 16, 256]⟩
abbrev S1x1x256 : Shape := ⟨3, ![1, 1, 256]⟩
abbrev S_ : Shape := ⟨0, ![]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x16x1x1 : Shape := ⟨5, ![1, 16, 16, 1, 1]⟩
abbrev S32x1x16x4x64 : Shape := ⟨5, ![32, 1, 16, 4, 64]⟩
abbrev S32x16x16x4x64 : Shape := ⟨5, ![32, 16, 16, 4, 64]⟩
abbrev S32x1x4x64 : Shape := ⟨4, ![32, 1, 4, 64]⟩
abbrev S32x4x64 : Shape := ⟨3, ![32, 4, 64]⟩
abbrev S32x4x64x1 : Shape := ⟨4, ![32, 4, 64, 1]⟩
abbrev S32x16x4x128 : Shape := ⟨4, ![32, 16, 4, 128]⟩
abbrev S32x16x512 : Shape := ⟨3, ![32, 16, 512]⟩
abbrev S32x19x512 : Shape := ⟨3, ![32, 19, 512]⟩
abbrev S1x512 : Shape := ⟨2, ![1, 512]⟩
abbrev S1x1x512 : Shape := ⟨3, ![1, 1, 512]⟩
abbrev S32x16x8x64 : Shape := ⟨4, ![32, 16, 8, 64]⟩
abbrev S8x64x32x16 : Shape := ⟨4, ![8, 64, 32, 16]⟩
abbrev S32x1x512 : Shape := ⟨3, ![32, 1, 512]⟩
abbrev S4x4 : Shape := ⟨2, ![4, 4]⟩
abbrev S1x4x1x4x1 : Shape := ⟨5, ![1, 4, 1, 4, 1]⟩
abbrev S32x4x128x64 : Shape := ⟨4, ![32, 4, 128, 64]⟩
abbrev S32x4x128x1x64 : Shape := ⟨5, ![32, 4, 128, 1, 64]⟩
abbrev S32x4x128x4x64 : Shape := ⟨5, ![32, 4, 128, 4, 64]⟩
abbrev S32x512x256 : Shape := ⟨3, ![32, 512, 256]⟩
abbrev S512x1024 : Shape := ⟨2, ![512, 1024]⟩
abbrev S32x8x512 : Shape := ⟨3, ![32, 8, 512]⟩

abbrev nBuf : Space → Nat
  | .hbm => 288
  | .vmem => 0
  | .smem => 0
  | _ => 0

abbrev hbmTy0_0 (i : Nat) : BufTy := match i % 128 with
  | 0 => ⟨S512x512, .f32⟩
  | 1 => ⟨S512x512, .f32⟩
  | 2 => ⟨S512x512, .f32⟩
  | 3 => ⟨S512x128, .f32⟩
  | 4 => ⟨S512x512, .f32⟩
  | 5 => ⟨S512x512, .f32⟩
  | 6 => ⟨S32x4x64x128, .f32⟩
  | 7 => ⟨S32x512, .f32⟩
  | 8 => ⟨S32x3x512, .f32⟩
  | 9 => ⟨S16x256, .f32⟩
  | 10 => ⟨S256, .f32⟩
  | 11 => ⟨S128, .f32⟩
  | 12 => ⟨S4x512, .f32⟩
  | 13 => ⟨S512, .f32⟩
  | 14 => ⟨S8x64x64, .f32⟩
  | 15 => ⟨S512, .f32⟩
  | 16 => ⟨S8x64x64, .f32⟩
  | 17 => ⟨S512, .f32⟩
  | 18 => ⟨S512, .f32⟩
  | 19 => ⟨S512x256, .f32⟩
  | 20 => ⟨S32x16x4x64, .f32⟩
  | 21 => ⟨S512x16, .f32⟩
  | 22 => ⟨S32x16x16, .f32⟩
  | 23 => ⟨S32x16x256, .f32⟩
  | 24 => ⟨S1x1x256, .f32⟩
  | 25 => ⟨S32x16x256, .f32⟩
  | 26 => ⟨S32x16x256, .f32⟩
  | 27 => ⟨S32x16x256, .f32⟩
  | 28 => ⟨S_, .f32⟩
  | 29 => ⟨S32x16x256, .f32⟩
  | 30 => ⟨S32x16x256, .f32⟩
  | 31 => ⟨S32x16x256, .f32⟩
  | 32 => ⟨S32x16x256, .f32⟩
  | 33 => ⟨S32x16x256, .i1⟩
  | 34 => ⟨S32x16x256, .f32⟩
  | 35 => ⟨S32x16x256, .f32⟩
  | 36 => ⟨S32x16x256, .f32⟩
  | 37 => ⟨S32x16x256, .f32⟩
  | 38 => ⟨S32x16x256, .f32⟩
  | 39 => ⟨S32x16x256, .f32⟩
  | 40 => ⟨S32x16x256, .f32⟩
  | 41 => ⟨S32x16x256, .f32⟩
  | 42 => ⟨S32x16x256, .f32⟩
  | 43 => ⟨S32x16x4x64, .f32⟩
  | 44 => ⟨S_, .f32⟩
  | 45 => ⟨S32x16x4x64, .f32⟩
  | 46 => ⟨S32x16x4x64, .f32⟩
  | 47 => ⟨S16, .i32⟩
  | 48 => ⟨S16x1, .i32⟩
  | 49 => ⟨S16, .i32⟩
  | 50 => ⟨S1x16, .i32⟩
  | 51 => ⟨S16x16, .i32⟩
  | 52 => ⟨S16x16, .i32⟩
  | 53 => ⟨S16x16, .i1⟩
  | 54 => ⟨S1x16x16x1x1, .i1⟩
  | 55 => ⟨S32x1x16x4x64, .f32⟩
  | 56 => ⟨S_, .f32⟩
  | 57 => ⟨S_, .f32⟩
  | 58 => ⟨S32x16x16x4x64, .i1⟩
  | 59 => ⟨S32x16x16x4x64, .f32⟩
  | 60 => ⟨S32x16x16x4x64, .f32⟩
  | 61 => ⟨S32x16x16x4x64, .f32⟩
  | 62 => ⟨S_, .f32⟩
  | 63 => ⟨S32x16x4x64, .f32⟩
  | 64 => ⟨S32x1x4x64, .f32⟩
  | 65 => ⟨S32x4x64, .f32⟩
  | 66 => ⟨S32x1x4x64, .f32⟩
  | 67 => ⟨S32x16x4x64, .f32⟩
  | 68 => ⟨S32x16x4x64, .f32⟩
  | 69 => ⟨S32x16x4x64, .f32⟩
  | 70 => ⟨S32x16x4x64, .f32⟩
  | 71 => ⟨S32x4x64, .f32⟩
  | 72 => ⟨S32x4x64x1, .f32⟩
  | 73 => ⟨S32x4x64x128, .f32⟩
  | 74 => ⟨S32x4x64x128, .f32⟩
  | 75 => ⟨S32x16x4x128, .f32⟩
  | 76 => ⟨S32x4x64x128, .f32⟩
  | 77 => ⟨S32x4x64x128, .f32⟩
  | 78 => ⟨S32x16x512, .f32⟩
  | 79 => ⟨S32x19x512, .f32⟩
  | 80 => ⟨S1x512, .f32⟩
  | 81 => ⟨S512, .f32⟩
  | 82 => ⟨S32x16x512, .f32⟩
  | 83 => ⟨S1x1x512, .f32⟩
  | 84 => ⟨S32x16x512, .f32⟩
  | 85 => ⟨S32x16x512, .f32⟩
  | 86 => ⟨S_, .f32⟩
  | 87 => ⟨S32x16x512, .f32⟩
  | 88 => ⟨S32x16x512, .f32⟩
  | 89 => ⟨S1x512, .f32⟩
  | 90 => ⟨S512, .f32⟩
  | 91 => ⟨S32x16x512, .f32⟩
  | 92 => ⟨S1x1x512, .f32⟩
  | 93 => ⟨S32x16x512, .f32⟩
  | 94 => ⟨S32x16x512, .f32⟩
  | 95 => ⟨S32x16x512, .f32⟩
  | 96 => ⟨S1x512, .f32⟩
  | 97 => ⟨S512, .f32⟩
  | 98 => ⟨S32x16x512, .f32⟩
  | 99 => ⟨S1x1x512, .f32⟩
  | 100 => ⟨S32x16x512, .f32⟩
  | 101 => ⟨S32x16x512, .f32⟩
  | 102 => ⟨S32x16x512, .f32⟩
  | 103 => ⟨S1x512, .f32⟩
  | 104 => ⟨S512, .f32⟩
  | 105 => ⟨S32x16x512, .f32⟩
  | 106 => ⟨S1x1x512, .f32⟩
  | 107 => ⟨S32x16x512, .f32⟩
  | 108 => ⟨S32x16x512, .f32⟩
  | 109 => ⟨S32x16x512, .f32⟩
  | 110 => ⟨S1x1x512, .f32⟩
  | 111 => ⟨S32x16x512, .f32⟩
  | 112 => ⟨S32x16x512, .f32⟩
  | 113 => ⟨S32x16x8x64, .f32⟩
  | 114 => ⟨S8x64x32x16, .f32⟩
  | 115 => ⟨S32x16x8x64, .f32⟩
  | 116 => ⟨S32x16x512, .f32⟩
  | 117 => ⟨S1x1x512, .f32⟩
  | 118 => ⟨S32x16x512, .f32⟩
  | 119 => ⟨S32x16x512, .f32⟩
  | 120 => ⟨S32x16x512, .f32⟩
  | 121 => ⟨S32x16x512, .f32⟩
  | 122 => ⟨S_, .f32⟩
  | 123 => ⟨S32x16x512, .f32⟩
  | 124 => ⟨S32x16x512, .f32⟩
  | 125 => ⟨S_, .f32⟩
  | 126 => ⟨S32x16x512, .f32⟩
  | 127 => ⟨S32x16x512, .f32⟩
  | _ => ⟨S512x512, .f32⟩

abbrev hbmTy0_1 (i : Nat) : BufTy := match i % 128 with
  | 0 => ⟨S8x64x32x16, .f32⟩
  | 1 => ⟨S32x16x8x64, .f32⟩
  | 2 => ⟨S32x16x512, .f32⟩
  | 3 => ⟨S1x1x512, .f32⟩
  | 4 => ⟨S32x16x512, .f32⟩
  | 5 => ⟨S32x16x512, .f32⟩
  | 6 => ⟨S32x16x512, .f32⟩
  | 7 => ⟨S32x16x512, .f32⟩
  | 8 => ⟨S_, .f32⟩
  | 9 => ⟨S32x16x512, .f32⟩
  | 10 => ⟨S32x16x512, .f32⟩
  | 11 => ⟨S_, .f32⟩
  | 12 => ⟨S32x16x512, .f32⟩
  | 13 => ⟨S32x16x512, .f32⟩
  | 14 => ⟨S_, .f32⟩
  | 15 => ⟨S32x16x512, .f32⟩
  | 16 => ⟨S32x16x512, .f32⟩
  | 17 => ⟨S512, .f32⟩
  | 18 => ⟨S_, .f32⟩
  | 19 => ⟨S512, .f32⟩
  | 20 => ⟨S512, .f32⟩
  | 21 => ⟨S512, .f32⟩
  | 22 => ⟨S512, .f32⟩
  | 23 => ⟨S512, .i1⟩
  | 24 => ⟨S512, .f32⟩
  | 25 => ⟨S512, .f32⟩
  | 26 => ⟨S512, .f32⟩
  | 27 => ⟨S512, .f32⟩
  | 28 => ⟨S512, .f32⟩
  | 29 => ⟨S512, .f32⟩
  | 30 => ⟨S512, .f32⟩
  | 31 => ⟨S512, .f32⟩
  | 32 => ⟨S1x1x512, .f32⟩
  | 33 => ⟨S32x16x512, .f32⟩
  | 34 => ⟨S32x16x512, .f32⟩
  | 35 => ⟨S32x16x512, .f32⟩
  | 36 => ⟨S_, .f32⟩
  | 37 => ⟨S32x16x512, .f32⟩
  | 38 => ⟨S32x16x512, .f32⟩
  | 39 => ⟨S32x16x512, .f32⟩
  | 40 => ⟨S32x16x512, .f32⟩
  | 41 => ⟨S32x16x512, .f32⟩
  | 42 => ⟨S32x16x512, .f32⟩
  | 43 => ⟨S32x16x512, .f32⟩
  | 44 => ⟨S32x1x512, .f32⟩
  | 45 => ⟨S32x512, .f32⟩
  | 46 => ⟨S32x512, .f32⟩
  | 47 => ⟨S32x1x512, .f32⟩
  | 48 => ⟨S32x512, .f32⟩
  | 49 => ⟨S32x512, .f32⟩
  | 50 => ⟨S32x1x512, .f32⟩
  | 51 => ⟨S32x512, .f32⟩
  | 52 => ⟨S32x512, .f32⟩
  | 53 => ⟨S32x1x512, .f32⟩
  | 54 => ⟨S32x512, .f32⟩
  | 55 => ⟨S32x512, .f32⟩
  | 56 => ⟨S32x1x512, .f32⟩
  | 57 => ⟨S32x512, .f32⟩
  | 58 => ⟨S32x512, .f32⟩
  | 59 => ⟨S32x1x512, .f32⟩
  | 60 => ⟨S32x512, .f32⟩
  | 61 => ⟨S32x512, .f32⟩
  | 62 => ⟨S32x1x512, .f32⟩
  | 63 => ⟨S32x512, .f32⟩
  | 64 => ⟨S32x512, .f32⟩
  | 65 => ⟨S32x1x512, .f32⟩
  | 66 => ⟨S32x512, .f32⟩
  | 67 => ⟨S32x512, .f32⟩
  | 68 => ⟨S32x1x512, .f32⟩
  | 69 => ⟨S32x512, .f32⟩
  | 70 => ⟨S32x512, .f32⟩
  | 71 => ⟨S32x1x512, .f32⟩
  | 72 => ⟨S32x512, .f32⟩
  | 73 => ⟨S32x512, .f32⟩
  | 74 => ⟨S32x1x512, .f32⟩
  | 75 => ⟨S32x512, .f32⟩
  | 76 => ⟨S32x512, .f32⟩
  | 77 => ⟨S32x1x512, .f32⟩
  | 78 => ⟨S32x512, .f32⟩
  | 79 => ⟨S32x512, .f32⟩
  | 80 => ⟨S32x1x512, .f32⟩
  | 81 => ⟨S32x512, .f32⟩
  | 82 => ⟨S32x512, .f32⟩
  | 83 => ⟨S32x1x512, .f32⟩
  | 84 => ⟨S32x512, .f32⟩
  | 85 => ⟨S32x512, .f32⟩
  | 86 => ⟨S32x1x512, .f32⟩
  | 87 => ⟨S32x512, .f32⟩
  | 88 => ⟨S32x512, .f32⟩
  | 89 => ⟨S32x1x512, .f32⟩
  | 90 => ⟨S32x512, .f32⟩
  | 91 => ⟨S32x512, .f32⟩
  | 92 => ⟨S32x1x512, .f32⟩
  | 93 => ⟨S32x512, .f32⟩
  | 94 => ⟨S32x512, .f32⟩
  | 95 => ⟨S32x1x512, .f32⟩
  | 96 => ⟨S32x512, .f32⟩
  | 97 => ⟨S32x512, .f32⟩
  | 98 => ⟨S32x1x512, .f32⟩
  | 99 => ⟨S32x512, .f32⟩
  | 100 => ⟨S32x512, .f32⟩
  | 101 => ⟨S32x1x512, .f32⟩
  | 102 => ⟨S32x512, .f32⟩
  | 103 => ⟨S32x512, .f32⟩
  | 104 => ⟨S32x1x512, .f32⟩
  | 105 => ⟨S32x512, .f32⟩
  | 106 => ⟨S32x512, .f32⟩
  | 107 => ⟨S32x1x512, .f32⟩
  | 108 => ⟨S32x512, .f32⟩
  | 109 => ⟨S32x512, .f32⟩
  | 110 => ⟨S32x1x512, .f32⟩
  | 111 => ⟨S32x512, .f32⟩
  | 112 => ⟨S32x512, .f32⟩
  | 113 => ⟨S32x1x512, .f32⟩
  | 114 => ⟨S32x512, .f32⟩
  | 115 => ⟨S32x512, .f32⟩
  | 116 => ⟨S32x1x512, .f32⟩
  | 117 => ⟨S32x512, .f32⟩
  | 118 => ⟨S32x512, .f32⟩
  | 119 => ⟨S32x1x512, .f32⟩
  | 120 => ⟨S32x512, .f32⟩
  | 121 => ⟨S32x512, .f32⟩
  | 122 => ⟨S32x1x512, .f32⟩
  | 123 => ⟨S32x512, .f32⟩
  | 124 => ⟨S32x512, .f32⟩
  | 125 => ⟨S32x1x512, .f32⟩
  | 126 => ⟨S32x512, .f32⟩
  | 127 => ⟨S32x512, .f32⟩
  | _ => ⟨S512x512, .f32⟩

abbrev hbmTy0_2 (i : Nat) : BufTy := match i % 128 with
  | 0 => ⟨S32x1x512, .f32⟩
  | 1 => ⟨S32x512, .f32⟩
  | 2 => ⟨S32x512, .f32⟩
  | 3 => ⟨S32x1x512, .f32⟩
  | 4 => ⟨S32x512, .f32⟩
  | 5 => ⟨S32x512, .f32⟩
  | 6 => ⟨S32x1x512, .f32⟩
  | 7 => ⟨S32x512, .f32⟩
  | 8 => ⟨S32x512, .f32⟩
  | 9 => ⟨S32x1x512, .f32⟩
  | 10 => ⟨S32x512, .f32⟩
  | 11 => ⟨S32x512, .f32⟩
  | 12 => ⟨S4x4, .i32⟩
  | 13 => ⟨S4x4, .i32⟩
  | 14 => ⟨S_, .i32⟩
  | 15 => ⟨S4x4, .i32⟩
  | 16 => ⟨S4x4, .i32⟩
  | 17 => ⟨S4x4, .i1⟩
  | 18 => ⟨S1x4x1x4x1, .i1⟩
  | 19 => ⟨S32x4x128x64, .f32⟩
  | 20 => ⟨S32x4x128x1x64, .f32⟩
  | 21 => ⟨S_, .f32⟩
  | 22 => ⟨S_, .f32⟩
  | 23 => ⟨S32x4x128x4x64, .i1⟩
  | 24 => ⟨S32x4x128x4x64, .f32⟩
  | 25 => ⟨S32x4x128x4x64, .f32⟩
  | 26 => ⟨S32x4x128x4x64, .f32⟩
  | 27 => ⟨S32x512x256, .f32⟩
  | 28 => ⟨S_, .bf16⟩
  | 29 => ⟨S512x1024, .bf16⟩
  | 30 => ⟨S32x1x512, .f32⟩
  | 31 => ⟨S32x8x512, .f32⟩
  | _ => ⟨S512x512, .f32⟩

abbrev hbmTy (i : Nat) : BufTy := match i / 128 with
  | 0 => hbmTy0_0 i
  | 1 => hbmTy0_1 i
  | 2 => hbmTy0_2 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v8 : Ref sig .tc := ⟨.hbm, 42, rfl⟩
abbrev main_v9 : Ref sig .tc := ⟨.hbm, 43, rfl⟩
abbrev main_cst : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_0 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_v21 : Ref sig .tc := ⟨.hbm, 61, rfl⟩
abbrev main_cst_1 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_2 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_3 : Ref sig .tc := ⟨.hbm, 122, rfl⟩
abbrev main_v80 : Ref sig .tc := ⟨.hbm, 123, rfl⟩
abbrev main_v81 : Ref sig .tc := ⟨.hbm, 124, rfl⟩
abbrev main_cst_4 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_5 : Ref sig .tc := ⟨.hbm, 136, rfl⟩
abbrev main_v92 : Ref sig .tc := ⟨.hbm, 137, rfl⟩
abbrev main_v93 : Ref sig .tc := ⟨.hbm, 138, rfl⟩
abbrev main_cst_6 : Ref sig .tc := ⟨.hbm, 139, rfl⟩
abbrev main_v94 : Ref sig .tc := ⟨.hbm, 140, rfl⟩
abbrev main_v95 : Ref sig .tc := ⟨.hbm, 141, rfl⟩
abbrev main_cst_7 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_call2_v6 : Ref sig .tc := ⟨.hbm, 153, rfl⟩
abbrev main_call2_v7 : Ref sig .tc := ⟨.hbm, 154, rfl⟩
abbrev main_call2_v8 : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_8 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_c : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_cst_9 : Ref sig .tc := ⟨.hbm, 277, rfl⟩
abbrev main_call3_v0 : Ref sig .tc := ⟨.hbm, 278, rfl⟩
abbrev main_call3_v1 : Ref sig .tc := ⟨.hbm, 279, rfl⟩
abbrev main_call3_v2 : Ref sig .tc := ⟨.hbm, 280, rfl⟩
abbrev main_call3_v3 : Ref sig .tc := ⟨.hbm, 281, rfl⟩
abbrev main_v215 : Ref sig .tc := ⟨.hbm, 282, rfl⟩
abbrev main_v216 : Ref sig .tc := ⟨.hbm, 283, rfl⟩
abbrev main_cst_10 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩

abbrev nD : Nat := 1
abbrev τ : Topo := Topo.v7x

variable {F : FTy → Type} [FloatOps F]
-- ==== MixOut.lean ====
abbrev S65536x1024 : Shape := ⟨2, ![65536, 1024]⟩
abbrev S1024x1024 : Shape := ⟨2, ![1024, 1024]⟩
abbrev S8x1024 : Shape := ⟨2, ![8, 1024]⟩
abbrev S1024 : Shape := ⟨1, ![1024]⟩
abbrev S1024x16 : Shape := ⟨2, ![1024, 16]⟩
abbrev S16 : Shape := ⟨1, ![16]⟩
abbrev S8x1x1024 : Shape := ⟨3, ![8, 1, 1024]⟩
abbrev S_ : Shape := ⟨0, ![]⟩
abbrev S1024x128 : Shape := ⟨2, ![1024, 128]⟩
abbrev S1x1024 : Shape := ⟨2, ![1, 1024]⟩
abbrev S16x1 : Shape := ⟨2, ![16, 1]⟩
abbrev S8x65536 : Shape := ⟨2, ![8, 65536]⟩
abbrev S512x1024 : Shape := ⟨2, ![512, 1024]⟩
abbrev S1x1x1024 : Shape := ⟨3, ![1, 1, 1024]⟩
abbrev S8x512 : Shape := ⟨2, ![8, 512]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S16x512 : Shape := ⟨2, ![16, 512]⟩
abbrev S1x512 : Shape := ⟨2, ![1, 512]⟩
abbrev S6x512 : Shape := ⟨2, ![6, 512]⟩
abbrev S5x512 : Shape := ⟨2, ![5, 512]⟩

abbrev nBuf : Space → Nat
  | .hbm => 26
  | .vmem => 23
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S8x1024, .f32⟩
  | .hbm, ⟨4, _⟩ => ⟨S1024, .f32⟩
  | .hbm, ⟨5, _⟩ => ⟨S8x1024, .f32⟩
  | .hbm, ⟨6, _⟩ => ⟨S8x1024, .f32⟩
  | .hbm, ⟨7, _⟩ => ⟨S1024x16, .f32⟩
  | .hbm, ⟨8, _⟩ => ⟨S16, .f32⟩
  | .hbm, ⟨9, _⟩ => ⟨S1024x1024, .bf16⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S1x1024, .f32⟩
  | .hbm, ⟨21, _⟩ => ⟨S16x1, .f32⟩
  | .hbm, ⟨22, _⟩ => ⟨S65536x1024, .f32⟩
  | .hbm, ⟨23, _⟩ => ⟨S65536x1024, .f32⟩
  | .hbm, ⟨24, _⟩ => ⟨S8x65536, .f32⟩
  | .hbm, ⟨25, _⟩ => ⟨S8x65536, .i32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x128, .bf16⟩
  | .local _ .vmem, ⟨13, _⟩ => ⟨S1024x128, .bf16⟩
  | .local _ .vmem, ⟨14, _⟩ => ⟨S16x1, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S8x512, .f32⟩
  | .local _ .vmem, ⟨20, _⟩ => ⟨S8x512, .f32⟩
  | .local _ .vmem, ⟨21, _⟩ => ⟨S8x512, .i32⟩
  | .local _ .vmem, ⟨22, _⟩ => ⟨S8x512, .i32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixOutReferenceIdeal.lean ====
abbrev S65536x1024 : Shape := ⟨2, ![65536, 1024]⟩
abbrev S1024x1024 : Shape := ⟨2, ![1024, 1024]⟩
abbrev S8x1024 : Shape := ⟨2, ![8, 1024]⟩
abbrev S1024 : Shape := ⟨1, ![1024]⟩
abbrev S1024x16 : Shape := ⟨2, ![1024, 16]⟩
abbrev S16 : Shape := ⟨1, ![16]⟩
abbrev S8x8192x1024 : Shape := ⟨3, ![8, 8192, 1024]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x65536 : Shape := ⟨2, ![8, 65536]⟩

abbrev nBuf : Space → Nat
  | .hbm => 48
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S8x1024, .f32⟩
  | .hbm, ⟨4, _⟩ => ⟨S1024, .f32⟩
  | .hbm, ⟨5, _⟩ => ⟨S8x1024, .f32⟩
  | .hbm, ⟨6, _⟩ => ⟨S8x1024, .f32⟩
  | .hbm, ⟨7, _⟩ => ⟨S1024x16, .f32⟩
  | .hbm, ⟨8, _⟩ => ⟨S16, .f32⟩
  | .hbm, ⟨9, _⟩ => ⟨S65536x1024, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S8x1x1024, .f32⟩
  | .hbm, ⟨14, _⟩ => ⟨S8x8192x1024, .f32⟩
  | .hbm, ⟨15, _⟩ => ⟨S8x8192x1024, .f32⟩
  | .hbm, ⟨16, _⟩ => ⟨S8x8192x1024, .f32⟩
  | .hbm, ⟨17, _⟩ => ⟨S8x8192x1024, .f32⟩
  | .hbm, ⟨18, _⟩ => ⟨S_, .f32⟩
  | .hbm, ⟨19, _⟩ => ⟨S8x8192, .f32⟩
  | .hbm, ⟨20, _⟩ => ⟨S8x8192x1, .f32⟩
  | .hbm, ⟨21, _⟩ => ⟨S_, .f32⟩
  | .hbm, ⟨22, _⟩ => ⟨S8x8192x1, .f32⟩
  | .hbm, ⟨23, _⟩ => ⟨S8x8192x1, .f32⟩
  | .hbm, ⟨24, _⟩ => ⟨S_, .f32⟩
  | .hbm, ⟨25, _⟩ => ⟨S8x8192x1, .f32⟩
  | .hbm, ⟨26, _⟩ => ⟨S8x8192x1, .f32⟩
  | .hbm, ⟨27, _⟩ => ⟨S8x8192x1, .f32⟩
  | .hbm, ⟨28, _⟩ => ⟨S8x8192x1024, .f32⟩
  | .hbm, ⟨29, _⟩ => ⟨S8x8192x1024, .f32⟩
  | .hbm, ⟨30, _⟩ => ⟨S1x1x1024, .f32⟩
  | .hbm, ⟨31, _⟩ => ⟨S8x8192x1024, .f32⟩
  | .hbm, ⟨32, _⟩ => ⟨S8x8192x1024, .f32⟩
  | .hbm, ⟨33, _⟩ => ⟨S8x1x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x8192x1024, .f32⟩
  | .hbm, ⟨38, _⟩ => ⟨S8x8192x1024, .f32⟩
  | .hbm, ⟨39, _⟩ => ⟨S8x1x1024, .f32⟩
  | .hbm, ⟨40, _⟩ => ⟨S8x8192x1024, .f32⟩
  | .hbm, ⟨41, _⟩ => ⟨S8x8192x1024, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S8x65536, .f32⟩
  | .hbm, ⟨46, _⟩ => ⟨S_, .i32⟩
  | .hbm, ⟨47, _⟩ => ⟨S8x65536, .i32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_c : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Proof.MixerFrame.lean ====
/-
  The recurrences' call, at the machine's floats: what each grid point leaves in the windows, the whole run, and that it keeps the arguments.
-/
module

public import proofs.«01_k».proof.Proof.MixerRun
public import Idealize.ShloMosaic.Lib.Claim

@[expose] public section

set_option maxRecDepth 16384

noncomputable section

namespace Cert.MixerSample.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces fill the block. -/
theorem cover0_A_19 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) (y : S16x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).1 S16x512.size (by sl_kernel_rfl) y

/-- What the body leaves in a result's buffer. -/
def out0_A_19 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) : Vec F S16x1024 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).1)

/-- The pieces fill the block. -/
theorem cover0_A_20 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.1 S1x512x256.size (by sl_kernel_rfl) y

/-- What the body leaves in a result's buffer. -/
def out0_A_20 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) : Vec F S1x512x256 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.1)

/-- The pieces fill the block. -/
theorem cover0_A_21 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) (y : S1x1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.1 S1x1x512.size (by sl_kernel_rfl) y

/-- What the body leaves in a result's buffer. -/
def out0_A_21 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) : Vec F S1x1x512 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.1)

/-- The pieces fill the block. -/
theorem cover0_A_22 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) (y : S1x8x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.2.1 S1x8x512.size (by sl_kernel_rfl) y

/-- What the body leaves in a result's buffer. -/
def out0_A_22 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) : Vec F S1x8x512 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.2.1)

/-! ## What the outputs hold after each point -/

/-- What the results hold after a grid point. -/
def outsAt0 (c : Dev nD) (t : Fin cfg0.N) : Vec F S16x1024 .bf16 × Vec F S1x512x256 .f32 × Vec F S1x1x512 .f32 × Vec F S1x8x512 .f32 :=
  (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))

/-! ## The pipeline's proof data -/

/-- The arrays, what each point leaves in each window, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t).1
    | ⟨20, _⟩ => (outsAt0 m c t).2.1
    | ⟨21, _⟩ => (outsAt0 m c t).2.2.1
    | ⟨22, _⟩ => (outsAt0 m c t).2.2.2
    | ⟨_ + 23, h⟩ => absurd h (Nat.not_lt.2 (Nat.le_add_left _ _))
  Φ _ := Pipeline.ΦA spec0 c
  q _ := fullShare
  owed _ := 0

/-- The arrays as the region finds them. -/
theorem A_eq (c : Dev nD) (w : Fin cfg0.W) : (dats m 0 c).A w = V m c (Pipeline.arrRef spec0 w) := by
  dsimp only [dats]

/-- What a point leaves in a window. -/
theorem after0_0 (c : Dev nD) (t : Fin cfg0.N) : (dats m 0 c).after 0 t = iblk m c 0 t := by dsimp only [dats]
/-- What a point leaves in a window. -/
theorem after0_1 (c : Dev nD) (t : Fin cfg0.N) : (dats m 0 c).after 1 t = iblk m c 1 t := by dsimp only [dats]
/-- What a point leaves in a window. -/
theorem after0_2 (c : Dev nD) (t : Fin cfg0.N) : (dats m 0 c).after 2 t = iblk m c 2 t := by dsimp only [dats]
/-- What a point leaves in a window. -/
theorem after0_3 (c : Dev nD) (t : Fin cfg0.N) : (dats m 0 c).after 3 t = iblk m c 3 t := by dsimp only [dats]
/-- What a point leaves in a window. -/
theorem after0_4 (c : Dev nD) (t : Fin cfg0.N) : (dats m 0 c).after 4 t = iblk m c 4 t := by dsimp only [dats]
/-- What a point leaves in a window. -/
theorem after0_5 (c : Dev nD) (t : Fin cfg0.N) : (dats m 0 c).after 5 t = iblk m c 5 t := by dsimp only [dats]
/-- What a point leaves in a window. -/
theorem after0_6 (c : Dev nD) (t : Fin cfg0.N) : (dats m 0 c).after 6 t = iblk m c 6 t := by dsimp only [dats]
/-- What a point leaves in a window. -/
theorem after0_7 (c : Dev nD) (t : Fin cfg0.N) : (dats m 0 c).after 7 t = iblk m c 7 t := by dsimp only [dats]
/-- What a point leaves in a window. -/
theorem after0_8 (c : Dev nD) (t : Fin cfg0.N) : (dats m 0 c).after 8 t = iblk m c 8 t := by dsimp only [dats]
/-- What a point leaves in a window. -/
theorem after0_9 (c : Dev nD) (t : Fin cfg0.N) : (dats m 0 c).after 9 t = iblk m c 9 t := by dsimp only [dats]
/-- What a point leaves in a window. -/
theorem after0_10 (c : Dev nD) (t : Fin cfg0.N) : (dats m 0 c).after 10 t = iblk m c 10 t := by dsimp only [dats]
/-- What a point leaves in a window. -/
theorem after0_11 (c : Dev nD) (t : Fin cfg0.N) : (dats m 0 c).after 11 t = iblk m c 11 t := by dsimp only [dats]
/-- What a point leaves in a window. -/
theorem after0_12 (c : Dev nD) (t : Fin cfg0.N) : (dats m 0 c).after 12 t = iblk m c 12 t := by dsimp only [dats]
/-- What a point leaves in a window. -/
theorem after0_13 (c : Dev nD) (t : Fin cfg0.N) : (dats m 0 c).after 13 t = iblk m c 13 t := by dsimp only [dats]
/-- What a point leaves in a window. -/
theorem after0_14 (c : Dev nD) (t : Fin cfg0.N) : (dats m 0 c).after 14 t = iblk m c 14 t := by dsimp only [dats]
/-- What a point leaves in a window. -/
theorem after0_15 (c : Dev nD) (t : Fin cfg0.N) : (dats m 0 c).after 15 t = iblk m c 15 t := by dsimp only [dats]
/-- What a point leaves in a window. -/
theorem after0_16 (c : Dev nD) (t : Fin cfg0.N) : (dats m 0 c).after 16 t = iblk m c 16 t := by dsimp only [dats]
/-- What a point leaves in a window. -/
theorem after0_17 (c : Dev nD) (t : Fin cfg0.N) : (dats m 0 c).after 17 t = iblk m c 17 t := by dsimp only [dats]
/-- What a point leaves in a window. -/
theorem after0_18 (c : Dev nD) (t : Fin cfg0.N) : (dats m 0 c).after 18 t = iblk m c 18 t := by dsimp only [dats]
/-- What a point leaves in a window. -/
theorem after0_19 (c : Dev nD) (t : Fin cfg0.N) : (dats m 0 c).after 19 t = (outsAt0 m c t).1 := by dsimp only [dats]
/-- What a point leaves in a window. -/
theorem after0_20 (c : Dev nD) (t : Fin cfg0.N) : (dats m 0 c).after 20 t = (outsAt0 m c t).2.1 := by dsimp only [dats]
/-- What a point leaves in a window. -/
theorem after0_21 (c : Dev nD) (t : Fin cfg0.N) : (dats m 0 c).after 21 t = (outsAt0 m c t).2.2.1 := by dsimp only [dats]
/-- What a point leaves in a window. -/
theorem after0_22 (c : Dev nD) (t : Fin cfg0.N) : (dats m 0 c).after 22 t = (outsAt0 m c t).2.2.2 := by dsimp only [dats]

/-- What a point finds in an input's window. -/
theorem before0_0 (c : Dev nD) (t : Fin cfg0.N) (d) : (dats m 0 c).before 0 t d = iblk m c 0 t :=
  before0_0_of m (dats m 0 c) (A_eq m c 0) (after0_0 m c) t d
/-- What a point finds in an input's window. -/
theorem before0_1 (c : Dev nD) (t : Fin cfg0.N) (d) : (dats m 0 c).before 1 t d = iblk m c 1 t :=
  before0_1_of m (dats m 0 c) (A_eq m c 1) (after0_1 m c) t d
/-- What a point finds in an input's window. -/
theorem before0_2 (c : Dev nD) (t : Fin cfg0.N) (d) : (dats m 0 c).before 2 t d = iblk m c 2 t :=
  before0_2_of m (dats m 0 c) (A_eq m c 2) (after0_2 m c) t d
/-- What a point finds in an input's window. -/
theorem before0_3 (c : Dev nD) (t : Fin cfg0.N) (d) : (dats m 0 c).before 3 t d = iblk m c 3 t :=
  before0_3_of m (dats m 0 c) (A_eq m c 3) (after0_3 m c) t d
/-- What a point finds in an input's window. -/
theorem before0_4 (c : Dev nD) (t : Fin cfg0.N) (d) : (dats m 0 c).before 4 t d = iblk m c 4 t :=
  before0_4_of m (dats m 0 c) (A_eq m c 4) (after0_4 m c) t d
/-- What a point finds in an input's window. -/
theorem before0_5 (c : Dev nD) (t : Fin cfg0.N) (d) : (dats m 0 c).before 5 t d = iblk m c 5 t :=
  before0_5_of m (dats m 0 c) (A_eq m c 5) (after0_5 m c) t d
/-- What a point finds in an input's window. -/
theorem before0_6 (c : Dev nD) (t : Fin cfg0.N) (d) : (dats m 0 c).before 6 t d = iblk m c 6 t :=
  before0_6_of m (dats m 0 c) (A_eq m c 6) (after0_6 m c) t d
/-- What a point finds in an input's window. -/
theorem before0_7 (c : Dev nD) (t : Fin cfg0.N) (d) : (dats m 0 c).before 7 t d = iblk m c 7 t :=
  before0_7_of m (dats m 0 c) (A_eq m c 7) (after0_7 m c) t d
/-- What a point finds in an input's window. -/
theorem before0_8 (c : Dev nD) (t : Fin cfg0.N) (d) : (dats m 0 c).before 8 t d = iblk m c 8 t :=
  before0_8_of m (dats m 0 c) (A_eq m c 8) (after0_8 m c) t d
/-- What a point finds in an input's window. -/
theorem before0_9 (c : Dev nD) (t : Fin cfg0.N) (d) : (dats m 0 c).before 9 t d = iblk m c 9 t :=
  before0_9_of m (dats m 0 c) (A_eq m c 9) (after0_9 m c) t d
/-- What a point finds in an input's window. -/
theorem before0_10 (c : Dev nD) (t : Fin cfg0.N) (d) : (dats m 0 c).before 10 t d = iblk m c 10 t :=
  before0_10_of m (dats m 0 c) (A_eq m c 10) (after0_10 m c) t d
/-- What a point finds in an input's window. -/
theorem before0_11 (c : Dev nD) (t : Fin cfg0.N) (d) : (dats m 0 c).before 11 t d = iblk m c 11 t :=
  before0_11_of m (dats m 0 c) (A_eq m c 11) (after0_11 m c) t d
/-- What a point finds in an input's window. -/
theorem before0_12 (c : Dev nD) (t : Fin cfg0.N) (d) : (dats m 0 c).before 12 t d = iblk m c 12 t :=
  before0_12_of m (dats m 0 c) (A_eq m c 12) (after0_12 m c) t d
/-- What a point finds in an input's window. -/
theorem before0_13 (c : Dev nD) (t : Fin cfg0.N) (d) : (dats m 0 c).before 13 t d = iblk m c 13 t :=
  before0_13_of m (dats m 0 c) (A_eq m c 13) (after0_13 m c) t d
/-- What a point finds in an input's window. -/
theorem before0_14 (c : Dev nD) (t : Fin cfg0.N) (d) : (dats m 0 c).before 14 t d = iblk m c 14 t :=
  before0_14_of m (dats m 0 c) (A_eq m c 14) (after0_14 m c) t d
/-- What a point finds in an input's window. -/
theorem before0_15 (c : Dev nD) (t : Fin cfg0.N) (d) : (dats m 0 c).before 15 t d = iblk m c 15 t :=
  before0_15_of m (dats m 0 c) (A_eq m c 15) (after0_15 m c) t d
/-- What a point finds in an input's window. -/
theorem before0_16 (c : Dev nD) (t : Fin cfg0.N) (d) : (dats m 0 c).before 16 t d = iblk m c 16 t :=
  before0_16_of m (dats m 0 c) (A_eq m c 16) (after0_16 m c) t d
/-- What a point finds in an input's window. -/
theorem before0_17 (c : Dev nD) (t : Fin cfg0.N) (d) : (dats m 0 c).before 17 t d = iblk m c 17 t :=
  before0_17_of m (dats m 0 c) (A_eq m c 17) (after0_17 m c) t d
/-- What a point finds in an input's window. -/
theorem before0_18 (c : Dev nD) (t : Fin cfg0.N) (d) : (dats m 0 c).before 18 t d = iblk m c 18 t :=
  before0_18_of m (dats m 0 c) (A_eq m c 18) (after0_18 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  rw [show (dats m 0 c).leavesExact 13 t = owns (c : Thread nD τ) (ms0_13 t) fullShare ((dats m 0 c).after 13 t) from by
      unfold Dat.leavesExact; rw [liveAt0_13 t], after0_13]
  rw [show (dats m 0 c).leavesExact 14 t = owns (c : Thread nD τ) (ms0_14 t) fullShare ((dats m 0 c).after 14 t) from by
      unfold Dat.leavesExact; rw [liveAt0_14 t], after0_14]
  rw [show (dats m 0 c).leavesExact 15 t = owns (c : Thread nD τ) (ms0_15 t) fullShare ((dats m 0 c).after 15 t) from by
      unfold Dat.leavesExact; rw [liveAt0_15 t], after0_15]
  rw [show (dats m 0 c).leavesExact 16 t = owns (c : Thread nD τ) (ms0_16 t) fullShare ((dats m 0 c).after 16 t) from by
      unfold Dat.leavesExact; rw [liveAt0_16 t], after0_16]
  rw [show (dats m 0 c).leavesExact 17 t = owns (c : Thread nD τ) (ms0_17 t) fullShare ((dats m 0 c).after 17 t) from by
      unfold Dat.leavesExact; rw [liveAt0_17 t], after0_17]
  rw [show (dats m 0 c).leavesExact 18 t = owns (c : Thread nD τ) (ms0_18 t) fullShare ((dats m 0 c).after 18 t) from by
      unfold Dat.leavesExact; rw [liveAt0_18 t], after0_18]
  rw [show (dats m 0 c).leavesExact 19 t = owns (c : Thread nD τ) (ms0_19 t) fullShare ((dats m 0 c).after 19 t) from by
      unfold Dat.leavesExact; rw [liveAt0_19 t], after0_19]
  rw [show (dats m 0 c).leavesExact 20 t = owns (c : Thread nD τ) (ms0_20 t) fullShare ((dats m 0 c).after 20 t) from by
      unfold Dat.leavesExact; rw [liveAt0_20_A t (hcond0_0 t) (hcond0_1 t)], after0_20]
  rw [show (dats m 0 c).leavesExact 21 t = owns (c : Thread nD τ) (ms0_21 t) fullShare ((dats m 0 c).after 21 t) from by
      unfold Dat.leavesExact; rw [liveAt0_21_A t (hcond0_0 t) (hcond0_1 t)], after0_21]
  rw [show (dats m 0 c).leavesExact 22 t = owns (c : Thread nD τ) (ms0_22 t) fullShare ((dats m 0 c).after 22 t) from by
      unfold Dat.leavesExact; rw [liveAt0_22_A t (hcond0_0 t) (hcond0_1 t)], after0_22]
  unfold outsAt0
  unfold out0_A_19 out0_A_20 out0_A_21 out0_A_22; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  isplitl [HS2]; · iexact HS2
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, with the arrays as the points leave them. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- Every run leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.MixerSample.Gen

end
-- ==== Proof.MixerRunIdeal.lean ====
/-
  The recurrences' body run once on whole buffers, over the extended reals. A larger budget than usual: the body is long.
-/
module

public import proofs.«01_k».proof.Proof.Gen.MixerSampleIdeal.Frame.Runs

@[expose] public section

set_option maxRecDepth 16384

noncomputable section

namespace Cert.MixerSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
/-- The body on whole buffers: the pieces that each result and each scratch end with, and that the body runs to them. -/
noncomputable def kernelRun0_A (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) :
    Σ' (L19 : List (View.Piece (Elt F) S16x1024 .bf16)), Σ' (L20 : List (View.Piece (Elt F) S1x512x256 .f32)), Σ' (L21 : List (View.Piece (Elt F) S1x1x512 .f32)), Σ' (L22 : List (View.Piece (Elt F) S1x8x512 .f32)), Σ' (LT0 : List (View.Piece (Elt F) S512x256 .f32)), Σ' (LT1 : List (View.Piece (Elt F) S1x512 .f32)), { LT2 : List (View.Piece (Elt F) S24x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f LT0) ∗ (∃ f, arg26.view.loc (c : Thread nD τ) ↦[arg26.view.set]{fullShare} arg26.view.writes (Elt F) f LT1) ∗ (∃ f, arg27.view.loc (c : Thread nD τ) ↦[arg27.view.set]{fullShare} arg27.view.writes (Elt F) f LT2)) -∗ K ⟨⟩))
          ⊢ wp frame (wpE (defs₀ (F := F)) Variants.none c none) E (cc0_ab_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, fun E K => ?run⟩
  case run =>
    simp only [cc0_ab_mixer_eq_skeleton]; unfold cc0_ab_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]; · iexists _; iexact H19
    isplitl [H20]; · iexists _; iexact H20
    isplitl [H21]; · iexists _; iexact H21
    isplitl [H22]; · iexists _; iexact H22
    isplitl [HS0]; · iexists _; iexact HS0
    isplitl [HS1]; · iexists _; iexact HS1
    iexists _; iexact HS2

end Cert.MixerSampleIdeal.Gen

end
-- ==== Proof.MixerFrameIdeal.lean ====
/-
  The recurrences' call, over the extended reals: what each grid point leaves in the windows, the whole run, and that it keeps the arguments.
-/
module

public import proofs.«01_k».proof.Proof.MixerRunIdeal
public import Idealize.ShloMosaic.Lib.Claim
public import Idealize.ShloMosaic.Lib.Pipeline.Value

@[expose] public section

set_option maxRecDepth 16384

noncomputable section

namespace Cert.MixerSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces fill the block. -/
theorem cover0_A_19 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) (y : S16x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).1 S16x512.size (by sl_kernel_rfl) y

/-- What the body leaves in a result's buffer. -/
def out0_A_19 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) : Vec F S16x1024 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).1)

/-- The pieces fill the block. -/
theorem cover0_A_20 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.1 S1x512x256.size (by sl_kernel_rfl) y

/-- What the body leaves in a result's buffer. -/
def out0_A_20 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) : Vec F S1x512x256 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.1)

/-- The pieces fill the block. -/
theorem cover0_A_21 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) (y : S1x1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.1 S1x1x512.size (by sl_kernel_rfl) y

/-- What the body leaves in a result's buffer. -/
def out0_A_21 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) : Vec F S1x1x512 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.1)

/-- The pieces fill the block. -/
theorem cover0_A_22 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) (y : S1x8x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.2.1 S1x8x512.size (by sl_kernel_rfl) y

/-- What the body leaves in a result's buffer. -/
def out0_A_22 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S1x512x256 .f32) (harg8 : arg8.IsWhole) (arg9 : Memref sig .tc .vmem S1x1x512 .f32) (harg9 : arg9.IsWhole) (arg10 : Memref sig .tc .vmem S1x8x512 .f32) (harg10 : arg10.IsWhole) (arg11 : Memref sig .tc .vmem S128x256 .bf16) (harg11 : arg11.IsWhole) (arg12 : Memref sig .tc .vmem S1x256 .f32) (harg12 : arg12.IsWhole) (arg13 : Memref sig .tc .vmem S1x128 .f32) (harg13 : arg13.IsWhole) (arg14 : Memref sig .tc .vmem S4x512 .f32) (harg14 : arg14.IsWhole) (arg15 : Memref sig .tc .vmem S1x512 .f32) (harg15 : arg15.IsWhole) (arg16 : Memref sig .tc .vmem S2x256x256 .bf16) (harg16 : arg16.IsWhole) (arg17 : Memref sig .tc .vmem S2x256x256 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S16x1024 .bf16) (harg21 : arg21.IsWhole) (arg22 : Memref sig .tc .vmem S1x512x256 .f32) (harg22 : arg22.IsWhole) (arg23 : Memref sig .tc .vmem S1x1x512 .f32) (harg23 : arg23.IsWhole) (arg24 : Memref sig .tc .vmem S1x8x512 .f32) (harg24 : arg24.IsWhole) (arg25 : Memref sig .tc .vmem S512x256 .f32) (harg25 : arg25.IsWhole) (arg26 : Memref sig .tc .vmem S1x512 .f32) (harg26 : arg26.IsWhole) (arg27 : Memref sig .tc .vmem S24x512 .f32) (harg27 : arg27.IsWhole) (hc0 : cond0_0 i) (hc1 : cond0_1 i)
    (x0 : Vec F S16x512 .f32) (x1 : Vec F S16x512 .f32) (x2 : Vec F S16x512 .f32) (x3 : Vec F S16x128 .f32) (x4 : Vec F S16x512 .f32) (x5 : Vec F S16x512 .f32) (x6 : Vec F S1x512x256 .f32) (x7 : Vec F S1x1x512 .f32) (x8 : Vec F S1x8x512 .f32) (x9 : Vec F S128x256 .bf16) (x10 : Vec F S1x256 .f32) (x11 : Vec F S1x128 .f32) (x12 : Vec F S4x512 .f32) (x13 : Vec F S1x512 .f32) (x14 : Vec F S2x256x256 .bf16) (x15 : Vec F S2x256x256 .bf16) (x16 : Vec F S1x512 .f32) (x17 : Vec F S1x512 .f32) (x18 : Vec F S1x512 .f32) : Vec F S1x8x512 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18).2.2.2.1)

/-! ## What the outputs hold after each point -/

/-- What the results hold after a grid point. -/
def outsAt0 (c : Dev nD) (t : Fin cfg0.N) : Vec F S16x1024 .bf16 × Vec F S1x512x256 .f32 × Vec F S1x1x512 .f32 × Vec F S1x8x512 .f32 :=
  (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))

/-! ## The pipeline's proof data -/

/-- The arrays, what each point leaves in each window, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t).1
    | ⟨20, _⟩ => (outsAt0 m c t).2.1
    | ⟨21, _⟩ => (outsAt0 m c t).2.2.1
    | ⟨22, _⟩ => (outsAt0 m c t).2.2.2
    | ⟨_ + 23, h⟩ => absurd h (Nat.not_lt.2 (Nat.le_add_left _ _))
  Φ _ := Pipeline.ΦA spec0 c
  q _ := fullShare
  owed _ := 0

/-- The arrays as the region finds them. -/
theorem A_eq (c : Dev nD) (w : Fin cfg0.W) : (dats m 0 c).A w = V m c (Pipeline.arrRef spec0 w) := by
  dsimp only [dats]

/-- What a point leaves in a window. -/
theorem after0_0 (c : Dev nD) (t : Fin cfg0.N) : (dats m 0 c).after 0 t = iblk m c 0 t := by dsimp only [dats]
/-- What a point leaves in a window. -/
theorem after0_1 (c : Dev nD) (t : Fin cfg0.N) : (dats m 0 c).after 1 t = iblk m c 1 t := by dsimp only [dats]
/-- What a point leaves in a window. -/
theorem after0_2 (c : Dev nD) (t : Fin cfg0.N) : (dats m 0 c).after 2 t = iblk m c 2 t := by dsimp only [dats]
/-- What a point leaves in a window. -/
theorem after0_3 (c : Dev nD) (t : Fin cfg0.N) : (dats m 0 c).after 3 t = iblk m c 3 t := by dsimp only [dats]
/-- What a point leaves in a window. -/
theorem after0_4 (c : Dev nD) (t : Fin cfg0.N) : (dats m 0 c).after 4 t = iblk m c 4 t := by dsimp only [dats]
/-- What a point leaves in a window. -/
theorem after0_5 (c : Dev nD) (t : Fin cfg0.N) : (dats m 0 c).after 5 t = iblk m c 5 t := by dsimp only [dats]
/-- What a point leaves in a window. -/
theorem after0_6 (c : Dev nD) (t : Fin cfg0.N) : (dats m 0 c).after 6 t = iblk m c 6 t := by dsimp only [dats]
/-- What a point leaves in a window. -/
theorem after0_7 (c : Dev nD) (t : Fin cfg0.N) : (dats m 0 c).after 7 t = iblk m c 7 t := by dsimp only [dats]
/-- What a point leaves in a window. -/
theorem after0_8 (c : Dev nD) (t : Fin cfg0.N) : (dats m 0 c).after 8 t = iblk m c 8 t := by dsimp only [dats]
/-- What a point leaves in a window. -/
theorem after0_9 (c : Dev nD) (t : Fin cfg0.N) : (dats m 0 c).after 9 t = iblk m c 9 t := by dsimp only [dats]
/-- What a point leaves in a window. -/
theorem after0_10 (c : Dev nD) (t : Fin cfg0.N) : (dats m 0 c).after 10 t = iblk m c 10 t := by dsimp only [dats]
/-- What a point leaves in a window. -/
theorem after0_11 (c : Dev nD) (t : Fin cfg0.N) : (dats m 0 c).after 11 t = iblk m c 11 t := by dsimp only [dats]
/-- What a point leaves in a window. -/
theorem after0_12 (c : Dev nD) (t : Fin cfg0.N) : (dats m 0 c).after 12 t = iblk m c 12 t := by dsimp only [dats]
/-- What a point leaves in a window. -/
theorem after0_13 (c : Dev nD) (t : Fin cfg0.N) : (dats m 0 c).after 13 t = iblk m c 13 t := by dsimp only [dats]
/-- What a point leaves in a window. -/
theorem after0_14 (c : Dev nD) (t : Fin cfg0.N) : (dats m 0 c).after 14 t = iblk m c 14 t := by dsimp only [dats]
/-- What a point leaves in a window. -/
theorem after0_15 (c : Dev nD) (t : Fin cfg0.N) : (dats m 0 c).after 15 t = iblk m c 15 t := by dsimp only [dats]
/-- What a point leaves in a window. -/
theorem after0_16 (c : Dev nD) (t : Fin cfg0.N) : (dats m 0 c).after 16 t = iblk m c 16 t := by dsimp only [dats]
/-- What a point leaves in a window. -/
theorem after0_17 (c : Dev nD) (t : Fin cfg0.N) : (dats m 0 c).after 17 t = iblk m c 17 t := by dsimp only [dats]
/-- What a point leaves in a window. -/
theorem after0_18 (c : Dev nD) (t : Fin cfg0.N) : (dats m 0 c).after 18 t = iblk m c 18 t := by dsimp only [dats]
/-- What a point leaves in a window. -/
theorem after0_19 (c : Dev nD) (t : Fin cfg0.N) : (dats m 0 c).after 19 t = (outsAt0 m c t).1 := by dsimp only [dats]
/-- What a point leaves in a window. -/
theorem after0_20 (c : Dev nD) (t : Fin cfg0.N) : (dats m 0 c).after 20 t = (outsAt0 m c t).2.1 := by dsimp only [dats]
/-- What a point leaves in a window. -/
theorem after0_21 (c : Dev nD) (t : Fin cfg0.N) : (dats m 0 c).after 21 t = (outsAt0 m c t).2.2.1 := by dsimp only [dats]
/-- What a point leaves in a window. -/
theorem after0_22 (c : Dev nD) (t : Fin cfg0.N) : (dats m 0 c).after 22 t = (outsAt0 m c t).2.2.2 := by dsimp only [dats]

/-- What a point finds in an input's window. -/
theorem before0_0 (c : Dev nD) (t : Fin cfg0.N) (d) : (dats m 0 c).before 0 t d = iblk m c 0 t :=
  before0_0_of m (dats m 0 c) (A_eq m c 0) (after0_0 m c) t d
/-- What a point finds in an input's window. -/
theorem before0_1 (c : Dev nD) (t : Fin cfg0.N) (d) : (dats m 0 c).before 1 t d = iblk m c 1 t :=
  before0_1_of m (dats m 0 c) (A_eq m c 1) (after0_1 m c) t d
/-- What a point finds in an input's window. -/
theorem before0_2 (c : Dev nD) (t : Fin cfg0.N) (d) : (dats m 0 c).before 2 t d = iblk m c 2 t :=
  before0_2_of m (dats m 0 c) (A_eq m c 2) (after0_2 m c) t d
/-- What a point finds in an input's window. -/
theorem before0_3 (c : Dev nD) (t : Fin cfg0.N) (d) : (dats m 0 c).before 3 t d = iblk m c 3 t :=
  before0_3_of m (dats m 0 c) (A_eq m c 3) (after0_3 m c) t d
/-- What a point finds in an input's window. -/
theorem before0_4 (c : Dev nD) (t : Fin cfg0.N) (d) : (dats m 0 c).before 4 t d = iblk m c 4 t :=
  before0_4_of m (dats m 0 c) (A_eq m c 4) (after0_4 m c) t d
/-- What a point finds in an input's window. -/
theorem before0_5 (c : Dev nD) (t : Fin cfg0.N) (d) : (dats m 0 c).before 5 t d = iblk m c 5 t :=
  before0_5_of m (dats m 0 c) (A_eq m c 5) (after0_5 m c) t d
/-- What a point finds in an input's window. -/
theorem before0_6 (c : Dev nD) (t : Fin cfg0.N) (d) : (dats m 0 c).before 6 t d = iblk m c 6 t :=
  before0_6_of m (dats m 0 c) (A_eq m c 6) (after0_6 m c) t d
/-- What a point finds in an input's window. -/
theorem before0_7 (c : Dev nD) (t : Fin cfg0.N) (d) : (dats m 0 c).before 7 t d = iblk m c 7 t :=
  before0_7_of m (dats m 0 c) (A_eq m c 7) (after0_7 m c) t d
/-- What a point finds in an input's window. -/
theorem before0_8 (c : Dev nD) (t : Fin cfg0.N) (d) : (dats m 0 c).before 8 t d = iblk m c 8 t :=
  before0_8_of m (dats m 0 c) (A_eq m c 8) (after0_8 m c) t d
/-- What a point finds in an input's window. -/
theorem before0_9 (c : Dev nD) (t : Fin cfg0.N) (d) : (dats m 0 c).before 9 t d = iblk m c 9 t :=
  before0_9_of m (dats m 0 c) (A_eq m c 9) (after0_9 m c) t d
/-- What a point finds in an input's window. -/
theorem before0_10 (c : Dev nD) (t : Fin cfg0.N) (d) : (dats m 0 c).before 10 t d = iblk m c 10 t :=
  before0_10_of m (dats m 0 c) (A_eq m c 10) (after0_10 m c) t d
/-- What a point finds in an input's window. -/
theorem before0_11 (c : Dev nD) (t : Fin cfg0.N) (d) : (dats m 0 c).before 11 t d = iblk m c 11 t :=
  before0_11_of m (dats m 0 c) (A_eq m c 11) (after0_11 m c) t d
/-- What a point finds in an input's window. -/
theorem before0_12 (c : Dev nD) (t : Fin cfg0.N) (d) : (dats m 0 c).before 12 t d = iblk m c 12 t :=
  before0_12_of m (dats m 0 c) (A_eq m c 12) (after0_12 m c) t d
/-- What a point finds in an input's window. -/
theorem before0_13 (c : Dev nD) (t : Fin cfg0.N) (d) : (dats m 0 c).before 13 t d = iblk m c 13 t :=
  before0_13_of m (dats m 0 c) (A_eq m c 13) (after0_13 m c) t d
/-- What a point finds in an input's window. -/
theorem before0_14 (c : Dev nD) (t : Fin cfg0.N) (d) : (dats m 0 c).before 14 t d = iblk m c 14 t :=
  before0_14_of m (dats m 0 c) (A_eq m c 14) (after0_14 m c) t d
/-- What a point finds in an input's window. -/
theorem before0_15 (c : Dev nD) (t : Fin cfg0.N) (d) : (dats m 0 c).before 15 t d = iblk m c 15 t :=
  before0_15_of m (dats m 0 c) (A_eq m c 15) (after0_15 m c) t d
/-- What a point finds in an input's window. -/
theorem before0_16 (c : Dev nD) (t : Fin cfg0.N) (d) : (dats m 0 c).before 16 t d = iblk m c 16 t :=
  before0_16_of m (dats m 0 c) (A_eq m c 16) (after0_16 m c) t d
/-- What a point finds in an input's window. -/
theorem before0_17 (c : Dev nD) (t : Fin cfg0.N) (d) : (dats m 0 c).before 17 t d = iblk m c 17 t :=
  before0_17_of m (dats m 0 c) (A_eq m c 17) (after0_17 m c) t d
/-- What a point finds in an input's window. -/
theorem before0_18 (c : Dev nD) (t : Fin cfg0.N) (d) : (dats m 0 c).before 18 t d = iblk m c 18 t :=
  before0_18_of m (dats m 0 c) (A_eq m c 18) (after0_18 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  rw [show (dats m 0 c).leavesExact 13 t = owns (c : Thread nD τ) (ms0_13 t) fullShare ((dats m 0 c).after 13 t) from by
      unfold Dat.leavesExact; rw [liveAt0_13 t], after0_13]
  rw [show (dats m 0 c).leavesExact 14 t = owns (c : Thread nD τ) (ms0_14 t) fullShare ((dats m 0 c).after 14 t) from by
      unfold Dat.leavesExact; rw [liveAt0_14 t], after0_14]
  rw [show (dats m 0 c).leavesExact 15 t = owns (c : Thread nD τ) (ms0_15 t) fullShare ((dats m 0 c).after 15 t) from by
      unfold Dat.leavesExact; rw [liveAt0_15 t], after0_15]
  rw [show (dats m 0 c).leavesExact 16 t = owns (c : Thread nD τ) (ms0_16 t) fullShare ((dats m 0 c).after 16 t) from by
      unfold Dat.leavesExact; rw [liveAt0_16 t], after0_16]
  rw [show (dats m 0 c).leavesExact 17 t = owns (c : Thread nD τ) (ms0_17 t) fullShare ((dats m 0 c).after 17 t) from by
      unfold Dat.leavesExact; rw [liveAt0_17 t], after0_17]
  rw [show (dats m 0 c).leavesExact 18 t = owns (c : Thread nD τ) (ms0_18 t) fullShare ((dats m 0 c).after 18 t) from by
      unfold Dat.leavesExact; rw [liveAt0_18 t], after0_18]
  rw [show (dats m 0 c).leavesExact 19 t = owns (c : Thread nD τ) (ms0_19 t) fullShare ((dats m 0 c).after 19 t) from by
      unfold Dat.leavesExact; rw [liveAt0_19 t], after0_19]
  rw [show (dats m 0 c).leavesExact 20 t = owns (c : Thread nD τ) (ms0_20 t) fullShare ((dats m 0 c).after 20 t) from by
      unfold Dat.leavesExact; rw [liveAt0_20_A t (hcond0_0 t) (hcond0_1 t)], after0_20]
  rw [show (dats m 0 c).leavesExact 21 t = owns (c : Thread nD τ) (ms0_21 t) fullShare ((dats m 0 c).after 21 t) from by
      unfold Dat.leavesExact; rw [liveAt0_21_A t (hcond0_0 t) (hcond0_1 t)], after0_21]
  rw [show (dats m 0 c).leavesExact 22 t = owns (c : Thread nD τ) (ms0_22 t) fullShare ((dats m 0 c).after 22 t) from by
      unfold Dat.leavesExact; rw [liveAt0_22_A t (hcond0_0 t) (hcond0_1 t)], after0_22]
  unfold outsAt0
  unfold out0_A_19 out0_A_20 out0_A_21 out0_A_22; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  isplitl [HS2]; · iexact HS2
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, with the arrays as the points leave them. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- Every run leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.MixerSampleIdeal.Gen

namespace Cert.MixerSampleIdeal.Value

open Cert.MixerSampleIdeal Cert.MixerSampleIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A result's array after the run. -/
theorem post19 (r : PUnit × MemSt nD τ sig (Elt F)) (h : Pipeline.FramePost cfgs (dats m) 0 (V m) r) (c : Dev nD) :
    r.2.mem ((c : Thread nD τ).loc main_v51_0) = (dats m 0 c).arrAt 19 cfg0.N :=
  (h c).1 19

/-- A result's array after the run. -/
theorem post20 (r : PUnit × MemSt nD τ sig (Elt F)) (h : Pipeline.FramePost cfgs (dats m) 0 (V m) r) (c : Dev nD) :
    r.2.mem ((c : Thread nD τ).loc main_v51_1) = (dats m 0 c).arrAt 20 cfg0.N :=
  (h c).1 20

/-- A result's array after the run. -/
theorem post21 (r : PUnit × MemSt nD τ sig (Elt F)) (h : Pipeline.FramePost cfgs (dats m) 0 (V m) r) (c : Dev nD) :
    r.2.mem ((c : Thread nD τ).loc main_v51_2) = (dats m 0 c).arrAt 21 cfg0.N :=
  (h c).1 21

/-- A result's array after the run. -/
theorem post22 (r : PUnit × MemSt nD τ sig (Elt F)) (h : Pipeline.FramePost cfgs (dats m) 0 (V m) r) (c : Dev nD) :
    r.2.mem ((c : Thread nD τ).loc main_v51_3) = (dats m 0 c).arrAt 22 cfg0.N :=
  (h c).1 22

/-- An argument is as launched after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- An argument is as launched after the run. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- An argument is as launched after the run. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- An argument is as launched after the run. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- An argument is as launched after the run. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- An argument is as launched after the run. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- An argument is as launched after the run. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- An argument is as launched after the run. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- An argument is as launched after the run. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- An argument is as launched after the run. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- An argument is as launched after the run. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- An argument is as launched after the run. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- An argument is as launched after the run. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- An argument is as launched after the run. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- An argument is as launched after the run. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- An argument is as launched after the run. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- An argument is as launched after the run. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- An argument is as launched after the run. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- An argument is as launched after the run. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

theorem run_blocks : θ_run defs (onTc (τ := τ) (main (F := F))) ⟨m, fun _ => 0, ρ⟩ fun r => ∀ c : Dev nD,
      r.2.mem ((c : Thread nD τ).loc main_v51_0) = (dats m 0 c).arrAt 19 cfg0.N
      ∧ r.2.mem ((c : Thread nD τ).loc main_v51_1) = (dats m 0 c).arrAt 20 cfg0.N
      ∧ r.2.mem ((c : Thread nD τ).loc main_v51_2) = (dats m 0 c).arrAt 21 cfg0.N
      ∧ r.2.mem ((c : Thread nD τ).loc main_v51_3) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c⟩)
    (run_main m ρ)

end Cert.MixerSampleIdeal.Value

end
-- ==== Proof.SbMath.lean ====
/- The real-number side of stick-breaking attention: the log-sigmoid of a score, the log of what a key leaves of the
   stick, the weight of a key, and the sums over key ranges by which a block-by-block walk over the keys (last block
   first) arrives at the weights of the whole row. -/
module

public import Idealize.ShloMosaic.PureOps.Ideal.Laws
public import Mathlib.Algebra.BigOperators.Intervals
public import Mathlib.Algebra.Order.BigOperators.Group.LocallyFinite

@[expose] public section

noncomputable section

namespace Cert.SbMath

open Idealize.ShloMosaic Finset

/-- The logarithm of the sigmoid of `z`, in the form that never overflows: `min z 0 − log (1 + e^(−|z|))`. -/
def ls (z : ℝ) : ℝ := min z 0 - Real.log (1 + Real.exp (-|z|))

/-- The log-sigmoid of `−z` is the log-sigmoid of `z` less `z`. -/
theorem ls_neg (z : ℝ) : ls (-z) = ls z - z := by
  unfold ls
  rw [abs_neg]
  have h : min (-z) 0 = min z 0 - z := by
    rcases le_total z 0 with hz | hz
    · rw [min_eq_right (by linarith), min_eq_left hz]; ring
    · rw [min_eq_left (by linarith), min_eq_right hz]; ring
  rw [h]; ring

/-- `log (1 + e^x)` over the extended reals, at a real `x`. -/
theorem log1p_exp (x : ℝ) : Ideal.log1p (Ideal.exp (x : EReal)) = ((Real.log (1 + Real.exp x) : ℝ) : EReal) := by
  unfold Ideal.log1p
  rw [Ideal.exp_coe, ← EReal.coe_one, ← EReal.coe_add, Ideal.log_coe, if_neg (not_le.mpr (by positivity))]

/-- The absolute value as the greater of `x` and `−x`, at a real. -/
theorem max_neg_coe (z : ℝ) : max (z : EReal) (-(z : EReal)) = ((|z| : ℝ) : EReal) := by
  rw [← EReal.coe_neg, abs]
  exact (EReal.coe_strictMono.monotone.map_max (a := z) (b := -z)).symm

/-- The log-sigmoid as a program computes it over the extended reals, at a real score. -/
theorem ls_coe (z : ℝ) :
    min (z : EReal) 0 - Ideal.log1p (Ideal.exp (0 - max (z : EReal) (-(z : EReal)))) = ((ls z : ℝ) : EReal) := by
  rw [max_neg_coe, zero_sub, ← EReal.coe_neg, log1p_exp, ← EReal.coe_zero,
    ← EReal.coe_strictMono.monotone.map_min (a := z) (b := 0), ← EReal.coe_sub]
  rfl

/-- The log-sigmoid written as minus a softplus, at a real score. -/
theorem softplus_coe (z : ℝ) :
    -(max (-(z : EReal)) 0 + Ideal.log1p (Ideal.exp (-(max (-(z : EReal) - 0) (-(-(z : EReal) - 0))))))
      = ((ls z : ℝ) : EReal) := by
  rw [sub_zero, ← EReal.coe_neg, max_neg_coe, ← EReal.coe_neg, log1p_exp, ← EReal.coe_zero,
    ← EReal.coe_strictMono.monotone.map_max (a := -z) (b := 0), ← EReal.coe_add, ← EReal.coe_neg]
  congr 1
  unfold ls
  rw [abs_neg, neg_add, ← min_neg_neg, neg_neg, neg_zero]
  rfl

/-- A finite sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s h ih => rw [Finset.sum_insert h, Finset.sum_insert h, ih, EReal.coe_add]

/-- The log of what key `k` leaves of the stick of the query in row `row`, `z` the scores of that row: the log-sigmoid of
    minus the score at an earlier key, nothing at the query itself and after it. -/
def lg (row : ℕ) (z : ℕ → ℝ) (k : ℕ) : ℝ := if k < row then ls (z k) - z k else 0

/-- The weight of key `k` for the query in row `row`: the sigmoid of its score times what the keys between it and the
    query leave of the stick. -/
def wt (row : ℕ) (z : ℕ → ℝ) (k : ℕ) : ℝ :=
  if k < row then Real.exp (ls (z k) + ∑ j ∈ Ico (k + 1) 8192, lg row z j) else 0

/-- Past the query the logs vanish: a sum over all later keys is one over the keys before any bound beyond the row. -/
theorem lg_tail (row : ℕ) (z : ℕ → ℝ) {a b : ℕ} (ha : a ≤ b) (hb : row ≤ b) (h : b ≤ 8192) :
    ∑ j ∈ Ico a 8192, lg row z j = ∑ j ∈ Ico a b, lg row z j := by
  rw [← sum_Ico_consecutive _ ha h, sum_eq_zero (s := Ico b 8192), add_zero]
  intro j hj
  unfold lg
  rw [if_neg (by have := (mem_Ico.mp hj).1; omega)]

/-- A sum over a block of 256 keys, by the position in the block. -/
theorem sum_block {M : Type} [AddCommMonoid M] (f : ℕ → M) (b : ℕ) :
    ∑ c : Fin 256, f (b + c.val) = ∑ k ∈ Ico b (b + 256), f k := by
  rw [Fin.sum_univ_eq_sum_range (fun c => f (b + c)) 256, sum_Ico_eq_sum_range]
  congr 1
  simp

/-- A sum over the keys of a block after position `c`, as a product with the zero-one table of the later positions. -/
theorem sum_later (f : ℕ → ℝ) (b c : ℕ) (hc : c < 256) :
    ∑ x : Fin 256, f (b + x.val) * (if c < x.val then 1 else 0) = ∑ k ∈ Ico (b + c + 1) (b + 256), f k := by
  rw [Fin.sum_univ_eq_sum_range (fun x => f (b + x) * (if c < x then 1 else 0)) 256,
    sum_Ico_eq_sum_range]
  have h2 : ∀ n, n ≤ 256 → ∀ g : ℕ → ℝ, ∑ x ∈ range 256, (if n ≤ x then g x else 0) = ∑ x ∈ range (256 - n), g (n + x) := by
    intro n hn g
    rw [← sum_filter]
    rw [show filter (fun x => n ≤ x) (range 256) = Ico n 256 by ext x; simp; omega, sum_Ico_eq_sum_range]
  calc ∑ x ∈ range 256, f (b + x) * (if c < x then 1 else 0)
      = ∑ x ∈ range 256, (if c + 1 ≤ x then f (b + x) else 0) := by
        refine sum_congr rfl fun x _ => ?_
        by_cases h : c < x
        · rw [if_pos h, if_pos (show c + 1 ≤ x by omega), mul_one]
        · rw [if_neg h, if_neg (by omega), mul_zero]
    _ = _ := by
        rw [h2 (c + 1) (by omega)]
        rw [show b + 256 - (b + c + 1) = 256 - (c + 1) by omega]
        exact sum_congr rfl fun x _ => by rw [show b + (c + 1 + x) = b + c + 1 + x by omega]

/-- The exponent of the weight of position `c` of the block at `b`, as the walk over the blocks forms it: its log-sigmoid,
    the logs of the later positions of the block (by a product with the zero-one table, in two halves, the second zero)
    and the logs of the later blocks carried along. -/
theorem exponent (row : ℕ) (z : ℕ → ℝ) {b hi : ℕ} (c : Fin 256) (hb : b + 256 ≤ hi) (hrow : row ≤ hi) (hhi : hi ≤ 8192) :
    ((ls (z (b + c.val)) : ℝ) : EReal)
        + ((∑ x : Fin 256, ((lg row z (b + x.val) : ℝ) : EReal) * (if c.val < x.val then 1 else 0))
          + ∑ x : Fin 256, (((lg row z (b + x.val) : ℝ) : EReal) - ((lg row z (b + x.val) : ℝ) : EReal))
              * (if c.val < x.val then 1 else 0))
        + ((∑ k ∈ Ico (b + 256) hi, lg row z k : ℝ) : EReal)
      = ((ls (z (b + c.val)) + ∑ k ∈ Ico (b + c.val + 1) 8192, lg row z k : ℝ) : EReal) := by
  have hc := c.isLt
  have e1 : (∑ x : Fin 256, ((lg row z (b + x.val) : ℝ) : EReal) * (if c.val < x.val then (1 : EReal) else 0))
      = ((∑ k ∈ Ico (b + c.val + 1) (b + 256), lg row z k : ℝ) : EReal) := by
    rw [← sum_later _ _ _ hc, ← coe_sum]
    refine sum_congr rfl fun x _ => ?_
    split
    · rw [mul_one, mul_one]
    · rw [mul_zero, mul_zero, EReal.coe_zero]
  have e2 : (∑ x : Fin 256, (((lg row z (b + x.val) : ℝ) : EReal) - ((lg row z (b + x.val) : ℝ) : EReal))
      * (if c.val < x.val then (1 : EReal) else 0)) = 0 := by
    refine sum_eq_zero fun x _ => ?_
    rw [← EReal.coe_sub, sub_self, EReal.coe_zero, zero_mul]
  rw [e1, e2, add_zero, ← EReal.coe_add, ← EReal.coe_add, add_assoc,
    sum_Ico_consecutive _ (by omega) hb, lg_tail row z (by omega) hrow hhi]

/-- The same at the queries' own block, behind which nothing is carried. -/
theorem exponent_own (row : ℕ) (z : ℕ → ℝ) {b : ℕ} (c : Fin 256) (hrow : row ≤ b + 256) (hb : b + 256 ≤ 8192) :
    ((ls (z (b + c.val)) : ℝ) : EReal)
        + ((∑ x : Fin 256, ((lg row z (b + x.val) : ℝ) : EReal) * (if c.val < x.val then 1 else 0))
          + ∑ x : Fin 256, (((lg row z (b + x.val) : ℝ) : EReal) - ((lg row z (b + x.val) : ℝ) : EReal))
              * (if c.val < x.val then 1 else 0))
      = ((ls (z (b + c.val)) + ∑ k ∈ Ico (b + c.val + 1) 8192, lg row z k : ℝ) : EReal) := by
  have h := exponent row z (hi := b + 256) c le_rfl hrow hb
  rwa [Ico_self, sum_empty, EReal.coe_zero, add_zero] at h

/-- The masked weighted value of a key of the queries' own block. -/
theorem masked (row : ℕ) (z : ℕ → ℝ) (k : ℕ) (v : EReal) :
    (if k < row then ((Real.exp (ls (z k) + ∑ j ∈ Ico (k + 1) 8192, lg row z j) : ℝ) : EReal) * v else 0)
      = ((wt row z k : ℝ) : EReal) * v := by
  unfold wt
  split
  · rfl
  · rw [EReal.coe_zero, zero_mul]

/-- One more block of the sum carried along: the logs of block `b`, then those of the later blocks. -/
theorem carry (row : ℕ) (z : ℕ → ℝ) {b hi : ℕ} (hb : b + 256 ≤ hi) :
    ((∑ k ∈ Ico (b + 256) hi, lg row z k : ℝ) : EReal) + ∑ c : Fin 256, ((lg row z (b + c.val) : ℝ) : EReal)
      = ((∑ k ∈ Ico b hi, lg row z k : ℝ) : EReal) := by
  rw [coe_sum, ← EReal.coe_add, sum_block, add_comm, sum_Ico_consecutive _ (by omega) hb]

/-- One more block of the output sum: the later blocks', then block `b`'s. -/
theorem accum (w : ℕ → EReal) {b hi : ℕ} (hb : b + 256 ≤ hi) :
    (∑ k ∈ Ico (b + 256) hi, w k) + ∑ c : Fin 256, w (b + c.val) = ∑ k ∈ Ico b hi, w k := by
  rw [sum_block, add_comm, sum_Ico_consecutive _ (by omega) hb]

end Cert.SbMath

end
-- ==== Proof.SbPay.lean ====
/- What the kernel body computes from one block of 256 keys, read at an index over the extended reals: the scores, their
   log-sigmoids, the weights, and the sums it stores back — for the block that holds the queries themselves (under the
   mask of earlier keys) and for a block before it. -/
module

public import proofs.«01_k».proof.Proof.Gen.KernelIdeal.Skeleton
public import proofs.«01_k».proof.Proof.SbMath
public import Idealize.ShloMosaic.Lib.Pointwise
public import Idealize.ShloMosaic.Lib.WordCmp

@[expose] public section

set_option maxRecDepth 16384

noncomputable section

namespace Cert.KernelIdeal.SbPay

open Cert.KernelIdeal Cert.KernelIdeal.Gen Cert.SbMath
open Idealize.ShloMosaic Idealize.ShloMosaic.TcCoe Idealize.SL.Sem Finset

/-! ## The tables -/

/-- The zero-one table of later positions: 1 where the row is past the column. -/
theorem later_at (x c : Fin 256) : k0_pay35 (F := Ideal) (ix2 x c) = if c.val < x.val then (1 : EReal) else 0 := by
  pointwise [k0_pay35]
  have := x.isLt; have := c.isLt
  word_cmp

/-- The mask of the queries' own block: set where the column (the key) is before the row (the query). -/
theorem before_at (x c : Fin 256) : k0_pay38 (ix2 x c) = BitVec.ofBool (decide (c.val < x.val)) := by
  pointwise [k0_pay38]
  have := x.isLt; have := c.isLt
  word_cmp

/-- The queries of the first head of the pair: the lanes below 64, the others zero. -/
theorem lanes0_at (q : FVec Ideal S256x128 .bf16) (r : Fin 256) (l : Fin 128) :
    k0_pay33 (F := Ideal) q (ix2 r l) = if l.val < 64 then (q (ix2 r l) : EReal) else 0 := by
  pointwise [k0_pay33, k0_pay32]
  have := l.isLt
  word_cmp

/-- The queries of the second head of the pair: the lanes from 64 on, the others zero. -/
theorem lanes1_at (q : FVec Ideal S256x128 .bf16) (r : Fin 256) (l : Fin 128) :
    k0_pay34 (F := Ideal) q (ix2 r l) = if l.val < 64 then (0 : EReal) else q (ix2 r l) := by
  pointwise [k0_pay34, k0_pay32]
  have := l.isLt
  word_cmp
  by_cases h : l.val < 64
  · rw [if_neg (by omega), if_pos h]
  · rw [if_pos (by omega), if_neg h]

/-- The stored block: lanes below 64 from the first head's sums, the others from the second's. -/
theorem joined_at (a b : FVec Ideal S256x128 .f32) (r : Fin 256) (l : Fin 128) :
    k0_pay1 (F := Ideal) a b (k0_pay59 (iota .tc S1x128 32 [1] iota_S1x128_d1_w32)) (ix2 r l)
      = if l.val < 64 then (a (ix2 r l) : EReal) else b (ix2 r l) := by
  pointwise [k0_pay1, k0_pay59]
  have := l.isLt
  word_cmp

/-! ## A block before the queries' own -/

section Step

variable (q : FVec Ideal S256x128 .bf16) (k v : FVec Ideal S256x128 .bf16) (row : Fin 256 → ℕ) (z : Fin 256 → ℕ → ℝ)
  (b hi : ℕ) (hz : ∀ r c : Fin 256, ∑ d : Fin 128, (q (ix2 r d) : EReal) * k (ix2 c d) = ((z r (b + c.val) : ℝ) : EReal))

include hz in
/-- The log-sigmoid of a score (first head). -/
theorem ls0_at (r c : Fin 256) : k0_pay7 (F := Ideal) q k (ix2 r c) = ((ls (z r (b + c.val)) : ℝ) : EReal) := by
  pointwise [k0_pay7, k0_pay6]
  simp only [hz, Ideal.absf_def]
  exact ls_coe _

include hz in
/-- The log-sigmoid of a score (second head). -/
theorem ls1_at (r c : Fin 256) : k0_pay11 (F := Ideal) q k (ix2 r c) = ((ls (z r (b + c.val)) : ℝ) : EReal) := by
  pointwise [k0_pay11, k0_pay10]
  simp only [hz, Ideal.absf_def]
  exact ls_coe _

variable (hrow : ∀ r, b + 256 ≤ row r)

include hz hrow in
/-- The log of what a key leaves of the stick (first head). -/
theorem lg0_at (r c : Fin 256) : k0_pay8 (F := Ideal) q k (ix2 r c) = ((lg (row r) (z r) (b + c.val) : ℝ) : EReal) := by
  pointwise [k0_pay8]
  rw [ls0_at q k z b hz]
  pointwise [k0_pay6]
  simp only [hz]
  have := hrow r; have := c.isLt
  rw [← EReal.coe_sub]
  unfold lg
  rw [if_pos (by omega)]

include hz hrow in
/-- The log of what a key leaves of the stick (second head). -/
theorem lg1_at (r c : Fin 256) : k0_pay12 (F := Ideal) q k (ix2 r c) = ((lg (row r) (z r) (b + c.val) : ℝ) : EReal) := by
  pointwise [k0_pay12]
  rw [ls1_at q k z b hz]
  pointwise [k0_pay10]
  simp only [hz]
  have := hrow r; have := c.isLt
  rw [← EReal.coe_sub]
  unfold lg
  rw [if_pos (by omega)]

variable (hb : b + 256 ≤ hi) (hhi : hi ≤ 8192) (hrow' : ∀ r, row r ≤ hi)
  (s : FVec Ideal S1x256x1 .f32)
  (hs : ∀ r : Fin 256, s (ix3 0 r 0) = ((∑ j ∈ Ico (b + 256) hi, lg (row r) (z r) j : ℝ) : EReal))

include hz hrow hb hhi hrow' hs in
/-- The weight of a key (first head). -/
theorem wt0_at (r c : Fin 256) :
    k0_pay9 (F := Ideal) q k0_pay35 k s (ix2 r c) = ((wt (row r) (z r) (b + c.val) : ℝ) : EReal) := by
  pointwise [k0_pay9, k0_pay4]
  simp only [lg0_at q k row z b hz hrow, ls0_at q k z b hz, later_at, hs]
  rw [exponent (row r) (z r) c hb (hrow' r) hhi, Ideal.exp_coe]
  have := hrow r; have := c.isLt
  unfold wt
  rw [if_pos (by omega)]

variable (a : FVec Ideal S1x256x128 .f32)

include hz hrow hb hhi hrow' hs in
/-- The first head's output sum after the block: what it was, plus the block's weighted values. -/
theorem acc0_at (r : Fin 256) (l : Fin 128) :
    k0_pay15 (F := Ideal) v (k0_pay2 a) (k0_pay9 q k0_pay35 k s) (ix3 0 r l)
      = (a (ix3 0 r l) : EReal) + ∑ c : Fin 256, ((wt (row r) (z r) (b + c.val) : ℝ) : EReal) * v (ix2 c l) := by
  pointwise [k0_pay15, k0_pay2]
  simp only [wt0_at q k row z b hi hz hrow hb hhi hrow' s hs]

include hz hrow hb hhi hrow' hs in
/-- The second head's output sum after the block. -/
theorem acc1_at (r : Fin 256) (l : Fin 128) :
    k0_pay53 (F := Ideal) (k0_pay13 q k0_pay35 k v (k0_pay3 a) (k0_pay5 s)) (ix3 0 r l)
      = (a (ix3 0 r l) : EReal) + ∑ c : Fin 256, ((wt (row r) (z r) (b + c.val) : ℝ) : EReal) * v (ix2 c l) := by
  pointwise [k0_pay53, k0_pay13, k0_pay3, k0_pay5]
  simp only [lg1_at q k row z b hz hrow, ls1_at q k z b hz, later_at, hs]
  refine congrArg _ (Finset.sum_congr rfl fun c _ => congrArg (· * _) ?_)
  rw [exponent (row r) (z r) c hb (hrow' r) hhi, Ideal.exp_coe]
  have := hrow r; have := c.isLt
  unfold wt
  rw [if_pos (by omega)]

include hz hrow hb hs in
/-- The first head's carried logs after the block. -/
theorem suf0_at (r : Fin 256) :
    k0_pay16 (F := Ideal) (k0_pay4 s) (k0_pay8 q k) (ix3 0 r 0)
      = ((∑ j ∈ Ico b hi, lg (row r) (z r) j : ℝ) : EReal) := by
  pointwise [k0_pay16, k0_pay4]
  simp only [lg0_at q k row z b hz hrow, hs]
  exact carry (row r) (z r) hb

include hz hrow hb hs in
/-- The second head's carried logs after the block. -/
theorem suf1_at (r : Fin 256) :
    k0_pay54 (F := Ideal) (k0_pay14 q k (k0_pay5 s)) (ix3 0 r 0)
      = ((∑ j ∈ Ico b hi, lg (row r) (z r) j : ℝ) : EReal) := by
  pointwise [k0_pay54, k0_pay14, k0_pay5]
  simp only [lg1_at q k row z b hz hrow, hs]
  exact carry (row r) (z r) hb

end Step

/-! ## The queries' own block -/

section Diag

variable (x k v : FVec Ideal S256x128 .bf16) (row : Fin 256 → ℕ) (z : Fin 256 → ℕ → ℝ)
  (b : ℕ) (hrow : ∀ r : Fin 256, row r = b + r.val) (hb : b + 256 ≤ 8192)

section First

variable (hz : ∀ r c : Fin 256, ∑ d : Fin 128, (k0_pay33 (F := Ideal) x (ix2 r d) : EReal) * k (ix2 c d) = ((z r (b + c.val) : ℝ) : EReal))

include hz in
/-- The log-sigmoid of a score (first head). -/
theorem dls0_at (r c : Fin 256) : k0_pay40 (F := Ideal) x k (ix2 r c) = ((ls (z r (b + c.val)) : ℝ) : EReal) := by
  pointwise [k0_pay40, k0_pay39]
  simp only [hz, Ideal.absf_def]
  exact ls_coe _

include hz hrow in
/-- The masked log of what a key leaves of the stick (first head). -/
theorem dlg0_at (r c : Fin 256) :
    k0_pay42 (F := Ideal) k0_pay38 (k0_pay41 x k) (0 : EReal) (ix2 r c)
      = ((lg (row r) (z r) (b + c.val) : ℝ) : EReal) := by
  pointwise [k0_pay42, k0_pay41]
  rw [dls0_at x k z b hz, before_at]
  pointwise [k0_pay39]
  simp only [hz]
  rw [← EReal.coe_sub]
  unfold lg
  rw [hrow r]
  by_cases h : c.val < r.val
  · simp [Scalar.select, h]
  · simp [Scalar.select, h]

include hz hrow hb in
/-- The first head's output sum after its own block: the block's weighted values. -/
theorem dacc0_at (r : Fin 256) (l : Fin 128) :
    k0_pay49 (F := Ideal) (k0_pay43 k0_pay35 k0_pay36 k0_pay37 v k0_pay38 (k0_pay40 x k) (k0_pay41 x k) (FloatOps.ofBits FTy.f32 0#32)) (ix3 0 r l)
      = ∑ c : Fin 256, ((wt (row r) (z r) (b + c.val) : ℝ) : EReal) * v (ix2 c l) := by
  pointwise [k0_pay49, k0_pay43, k0_pay36, k0_pay37]
  simp only [dls0_at x k z b hz, later_at, before_at]
  refine Finset.sum_congr rfl fun c _ => ?_
  simp only [dlg0_at x k row z b hrow hz]
  have := r.isLt
  rw [exponent_own (row r) (z r) c (by rw [hrow r]; omega) hb, Ideal.exp_coe, ← masked, hrow r]
  by_cases h : c.val < r.val
  · simp [Scalar.select, h]
  · simp [Scalar.select, h]

include hz hrow in
/-- The first head's carried logs after its own block. -/
theorem dsuf0_at (r : Fin 256) :
    k0_pay50 (F := Ideal) (k0_pay44 k0_pay37 k0_pay38 (k0_pay41 x k) (FloatOps.ofBits FTy.f32 0#32)) (ix3 0 r 0)
      = ((∑ j ∈ Ico b (b + 256), lg (row r) (z r) j : ℝ) : EReal) := by
  pointwise [k0_pay50, k0_pay44, k0_pay37]
  simp only [dlg0_at x k row z b hrow hz]
  rw [coe_sum, sum_block]

end First

section Second

variable (q : FVec Ideal S256x128 .bf16)
  (hz : ∀ r c : Fin 256, ∑ d : Fin 128, (q (ix2 r d) : EReal) * k (ix2 c d) = ((z r (b + c.val) : ℝ) : EReal))

include hz in
/-- The log-sigmoid of a score (second head). -/
theorem dls1_at (r c : Fin 256) : k0_pay46 (F := Ideal) q k (ix2 r c) = ((ls (z r (b + c.val)) : ℝ) : EReal) := by
  pointwise [k0_pay46, k0_pay45]
  simp only [hz, Ideal.absf_def]
  exact ls_coe _

include hz hrow in
/-- The masked log of what a key leaves of the stick (second head). -/
theorem dlg1_at (r c : Fin 256) :
    k0_pay47 (F := Ideal) q k k0_pay38 (ix2 r c) = ((lg (row r) (z r) (b + c.val) : ℝ) : EReal) := by
  pointwise [k0_pay47]
  rw [dls1_at k z b q hz, before_at]
  pointwise [k0_pay45]
  simp only [hz]
  rw [← EReal.coe_sub]
  unfold lg
  rw [hrow r]
  by_cases h : c.val < r.val
  · simp [Scalar.select, h]
  · simp [Scalar.select, h]

include hz hrow hb in
/-- The second head's output sum after its own block. -/
theorem dacc1_at (r : Fin 256) (l : Fin 128) :
    k0_pay51 (F := Ideal) k0_pay36 v (k0_pay48 q k0_pay35 k0_pay37 k k0_pay38) (constant S256x128 FTy.f32 0#32) (ix3 0 r l)
      = ∑ c : Fin 256, ((wt (row r) (z r) (b + c.val) : ℝ) : EReal) * v (ix2 c l) := by
  pointwise [k0_pay51, k0_pay48, k0_pay36, k0_pay37]
  simp only [dls1_at k z b q hz, later_at, before_at]
  refine Finset.sum_congr rfl fun c _ => ?_
  simp only [dlg1_at k row z b hrow q hz]
  have := r.isLt
  rw [exponent_own (row r) (z r) c (by rw [hrow r]; omega) hb, Ideal.exp_coe, ← masked, hrow r]
  by_cases h : c.val < r.val
  · simp [Scalar.select, h]
  · simp [Scalar.select, h]

include hz hrow in
/-- The second head's carried logs after its own block. -/
theorem dsuf1_at (r : Fin 256) :
    k0_pay52 (F := Ideal) k0_pay37 (k0_pay47 q k k0_pay38) (ix3 0 r 0)
      = ((∑ j ∈ Ico b (b + 256), lg (row r) (z r) j : ℝ) : EReal) := by
  pointwise [k0_pay52, k0_pay37]
  simp only [dlg1_at k row z b hrow q hz]
  rw [coe_sum, sum_block]

end Second

end Diag

end Cert.KernelIdeal.SbPay

end
-- ==== Proof.SbRun.lean ====
/-
  What the body of the attention kernel leaves in its output block: the loop over the blocks of earlier keys read as
  an induction, with the pair of heads' running sums (the output sums and the sums of logs) as its state.
-/
module

public import proofs.«01_k».proof.Proof.Gen.KernelIdeal.Frame
public import proofs.«01_k».proof.Proof.SbPay
public import Idealize.ShloMosaic.Lib.WritesUnit
public import Idealize.ShloMosaic.Lib.Pipeline.Value

@[expose] public section

set_option maxRecDepth 16384

noncomputable section

namespace Cert.KernelIdeal.SbRun

open Cert.KernelIdeal Cert.KernelIdeal.Gen Cert.KernelIdeal.SbPay Cert.SbMath
open Idealize.ShloMosaic Idealize.ShloMosaic.TcCoe Idealize.SL.Sem Finset

/-! ## The loop's counts and offsets in closed form -/

/-- The loop over earlier blocks makes as many trips as there are earlier blocks. -/
theorem trips_eq (i : grid0.Coords) : (k0_t1_loop i).trips = (i 2).val :=
  (by decide +kernel : ∀ n : Fin 32, Scf.trips (0#32) (Scalar.addi (0#32)
    (Scalar.muli (Scalar.divsi (Scalar.subi (BitVec.ofNat 32 n.val) 0#32) 1#32) 1#32)) 1#32 = n.val) (i 2)

/-- The remainder loop makes no trip. -/
theorem trips2_eq (i : grid0.Coords) : (k0_t2_loop i).trips = 0 := Nat.le_zero.1 (k0_t2_abs i).2.1

/-- Trip `k` reads the block `k + 1` blocks before the queries' own. -/
theorem off2_eq (i : grid0.Coords) (k : Fin (k0_t1_loop i).trips) :
    k0_off2 i k = ![256 * ((i 2).val - 1 - k.val), 0] := by
  have h := (by decide +kernel : ∀ n k : Fin 32, k.val < n.val →
    (Scalar.indexCast (Scalar.muli (Scalar.subi (Scalar.subi (BitVec.ofNat 32 n.val) 1#32) (Scf.iv 0#32 1#32 k.val)) 256#32)).toNat
      = 256 * (n.val - 1 - k.val)) (i 2)
  have hk : k.val < (i 2).val := trips_eq i ▸ k.isLt
  have hk' := h ⟨k.val, lt_trans hk (i 2).isLt⟩ hk
  unfold k0_off2
  dsimp only
  exact congrArg (fun n => ![n, 0]) hk'

/-! ## Reading through a slab or a block -/

/-- A block of 256 rows at row `b`, read. -/
theorem block_at (x : FVec Ideal S8192x128 .bf16) {off : Fin 2 → ℕ} (inb : ∀ a, off a + S256x128.size a ≤ S8192x128.size a)
    (b : ℕ) (h : off = ![b, 0]) (c : Fin 256) (l : Fin 128) (hc : b + c.val < 8192) :
    View.ld (Val := Elt Ideal) (e' := .bf16) (S := S8192x128) x (Rect.unit off S256x128.size inb) (ix2 c l) = x (ix2 ⟨b + c.val, hc⟩ l) := by
  subst h
  refine congrArg x (funext fun a => Fin.ext ?_)
  fin_cases a <;> simp [Rect.unit, LoadRect.idx, ix2]

section Loop

variable (c : Dev nD) (i : grid0.Coords) (arg3 : Memref sig .tc .vmem S256x128 .bf16) (harg3 : arg3.IsWhole)
  (arg4 : Memref sig .tc .vmem S8192x128 .bf16) (harg4 : arg4.IsWhole)
  (arg5 : Memref sig .tc .vmem S8192x128 .bf16) (harg5 : arg5.IsWhole)
  (arg6 : Memref sig .tc .vmem S256x128 .bf16) (harg6 : arg6.IsWhole)
  (arg7 : Memref sig .tc .vmem S2x256x128 .f32) (harg7 : arg7.IsWhole)
  (arg8 : Memref sig .tc .vmem S2x256x1 .f32) (harg8 : arg8.IsWhole)

/-- Two writes of the two heads' output slabs, the second head's last: each head reads its own. -/
theorem slabs7 (f : BufTy.Contents (Elt Ideal) arg7.view.ty) (p1 p0 : FVec Ideal S1x256x128 .f32)
    (L : List (View.Piece (Elt Ideal) S2x256x128 .f32)) (r : Fin 256) (l : Fin 128) :
    arg7.view.read (Elt Ideal) (arg7.view.writes (Elt Ideal) f
      (⟨Rect.unit ![1, 0, 0] ![1, 256, 128] inb_S2x256x128_S1x256x128_1_0_0, p1⟩ ::
       ⟨Rect.unit ![0, 0, 0] ![1, 256, 128] inb_S2x256x128_S1x256x128_0_0_0, p0⟩ :: L)) (ix3 1 r l) = p1 (ix3 0 r l)
    ∧ arg7.view.read (Elt Ideal) (arg7.view.writes (Elt Ideal) f
      (⟨Rect.unit ![1, 0, 0] ![1, 256, 128] inb_S2x256x128_S1x256x128_1_0_0, p1⟩ ::
       ⟨Rect.unit ![0, 0, 0] ![1, 256, 128] inb_S2x256x128_S1x256x128_0_0_0, p0⟩ :: L)) (ix3 0 r l) = p0 (ix3 0 r l) := by
  have hx : ∀ (e : Fin 2) (a : Fin 3), ((ix3 e r l : S2x256x128.Idx) a).val = (![e.val, 0, 0] : Fin 3 → ℕ) a + ((ix3 0 r l : S1x256x128.Idx) a).val := by
    intro e a; fin_cases a <;> simp [ix3]
  constructor
  · exact View.read_writes_cons_unit_of_mem (Val := Elt Ideal) (off' := ![(1 : Fin 2).val, 0, 0]) arg7.view f inb_S2x256x128_S1x256x128_1_0_0 p1 _ (ix3 1 r l) (ix3 0 r l) rfl (hx 1)
  · refine (View.read_writes_cons_unit_of_not_mem (Val := Elt Ideal) (off' := ![1, 0, 0]) arg7.view f inb_S2x256x128_S1x256x128_1_0_0 p1 _ (ix3 0 r l) rfl 0 (Or.inl (show 0 < 1 from Nat.zero_lt_one))).trans ?_
    exact View.read_writes_cons_unit_of_mem (Val := Elt Ideal) (off' := ![(0 : Fin 2).val, 0, 0]) arg7.view f inb_S2x256x128_S1x256x128_0_0_0 p0 L (ix3 0 r l) (ix3 0 r l) rfl (hx 0)

/-- Two writes of the two heads' sums of logs, the second head's last: each head reads its own. -/
theorem slabs8 (f : BufTy.Contents (Elt Ideal) arg8.view.ty) (p1 p0 : FVec Ideal S1x256x1 .f32)
    (L : List (View.Piece (Elt Ideal) S2x256x1 .f32)) (r : Fin 256) :
    arg8.view.read (Elt Ideal) (arg8.view.writes (Elt Ideal) f
      (⟨Rect.unit ![1, 0, 0] ![1, 256, 1] inb_S2x256x1_S1x256x1_1_0_0, p1⟩ ::
       ⟨Rect.unit ![0, 0, 0] ![1, 256, 1] inb_S2x256x1_S1x256x1_0_0_0, p0⟩ :: L)) (ix3 1 r 0) = p1 (ix3 0 r 0)
    ∧ arg8.view.read (Elt Ideal) (arg8.view.writes (Elt Ideal) f
      (⟨Rect.unit ![1, 0, 0] ![1, 256, 1] inb_S2x256x1_S1x256x1_1_0_0, p1⟩ ::
       ⟨Rect.unit ![0, 0, 0] ![1, 256, 1] inb_S2x256x1_S1x256x1_0_0_0, p0⟩ :: L)) (ix3 0 r 0) = p0 (ix3 0 r 0) := by
  have hx : ∀ (e : Fin 2) (a : Fin 3), ((ix3 e r 0 : S2x256x1.Idx) a).val = (![e.val, 0, 0] : Fin 3 → ℕ) a + ((ix3 0 r 0 : S1x256x1.Idx) a).val := by
    intro e a; fin_cases a <;> simp [ix3]
  constructor
  · exact View.read_writes_cons_unit_of_mem (Val := Elt Ideal) (off' := ![(1 : Fin 2).val, 0, 0]) arg8.view f inb_S2x256x1_S1x256x1_1_0_0 p1 _ (ix3 1 r 0) (ix3 0 r 0) rfl (hx 1)
  · refine (View.read_writes_cons_unit_of_not_mem (Val := Elt Ideal) (off' := ![1, 0, 0]) arg8.view f inb_S2x256x1_S1x256x1_1_0_0 p1 _ (ix3 0 r 0) rfl 0 (Or.inl (show 0 < 1 from Nat.zero_lt_one))).trans ?_
    exact View.read_writes_cons_unit_of_mem (Val := Elt Ideal) (off' := ![(0 : Fin 2).val, 0, 0]) arg8.view f inb_S2x256x1_S1x256x1_0_0_0 p0 L (ix3 0 r 0) (ix3 0 r 0) rfl (hx 0)

variable (arg2 : BitVec 32) (v1 : IVec S1x128 32) (v7 : Vec Ideal S256x128 .bf16) (v12 : Vec Ideal S256x128 .bf16)
  (v22 : FVec Ideal S256x128 .f32) (v23 : FVec Ideal S256x1 .f32) (v29 : Vec Ideal S256x128 .bf16) (v58 : FVec Ideal S256x128 .f32)
  (v61 : FVec Ideal S256x1 .f32) (v73 : FVec Ideal S256x256 .f32) (v87 : FVec Ideal S256x256 .bf16) (cst_24 : FVec Ideal S256x128 .f32)
  (x1 x2 : FVec Ideal S8192x128 .bf16)
  (G7 : BufTy.Contents (Elt Ideal) arg7.view.ty) (G8 : BufTy.Contents (Elt Ideal) arg8.view.ty)

/-- The writes of the first `t` trips of the loop over earlier blocks. -/
abbrev pcs (t : ℕ) := pb_k0_t1 (F := Ideal) Variants.none c none i arg3 harg3 arg4 harg4 arg5 harg5 arg6 harg6 arg7 harg7 arg8 harg8
  arg2 v1 v7 v12 k0_pay35 v22 v23 v29 v58 v61 v73 v87 cst_24 (harg4.unread x1) (harg5.unread x2) G7 G8 t

/-- The pair's output sums after `t` trips. -/
def st7 (t : ℕ) : FVec Ideal S2x256x128 .f32 :=
  arg7.view.read (Elt Ideal) (arg7.view.writes (Elt Ideal) G7
    (pcs c i arg3 harg3 arg4 harg4 arg5 harg5 arg6 harg6 arg7 harg7 arg8 harg8 arg2 v1 v7 v12 v22 v23 v29 v58 v61 v73 v87 cst_24 x1 x2 G7 G8 t).1)

/-- The pair's sums of logs after `t` trips. -/
def st8 (t : ℕ) : FVec Ideal S2x256x1 .f32 :=
  arg8.view.read (Elt Ideal) (arg8.view.writes (Elt Ideal) G8
    (pcs c i arg3 harg3 arg4 harg4 arg5 harg5 arg6 harg6 arg7 harg7 arg8 harg8 arg2 v1 v7 v12 v22 v23 v29 v58 v61 v73 v87 cst_24 x1 x2 G7 G8 t).2)

/-- The keys of trip `k`'s block (the values likewise). -/
def kblk (x : FVec Ideal S8192x128 .bf16) (k : Fin (k0_t1_loop i).trips) : FVec Ideal S256x128 .bf16 :=
  View.ld (Val := Elt Ideal) (e' := .bf16) (S := S8192x128) x (Rect.unit (k0_off2 i k) S256x128.size (k0_off2_inb i k))

/-- One head's slab of the output sums. -/
def hd7 (y : FVec Ideal S2x256x128 .f32) (e : Fin 2) : FVec Ideal S1x256x128 .f32 := fun j => y (ix3 e (j 1) (j 2))
/-- One head's slab of the sums of logs. -/
def hd8 (y : FVec Ideal S2x256x1 .f32) (e : Fin 2) : FVec Ideal S1x256x1 .f32 := fun j => y (ix3 e (j 1) (j 2))

/-- A slab of the output sums' buffer, loaded, is that slab. -/
theorem ld7_eq (y : FVec Ideal S2x256x128 .f32) (e : Fin 2) {off : Fin 3 → ℕ} (inb : ∀ a, off a + S1x256x128.size a ≤ S2x256x128.size a)
    (h : off = ![e.val, 0, 0]) :
    View.ld (Val := Elt Ideal) (e' := .f32) (S := S2x256x128) y (Rect.unit off S1x256x128.size inb) = hd7 y e := by
  subst h
  funext j
  refine congrArg y (funext fun a => Fin.ext ?_)
  have : (j 0).val = 0 := by have h : (j 0).val < 1 := (j 0).isLt; omega
  fin_cases a <;> simp [Rect.unit, LoadRect.idx, ix3, this]

/-- A slab of the log sums' buffer, loaded, is that slab. -/
theorem ld8_eq (y : FVec Ideal S2x256x1 .f32) (e : Fin 2) {off : Fin 3 → ℕ} (inb : ∀ a, off a + S1x256x1.size a ≤ S2x256x1.size a)
    (h : off = ![e.val, 0, 0]) :
    View.ld (Val := Elt Ideal) (e' := .f32) (S := S2x256x1) y (Rect.unit off S1x256x1.size inb) = hd8 y e := by
  subst h
  funext j
  refine congrArg y (funext fun a => Fin.ext ?_)
  have : (j 0).val = 0 := by have h : (j 0).val < 1 := (j 0).isLt; omega
  fin_cases a <;> simp [Rect.unit, LoadRect.idx, ix3, this]

/-- One trip on the two heads' sums: the payloads of its four writes. -/
theorem step_raw (k : Fin (k0_t1_loop i).trips) (r : Fin 256) :
    let s7 := st7 c i arg3 harg3 arg4 harg4 arg5 harg5 arg6 harg6 arg7 harg7 arg8 harg8 arg2 v1 v7 v12 v22 v23 v29 v58 v61 v73 v87 cst_24 x1 x2 G7 G8 k.val
    let s8 := st8 c i arg3 harg3 arg4 harg4 arg5 harg5 arg6 harg6 arg7 harg7 arg8 harg8 arg2 v1 v7 v12 v22 v23 v29 v58 v61 v73 v87 cst_24 x1 x2 G7 G8 k.val
    (∀ l : Fin 128, st7 c i arg3 harg3 arg4 harg4 arg5 harg5 arg6 harg6 arg7 harg7 arg8 harg8 arg2 v1 v7 v12 v22 v23 v29 v58 v61 v73 v87 cst_24 x1 x2 G7 G8 (k.val + 1) (ix3 0 r l)
      = k0_pay15 (kblk i x2 k) (k0_pay2 (hd7 s7 0)) (k0_pay9 v7 k0_pay35 (kblk i x1 k) (hd8 s8 0)) (ix3 0 r l))
    ∧ (∀ l : Fin 128, st7 c i arg3 harg3 arg4 harg4 arg5 harg5 arg6 harg6 arg7 harg7 arg8 harg8 arg2 v1 v7 v12 v22 v23 v29 v58 v61 v73 v87 cst_24 x1 x2 G7 G8 (k.val + 1) (ix3 1 r l)
      = k0_pay53 (k0_pay13 v12 k0_pay35 (kblk i x1 k) (kblk i x2 k) (k0_pay3 (hd7 s7 1)) (k0_pay5 (hd8 s8 1))) (ix3 0 r l))
    ∧ st8 c i arg3 harg3 arg4 harg4 arg5 harg5 arg6 harg6 arg7 harg7 arg8 harg8 arg2 v1 v7 v12 v22 v23 v29 v58 v61 v73 v87 cst_24 x1 x2 G7 G8 (k.val + 1) (ix3 0 r 0) = k0_pay16 (k0_pay4 (hd8 s8 0)) (k0_pay8 v7 (kblk i x1 k)) (ix3 0 r 0)
    ∧ st8 c i arg3 harg3 arg4 harg4 arg5 harg5 arg6 harg6 arg7 harg7 arg8 harg8 arg2 v1 v7 v12 v22 v23 v29 v58 v61 v73 v87 cst_24 x1 x2 G7 G8 (k.val + 1) (ix3 1 r 0) = k0_pay54 (k0_pay14 v12 (kblk i x1 k) (k0_pay5 (hd8 s8 1))) (ix3 0 r 0) := by
  intro s7 s8
  rw [← ld7_eq s7 0 inb_S2x256x128_S1x256x128_0_0_0 rfl, ← ld7_eq s7 1 inb_S2x256x128_S1x256x128_1_0_0 rfl,
    ← ld8_eq s8 0 inb_S2x256x1_S1x256x1_0_0_0 rfl, ← ld8_eq s8 1 inb_S2x256x1_S1x256x1_1_0_0 rfl]
  have e1 : arg4.view.read (Elt Ideal) (harg4.unread (Val := Elt Ideal) x1) = x1 := harg4.read_unread (Val := Elt Ideal) x1
  have e2 : arg5.view.read (Elt Ideal) (harg5.unread (Val := Elt Ideal) x2) = x2 := harg5.read_unread (Val := Elt Ideal) x2
  unfold st7 st8 pcs
  rw [pb_k0_t1_succ]
  unfold tripL_k0_t1 trip_k0_t1
  dsimp only
  sl_unfold_words
  simp only [View.readAt_eq_ld, e1, e2]
  refine ⟨fun l => ?_, fun l => ?_, ?_, ?_⟩
  · exact (slabs7 arg7 _ _ _ _ r l).2
  · exact (slabs7 arg7 _ _ _ _ r l).1
  · exact (slabs8 arg8 _ _ _ _ r).2
  · exact (slabs8 arg8 _ _ _ _ r).1

/-- A key of trip `k`'s block is the key that many rows into the batch's keys. -/
theorem kblk_at (x : FVec Ideal S8192x128 .bf16) (k : Fin (k0_t1_loop i).trips) (r : Fin 256) (l : Fin 128)
    (h : 256 * ((i 2).val - 1 - k.val) + r.val < 8192) :
    kblk i x k (ix2 r l) = x (ix2 ⟨256 * ((i 2).val - 1 - k.val) + r.val, h⟩ l) :=
  block_at x (k0_off2_inb i k) _ (off2_eq i k) r l h

variable (z0 z1 : Fin 256 → ℕ → ℝ) (V : ℕ → Fin 128 → EReal)
  (hz0 : ∀ (r : Fin 256) (k : Fin 8192), ∑ d : Fin 128, (v7 (ix2 r d) : EReal) * x1 (ix2 k d) = ((z0 r k.val : ℝ) : EReal))
  (hz1 : ∀ (r : Fin 256) (k : Fin 8192), ∑ d : Fin 128, (v12 (ix2 r d) : EReal) * x1 (ix2 k d) = ((z1 r k.val : ℝ) : EReal))
  (hV : ∀ (k : Fin 8192) (l : Fin 128), (x2 (ix2 k l) : EReal) = V k.val l)

/-- The pair's sums when the keys from position `b` up to the end of the queries' own block have been taken in: each
    head's logs summed, and its values summed with their weights. -/
structure Taken (s7 : FVec Ideal S2x256x128 .f32) (s8 : FVec Ideal S2x256x1 .f32) (b : ℕ) : Prop where
  a0 : ∀ (r : Fin 256) (l : Fin 128), (s7 (ix3 0 r l) : EReal)
    = ∑ k ∈ Ico b (256 * (i 2).val + 256), ((wt (256 * (i 2).val + r.val) (z0 r) k : ℝ) : EReal) * V k l
  a1 : ∀ (r : Fin 256) (l : Fin 128), (s7 (ix3 1 r l) : EReal)
    = ∑ k ∈ Ico b (256 * (i 2).val + 256), ((wt (256 * (i 2).val + r.val) (z1 r) k : ℝ) : EReal) * V k l
  l0 : ∀ r : Fin 256, (s8 (ix3 0 r 0) : EReal)
    = ((∑ k ∈ Ico b (256 * (i 2).val + 256), lg (256 * (i 2).val + r.val) (z0 r) k : ℝ) : EReal)
  l1 : ∀ r : Fin 256, (s8 (ix3 1 r 0) : EReal)
    = ((∑ k ∈ Ico b (256 * (i 2).val + 256), lg (256 * (i 2).val + r.val) (z1 r) k : ℝ) : EReal)

include hz0 hz1 hV in
/-- One trip takes in one more block of earlier keys. -/
theorem step (k : Fin (k0_t1_loop i).trips)
    (h : Taken i z0 z1 V (st7 c i arg3 harg3 arg4 harg4 arg5 harg5 arg6 harg6 arg7 harg7 arg8 harg8 arg2 v1 v7 v12 v22 v23 v29 v58 v61 v73 v87 cst_24 x1 x2 G7 G8 k.val) (st8 c i arg3 harg3 arg4 harg4 arg5 harg5 arg6 harg6 arg7 harg7 arg8 harg8 arg2 v1 v7 v12 v22 v23 v29 v58 v61 v73 v87 cst_24 x1 x2 G7 G8 k.val) (256 * ((i 2).val - k.val))) :
    Taken i z0 z1 V (st7 c i arg3 harg3 arg4 harg4 arg5 harg5 arg6 harg6 arg7 harg7 arg8 harg8 arg2 v1 v7 v12 v22 v23 v29 v58 v61 v73 v87 cst_24 x1 x2 G7 G8 (k.val + 1)) (st8 c i arg3 harg3 arg4 harg4 arg5 harg5 arg6 harg6 arg7 harg7 arg8 harg8 arg2 v1 v7 v12 v22 v23 v29 v58 v61 v73 v87 cst_24 x1 x2 G7 G8 (k.val + 1)) (256 * ((i 2).val - (k.val + 1))) := by
  obtain ⟨e7, e7', e8, e8'⟩ : (∀ r l, _) ∧ (∀ r l, _) ∧ (∀ r, _) ∧ (∀ r, _) :=
    ⟨fun r => (step_raw c i arg3 harg3 arg4 harg4 arg5 harg5 arg6 harg6 arg7 harg7 arg8 harg8 arg2 v1 v7 v12 v22 v23 v29 v58 v61 v73 v87 cst_24 x1 x2 G7 G8 k r).1, fun r => (step_raw c i arg3 harg3 arg4 harg4 arg5 harg5 arg6 harg6 arg7 harg7 arg8 harg8 arg2 v1 v7 v12 v22 v23 v29 v58 v61 v73 v87 cst_24 x1 x2 G7 G8 k r).2.1,
      fun r => (step_raw c i arg3 harg3 arg4 harg4 arg5 harg5 arg6 harg6 arg7 harg7 arg8 harg8 arg2 v1 v7 v12 v22 v23 v29 v58 v61 v73 v87 cst_24 x1 x2 G7 G8 k r).2.2.1, fun r => (step_raw c i arg3 harg3 arg4 harg4 arg5 harg5 arg6 harg6 arg7 harg7 arg8 harg8 arg2 v1 v7 v12 v22 v23 v29 v58 v61 v73 v87 cst_24 x1 x2 G7 G8 k r).2.2.2⟩
  have hk : k.val < (i 2).val := trips_eq i ▸ k.isLt
  have hn : (i 2).val < 32 := (i 2).isLt
  obtain ⟨b, hb⟩ : ∃ b, b = 256 * ((i 2).val - 1 - k.val) := ⟨_, rfl⟩
  have hb1 : 256 * ((i 2).val - k.val) = b + 256 := by omega
  have hb2 : 256 * ((i 2).val - (k.val + 1)) = b := by omega
  rw [hb1] at h
  rw [hb2]
  have hlt : ∀ r : Fin 256, b + r.val < 8192 := fun r => by have := r.isLt; omega
  have hK : ∀ (x : FVec Ideal S8192x128 .bf16) (r : Fin 256) (l : Fin 128), kblk i x k (ix2 r l) = x (ix2 ⟨b + r.val, hlt r⟩ l) :=
    fun x r l => by subst hb; exact kblk_at i x k r l _
  have hq0 : ∀ r r' : Fin 256, ∑ d : Fin 128, (v7 (ix2 r d) : EReal) * kblk i x1 k (ix2 r' d) = ((z0 r (b + r'.val) : ℝ) : EReal) :=
    fun r r' => (Finset.sum_congr rfl fun d _ => by rw [hK]).trans (hz0 r ⟨b + r'.val, hlt r'⟩)
  have hq1 : ∀ r r' : Fin 256, ∑ d : Fin 128, (v12 (ix2 r d) : EReal) * kblk i x1 k (ix2 r' d) = ((z1 r (b + r'.val) : ℝ) : EReal) :=
    fun r r' => (Finset.sum_congr rfl fun d _ => by rw [hK]).trans (hz1 r ⟨b + r'.val, hlt r'⟩)
  have hv : ∀ (r : Fin 256) (l : Fin 128), (kblk i x2 k (ix2 r l) : EReal) = V (b + r.val) l :=
    fun r l => by rw [hK]; exact hV ⟨b + r.val, hlt r⟩ l
  have hrow : ∀ r : Fin 256, b + 256 ≤ 256 * (i 2).val + r.val := fun r => by omega
  have hrow' : ∀ r : Fin 256, 256 * (i 2).val + r.val ≤ 256 * (i 2).val + 256 := fun r => by have := r.isLt; omega
  have hbh : b + 256 ≤ 256 * (i 2).val + 256 := by omega
  have hhi : 256 * (i 2).val + 256 ≤ 8192 := by omega
  have hs0 : ∀ r : Fin 256, hd8 (st8 c i arg3 harg3 arg4 harg4 arg5 harg5 arg6 harg6 arg7 harg7 arg8 harg8 arg2 v1 v7 v12 v22 v23 v29 v58 v61 v73 v87 cst_24 x1 x2 G7 G8 k.val) 0 (ix3 0 r 0) = _ := h.l0
  have hs1 : ∀ r : Fin 256, hd8 (st8 c i arg3 harg3 arg4 harg4 arg5 harg5 arg6 harg6 arg7 harg7 arg8 harg8 arg2 v1 v7 v12 v22 v23 v29 v58 v61 v73 v87 cst_24 x1 x2 G7 G8 k.val) 1 (ix3 0 r 0) = _ := h.l1
  refine ⟨fun r l => ?_, fun r l => ?_, fun r => ?_, fun r => ?_⟩
  · refine (e7 r l).trans ((acc0_at v7 (kblk i x1 k) (kblk i x2 k) (fun r => 256 * (i 2).val + r.val) z0 b _ hq0 hrow hbh hhi hrow' _ hs0 _ r l).trans ?_)
    rw [show hd7 (st7 c i arg3 harg3 arg4 harg4 arg5 harg5 arg6 harg6 arg7 harg7 arg8 harg8 arg2 v1 v7 v12 v22 v23 v29 v58 v61 v73 v87 cst_24 x1 x2 G7 G8 k.val) 0 (ix3 0 r l) = _ from h.a0 r l]
    simp only [hv]
    exact accum (fun k => ((wt (256 * (i 2).val + r.val) (z0 r) k : ℝ) : EReal) * V k l) hbh
  · refine (e7' r l).trans ((acc1_at v12 (kblk i x1 k) (kblk i x2 k) (fun r => 256 * (i 2).val + r.val) z1 b _ hq1 hrow hbh hhi hrow' _ hs1 _ r l).trans ?_)
    rw [show hd7 (st7 c i arg3 harg3 arg4 harg4 arg5 harg5 arg6 harg6 arg7 harg7 arg8 harg8 arg2 v1 v7 v12 v22 v23 v29 v58 v61 v73 v87 cst_24 x1 x2 G7 G8 k.val) 1 (ix3 0 r l) = _ from h.a1 r l]
    simp only [hv]
    exact accum (fun k => ((wt (256 * (i 2).val + r.val) (z1 r) k : ℝ) : EReal) * V k l) hbh
  · exact (e8 r).trans (suf0_at v7 (kblk i x1 k) (fun r => 256 * (i 2).val + r.val) z0 b _ hq0 hrow hbh _ hs0 r)
  · exact (e8' r).trans (suf1_at v12 (kblk i x1 k) (fun r => 256 * (i 2).val + r.val) z1 b _ hq1 hrow hbh _ hs1 r)

include hz0 hz1 hV in
/-- After the whole loop every earlier key has been taken in. -/
theorem loop (h : Taken i z0 z1 V (arg7.view.read (Elt Ideal) G7) (arg8.view.read (Elt Ideal) G8) (256 * (i 2).val)) :
    Taken i z0 z1 V (st7 c i arg3 harg3 arg4 harg4 arg5 harg5 arg6 harg6 arg7 harg7 arg8 harg8 arg2 v1 v7 v12 v22 v23 v29 v58 v61 v73 v87 cst_24 x1 x2 G7 G8 (i 2).val) (st8 c i arg3 harg3 arg4 harg4 arg5 harg5 arg6 harg6 arg7 harg7 arg8 harg8 arg2 v1 v7 v12 v22 v23 v29 v58 v61 v73 v87 cst_24 x1 x2 G7 G8 (i 2).val) 0 := by
  have : ∀ t : ℕ, t ≤ (i 2).val → Taken i z0 z1 V (st7 c i arg3 harg3 arg4 harg4 arg5 harg5 arg6 harg6 arg7 harg7 arg8 harg8 arg2 v1 v7 v12 v22 v23 v29 v58 v61 v73 v87 cst_24 x1 x2 G7 G8 t) (st8 c i arg3 harg3 arg4 harg4 arg5 harg5 arg6 harg6 arg7 harg7 arg8 harg8 arg2 v1 v7 v12 v22 v23 v29 v58 v61 v73 v87 cst_24 x1 x2 G7 G8 t) (256 * ((i 2).val - t)) := by
    intro t
    induction t with
    | zero => exact fun _ => h
    | succ t ih => exact fun ht => step c i arg3 harg3 arg4 harg4 arg5 harg5 arg6 harg6 arg7 harg7 arg8 harg8 arg2 v1 v7 v12 v22 v23 v29 v58 v61 v73 v87 cst_24 x1 x2 G7 G8 z0 z1 V hz0 hz1 hV ⟨t, (trips_eq i).symm ▸ ht⟩ (ih (by omega))
  simpa using this _ le_rfl

end Loop

section Body

variable (c : Dev nD) (i : grid0.Coords) (arg3 : Memref sig .tc .vmem S256x128 .bf16) (harg3 : arg3.IsWhole)
  (arg4 : Memref sig .tc .vmem S8192x128 .bf16) (harg4 : arg4.IsWhole)
  (arg5 : Memref sig .tc .vmem S8192x128 .bf16) (harg5 : arg5.IsWhole)
  (arg6 : Memref sig .tc .vmem S256x128 .bf16) (harg6 : arg6.IsWhole)
  (arg7 : Memref sig .tc .vmem S2x256x128 .f32) (harg7 : arg7.IsWhole)
  (arg8 : Memref sig .tc .vmem S2x256x1 .f32) (harg8 : arg8.IsWhole)
  (x0 : Vec Ideal S256x128 .bf16) (x1 x2 : Vec Ideal S8192x128 .bf16)
  (z0 z1 : Fin 256 → ℕ → ℝ) (V : ℕ → Fin 128 → EReal)
  (hz0 : ∀ (r : Fin 256) (k : Fin 8192), ∑ d : Fin 128, (k0_pay33 (F := Ideal) x0 (ix2 r d) : EReal) * x1 (ix2 k d) = ((z0 r k.val : ℝ) : EReal))
  (hz1 : ∀ (r : Fin 256) (k : Fin 8192), ∑ d : Fin 128, (k0_pay34 (F := Ideal) x0 (ix2 r d) : EReal) * x1 (ix2 k d) = ((z1 r k.val : ℝ) : EReal))
  (hV : ∀ (k : Fin 8192) (l : Fin 128), (x2 (ix2 k l) : EReal) = V k.val l)

/-- The queries' own block of keys (the values likewise). -/
def oblk (x : FVec Ideal S8192x128 .bf16) : FVec Ideal S256x128 .bf16 :=
  View.ld (Val := Elt Ideal) (e' := .bf16) (S := S8192x128) x (Rect.unit (k0_off1 i) S256x128.size (k0_off1_inb i))

/-- A key of the queries' own block is the key that many rows into the batch's keys. -/
theorem oblk_at (x : FVec Ideal S8192x128 .bf16) (r : Fin 256) (l : Fin 128) (h : 256 * (i 2).val + r.val < 8192) :
    oblk i x (ix2 r l) = x (ix2 ⟨256 * (i 2).val + r.val, h⟩ l) :=
  block_at x (k0_off1_inb i) _ (k0_off1_eq i) r l h

include hz0 hz1 hV in
/-- The writes of the queries' own block leave that block taken in. -/
theorem own (f7 : BufTy.Contents (Elt Ideal) arg7.view.ty) (f8 : BufTy.Contents (Elt Ideal) arg8.view.ty) :
    Taken i z0 z1 V
      (arg7.view.read (Elt Ideal) (arg7.view.writes (Elt Ideal) f7
        [⟨Rect.unit ![1, 0, 0] ![1, 256, 128] inb_S2x256x128_S1x256x128_1_0_0,
          k0_pay51 (F := Ideal) k0_pay36 (oblk i x2) (k0_pay48 (k0_pay34 x0) k0_pay35 k0_pay37 (oblk i x1) k0_pay38) (constant S256x128 FTy.f32 0#32)⟩,
         ⟨Rect.unit ![0, 0, 0] ![1, 256, 128] inb_S2x256x128_S1x256x128_0_0_0,
          k0_pay49 (F := Ideal) (k0_pay43 k0_pay35 k0_pay36 k0_pay37 (oblk i x2) k0_pay38 (k0_pay40 x0 (oblk i x1)) (k0_pay41 x0 (oblk i x1)) (FloatOps.ofBits FTy.f32 0#32))⟩]))
      (arg8.view.read (Elt Ideal) (arg8.view.writes (Elt Ideal) f8
        [⟨Rect.unit ![1, 0, 0] ![1, 256, 1] inb_S2x256x1_S1x256x1_1_0_0, k0_pay52 (F := Ideal) k0_pay37 (k0_pay47 (k0_pay34 x0) (oblk i x1) k0_pay38)⟩,
         ⟨Rect.unit ![0, 0, 0] ![1, 256, 1] inb_S2x256x1_S1x256x1_0_0_0, k0_pay50 (F := Ideal) (k0_pay44 k0_pay37 k0_pay38 (k0_pay41 x0 (oblk i x1)) (FloatOps.ofBits FTy.f32 0#32))⟩]))
      (256 * (i 2).val) := by
  have hn : (i 2).val < 32 := (i 2).isLt
  have hlt : ∀ r : Fin 256, 256 * (i 2).val + r.val < 8192 := fun r => by have := r.isLt; omega
  have hb : 256 * (i 2).val + 256 ≤ 8192 := by omega
  have hq0 : ∀ r r' : Fin 256, ∑ d : Fin 128, (k0_pay33 (F := Ideal) x0 (ix2 r d) : EReal) * oblk i x1 (ix2 r' d) = ((z0 r (256 * (i 2).val + r'.val) : ℝ) : EReal) :=
    fun r r' => (Finset.sum_congr rfl fun d _ => by rw [oblk_at i x1 r' d (hlt r')]).trans (hz0 r ⟨_, hlt r'⟩)
  have hq1 : ∀ r r' : Fin 256, ∑ d : Fin 128, (k0_pay34 (F := Ideal) x0 (ix2 r d) : EReal) * oblk i x1 (ix2 r' d) = ((z1 r (256 * (i 2).val + r'.val) : ℝ) : EReal) :=
    fun r r' => (Finset.sum_congr rfl fun d _ => by rw [oblk_at i x1 r' d (hlt r')]).trans (hz1 r ⟨_, hlt r'⟩)
  have hv : ∀ (r : Fin 256) (l : Fin 128), (oblk i x2 (ix2 r l) : EReal) = V (256 * (i 2).val + r.val) l :=
    fun r l => by rw [oblk_at i x2 r l (hlt r)]; exact hV ⟨_, hlt r⟩ l
  refine ⟨fun r l => ?_, fun r l => ?_, fun r => ?_, fun r => ?_⟩
  · refine ((slabs7 arg7 f7 _ _ [] r l).2).trans ?_
    refine Eq.trans (dacc0_at x0 (oblk i x1) (oblk i x2) (fun r => 256 * (i 2).val + r.val) z0 (256 * (i 2).val) (fun r => rfl) hb hq0 r l) ?_
    simp only [hv]
    exact sum_block (fun k => ((wt (256 * (i 2).val + r.val) (z0 r) k : ℝ) : EReal) * V k l) _
  · refine ((slabs7 arg7 f7 _ _ [] r l).1).trans ?_
    have key := dacc1_at (oblk i x1) (oblk i x2) (fun r => 256 * (i 2).val + r.val) z1 (256 * (i 2).val) (fun r => rfl) hb (k0_pay34 (F := Ideal) x0) hq1 r l
    refine key.trans ?_
    simp only [hv]
    exact sum_block (fun k => ((wt (256 * (i 2).val + r.val) (z1 r) k : ℝ) : EReal) * V k l) _
  · exact ((slabs8 arg8 f8 _ _ [] r).2).trans (dsuf0_at x0 (oblk i x1) (fun r => 256 * (i 2).val + r.val) z0 (256 * (i 2).val) (fun r => rfl) hq0 r)
  · exact ((slabs8 arg8 f8 _ _ [] r).1).trans (dsuf1_at (oblk i x1) (fun r => 256 * (i 2).val + r.val) z1 (256 * (i 2).val) (fun r => rfl) (k0_pay34 (F := Ideal) x0) hq1 r)

include hz0 hz1 hV in
/-- The output block: each query's values weighted by the sticks broken off, summed over the keys up to its block's end;
    the lanes below 64 by the first head's weights, the others by the second's. -/
theorem out_at (r : Fin 256) (l : Fin 128) :
    (out0_A_3 (F := Ideal) c i arg3 harg3 arg4 harg4 arg5 harg5 arg6 harg6 arg7 harg7 arg8 harg8 x0 x1 x2 (ix2 r l) : EReal)
      = ∑ k ∈ Ico 0 (256 * (i 2).val + 256),
          ((wt (256 * (i 2).val + r.val) (if l.val < 64 then z0 r else z1 r) k : ℝ) : EReal) * V k l := by
  obtain ⟨zz, hzz⟩ : ∃ zz, zz = if l.val < 64 then z0 r else z1 r := ⟨_, rfl⟩
  rw [← hzz]
  have hown := own i arg7 arg8 x0 x1 x2 z0 z1 V hz0 hz1 hV arg7.view.junk arg8.view.junk
  have hend := fun v22 v23 v58 v61 v73 v87 cst => loop c i arg3 harg3 arg4 harg4 arg5 harg5 arg6 harg6 arg7 harg7 arg8 harg8
    (BitVec.ofNat 32 (i 2).val) (iota .tc S1x128 32 [1] iota_S1x128_d1_w32) (k0_pay33 (F := Ideal) x0) (k0_pay34 (F := Ideal) x0)
    v22 v23 (oblk i x2) v58 v61 v73 v87 cst x1 x2 _ _ z0 z1 V hz0 hz1 hV hown
  have t1 : Scf.trips (0#32) (Scalar.addi (0#32)
    (Scalar.muli (Scalar.divsi (Scalar.subi (BitVec.ofNat 32 (i 2).val) 0#32) 1#32) 1#32)) 1#32 = (i 2).val := trips_eq i
  have t2 : Scf.trips (Scalar.addi (0#32) (Scalar.muli (Scalar.divsi (Scalar.subi (BitVec.ofNat 32 (i 2).val) 0#32) 1#32) 1#32))
    (Scalar.addi (0#32) (Scalar.subi (BitVec.ofNat 32 (i 2).val) 0#32)) 1#32 = 0 := trips2_eq i
  unfold out0_A_3
  rw [View.read_writes_eq_canon _ _ _ (cover0_A_3 c i arg3 harg3 arg4 harg4 arg5 harg5 arg6 harg6 arg7 harg7 arg8 harg8 x0 x1 x2)]
  unfold kernelRun0_A; dsimp only; sl_unfold_words
  simp only [View.readAt_eq_ld, harg3.read_unread, harg4.read_unread, harg5.read_unread]
  have hz : (![0, 0] : Fin 2 → ℕ) = fun _ => 0 := by decide
  have hx0 : View.ld (Val := Elt Ideal) (e' := .bf16) (S := S256x128) x0 (Rect.unit ![0, 0] ![256, 128] inb_S256x128_S256x128_0_0) = x0 :=
    View.ld_unit_zero (S := S256x128) hz _ _
  rw [View.canon_unit_zero (S := S256x128) hz, joined_at]
  simp only [t1, t2, pb_k0_t2.eq_1, List.nil_append, hx0]
  have hlast : ∀ (L L' : List (View.Piece (Elt Ideal) S2x256x128 .f32)) (e : Fin 2)
      {off : Fin 3 → ℕ} (inb : ∀ a, off a + S1x256x128.size a ≤ S2x256x128.size a) (h : off = ![e.val, 0, 0]),
      arg7.view.readCov (L ++ L') (Rect.unit (s := S2x256x128) off S1x256x128.size inb).toLoadRect
        = hd7 (arg7.view.read (Elt Ideal) (arg7.view.writes (Elt Ideal) (arg7.view.writes (Elt Ideal) arg7.view.junk L') L)) e := by
    intro L L' e off inb h; rw [← View.writes_append]; exact ld7_eq _ e inb h
  have h57 : ∀ y : FVec Ideal S2x256x128 .f32, (k0_pay57 (F := Ideal) (hd7 y 0) (ix2 r l) : EReal) = y (ix3 0 r l) := by
    intro y; pointwise [k0_pay57]; rfl
  have h58 : ∀ y : FVec Ideal S2x256x128 .f32, (k0_pay58 (F := Ideal) (hd7 y 1) (ix2 r l) : EReal) = y (ix3 1 r l) := by
    intro y; pointwise [k0_pay58]; rfl
  by_cases hl : l.val < 64
  · rw [if_pos hl] at hzz; subst hzz
    refine (if_pos hl).trans ?_
    refine Eq.trans (congrArg (fun t => k0_pay57 (F := Ideal) t (ix2 r l)) (hlast _ _ 0 inb_S2x256x128_S1x256x128_0_0_0 rfl)) ?_
    refine Eq.trans (h57 _) ?_
    exact (hend _ _ _ _ _ _ _).a0 r l
  · rw [if_neg hl] at hzz; subst hzz
    refine (if_neg hl).trans ?_
    refine Eq.trans (congrArg (fun t => k0_pay58 (F := Ideal) t (ix2 r l)) (hlast _ _ 1 inb_S2x256x128_S1x256x128_1_0_0 rfl)) ?_
    refine Eq.trans (h58 _) ?_
    exact (hend _ _ _ _ _ _ _).a1 r l

end Body

end Cert.KernelIdeal.SbRun

end
-- ==== Proof.SbRef.lean ====
/-
  The reference attention at one element: the query's stick-breaking weights, summed against the values.
-/
module

public import proofs.«01_k».proof.Proof.Gen.ReferenceIdeal.Read
public import proofs.«01_k».proof.Proof.SbMath
public import Idealize.ShloMosaic.Lib.WordCmp

@[expose] public section

set_option maxRecDepth 16384

noncomputable section

namespace Cert.ReferenceIdeal.SbRef

open Cert.ReferenceIdeal Cert.ReferenceIdeal.Gen Cert.ReferenceIdeal.Read Cert.SbMath
open Idealize.ShloMosaic Idealize.ShloMosaic.TcCoe Idealize.ShloMosaic.ValueIdx Idealize.SL.Sem Finset

/-! ## A running sum along the last axis -/

/-- A left fold that adds is the sum. -/
theorem foldl_add_sum {ι : Type} (g : ι → EReal) (l : List ι) (a : EReal) :
    l.foldl (fun r n => r + g n) a = a + (l.map g).sum := by
  induction l generalizing a with
  | nil => simp
  | cons x l ih => rw [List.foldl_cons, ih, List.map_cons, List.sum_cons, add_assoc]

/-- A window of `N + 1` positions padded `N` low, at position `k`, holds the elements up to `k`. -/
theorem window_sum (f : ℕ → ℝ) {N k : ℕ} (hk : k ≤ N) :
    ∑ n ∈ range (N + 1), (if N ≤ k + n then f (k + n - N) else 0) = ∑ j ∈ range (k + 1), f j := by
  rw [range_eq_Ico, ← Finset.sum_Ico_consecutive _ (Nat.zero_le (N - k)) (by omega : N - k ≤ N + 1),
    Finset.sum_eq_zero (fun n hn => if_neg (by have := mem_Ico.1 hn; omega)), zero_add, Finset.sum_Ico_eq_sum_range,
    show N + 1 - (N - k) = k + 1 by omega]
  refine Finset.sum_congr rfl fun j hj => ?_
  rw [if_pos (by omega)]
  exact congrArg f (by omega)

/-- The one row of the window shape. -/
def winEquiv : Fin 8192 ≃ (⟨4, ![1, 1, 1, 8192]⟩ : Shape).Idx where
  toFun n := ix4 0 0 0 n
  invFun w := w 3
  left_inv _ := rfl
  right_inv w := by
    funext a
    match a with
    | ⟨0, _⟩ => exact Fin.ext (by have h : (w 0).val < 1 := (w 0).isLt; show 0 = (w 0).val; omega)
    | ⟨1, _⟩ => exact Fin.ext (by have h : (w 1).val < 1 := (w 1).isLt; show 0 = (w 1).val; omega)
    | ⟨2, _⟩ => exact Fin.ext (by have h : (w 2).val < 1 := (w 2).isLt; show 0 = (w 2).val; omega)
    | ⟨3, _⟩ => rfl

/-- The running sum along the last axis, of a row of reals. -/
theorem cumsum_at (x : FVec Ideal S8x16x8192x8192 .f32) (init : FVec Ideal S_ .f32) (hi : ∀ i, (init i : EReal) = 0)
    (b : Fin 8) (h : Fin 16) (s : Fin 8192) (f : ℕ → ℝ) (hx : ∀ j : Fin 8192, (x (ix4 b h s j) : EReal) = ((f j.val : ℝ) : EReal))
    (k : Fin 8192) :
    (Host.reduceWindowAdd ![1, 1, 1, 8192] ![1, 1, 1, 1] ![0, 0, 0, 8191] ![0, 0, 0, 0] x init
      reduceWindows_S8x16x8192x8192_S8x16x8192x8192_w1s1p0_0_w1s1p0_0_w1s1p0_0_w8192s1p8191_0 h_S_ (ix4 b h s k) : EReal)
      = ((∑ j ∈ range (k.val + 1), f j : ℝ) : EReal) := by
  unfold Host.reduceWindowAdd
  rw [Ideal.hostReduceWindowAdd_def]
  unfold Ideal.hostReduceWindowAdd Host.reduceWindow
  dsimp only
  rw [foldl_add_sum, hi, zero_add, ← Fin.sum_univ_def]
  rw [← Equiv.sum_comp (winEquiv.trans (⟨4, ![1, 1, 1, 8192]⟩ : Shape).rowMajor)]
  simp only [Equiv.trans_apply, Equiv.symm_apply_apply]
  rw [← window_sum f (N := 8191) (Nat.le_of_lt_succ k.isLt), ← Fin.sum_univ_eq_sum_range (fun n => if 8191 ≤ k.val + n then f (k.val + n - 8191) else 0) (8191 + 1), ← coe_sum]
  refine Finset.sum_congr rfl fun n _ => ?_
  have hn := n.isLt
  have hk := k.isLt
  have hb := b.isLt
  have hh := h.isLt
  have hs := s.isLt
  by_cases hc : 8191 ≤ k.val + n.val
  · rw [if_pos hc, dif_pos]
    · refine Eq.trans (congrArg x ?_) (hx ⟨k.val + n.val - 8191, by omega⟩)
      funext a
      refine Fin.ext ?_
      match a with
      | ⟨0, _⟩ => show b.val * 1 + 0 - 0 = b.val; omega
      | ⟨1, _⟩ => show h.val * 1 + 0 - 0 = h.val; omega
      | ⟨2, _⟩ => show s.val * 1 + 0 - 0 = s.val; omega
      | ⟨3, _⟩ => show k.val * 1 + n.val - 8191 = k.val + n.val - 8191; omega
    · intro a
      match a with
      | ⟨0, _⟩ => show 0 ≤ b.val * 1 + 0 ∧ b.val * 1 + 0 - 0 < 8; omega
      | ⟨1, _⟩ => show 0 ≤ h.val * 1 + 0 ∧ h.val * 1 + 0 - 0 < 16; omega
      | ⟨2, _⟩ => show 0 ≤ s.val * 1 + 0 ∧ s.val * 1 + 0 - 0 < 8192; omega
      | ⟨3, _⟩ => show 8191 ≤ k.val * 1 + n.val ∧ k.val * 1 + n.val - 8191 < 8192; omega
  · rw [if_neg hc, dif_neg]
    · rfl
    · intro hin
      have h3 : 8191 ≤ k.val * 1 + n.val := (hin 3).1
      omega

/-! ## The row of a query -/

section Row

variable (x0 x1 x2 : (⟨S65536x1024, .bf16⟩ : BufTy).Contents (Elt Ideal)) (b : Fin 8) (h : Fin 16) (s : Fin 8192) (z : ℕ → ℝ)
  (hz : ∀ k : Fin 8192, (val_main_v10 (F := Ideal) x0 x1 (ix4 b h s k) : EReal) = ((z k.val : ℝ) : EReal))

include hz in
/-- The log-sigmoid of a score. -/
theorem ls_at (k : Fin 8192) : (val_main_v22 (F := Ideal) x0 x1 (ix4 b h s k) : EReal) = ((ls (z k.val) : ℝ) : EReal) := by
  have e4 : val_main_call3_call0_v4 (F := Ideal) x0 x1 (ix4 b h s k) = 0#1 := by
    rw [val_main_call3_call0_v4_apply, Ideal.cmpf_def]; simp [Ideal.cmp]
  rw [val_main_v22_apply, val_main_call3_v1_apply, e4]
  show -(val_main_call3_call0_v11 (F := Ideal) x0 x1 (ix4 b h s k) : EReal) = _
  rw [val_main_call3_call0_v11_apply, val_main_call3_call0_v1_apply, val_main_call3_call0_v10_apply, val_main_call3_call0_v9_apply,
    val_main_call3_call0_v8_apply, val_main_call3_call0_v7_apply, val_main_call3_call0_v3_apply, val_main_call3_v0_apply,
    val_main_call3_call0_v0_apply, val_main_call3_call0_v2_apply, val_main_call3_call0_cst_apply]
  rw [← softplus_coe, ← hz k]
  simp only [Ideal.hostNegf_def, Ideal.ofBits_def, Ideal.ofBits_zero_f32]
  rfl

include hz in
/-- The log-sigmoid of minus a score. -/
theorem lsneg_at (k : Fin 8192) : (val_main_v17 (F := Ideal) x0 x1 (ix4 b h s k) : EReal) = ((ls (z k.val) - z k.val : ℝ) : EReal) := by
  have e4 : val_main_call0_call0_v4 (F := Ideal) x0 x1 (ix4 b h s k) = 0#1 := by
    rw [val_main_call0_call0_v4_apply, Ideal.cmpf_def]; simp [Ideal.cmp]
  rw [val_main_v17_apply, val_main_call0_v1_apply, e4]
  show -(val_main_call0_call0_v11 (F := Ideal) x0 x1 (ix4 b h s k) : EReal) = _
  rw [val_main_call0_call0_v11_apply, val_main_call0_call0_v1_apply, val_main_call0_call0_v10_apply, val_main_call0_call0_v9_apply,
    val_main_call0_call0_v8_apply, val_main_call0_call0_v7_apply, val_main_call0_call0_v3_apply, val_main_call0_v0_apply,
    val_main_call0_call0_v0_apply, val_main_call0_call0_v2_apply, val_main_call0_call0_cst_apply, val_main_v16_apply]
  rw [← ls_neg, ← softplus_coe, EReal.coe_neg, ← hz k]
  simp only [Ideal.hostNegf_def, Ideal.ofBits_def, Ideal.ofBits_zero_f32]
  rfl

/-- The mask: set where the key is before the query. -/
theorem mask_at (k : Fin 8192) (i : S8192x8192.Idx) (hi0 : (i 0).val = s.val) (hi1 : (i 1).val = k.val) :
    val_main_v15 (F := Ideal) i = BitVec.ofBool (decide (k.val < s.val)) := by
  rw [val_main_v15_apply, val_main_v13_apply, val_main_v14_apply, val_main_v11_apply, val_main_v12_apply, val_main_v9_apply, val_main_v9_apply]
  show IntOp.cmpi .slt (BitVec.ofNat 32 (i 1).val) (BitVec.ofNat 32 (i 0).val) = _
  rw [hi0, hi1]
  have := k.isLt; have := s.isLt
  word_cmp

include hz in
/-- The masked log of what a key leaves of the stick. -/
theorem lg_at (k : Fin 8192) : (val_main_v18 (F := Ideal) x0 x1 (ix4 b h s k) : EReal) = ((lg s.val z k.val : ℝ) : EReal) := by
  rw [val_main_v18_apply, val_main_call1_v1_apply, mask_at s k _ rfl rfl, val_main_call1_v2_apply, val_main_call1_v0_apply, val_main_cst_apply]
  unfold lg
  by_cases hc : k.val < s.val
  · rw [decide_eq_true hc, if_pos hc]; exact lsneg_at x0 x1 b h s z hz k
  · rw [decide_eq_false hc, if_neg hc]; exact Ideal.ofBits_zero_f32

include hz in
/-- The running sum of the row's logs. -/
theorem csum_at (k : Fin 8192) : (val_main_v19 (F := Ideal) x0 x1 (ix4 b h s k) : EReal) = ((∑ j ∈ range (k.val + 1), lg s.val z j : ℝ) : EReal) :=
  cumsum_at _ _ (fun i => by rw [val_main_call2_call0_v0_apply, val_main_call2_call0_cst_apply]; exact Ideal.ofBits_zero_f32)
    b h s (lg s.val z) (lg_at x0 x1 b h s z hz) k

include hz in
/-- The row's whole sum of logs, beside every key. -/
theorem tot_at (k : Fin 8192) : (val_main_v24 (F := Ideal) x0 x1 (ix4 b h s k) : EReal) = ((∑ j ∈ range 8192, lg s.val z j : ℝ) : EReal) := by
  rw [val_main_v24_apply, val_main_v23_apply, val_main_v21_apply, val_main_v20_apply]
  refine Eq.trans (congrArg (val_main_v19 (F := Ideal) x0 x1) ?_) (csum_at x0 x1 b h s z hz ⟨8191, by omega⟩)
  have := b.isLt; have := h.isLt; have := s.isLt
  funext a
  refine Fin.ext ?_
  match a with
  | ⟨0, _⟩ => show ((b.val * 16 + h.val) * 8192 + s.val) / 131072 = b.val; omega
  | ⟨1, _⟩ => show ((b.val * 16 + h.val) * 8192 + s.val) / 8192 % 16 = h.val; omega
  | ⟨2, _⟩ => show ((b.val * 16 + h.val) * 8192 + s.val) / 1 % 8192 = s.val; omega
  | ⟨3, _⟩ => rfl

include hz in
/-- The weight of a key. -/
theorem wt_at (k : Fin 8192) : (val_main_v28 (F := Ideal) x0 x1 (ix4 b h s k) : EReal) = ((wt s.val z k.val : ℝ) : EReal) := by
  rw [val_main_v28_apply, val_main_call4_v1_apply, mask_at s k _ rfl rfl, val_main_call4_v2_apply, val_main_call4_v0_apply, val_main_cst_0_apply]
  unfold wt
  by_cases hc : k.val < s.val
  · rw [decide_eq_true hc, if_pos hc]
    show val_main_v27 (F := Ideal) x0 x1 (ix4 b h s k) = _
    rw [val_main_v27_apply, val_main_v26_apply, val_main_v25_apply]
    show Ideal.exp ((val_main_v22 (F := Ideal) x0 x1 (ix4 b h s k) : EReal)
      + ((val_main_v24 (F := Ideal) x0 x1 (ix4 b h s k) : EReal) - val_main_v19 (F := Ideal) x0 x1 (ix4 b h s k))) = _
    rw [ls_at x0 x1 b h s z hz, tot_at x0 x1 b h s z hz, csum_at x0 x1 b h s z hz, ← EReal.coe_sub, ← EReal.coe_add, Ideal.exp_coe,
      Finset.sum_Ico_eq_sub _ (by have := k.isLt; omega : k.val + 1 ≤ 8192)]
  · rw [decide_eq_false hc, if_neg hc]; exact Ideal.ofBits_zero_f32

include hz in
/-- The attention's output before it is put back in place: the values weighted, summed over all keys. -/
theorem out_at (d : Fin 64) : (val_main_v29 (F := Ideal) x0 x1 x2 (ix4 b h s d) : EReal)
    = ∑ k : Fin 8192, ((wt s.val z k.val : ℝ) : EReal) * val_main_v8 (F := Ideal) x2 (ix4 b h k d) := by
  rw [val_main_v29_apply]
  refine Finset.sum_congr rfl fun k _ => ?_
  refine congrArg₂ (· * ·) ((congrArg (val_main_v28 (F := Ideal) x0 x1) ?_).trans (wt_at x0 x1 b h s z hz k)) (congrArg (val_main_v8 (F := Ideal) x2) ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

end Row

/-! ## The arguments seen by batch, head and position -/

/-- A flat array's element at a batch's position and a head's lane. -/
theorem split_at (x : (⟨S65536x1024, .bf16⟩ : BufTy).Contents (Elt Ideal)) (b : Fin 8) (h : Fin 16) (s : Fin 8192) (d : Fin 64)
    (i : S65536x1024.Idx) (h0 : (i 0).val = b.val * 8192 + s.val) (h1 : (i 1).val = h.val * 64 + d.val) :
    (val_main_v2 (F := Ideal) x (ix4 b h s d) : EReal) = x i ∧ (val_main_v5 (F := Ideal) x (ix4 b h s d) : EReal) = x i
      ∧ (val_main_v8 (F := Ideal) x (ix4 b h s d) : EReal) = x i := by
  have := b.isLt; have := h.isLt; have := s.isLt; have := d.isLt
  have hi : ∀ j : S65536x1024.Idx, (j 0).val = (((b.val * 8192 + s.val) * 16 + h.val) * 64 + d.val) / 1024 →
      (j 1).val = (((b.val * 8192 + s.val) * 16 + h.val) * 64 + d.val) % 1024 → j = i := by
    intro j j0 j1
    funext a
    refine Fin.ext ?_
    match a with
    | ⟨0, _⟩ => show (j 0).val = (i 0).val; rw [j0, h0]; omega
    | ⟨1, _⟩ => show (j 1).val = (i 1).val; rw [j1, h1]; omega
  refine ⟨?_, ?_, ?_⟩
  · rw [val_main_v2_apply, val_main_v1_apply, val_main_v0_apply]; exact congrArg x (hi _ rfl rfl)
  · rw [val_main_v5_apply, val_main_v4_apply, val_main_v3_apply]; exact congrArg x (hi _ rfl rfl)
  · rw [val_main_v8_apply, val_main_v7_apply, val_main_v6_apply]; exact congrArg x (hi _ rfl rfl)

/-- The flat position of a batch's row and a head's lane. -/
def flat (b : Fin 8) (h : Fin 16) (s : Fin 8192) (d : Fin 64) : S65536x1024.Idx :=
  ix2 ⟨b.val * 8192 + s.val, by have := b.isLt; have := s.isLt; omega⟩ ⟨h.val * 64 + d.val, by have := h.isLt; have := d.isLt; omega⟩

/-- A score: a query's row times a key's row, in one head. -/
theorem score_at (x0 x1 : (⟨S65536x1024, .bf16⟩ : BufTy).Contents (Elt Ideal)) (b : Fin 8) (h : Fin 16) (s k : Fin 8192) :
    (val_main_v10 (F := Ideal) x0 x1 (ix4 b h s k) : EReal) = ∑ d : Fin 64, (x0 (flat b h s d) : EReal) * x1 (flat b h k d) := by
  rw [val_main_v10_apply]
  refine Finset.sum_congr rfl fun d _ => ?_
  refine congrArg₂ (· * ·) (Eq.trans (congrArg (val_main_v2 (F := Ideal) x0) ?_) (split_at x0 b h s d (flat b h s d) rfl rfl).1)
    (Eq.trans (congrArg (val_main_v5 (F := Ideal) x1) ?_) (split_at x1 b h k d (flat b h k d) rfl rfl).2.1)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- The reference's result at a batch's row and a head's lane: the stick-breaking weights of the row's scores, summed
    against the batch's values in that lane. -/
theorem result_at (x0 x1 x2 : (⟨S65536x1024, .bf16⟩ : BufTy).Contents (Elt Ideal)) (b : Fin 8) (h : Fin 16) (s : Fin 8192) (d : Fin 64)
    (z : ℕ → ℝ) (hz : ∀ k : Fin 8192, ∑ d : Fin 64, (x0 (flat b h s d) : EReal) * x1 (flat b h k d) = ((z k.val : ℝ) : EReal)) :
    (val_main_v32 (F := Ideal) x0 x1 x2 (flat b h s d) : EReal)
      = ∑ k : Fin 8192, ((wt s.val z k.val : ℝ) : EReal) * x2 (flat b h k d) := by
  rw [val_main_v32_apply, val_main_v31_apply, val_main_v30_apply]
  show val_main_v29 (F := Ideal) x0 x1 x2 _ = _
  have := b.isLt; have := h.isLt; have := s.isLt; have := d.isLt
  refine Eq.trans (congrArg (val_main_v29 (F := Ideal) x0 x1 x2) ?_)
    ((out_at x0 x1 x2 b h s z (fun k => (score_at x0 x1 b h s k).trans (hz k)) d).trans
      (Finset.sum_congr rfl fun k _ => congrArg _ (split_at x2 b h k d (flat b h k d) rfl rfl).2.2))
  funext a
  refine Fin.ext ?_
  match a with
  | ⟨0, _⟩ => show ((b.val * 8192 + s.val) * 1024 + (h.val * 64 + d.val)) / 8388608 = b.val; omega
  | ⟨1, _⟩ => show ((b.val * 8192 + s.val) * 1024 + (h.val * 64 + d.val)) / 64 % 16 = h.val; omega
  | ⟨2, _⟩ => show ((b.val * 8192 + s.val) * 1024 + (h.val * 64 + d.val)) / 1024 % 8192 = s.val; omega
  | ⟨3, _⟩ => show ((b.val * 8192 + s.val) * 1024 + (h.val * 64 + d.val)) % 64 = d.val; omega

end Cert.ReferenceIdeal.SbRef

end
-- ==== Proof.SbValue.lean ====
/-
  The attention kernel's result array and the reference's, element by element: each is the query's stick-breaking weights
  summed against the values, the kernel's over the keys up to its block's end, the reference's over all.
-/
module

public import proofs.«01_k».proof.Proof.Gen.KernelIdeal.Value
public import proofs.«01_k».proof.Proof.SbRun
public import proofs.«01_k».proof.Proof.SbRef
public import Idealize.ShloMosaic.Lib.Pipeline.Covers

@[expose] public section

set_option maxRecDepth 16384

noncomputable section

namespace Cert.KernelIdeal.SbValue

open Cert.KernelIdeal Cert.KernelIdeal.Gen Cert.KernelIdeal.SbPay Cert.SbMath Cert.ReferenceIdeal.SbRef
open Idealize.ShloMosaic Idealize.ShloMosaic.TcCoe Idealize.SL.Sem Finset
open Cert.ReferenceIdeal.Read (val_main_v32)

/-! ## Sums -/

/-- A sum over 128 lanes of which the upper 64 hold zero. -/
theorem sum_low (f : Fin 128 → EReal) :
    ∑ d : Fin 128, (if d.val < 64 then f d else 0) = ∑ d : Fin 64, f ⟨d.val, by have := d.isLt; omega⟩ := by
  rw [Fin.sum_univ_add (a := 64) (b := 64) (fun d : Fin 128 => if d.val < 64 then f d else 0),
    Finset.sum_eq_zero (s := univ (α := Fin 64)) (f := fun d => if (Fin.natAdd 64 d : Fin 128).val < 64 then f (Fin.natAdd 64 d) else 0)
      (fun d _ => if_neg (by rw [Fin.val_natAdd]; omega)), add_zero]
  exact Finset.sum_congr rfl fun d _ => if_pos (by rw [Fin.val_castAdd]; exact d.isLt)

/-- A sum over 128 lanes of which the lower 64 hold zero. -/
theorem sum_high (f : Fin 128 → EReal) :
    ∑ d : Fin 128, (if d.val < 64 then 0 else f d) = ∑ d : Fin 64, f ⟨64 + d.val, by have := d.isLt; omega⟩ := by
  rw [Fin.sum_univ_add (a := 64) (b := 64) (fun d : Fin 128 => if d.val < 64 then 0 else f d),
    Finset.sum_eq_zero (s := univ (α := Fin 64)) (f := fun d => if (Fin.castAdd 64 d : Fin 128).val < 64 then 0 else f (Fin.castAdd 64 d))
      (fun d _ => if_pos (by rw [Fin.val_castAdd]; exact d.isLt)), zero_add]
  exact Finset.sum_congr rfl fun d _ => if_neg (by rw [Fin.val_natAdd]; omega)

/-- A weighted sum over the keys up to a bound past the query is one over all keys. -/
theorem sum_all (row n : ℕ) (hn : row ≤ n) (h : n ≤ 8192) (z : ℕ → ℝ) (V : ℕ → EReal) :
    ∑ k ∈ Ico 0 n, ((wt row z k : ℝ) : EReal) * V k = ∑ k : Fin 8192, ((wt row z k.val : ℝ) : EReal) * V k.val := by
  rw [Fin.sum_univ_eq_sum_range (fun k => ((wt row z k : ℝ) : EReal) * V k) 8192, range_eq_Ico,
    ← sum_Ico_consecutive _ (Nat.zero_le n) h, sum_eq_zero (s := Ico n 8192), add_zero]
  intro k hk
  unfold wt
  rw [if_neg (by have := (mem_Ico.mp hk).1; omega), EReal.coe_zero, zero_mul]

/-! ## One block -/

section Block

variable (q k v : (⟨Cert.ReferenceIdeal.S65536x1024, .bf16⟩ : BufTy).Contents (Elt Ideal)) (qr kr : Cert.ReferenceIdeal.S65536x1024.Idx → ℝ)
  (hq : ∀ i, (q i : EReal) = ((qr i : ℝ) : EReal)) (hk : ∀ i, (k i : EReal) = ((kr i : ℝ) : EReal))

/-- A score of the batch's query at a position and its key at another, in one head, as a real. -/
def score (b : Fin 8) (h : Fin 16) (s : Fin 8192) (j : ℕ) : ℝ :=
  ∑ d : Fin 64, qr (flat b h s d) * kr (flat b h ⟨j % 8192, Nat.mod_lt _ (by decide)⟩ d)

include hq hk in
/-- The product of a query's row and a key's, in one head, is the score. -/
theorem score_eq (b : Fin 8) (h : Fin 16) (s j : Fin 8192) :
    ∑ d : Fin 64, (q (flat b h s d) : EReal) * k (flat b h j d) = ((score qr kr b h s j.val : ℝ) : EReal) := by
  unfold score
  rw [← coe_sum]
  refine Finset.sum_congr rfl fun d _ => ?_
  rw [hq, hk, ← EReal.coe_mul, show (⟨j.val % 8192, Nat.mod_lt _ (by decide)⟩ : Fin 8192) = j from Fin.ext (Nat.mod_eq_of_lt j.isLt)]

/-- The flat position of a batch's row and a lane of a group of 128. -/
def place (b g : Fin 8) (s : Fin 8192) (l : Fin 128) : Cert.ReferenceIdeal.S65536x1024.Idx :=
  ix2 ⟨b.val * 8192 + s.val, by have := b.isLt; have := s.isLt; omega⟩ ⟨g.val * 128 + l.val, by have := g.isLt; have := l.isLt; omega⟩

/-- A lane of a group of 128 is a lane of one of the group's two heads. -/
theorem place_eq (b g : Fin 8) (s : Fin 8192) (l : Fin 128) (h : Fin 16) (d : Fin 64) (e : g.val * 128 + l.val = h.val * 64 + d.val) :
    place b g s l = flat b h s d := by
  unfold place flat
  funext a
  refine Fin.ext ?_
  match a with
  | ⟨0, _⟩ => rfl
  | ⟨1, _⟩ => exact e

/-- The lower head of a group. -/
def low (g : Fin 8) : Fin 16 := ⟨2 * g.val, by have := g.isLt; omega⟩
/-- The upper head of a group. -/
def high (g : Fin 8) : Fin 16 := ⟨2 * g.val + 1, by have := g.isLt; omega⟩

include hq hk in
/-- A block of the kernel's output is the block of the reference's result: the block's queries, the batch's keys and the
    batch's values in the group's lanes given. -/
theorem block_out (c : Dev nD) (i : grid0.Coords) (arg3 : Memref sig .tc .vmem S256x128 .bf16) (harg3 : arg3.IsWhole)
    (arg4 : Memref sig .tc .vmem S8192x128 .bf16) (harg4 : arg4.IsWhole) (arg5 : Memref sig .tc .vmem S8192x128 .bf16) (harg5 : arg5.IsWhole)
    (arg6 : Memref sig .tc .vmem S256x128 .bf16) (harg6 : arg6.IsWhole) (arg7 : Memref sig .tc .vmem S2x256x128 .f32) (harg7 : arg7.IsWhole)
    (arg8 : Memref sig .tc .vmem S2x256x1 .f32) (harg8 : arg8.IsWhole)
    (x0 : Vec Ideal S256x128 .bf16) (x1 x2 : Vec Ideal S8192x128 .bf16) (b g : Fin 8)
    (h0 : ∀ (r : Fin 256) (l : Fin 128) (s : Fin 8192), s.val = 256 * (i 2).val + r.val → (x0 (ix2 r l) : EReal) = q (place b g s l))
    (h1 : ∀ (s : Fin 8192) (l : Fin 128), (x1 (ix2 s l) : EReal) = k (place b g s l))
    (h2 : ∀ (s : Fin 8192) (l : Fin 128), (x2 (ix2 s l) : EReal) = v (place b g s l))
    (r : Fin 256) (l : Fin 128) (s : Fin 8192) (hs : s.val = 256 * (i 2).val + r.val) :
    (out0_A_3 (F := Ideal) c i arg3 harg3 arg4 harg4 arg5 harg5 arg6 harg6 arg7 harg7 arg8 harg8 x0 x1 x2 (ix2 r l) : EReal)
      = val_main_v32 (F := Ideal) q k v (place b g s l) := by
  have hi2 : (i 2).val < 32 := (i 2).isLt
  have hl := l.isLt
  have hrow : ∀ r : Fin 256, 256 * (i 2).val + r.val < 8192 := fun r => by have := r.isLt; omega
  have z0 : ∀ (r : Fin 256) (j : Fin 8192), ∑ d : Fin 128, (k0_pay33 (F := Ideal) x0 (ix2 r d) : EReal) * x1 (ix2 j d)
      = ((score qr kr b (low g) ⟨256 * (i 2).val + r.val, hrow r⟩ j.val : ℝ) : EReal) := by
    intro r j
    rw [← score_eq q k qr kr hq hk]
    refine Eq.trans (Finset.sum_congr rfl fun d _ => ?_) (Eq.trans (sum_low fun d => (x0 (ix2 r d) : EReal) * x1 (ix2 j d)) ?_)
    · rw [lanes0_at, ite_mul, zero_mul]
    · refine Finset.sum_congr rfl fun d _ => ?_
      rw [h0 r _ ⟨256 * (i 2).val + r.val, hrow r⟩ rfl, h1]
      have e := d.isLt
      rw [place_eq b g _ _ (low g) d (by show g.val * 128 + d.val = 2 * g.val * 64 + d.val; omega),
        place_eq b g _ _ (low g) d (by show g.val * 128 + d.val = 2 * g.val * 64 + d.val; omega)]
  have z1 : ∀ (r : Fin 256) (j : Fin 8192), ∑ d : Fin 128, (k0_pay34 (F := Ideal) x0 (ix2 r d) : EReal) * x1 (ix2 j d)
      = ((score qr kr b (high g) ⟨256 * (i 2).val + r.val, hrow r⟩ j.val : ℝ) : EReal) := by
    intro r j
    rw [← score_eq q k qr kr hq hk]
    refine Eq.trans (Finset.sum_congr rfl fun d _ => ?_) (Eq.trans (sum_high fun d => (x0 (ix2 r d) : EReal) * x1 (ix2 j d)) ?_)
    · rw [lanes1_at, ite_mul, zero_mul]
    · refine Finset.sum_congr rfl fun d _ => ?_
      rw [h0 r _ ⟨256 * (i 2).val + r.val, hrow r⟩ rfl, h1]
      have e := d.isLt
      rw [place_eq b g _ _ (high g) d (by show g.val * 128 + (64 + d.val) = (2 * g.val + 1) * 64 + d.val; omega),
        place_eq b g _ _ (high g) d (by show g.val * 128 + (64 + d.val) = (2 * g.val + 1) * 64 + d.val; omega)]
  have key := SbRun.out_at c i arg3 harg3 arg4 harg4 arg5 harg5 arg6 harg6 arg7 harg7 arg8 harg8 x0 x1 x2
    (fun r => score qr kr b (low g) ⟨256 * (i 2).val + r.val, hrow r⟩) (fun r => score qr kr b (high g) ⟨256 * (i 2).val + r.val, hrow r⟩)
    (fun j l => v (place b g ⟨j % 8192, Nat.mod_lt _ (by decide)⟩ l)) z0 z1
    (fun j l => by rw [h2]; exact congrArg (fun s => v (place b g s l)) (Fin.ext (Nat.mod_eq_of_lt j.isLt).symm)) r l
  have hs' : (⟨256 * (i 2).val + r.val, hrow r⟩ : Fin 8192) = s := Fin.ext hs.symm
  have last : ∀ (h : Fin 16) (d : Fin 64), g.val * 128 + l.val = h.val * 64 + d.val →
      ∑ j ∈ Ico 0 (256 * (i 2).val + 256), ((wt (256 * (i 2).val + r.val) (score qr kr b h s) j : ℝ) : EReal)
          * v (place b g ⟨j % 8192, Nat.mod_lt _ (by decide)⟩ l)
        = val_main_v32 (F := Ideal) q k v (place b g s l) := by
    intro h d e
    rw [place_eq b g s l h d e, result_at q k v b h s d _ (fun j => score_eq q k qr kr hq hk b h s j), ← hs]
    refine (sum_all s.val _ (by have := r.isLt; omega) (by omega) _ _).trans (Finset.sum_congr rfl fun j _ => ?_)
    rw [place_eq b g _ l h d e, show (⟨j.val % 8192, Nat.mod_lt _ (by decide)⟩ : Fin 8192) = j from Fin.ext (Nat.mod_eq_of_lt j.isLt)]
  refine key.trans ?_
  by_cases hl64 : l.val < 64
  · rw [if_pos hl64, hs']
    exact last (low g) ⟨l.val, hl64⟩ (by show g.val * 128 + l.val = 2 * g.val * 64 + l.val; omega)
  · rw [if_neg hl64, hs']
    exact last (high g) ⟨l.val - 64, by omega⟩ (by show g.val * 128 + l.val = (2 * g.val + 1) * 64 + (l.val - 64); omega)

end Block

/-! ## The windows' blocks -/

section Windows

/-- The queries' block (and the result's) at a grid point. -/
theorem index_q (i : grid0.Coords) : cc0_transform_0 i = ![(i 0).val * 32 + (i 2).val, (i 1).val] := by
  have h := (by decide +kernel : ∀ a : Fin 8, ∀ b : Fin 32, (Scalar.addi (Scalar.muli (BitVec.ofNat 32 a.val) 32#32) (BitVec.ofNat 32 b.val)).toNat
    = a.val * 32 + b.val) (i 0) (i 2)
  have h1 := (by decide +kernel : ∀ a : Fin 8, (BitVec.ofNat 32 a.val).toNat = a.val) (i 1)
  unfold cc0_transform_0
  dsimp only
  exact congrArg₂ (fun x y => ![x, y]) h h1

/-- The keys' block (and the values') at a grid point. -/
theorem index_k (i : grid0.Coords) : cc0_transform_1 i = ![(i 0).val, (i 1).val] := by
  have h : ∀ a : Fin 8, (BitVec.ofNat 32 a.val).toNat = a.val := by decide +kernel
  unfold cc0_transform_1
  dsimp only
  exact congrArg₂ (fun x y => ![x, y]) (h (i 0)) (h (i 1))

variable (m : (ℓ : Loc nD τ sig) → Buf (Elt Ideal) ℓ) (c : Dev nD) (t : Fin cfg0.N)

/-- The queries' block holds rows of the point's batch and lanes of its group. -/
theorem blk_q (r : Fin 256) (l : Fin 128) (s : Fin 8192) (hs : s.val = 256 * (grid0.coords t 2).val + r.val) :
    (iblk m c 0 t : Vec Ideal S256x128 .bf16) (ix2 r l)
      = m ((c.tc : Thread nD τ).loc main_arg0) (place (grid0.coords t 0) (grid0.coords t 1) s l) := by
  unfold iblk
  rw [View.read_apply]
  show V m c main_arg0 _ = _
  unfold V
  congr 1
  funext a
  apply Fin.ext
  have e := index_q (grid0.coords t)
  match a with
  | ⟨0, _⟩ => show cc0_transform_0 (grid0.coords t) 0 * 256 + 1 * r.val = (grid0.coords t 0).val * 8192 + s.val
              rw [e, hs]; show ((grid0.coords t 0).val * 32 + (grid0.coords t 2).val) * 256 + 1 * r.val = _; omega
  | ⟨1, _⟩ => show cc0_transform_0 (grid0.coords t) 1 * 128 + 1 * l.val = (grid0.coords t 1).val * 128 + l.val
              rw [e]; show (grid0.coords t 1).val * 128 + 1 * l.val = _; omega

/-- The keys' block holds the batch's keys in the group's lanes. -/
theorem blk_k (s : Fin 8192) (l : Fin 128) :
    (iblk m c 1 t : Vec Ideal S8192x128 .bf16) (ix2 s l)
      = m ((c.tc : Thread nD τ).loc main_arg1) (place (grid0.coords t 0) (grid0.coords t 1) s l) := by
  unfold iblk
  rw [View.read_apply]
  show V m c main_arg1 _ = _
  unfold V
  congr 1
  funext a
  apply Fin.ext
  have e := index_k (grid0.coords t)
  match a with
  | ⟨0, _⟩ => show cc0_transform_1 (grid0.coords t) 0 * 8192 + 1 * s.val = (grid0.coords t 0).val * 8192 + s.val
              rw [e]; show (grid0.coords t 0).val * 8192 + 1 * s.val = _; omega
  | ⟨1, _⟩ => show cc0_transform_1 (grid0.coords t) 1 * 128 + 1 * l.val = (grid0.coords t 1).val * 128 + l.val
              rw [e]; show (grid0.coords t 1).val * 128 + 1 * l.val = _; omega

/-- The values' block holds the batch's values in the group's lanes. -/
theorem blk_v (s : Fin 8192) (l : Fin 128) :
    (iblk m c 2 t : Vec Ideal S8192x128 .bf16) (ix2 s l)
      = m ((c.tc : Thread nD τ).loc main_arg2) (place (grid0.coords t 0) (grid0.coords t 1) s l) := by
  unfold iblk
  rw [View.read_apply]
  show V m c main_arg2 _ = _
  unfold V
  congr 1
  funext a
  apply Fin.ext
  have e : cc0_transform_2 (grid0.coords t) = _ := index_k (grid0.coords t)
  match a with
  | ⟨0, _⟩ => show cc0_transform_2 (grid0.coords t) 0 * 8192 + 1 * s.val = (grid0.coords t 0).val * 8192 + s.val
              rw [e]; show (grid0.coords t 0).val * 8192 + 1 * s.val = _; omega
  | ⟨1, _⟩ => show cc0_transform_2 (grid0.coords t) 1 * 128 + 1 * l.val = (grid0.coords t 1).val * 128 + l.val
              rw [e]; show (grid0.coords t 1).val * 128 + 1 * l.val = _; omega

/-- The result's block lies at the point's batch, rows and lanes. -/
theorem emb_o (j : ((cfg0.win 3).xblock (grid0.coords t)).Idx) (r : Fin 256) (l : Fin 128) (hr : r.val = (j 0).val) (hl : l.val = (j 1).val)
    (s : Fin 8192) (hs : s.val = 256 * (grid0.coords t 2).val + r.val) :
    ((cfg0.win 3).blk t).view.emb j = place (grid0.coords t 0) (grid0.coords t 1) s l := by
  funext a
  apply Fin.ext
  have e : cc0_transform_3 (grid0.coords t) = _ := index_q (grid0.coords t)
  match a with
  | ⟨0, _⟩ => show cc0_transform_3 (grid0.coords t) 0 * 256 + 1 * (j 0).val = (grid0.coords t 0).val * 8192 + s.val
              rw [e, hs, hr]; show ((grid0.coords t 0).val * 32 + (grid0.coords t 2).val) * 256 + 1 * (j 0).val = _; omega
  | ⟨1, _⟩ => show cc0_transform_3 (grid0.coords t) 1 * 128 + 1 * (j 1).val = (grid0.coords t 1).val * 128 + l.val
              rw [e, hl]; show (grid0.coords t 1).val * 128 + 1 * (j 1).val = _; omega

end Windows

/-! ## The whole array -/

section Array

variable (m : (ℓ : Loc nD τ sig) → Buf (Elt Ideal) ℓ) (c : Dev nD)
  (qr kr : Cert.ReferenceIdeal.S65536x1024.Idx → ℝ)
  (hq : ∀ i, (m ((c.tc : Thread nD τ).loc main_arg0) i : EReal) = ((qr i : ℝ) : EReal))
  (hk : ∀ i, (m ((c.tc : Thread nD τ).loc main_arg1) i : EReal) = ((kr i : ℝ) : EReal))

/-- The reference's result of the kernel's arguments. -/
abbrev goal : Buf (Elt Ideal) ((c.tc : Thread nD τ).loc main_v0) :=
  val_main_v32 (F := Ideal) (m ((c.tc : Thread nD τ).loc main_arg0)) (m ((c.tc : Thread nD τ).loc main_arg1)) (m ((c.tc : Thread nD τ).loc main_arg2))

include hq hk in
/-- What a grid point writes back is its block of the reference's result. -/
theorem flushed_eq (t : Fin cfg0.N) :
    (dats m 0 c).flushed 3 t = ((cfg0.win 3).blk t).view.read (Elt Ideal) (goal m c) := by
  rw [Cert.KernelIdeal.Value.flushed3_A]
  funext j
  have h0 : (j 0).val < 256 := (j 0).isLt
  have h1 : (j 1).val < 128 := (j 1).isLt
  have h2 : (grid0.coords t 2).val < 32 := (grid0.coords t 2).isLt
  rw [View.read_apply, emb_o t j ⟨(j 0).val, h0⟩ ⟨(j 1).val, h1⟩ rfl rfl ⟨256 * (grid0.coords t 2).val + (j 0).val, by omega⟩ rfl]
  refine Eq.trans ?_ (block_out _ _ _ qr kr hq hk c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)
    (grid0.coords t 0) (grid0.coords t 1) (fun r l s hs => blk_q m c t r l s hs) (fun s l => blk_k m c t s l) (fun s l => blk_v m c t s l)
    ⟨(j 0).val, h0⟩ ⟨(j 1).val, h1⟩ ⟨256 * (grid0.coords t 2).val + (j 0).val, by omega⟩ rfl)
  refine congrArg (out0_A_3 (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t)) ?_
  funext a
  match a with
  | ⟨0, _⟩ => rfl
  | ⟨1, _⟩ => rfl

/-- The blocks cover the array. -/
theorem cover (i : S65536x1024.Idx) : ∃ t : Fin cfg0.N, (cfg0.win 3).flush t = true ∧ i ∈ ((cfg0.win 3).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 8192, by omega⟩ : Fin 8)
    | ⟨1, _⟩ => (⟨(i 1).val / 128, by omega⟩ : Fin 8)
    | ⟨2, _⟩ => (⟨(i 0).val % 8192 / 256, by omega⟩ : Fin 32))
  refine ⟨t, flush0_3 t, ?_⟩
  have e : cc0_transform_3 (grid0.coords t) = _ := index_q (grid0.coords t)
  have e0 : (grid0.coords t 0).val = (i 0).val / 8192 := by rw [ht]
  have e1 : (grid0.coords t 1).val = (i 1).val / 128 := by rw [ht]
  have e2 : (grid0.coords t 2).val = (i 0).val % 8192 / 256 := by rw [ht]
  show i ∈ ((View.whole main_v0).slice (win0_3.rect t)).set
  rw [View.set_slice_whole, Rect.mem_set_unit]
  intro a
  match a with
  | ⟨0, _⟩ => show cc0_transform_3 (grid0.coords t) 0 * 256 ≤ (i 0).val ∧ (i 0).val < cc0_transform_3 (grid0.coords t) 0 * 256 + 256
              rw [e]
              show ((grid0.coords t 0).val * 32 + (grid0.coords t 2).val) * 256 ≤ (i 0).val ∧ (i 0).val < ((grid0.coords t 0).val * 32 + (grid0.coords t 2).val) * 256 + 256
              rw [e0, e2]; omega
  | ⟨1, _⟩ => show cc0_transform_3 (grid0.coords t) 1 * 128 ≤ (i 1).val ∧ (i 1).val < cc0_transform_3 (grid0.coords t) 1 * 128 + 128
              rw [e]
              show (grid0.coords t 1).val * 128 ≤ (i 1).val ∧ (i 1).val < (grid0.coords t 1).val * 128 + 128
              rw [e1]; omega

include hq hk in
/-- After the run the kernel's result array is the reference's result of its arguments. -/
theorem final : (dats m 0 c).arrAt 3 cfg0.N = goal m c :=
  (dats m 0 c).arrAt_eq_of_cover 3 (goal m c) (fun t _ => flushed_eq m c qr kr hq hk t) cover

end Array

end Cert.KernelIdeal.SbValue

end
-- ==== Proof.SbFinite.lean ====
/-
  The precondition read: every query and every key is a real.
-/
module

public import proofs.«01_k».proof.Defs
public import proofs.«01_k».proof.Proof.Gen.KernelIdeal
public import Idealize.ShloMosaic.Lib.Pointwise

@[expose] public section

set_option maxRecDepth 16384

noncomputable section

namespace Cert.SbFinite

open Idealize.ShloMosaic Idealize.ShloMosaic.TcCoe Idealize.SL.Sem

/-- The word of plus infinity is the top. -/
theorem inf_word : (Ideal.ofBits .f32 0x7F800000#32 : EReal) = ⊤ := by
  simp [Ideal.ofBits, Ideal.ieee]

/-- Two bits whose conjunction is set are both set. -/
theorem bits_set {a b : BitVec 1} (h : a &&& b = 1#1) : a = 1#1 ∧ b = 1#1 :=
  (by decide : ∀ a b : BitVec 1, a &&& b = 1#1 → a = 1#1 ∧ b = 1#1) a b h

/-- An extended real whose absolute value is below the top is a real. -/
theorem real_of_abs (x : EReal) (h : Ideal.cmp .olt (max x (-x)) ⊤ = 1#1) : ∃ r : ℝ, x = (r : EReal) := by
  have h' : max x (-x) < ⊤ := by
    by_contra hc
    simp [Ideal.cmp, hc] at h
  refine ⟨x.toReal, (EReal.coe_toReal (fun e => ?_) (fun e => ?_)).symm⟩
  · subst e; simp at h'
  · subst e; simp at h'

/-- Under the precondition every query and every key is a real. -/
theorem reals [Cert.Pre_finite_qk.Facts] (q k v : FVec Ideal Cert.Pre_finite_qk.S65536x1024 .bf16)
    (h : Cert.Pre_finite_qk.fn (F := Ideal) q k v = fun _ => 1#1) :
    (∃ qr : Cert.Pre_finite_qk.S65536x1024.Idx → ℝ, ∀ i, (q i : EReal) = ((qr i : ℝ) : EReal))
      ∧ ∃ kr : Cert.Pre_finite_qk.S65536x1024.Idx → ℝ, ∀ i, (k i : EReal) = ((kr i : ℝ) : EReal) := by
  have hb : ∀ i, Ideal.cmp .olt (max (q i : EReal) (-(q i : EReal))) (Ideal.ofBits .f32 0x7F800000#32) &&& Ideal.cmp .olt (max (k i : EReal) (-(k i : EReal))) (Ideal.ofBits .f32 0x7F800000#32) = 1#1 :=
    fun i => congrFun h i
  refine ⟨Classical.skolem.1 fun i => real_of_abs _ ?_, Classical.skolem.1 fun i => real_of_abs _ ?_⟩
  · exact inf_word ▸ (bits_set (hb i)).1
  · exact inf_word ▸ (bits_set (hb i)).2

end Cert.SbFinite

end
-- ==== Proof.NormMath.lean ====
/-
  The modulated root-mean-square norm of one row of 1024 elements, over the extended reals: what the projections' kernels and
  their references both form before they multiply by the weights.
-/
module

public import Idealize.ShloMosaic.PureOps.Ideal.Laws

@[expose] public section

noncomputable section

namespace Cert.NormMath

open Idealize.ShloMosaic

/-- The row `x`, scaled by the reciprocal root of its mean square (plus the small constant), by the gain and by one plus the
    modulation's scale, then moved by its shift, at one element. -/
def normAt (x g scale shift : Fin 1024 → EReal) (d : Fin 1024) : EReal :=
  x d * Ideal.rsqrt (Ideal.div (∑ k, x k * x k) (Ideal.ofBits FTy.f32 0x44800000#32) + Ideal.ofBits FTy.f32 0x358637BD#32)
    * g d * (1 + scale d) + shift d

end Cert.NormMath

end
-- ==== Proof.QkvValue.lean ====
/-
  The projections to queries, keys and values: each grid point's block of 512 rows is the modulated norm of its rows against
  the weights' columns, which is the reference's product at those rows; the blocks make up the whole arrays.
-/
module

public import proofs.«01_k».proof.Proof.Gen.QkvIdeal.Value
public import proofs.«01_k».proof.Proof.Gen.QkvReferenceIdeal.Read
public import proofs.«01_k».proof.Proof.NormMath
public import Idealize.ShloMosaic.Lib.Pointwise
public import Idealize.ShloMosaic.Lib.Pipeline.Covers
public import Idealize.ShloMosaic.Lib.Pipeline.ValueKit.Acc
public import Idealize.ShloMosaic.Lib.Pipeline.ValueKit.Geometry
public import Idealize.ShloMosaic.Lib.Claim

@[expose] public section

set_option maxRecDepth 16384

noncomputable section

namespace Cert.QkvReferenceIdeal.QkvRef

open Cert.QkvReferenceIdeal Cert.QkvReferenceIdeal.Gen Cert.QkvReferenceIdeal.Read Cert.NormMath
open Idealize.ShloMosaic Idealize.ShloMosaic.TcCoe Idealize.SL.Sem Finset

variable (x : (⟨S65536x1024, .f32⟩ : BufTy).Contents (Elt Ideal)) (g : (⟨S1024, .f32⟩ : BufTy).Contents (Elt Ideal))
  (sh sc : (⟨S8x1024, .f32⟩ : BufTy).Contents (Elt Ideal)) (w : (⟨S1024x3072, .f32⟩ : BufTy).Contents (Elt Ideal))

/-- The reference's modulated norm at an element. -/
theorem normed_at (b : Fin 8) (s : Fin 8192) (d : Fin 1024) :
    val_main_v21 (F := Ideal) x g sh sc (ix3 b s d)
      = normAt (fun k => x (ix2 ⟨b.val * 8192 + s.val, by have := b.isLt; have := s.isLt; omega⟩ k)) (fun k => g (ix1 k))
          (fun k => sc (ix2 b k)) (fun k => sh (ix2 b k)) d := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  rfl

/-- A row of the reference's norm against a column of the weights. -/
def proj (r : Fin 65536) (e : Fin 3072) : EReal :=
  ∑ k : Fin 1024, normAt (fun k => x (ix2 r k)) (fun k => g (ix1 k)) (fun k => sc (ix2 ⟨r.val / 8192, by have := r.isLt; omega⟩ k))
    (fun k => sh (ix2 ⟨r.val / 8192, by have := r.isLt; omega⟩ k)) k * w (ix2 k e)

/-- The reference's product at an element. -/
theorem proj_eq (r : Fin 65536) (e : Fin 3072) :
    ∑ k : Fin 1024, (val_main_v21 (F := Ideal) x g sh sc (ix3 ⟨r.val / 8192, by have := r.isLt; omega⟩ ⟨r.val % 8192, by omega⟩ k) : EReal)
      * w (ix2 k e) = proj x g sh sc w r e := by
  refine Finset.sum_congr rfl fun k _ => ?_
  rw [normed_at]
  congr 3
  funext k
  congr 2
  exact Fin.ext (by show r.val / 8192 * 8192 + r.val % 8192 = r.val; omega)

/-- The reference's scaled queries at an element. -/
theorem q_at (r : Fin 65536) (d : Fin 1024) :
    val_main_v32 (F := Ideal) x g sh sc w (ix2 r d)
      = proj x g sh sc w r ⟨d.val, by have := d.isLt; omega⟩ * Ideal.ofBits FTy.f32 0x3E000000#32 := by
  pointwise [val_main_v32, val_main_v31, val_main_v30, val_main_cst_3, val_main_v25, val_main_v24, val_main_v23, val_main_v22]
  exact congrArg (· * _) (proj_eq x g sh sc w r ⟨d.val, by have := d.isLt; omega⟩)

/-- The reference's keys at an element. -/
theorem k_at (r : Fin 65536) (d : Fin 1024) :
    val_main_v27 (F := Ideal) x g sh sc w (ix2 r d) = proj x g sh sc w r ⟨1024 + d.val, by have := d.isLt; omega⟩ := by
  pointwise [val_main_v27, val_main_v26, val_main_v23, val_main_v22]
  exact proj_eq x g sh sc w r ⟨1024 + d.val, by have := d.isLt; omega⟩

/-- The reference's rounded keys at an element. -/
theorem kb_at (r : Fin 65536) (d : Fin 1024) :
    val_main_v33 (F := Ideal) x g sh sc w (ix2 r d) = proj x g sh sc w r ⟨1024 + d.val, by have := d.isLt; omega⟩ := by
  pointwise [val_main_v33]
  exact k_at x g sh sc w r d

/-- The reference's values at an element. -/
theorem v_at (r : Fin 65536) (d : Fin 1024) :
    val_main_v29 (F := Ideal) x g sh sc w (ix2 r d) = proj x g sh sc w r ⟨2048 + d.val, by have := d.isLt; omega⟩ := by
  pointwise [val_main_v29, val_main_v28, val_main_v23, val_main_v22]
  exact proj_eq x g sh sc w r ⟨2048 + d.val, by have := d.isLt; omega⟩

/-- The reference's rounded values at an element. -/
theorem vb_at (r : Fin 65536) (d : Fin 1024) :
    val_main_v34 (F := Ideal) x g sh sc w (ix2 r d) = proj x g sh sc w r ⟨2048 + d.val, by have := d.isLt; omega⟩ := by
  pointwise [val_main_v34]
  exact v_at x g sh sc w r d

end Cert.QkvReferenceIdeal.QkvRef

namespace Cert.QkvIdeal.QkvValue

open Cert.QkvIdeal Cert.QkvIdeal.Gen Cert.NormMath Cert.QkvReferenceIdeal.QkvRef
open Idealize.ShloMosaic Idealize.ShloMosaic.TcCoe Idealize.SL.Sem Finset
open Cert.QkvReferenceIdeal.Read (val_main_v32 val_main_v27 val_main_v33 val_main_v29 val_main_v34)

/-! ## One block -/

section Block

variable (x : FVec Ideal S512x1024 .f32) (g : FVec Ideal S1x1024 .f32) (sh sc : FVec Ideal S1x1x1024 .f32)

/-- The kernel's modulated norm at an element of a block. -/
theorem normed_at (r : Fin 512) (d : Fin 1024) :
    k0_pay5 (F := Ideal) x g sh sc (ix2 r d)
      = normAt (fun k => x (ix2 r k)) (fun k => g (ix2 0 k)) (fun k => sc (ix3 0 0 k)) (fun k => sh (ix3 0 0 k)) d := by
  pointwise [k0_pay5]
  rfl

/-- The kernel's scaled queries at an element of a block. -/
theorem q_block (w : FVec Ideal S1024x1024 .bf16) (r : Fin 512) (d : Fin 1024) :
    k0_pay6 (F := Ideal) x g sh sc w (ix2 r d)
      = (∑ k, k0_pay5 (F := Ideal) x g sh sc (ix2 r k) * w (ix2 k d)) * Ideal.ofBits FTy.f32 0x3E000000#32 := by
  pointwise [k0_pay6]

/-- The kernel's keys at an element of a block. -/
theorem k_block (h : FVec Ideal S512x1024 .bf16) (w : FVec Ideal S1024x1024 .bf16) (r : Fin 512) (d : Fin 1024) :
    k0_pay1 (F := Ideal) h (k0_pay7 w) (constant S512x1024 .f32 0x00000000#32) (ix2 r d) = ∑ k, h (ix2 r k) * w (ix2 k d) := by
  pointwise [k0_pay1, k0_pay7]

/-- The kernel's rounded keys at an element of a block. -/
theorem kb_block (h : FVec Ideal S512x1024 .bf16) (w : FVec Ideal S1024x1024 .bf16) (r : Fin 512) (d : Fin 1024) :
    k0_pay2 (F := Ideal) h (k0_pay7 w) (constant S512x1024 .f32 0x00000000#32) (ix2 r d) = ∑ k, h (ix2 r k) * w (ix2 k d) := by
  pointwise [k0_pay2, k0_pay1, k0_pay7]

/-- The kernel's values at an element of a block. -/
theorem v_block (h : FVec Ideal S512x1024 .bf16) (w : FVec Ideal S1024x1024 .bf16) (r : Fin 512) (d : Fin 1024) :
    k0_pay3 (F := Ideal) h w (ix2 r d) = ∑ k, h (ix2 r k) * w (ix2 k d) := by
  pointwise [k0_pay3]

/-- The kernel's rounded values at an element of a block. -/
theorem vb_block (h : FVec Ideal S512x1024 .bf16) (w : FVec Ideal S1024x1024 .bf16) (r : Fin 512) (d : Fin 1024) :
    k0_pay4 (F := Ideal) h w (ix2 r d) = ∑ k, h (ix2 r k) * w (ix2 k d) := by
  pointwise [k0_pay4, k0_pay3]

end Block

/-! ## The windows' blocks -/

section Windows

variable (m : (ℓ : Loc nD τ sig) → Buf (Elt Ideal) ℓ) (c : Dev nD)

/-- The layer's input. -/
abbrev aX : FVec Ideal S65536x1024 .f32 := m ((c.tc : Thread nD τ).loc main_arg0)
/-- The norm's gain. -/
abbrev aG : FVec Ideal S1024 .f32 := m ((c.tc : Thread nD τ).loc main_arg1)
/-- The modulation's shift. -/
abbrev aSh : FVec Ideal S8x1024 .f32 := m ((c.tc : Thread nD τ).loc main_arg2)
/-- The modulation's scale. -/
abbrev aSc : FVec Ideal S8x1024 .f32 := m ((c.tc : Thread nD τ).loc main_arg3)
/-- The weights. -/
abbrev aW : FVec Ideal S1024x3072 .f32 := m ((c.tc : Thread nD τ).loc main_arg4)

/-- The gain as a row. -/
theorem row_gain : (V (F := Ideal) m c main_v8 : FVec Ideal S1x1024 .f32) = broadcastInDim S1x1024 ![1] bcast_S1024_S1x1024_1 (aG m c) := by
  unfold_abbrev_sides
  after_results

/-- The shift with an axis put in. -/
theorem row_shift : (V (F := Ideal) m c main_v6 : FVec Ideal S8x1x1024 .f32)
    = broadcastInDim S8x1x1024 ![0, 2] bcast_S8x1024_S8x1x1024_0_2 (aSh m c) := by
  unfold_abbrev_sides
  after_results

/-- The scale with an axis put in. -/
theorem row_scale : (V (F := Ideal) m c main_v7 : FVec Ideal S8x1x1024 .f32)
    = broadcastInDim S8x1x1024 ![0, 2] bcast_S8x1024_S8x1x1024_0_2 (aSc m c) := by
  unfold_abbrev_sides
  after_results

/-- The queries' columns of the weights. -/
theorem cols_q : (V (F := Ideal) m c main_v1 : FVec Ideal S1024x1024 .bf16)
    = truncf .bf16 (extractStridedSlice S1024x1024 ![0, 0] (aW m c) slices_S1024x3072_S1024x1024_0_0 : FVec Ideal S1024x1024 .f32) bitsLt_bf16_f32 := by
  unfold_abbrev_sides
  after_results

/-- The keys' columns of the weights. -/
theorem cols_k : (V (F := Ideal) m c main_v3 : FVec Ideal S1024x1024 .bf16)
    = truncf .bf16 (extractStridedSlice S1024x1024 ![0, 1024] (aW m c) slices_S1024x3072_S1024x1024_0_1024 : FVec Ideal S1024x1024 .f32) bitsLt_bf16_f32 := by
  unfold_abbrev_sides
  after_results

/-- The values' columns of the weights. -/
theorem cols_v : (V (F := Ideal) m c main_v5 : FVec Ideal S1024x1024 .bf16)
    = truncf .bf16 (extractStridedSlice S1024x1024 ![0, 2048] (aW m c) slices_S1024x3072_S1024x1024_0_2048 : FVec Ideal S1024x1024 .f32) bitsLt_bf16_f32 := by
  unfold_abbrev_sides
  after_results

/-- Where the windows' blocks lie at a grid point. -/
theorem index_eq : ∀ t : Fin cfg0.N, win0_0.index t = ![t.val, 0] ∧ win0_1.index t = ![0, 0] ∧ win0_2.index t = ![t.val / 16, 0, 0]
    ∧ win0_3.index t = ![t.val / 16, 0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] := by decide +kernel

/-- There are 128 grid points. -/
theorem point_lt (t : Fin cfg0.N) : t.val < 128 := t.isLt

variable (t : Fin cfg0.N)

/-- The row of the whole array under a row of the point's block. -/
def row (r : Fin 512) : Fin 65536 := ⟨t.val * 512 + r.val, by have := point_lt t; have := r.isLt; omega⟩

/-- The input's block. -/
theorem blk_x (r : Fin 512) (d : Fin 1024) : (iblk (F := Ideal) m c 0 t : FVec Ideal S512x1024 .f32) (ix2 r d) = aX m c (ix2 (row t r) d) := by
  have e := index_eq t
  unfold row
  blk_ext [iblk, V_main_arg0, e.1]

/-- The gain's block. -/
theorem blk_g (d : Fin 1024) : (iblk (F := Ideal) m c 1 t : FVec Ideal S1x1024 .f32) (ix2 0 d) = aG m c (ix1 d) := by
  have e := index_eq t
  have h : (iblk (F := Ideal) m c 1 t : FVec Ideal S1x1024 .f32) (ix2 0 d) = (V (F := Ideal) m c main_v8 : FVec Ideal S1x1024 .f32) (ix2 0 d) := by
    blk_ext [iblk, e.2.1]
  rw [h, row_gain]
  pointwise

/-- The batch of the point's rows. -/
def bat : Fin 8 := ⟨t.val / 16, by have := point_lt t; omega⟩

/-- The shift's block. -/
theorem blk_sh (d : Fin 1024) : (iblk (F := Ideal) m c 2 t : FVec Ideal S1x1x1024 .f32) (ix3 0 0 d) = aSh m c (ix2 (bat t) d) := by
  have e := index_eq t
  have h : (iblk (F := Ideal) m c 2 t : FVec Ideal S1x1x1024 .f32) (ix3 0 0 d) = (V (F := Ideal) m c main_v6 : FVec Ideal S8x1x1024 .f32) (ix3 (bat t) 0 d) := by
    unfold bat
    blk_ext [iblk, e.2.2.1]
  rw [h, row_shift]
  pointwise

/-- The scale's block. -/
theorem blk_sc (d : Fin 1024) : (iblk (F := Ideal) m c 3 t : FVec Ideal S1x1x1024 .f32) (ix3 0 0 d) = aSc m c (ix2 (bat t) d) := by
  have e := index_eq t
  have h : (iblk (F := Ideal) m c 3 t : FVec Ideal S1x1x1024 .f32) (ix3 0 0 d) = (V (F := Ideal) m c main_v7 : FVec Ideal S8x1x1024 .f32) (ix3 (bat t) 0 d) := by
    unfold bat
    blk_ext [iblk, e.2.2.2.1]
  rw [h, row_scale]
  pointwise

/-- The queries' weights. -/
theorem blk_wq (k d : Fin 1024) : (iblk (F := Ideal) m c 4 t : FVec Ideal S1024x1024 .bf16) (ix2 k d)
    = aW m c (ix2 k ⟨d.val, by have := d.isLt; omega⟩) := by
  have e := index_eq t
  have h : (iblk (F := Ideal) m c 4 t : FVec Ideal S1024x1024 .bf16) (ix2 k d) = (V (F := Ideal) m c main_v1 : FVec Ideal S1024x1024 .bf16) (ix2 k d) := by
    blk_ext [iblk, e.2.2.2.2.1]
  rw [h, cols_q]
  pointwise

/-- The keys' weights. -/
theorem blk_wk (k d : Fin 1024) : (iblk (F := Ideal) m c 5 t : FVec Ideal S1024x1024 .bf16) (ix2 k d)
    = aW m c (ix2 k ⟨1024 + d.val, by have := d.isLt; omega⟩) := by
  have e := index_eq t
  have h : (iblk (F := Ideal) m c 5 t : FVec Ideal S1024x1024 .bf16) (ix2 k d) = (V (F := Ideal) m c main_v3 : FVec Ideal S1024x1024 .bf16) (ix2 k d) := by
    blk_ext [iblk, e.2.2.2.2.2.1]
  rw [h, cols_k]
  pointwise

/-- The values' weights. -/
theorem blk_wv (k d : Fin 1024) : (iblk (F := Ideal) m c 6 t : FVec Ideal S1024x1024 .bf16) (ix2 k d)
    = aW m c (ix2 k ⟨2048 + d.val, by have := d.isLt; omega⟩) := by
  have e := index_eq t
  have h : (iblk (F := Ideal) m c 6 t : FVec Ideal S1024x1024 .bf16) (ix2 k d) = (V (F := Ideal) m c main_v5 : FVec Ideal S1024x1024 .bf16) (ix2 k d) := by
    blk_ext [iblk, e.2.2.2.2.2.2.1]
  rw [h, cols_v]
  pointwise

/-- A point's rows against a column of the weights, as the reference has them. -/
theorem product (r : Fin 512) (f : Fin 1024 → EReal) (col : Fin 3072) (hf : ∀ k, f k = aW m c (ix2 k col)) :
    ∑ k, k0_pay5 (F := Ideal) (iblk m c 0 t) (iblk m c 1 t) (iblk m c 2 t) (iblk m c 3 t) (ix2 r k) * f k
      = proj (aX m c) (aG m c) (aSh m c) (aSc m c) (aW m c) (row t r) col := by
  refine Finset.sum_congr rfl fun k _ => ?_
  have hb : (⟨(row t r).val / 8192, by have := (row t r).isLt; omega⟩ : Fin 8) = bat t := by
    refine Fin.ext ?_
    have := r.isLt
    show (t.val * 512 + r.val) / 8192 = t.val / 16
    omega
  rw [hf, normed_at, hb, funext (blk_x m c t r), funext (blk_g m c t), funext (blk_sh m c t), funext (blk_sc m c t)]

end Windows

/-! ## The whole arrays -/

section Arrays

variable (m : (ℓ : Loc nD τ sig) → Buf (Elt Ideal) ℓ) (c : Dev nD)

/-- An index of a block by its coordinates. -/
theorem ix_eq (y : S512x1024.Idx) : y = ix2 (⟨(y 0).val, (y 0).isLt⟩ : Fin 512) (⟨(y 1).val, (y 1).isLt⟩ : Fin 1024) := by
  funext a
  match a with
  | ⟨0, _⟩ => rfl
  | ⟨1, _⟩ => rfl

/-- After the run the array of the queries is the reference's. -/
theorem final_7 : (dats (F := Ideal) m 0 c).arrAt 7 cfg0.N
    = (val_main_v32 (F := Ideal) (aX m c) (aG m c) (aSh m c) (aSc m c) (aW m c) : FVec Ideal S65536x1024 .bf16) := by
  refine (dats m 0 c).arrAt_eq_of_covers 7 _ (by decide +kernel) fun t _ y => ?_
  blk_simp
  rw [after0_7]
  frame_out [k0_pay8, k0_pay9, k0_pay10]
  rw [ix_eq y]
  generalize (⟨(y 0).val, (y 0).isLt⟩ : Fin 512) = r
  generalize (⟨(y 1).val, (y 1).isLt⟩ : Fin 1024) = d
  have hi : ((View.whole main_v9_0).slice (win0_7.rect t)).emb (ix2 r d) = ix2 (row t r) d := by
    have e := index_eq t
    unfold row
    blk_ext [e]
  rw [hi]
  refine Eq.trans (q_block _ _ _ _ _ r d) (Eq.trans ?_ (q_at _ _ _ _ _ (row t r) d).symm)
  exact congrArg (· * _) (product m c t r (fun k => (iblk (F := Ideal) m c 4 t : FVec Ideal S1024x1024 .bf16) (ix2 k d)) _ fun k => blk_wq m c t k d)

/-- After the run the array of the keys is the reference's. -/
theorem final_8 : (dats (F := Ideal) m 0 c).arrAt 8 cfg0.N
    = (val_main_v27 (F := Ideal) (aX m c) (aG m c) (aSh m c) (aSc m c) (aW m c) : FVec Ideal S65536x1024 .f32) := by
  refine (dats m 0 c).arrAt_eq_of_covers 8 _ (by decide +kernel) fun t _ y => ?_
  blk_simp
  rw [after0_8]
  frame_out [k0_pay8, k0_pay9, k0_pay10]
  rw [ix_eq y]
  generalize (⟨(y 0).val, (y 0).isLt⟩ : Fin 512) = r
  generalize (⟨(y 1).val, (y 1).isLt⟩ : Fin 1024) = d
  have hi : ((View.whole main_v9_1).slice (win0_8.rect t)).emb (ix2 r d) = ix2 (row t r) d := by
    have e := index_eq t
    unfold row
    blk_ext [e]
  rw [hi]
  refine Eq.trans (k_block _ _ r d) (Eq.trans ?_ (k_at _ _ _ _ _ (row t r) d).symm)
  exact product m c t r (fun k => (iblk (F := Ideal) m c 5 t : FVec Ideal S1024x1024 .bf16) (ix2 k d)) _ fun k => blk_wk m c t k d

/-- After the run the array of the rounded keys is the reference's. -/
theorem final_9 : (dats (F := Ideal) m 0 c).arrAt 9 cfg0.N
    = (val_main_v33 (F := Ideal) (aX m c) (aG m c) (aSh m c) (aSc m c) (aW m c) : FVec Ideal S65536x1024 .bf16) := by
  refine (dats m 0 c).arrAt_eq_of_covers 9 _ (by decide +kernel) fun t _ y => ?_
  blk_simp
  rw [after0_9]
  frame_out [k0_pay8, k0_pay9, k0_pay10]
  rw [ix_eq y]
  generalize (⟨(y 0).val, (y 0).isLt⟩ : Fin 512) = r
  generalize (⟨(y 1).val, (y 1).isLt⟩ : Fin 1024) = d
  have hi : ((View.whole main_v9_2).slice (win0_9.rect t)).emb (ix2 r d) = ix2 (row t r) d := by
    have e := index_eq t
    unfold row
    blk_ext [e]
  rw [hi]
  refine Eq.trans (kb_block _ _ r d) (Eq.trans ?_ (kb_at _ _ _ _ _ (row t r) d).symm)
  exact product m c t r (fun k => (iblk (F := Ideal) m c 5 t : FVec Ideal S1024x1024 .bf16) (ix2 k d)) _ fun k => blk_wk m c t k d

/-- After the run the array of the values is the reference's. -/
theorem final_10 : (dats (F := Ideal) m 0 c).arrAt 10 cfg0.N
    = (val_main_v29 (F := Ideal) (aX m c) (aG m c) (aSh m c) (aSc m c) (aW m c) : FVec Ideal S65536x1024 .f32) := by
  refine (dats m 0 c).arrAt_eq_of_covers 10 _ (by decide +kernel) fun t _ y => ?_
  blk_simp
  rw [after0_10]
  frame_out [k0_pay8, k0_pay9, k0_pay10]
  rw [ix_eq y]
  generalize (⟨(y 0).val, (y 0).isLt⟩ : Fin 512) = r
  generalize (⟨(y 1).val, (y 1).isLt⟩ : Fin 1024) = d
  have hi : ((View.whole main_v9_3).slice (win0_10.rect t)).emb (ix2 r d) = ix2 (row t r) d := by
    have e := index_eq t
    unfold row
    blk_ext [e]
  rw [hi]
  refine Eq.trans (v_block _ _ r d) (Eq.trans ?_ (v_at _ _ _ _ _ (row t r) d).symm)
  exact product m c t r (fun k => (iblk (F := Ideal) m c 6 t : FVec Ideal S1024x1024 .bf16) (ix2 k d)) _ fun k => blk_wv m c t k d

/-- After the run the array of the rounded values is the reference's. -/
theorem final_11 : (dats (F := Ideal) m 0 c).arrAt 11 cfg0.N
    = (val_main_v34 (F := Ideal) (aX m c) (aG m c) (aSh m c) (aSc m c) (aW m c) : FVec Ideal S65536x1024 .bf16) := by
  refine (dats m 0 c).arrAt_eq_of_covers 11 _ (by decide +kernel) fun t _ y => ?_
  blk_simp
  rw [after0_11]
  frame_out [k0_pay8, k0_pay9, k0_pay10]
  rw [ix_eq y]
  generalize (⟨(y 0).val, (y 0).isLt⟩ : Fin 512) = r
  generalize (⟨(y 1).val, (y 1).isLt⟩ : Fin 1024) = d
  have hi : ((View.whole main_v9_4).slice (win0_11.rect t)).emb (ix2 r d) = ix2 (row t r) d := by
    have e := index_eq t
    unfold row
    blk_ext [e]
  rw [hi]
  refine Eq.trans (vb_block _ _ r d) (Eq.trans ?_ (vb_at _ _ _ _ _ (row t r) d).symm)
  exact product m c t r (fun k => (iblk (F := Ideal) m c 6 t : FVec Ideal S1024x1024 .bf16) (ix2 k d)) _ fun k => blk_wv m c t k d

end Arrays

end Cert.QkvIdeal.QkvValue

end
-- ==== Proof.QkvSampleValue.lean ====
/-
  The projections to queries, keys and values over the sample: the call's one block of 512 rows is the modulated norm of the
  rows against the weights' columns, which is the reference's product; each row has the modulation of its batch of 16 rows.
-/
module

public import proofs.«01_k».proof.Proof.Gen.QkvSampleIdeal.Value
public import proofs.«01_k».proof.Proof.Gen.QkvSampleReferenceIdeal.Read
public import proofs.«01_k».proof.Proof.NormMath
public import Idealize.ShloMosaic.Lib.Pointwise
public import Idealize.ShloMosaic.Lib.Pipeline.Covers
public import Idealize.ShloMosaic.Lib.Pipeline.ValueKit.Acc
public import Idealize.ShloMosaic.Lib.Pipeline.ValueKit.Geometry
public import Idealize.ShloMosaic.Lib.Claim

@[expose] public section

set_option maxRecDepth 16384

noncomputable section

namespace Cert.QkvSampleReferenceIdeal.QkvRef

open Cert.QkvSampleReferenceIdeal Cert.QkvSampleReferenceIdeal.Gen Cert.QkvSampleReferenceIdeal.Read Cert.NormMath
open Idealize.ShloMosaic Idealize.ShloMosaic.TcCoe Idealize.SL.Sem Finset

variable (x : (⟨S512x1024, .f32⟩ : BufTy).Contents (Elt Ideal)) (g : (⟨S1024, .f32⟩ : BufTy).Contents (Elt Ideal))
  (sh sc : (⟨S32x1024, .f32⟩ : BufTy).Contents (Elt Ideal)) (w : (⟨S1024x3072, .f32⟩ : BufTy).Contents (Elt Ideal))

/-- The reference's modulated norm at an element. -/
theorem normed_at (b : Fin 32) (s : Fin 16) (d : Fin 1024) :
    val_main_v21 (F := Ideal) x g sh sc (ix3 b s d)
      = normAt (fun k => x (ix2 ⟨b.val * 16 + s.val, by have := b.isLt; have := s.isLt; omega⟩ k)) (fun k => g (ix1 k))
          (fun k => sc (ix2 b k)) (fun k => sh (ix2 b k)) d := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  rfl

/-- A row of the reference's norm against a column of the weights. -/
def proj (r : Fin 512) (e : Fin 3072) : EReal :=
  ∑ k : Fin 1024, normAt (fun k => x (ix2 r k)) (fun k => g (ix1 k)) (fun k => sc (ix2 ⟨r.val / 16, by have := r.isLt; omega⟩ k))
    (fun k => sh (ix2 ⟨r.val / 16, by have := r.isLt; omega⟩ k)) k * w (ix2 k e)

/-- The reference's product at an element. -/
theorem proj_eq (r : Fin 512) (e : Fin 3072) :
    ∑ k : Fin 1024, (val_main_v21 (F := Ideal) x g sh sc (ix3 ⟨r.val / 16, by have := r.isLt; omega⟩ ⟨r.val % 16, by omega⟩ k) : EReal)
      * w (ix2 k e) = proj x g sh sc w r e := by
  refine Finset.sum_congr rfl fun k _ => ?_
  rw [normed_at]
  congr 3
  funext k
  congr 2
  exact Fin.ext (by show r.val / 16 * 16 + r.val % 16 = r.val; omega)

/-- The reference's scaled queries at an element. -/
theorem q_at (r : Fin 512) (d : Fin 1024) :
    val_main_v32 (F := Ideal) x g sh sc w (ix2 r d)
      = proj x g sh sc w r ⟨d.val, by have := d.isLt; omega⟩ * Ideal.ofBits FTy.f32 0x3E000000#32 := by
  pointwise [val_main_v32, val_main_v31, val_main_v30, val_main_cst_3, val_main_v25, val_main_v24, val_main_v23, val_main_v22]
  exact congrArg (· * _) (proj_eq x g sh sc w r ⟨d.val, by have := d.isLt; omega⟩)

/-- The reference's keys at an element. -/
theorem k_at (r : Fin 512) (d : Fin 1024) :
    val_main_v27 (F := Ideal) x g sh sc w (ix2 r d) = proj x g sh sc w r ⟨1024 + d.val, by have := d.isLt; omega⟩ := by
  pointwise [val_main_v27, val_main_v26, val_main_v23, val_main_v22]
  exact proj_eq x g sh sc w r ⟨1024 + d.val, by have := d.isLt; omega⟩

/-- The reference's rounded keys at an element. -/
theorem kb_at (r : Fin 512) (d : Fin 1024) :
    val_main_v33 (F := Ideal) x g sh sc w (ix2 r d) = proj x g sh sc w r ⟨1024 + d.val, by have := d.isLt; omega⟩ := by
  pointwise [val_main_v33]
  exact k_at x g sh sc w r d

/-- The reference's values at an element. -/
theorem v_at (r : Fin 512) (d : Fin 1024) :
    val_main_v29 (F := Ideal) x g sh sc w (ix2 r d) = proj x g sh sc w r ⟨2048 + d.val, by have := d.isLt; omega⟩ := by
  pointwise [val_main_v29, val_main_v28, val_main_v23, val_main_v22]
  exact proj_eq x g sh sc w r ⟨2048 + d.val, by have := d.isLt; omega⟩

/-- The reference's rounded values at an element. -/
theorem vb_at (r : Fin 512) (d : Fin 1024) :
    val_main_v34 (F := Ideal) x g sh sc w (ix2 r d) = proj x g sh sc w r ⟨2048 + d.val, by have := d.isLt; omega⟩ := by
  pointwise [val_main_v34]
  exact v_at x g sh sc w r d

end Cert.QkvSampleReferenceIdeal.QkvRef

namespace Cert.QkvSampleIdeal.QkvSampleValue

open Cert.QkvSampleIdeal Cert.QkvSampleIdeal.Gen Cert.NormMath Cert.QkvSampleReferenceIdeal.QkvRef
open Idealize.ShloMosaic Idealize.ShloMosaic.TcCoe Idealize.SL.Sem Finset
open Cert.QkvSampleReferenceIdeal.Read (val_main_v32 val_main_v27 val_main_v33 val_main_v29 val_main_v34)

/-! ## One block -/

section Block

variable (x : FVec Ideal S512x1024 .f32) (g : FVec Ideal S1x1024 .f32) (sh sc : FVec Ideal S512x1024 .f32)

/-- The kernel's modulated norm at an element of a block. -/
theorem normed_at (r : Fin 512) (d : Fin 1024) :
    k0_pay4 (F := Ideal) x g sh sc (ix2 r d)
      = normAt (fun k => x (ix2 r k)) (fun k => g (ix2 0 k)) (fun k => sc (ix2 r k)) (fun k => sh (ix2 r k)) d := by
  pointwise [k0_pay4]
  rfl

variable (w : FVec Ideal S1024x1024 .bf16)

/-- The kernel's scaled queries at an element of a block. -/
theorem q_block (r : Fin 512) (d : Fin 1024) :
    k0_pay5 (F := Ideal) x g sh sc w (ix2 r d)
      = (∑ k, k0_pay4 (F := Ideal) x g sh sc (ix2 r k) * w (ix2 k d)) * Ideal.ofBits FTy.f32 0x3E000000#32 := by
  pointwise [k0_pay5]

/-- The kernel's keys at an element of a block. -/
theorem k_block (r : Fin 512) (d : Fin 1024) :
    k0_pay6 (F := Ideal) x g sh sc w (ix2 r d) = ∑ k, k0_pay4 (F := Ideal) x g sh sc (ix2 r k) * w (ix2 k d) := by
  pointwise [k0_pay6]

/-- The kernel's rounded keys at an element of a block. -/
theorem kb_block (r : Fin 512) (d : Fin 1024) :
    k0_pay1 (F := Ideal) (k0_pay6 x g sh sc w) (ix2 r d) = ∑ k, k0_pay4 (F := Ideal) x g sh sc (ix2 r k) * w (ix2 k d) := by
  pointwise [k0_pay1]
  exact k_block x g sh sc w r d

/-- The kernel's values at an element of a block. -/
theorem v_block (h : FVec Ideal S512x1024 .bf16) (r : Fin 512) (d : Fin 1024) :
    k0_pay2 (F := Ideal) h w (ix2 r d) = ∑ k, h (ix2 r k) * w (ix2 k d) := by
  pointwise [k0_pay2]

/-- The kernel's rounded values at an element of a block. -/
theorem vb_block (h : FVec Ideal S512x1024 .bf16) (r : Fin 512) (d : Fin 1024) :
    k0_pay3 (F := Ideal) h w (ix2 r d) = ∑ k, h (ix2 r k) * w (ix2 k d) := by
  pointwise [k0_pay3, k0_pay2]

end Block

/-! ## The windows' blocks -/

section Windows

variable (m : (ℓ : Loc nD τ sig) → Buf (Elt Ideal) ℓ) (c : Dev nD)

/-- The layer's input. -/
abbrev aX : FVec Ideal S512x1024 .f32 := m ((c.tc : Thread nD τ).loc main_arg0)
/-- The norm's gain. -/
abbrev aG : FVec Ideal S1024 .f32 := m ((c.tc : Thread nD τ).loc main_arg1)
/-- The modulation's shift. -/
abbrev aSh : FVec Ideal S32x1024 .f32 := m ((c.tc : Thread nD τ).loc main_arg2)
/-- The modulation's scale. -/
abbrev aSc : FVec Ideal S32x1024 .f32 := m ((c.tc : Thread nD τ).loc main_arg3)
/-- The weights. -/
abbrev aW : FVec Ideal S1024x3072 .f32 := m ((c.tc : Thread nD τ).loc main_arg4)

/-- The batch of a row: each has 16. -/
def bat (r : Fin 512) : Fin 32 := ⟨r.val / 16, by have := r.isLt; omega⟩

/-- The gain as a row. -/
theorem row_gain : (V (F := Ideal) m c main_v10 : FVec Ideal S1x1024 .f32) = broadcastInDim S1x1024 ![1] bcast_S1024_S1x1024_1 (aG m c) := by
  unfold_abbrev_sides
  after_results

/-- The shift of every row at an element: its batch's. -/
theorem row_shift (r : Fin 512) (d : Fin 1024) : (V (F := Ideal) m c main_v7 : FVec Ideal S512x1024 .f32) (ix2 r d) = aSh m c (ix2 (bat r) d) := by
  have h : (V (F := Ideal) m c main_v7 : FVec Ideal S512x1024 .f32)
      = shapeCast S512x1024 (broadcastInDim S32x16x1024 ![0, 2] bcast_S32x1024_S32x16x1024_0_2 (aSh m c)) shapeCasts_S32x16x1024_S512x1024 := by
    unfold_abbrev_sides
    after_results
    rfl
  rw [h]
  pointwise
  rfl

/-- The scale of every row at an element: its batch's. -/
theorem row_scale (r : Fin 512) (d : Fin 1024) : (V (F := Ideal) m c main_v9 : FVec Ideal S512x1024 .f32) (ix2 r d) = aSc m c (ix2 (bat r) d) := by
  have h : (V (F := Ideal) m c main_v9 : FVec Ideal S512x1024 .f32)
      = shapeCast S512x1024 (broadcastInDim S32x16x1024 ![0, 2] bcast_S32x1024_S32x16x1024_0_2 (aSc m c)) shapeCasts_S32x16x1024_S512x1024 := by
    unfold_abbrev_sides
    after_results
    rfl
  rw [h]
  pointwise
  rfl

/-- The queries' columns of the weights. -/
theorem cols_q : (V (F := Ideal) m c main_v1 : FVec Ideal S1024x1024 .bf16)
    = truncf .bf16 (extractStridedSlice S1024x1024 ![0, 0] (aW m c) slices_S1024x3072_S1024x1024_0_0 : FVec Ideal S1024x1024 .f32) bitsLt_bf16_f32 := by
  unfold_abbrev_sides
  after_results

/-- The keys' columns of the weights. -/
theorem cols_k : (V (F := Ideal) m c main_v3 : FVec Ideal S1024x1024 .bf16)
    = truncf .bf16 (extractStridedSlice S1024x1024 ![0, 1024] (aW m c) slices_S1024x3072_S1024x1024_0_1024 : FVec Ideal S1024x1024 .f32) bitsLt_bf16_f32 := by
  unfold_abbrev_sides
  after_results

/-- The values' columns of the weights. -/
theorem cols_v : (V (F := Ideal) m c main_v5 : FVec Ideal S1024x1024 .bf16)
    = truncf .bf16 (extractStridedSlice S1024x1024 ![0, 2048] (aW m c) slices_S1024x3072_S1024x1024_0_2048 : FVec Ideal S1024x1024 .f32) bitsLt_bf16_f32 := by
  unfold_abbrev_sides
  after_results

/-- Where the windows' blocks lie at a grid point. -/
theorem index_eq : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] := by decide +kernel

variable (t : Fin cfg0.N)

/-- The input's block. -/
theorem blk_x (r : Fin 512) (d : Fin 1024) : (iblk (F := Ideal) m c 0 t : FVec Ideal S512x1024 .f32) (ix2 r d) = aX m c (ix2 r d) := by
  have e := index_eq t
  blk_ext [iblk, V_main_arg0, e.1]

/-- The gain's block. -/
theorem blk_g (d : Fin 1024) : (iblk (F := Ideal) m c 1 t : FVec Ideal S1x1024 .f32) (ix2 0 d) = aG m c (ix1 d) := by
  have e := index_eq t
  have h : (iblk (F := Ideal) m c 1 t : FVec Ideal S1x1024 .f32) (ix2 0 d) = (V (F := Ideal) m c main_v10 : FVec Ideal S1x1024 .f32) (ix2 0 d) := by
    blk_ext [iblk, e.2.1]
  rw [h, row_gain]
  pointwise

/-- The shift's block. -/
theorem blk_sh (r : Fin 512) (d : Fin 1024) : (iblk (F := Ideal) m c 2 t : FVec Ideal S512x1024 .f32) (ix2 r d) = aSh m c (ix2 (bat r) d) := by
  have e := index_eq t
  have h : (iblk (F := Ideal) m c 2 t : FVec Ideal S512x1024 .f32) (ix2 r d) = (V (F := Ideal) m c main_v7 : FVec Ideal S512x1024 .f32) (ix2 r d) := by
    blk_ext [iblk, e.2.2.1]
  rw [h, row_shift]

/-- The scale's block. -/
theorem blk_sc (r : Fin 512) (d : Fin 1024) : (iblk (F := Ideal) m c 3 t : FVec Ideal S512x1024 .f32) (ix2 r d) = aSc m c (ix2 (bat r) d) := by
  have e := index_eq t
  have h : (iblk (F := Ideal) m c 3 t : FVec Ideal S512x1024 .f32) (ix2 r d) = (V (F := Ideal) m c main_v9 : FVec Ideal S512x1024 .f32) (ix2 r d) := by
    blk_ext [iblk, e.2.2.2.1]
  rw [h, row_scale]

/-- The queries' weights. -/
theorem blk_wq (k d : Fin 1024) : (iblk (F := Ideal) m c 4 t : FVec Ideal S1024x1024 .bf16) (ix2 k d)
    = aW m c (ix2 k ⟨d.val, by have := d.isLt; omega⟩) := by
  have e := index_eq t
  have h : (iblk (F := Ideal) m c 4 t : FVec Ideal S1024x1024 .bf16) (ix2 k d) = (V (F := Ideal) m c main_v1 : FVec Ideal S1024x1024 .bf16) (ix2 k d) := by
    blk_ext [iblk, e.2.2.2.2.1]
  rw [h, cols_q]
  pointwise

/-- The keys' weights. -/
theorem blk_wk (k d : Fin 1024) : (iblk (F := Ideal) m c 5 t : FVec Ideal S1024x1024 .bf16) (ix2 k d)
    = aW m c (ix2 k ⟨1024 + d.val, by have := d.isLt; omega⟩) := by
  have e := index_eq t
  have h : (iblk (F := Ideal) m c 5 t : FVec Ideal S1024x1024 .bf16) (ix2 k d) = (V (F := Ideal) m c main_v3 : FVec Ideal S1024x1024 .bf16) (ix2 k d) := by
    blk_ext [iblk, e.2.2.2.2.2.1]
  rw [h, cols_k]
  pointwise

/-- The values' weights. -/
theorem blk_wv (k d : Fin 1024) : (iblk (F := Ideal) m c 6 t : FVec Ideal S1024x1024 .bf16) (ix2 k d)
    = aW m c (ix2 k ⟨2048 + d.val, by have := d.isLt; omega⟩) := by
  have e := index_eq t
  have h : (iblk (F := Ideal) m c 6 t : FVec Ideal S1024x1024 .bf16) (ix2 k d) = (V (F := Ideal) m c main_v5 : FVec Ideal S1024x1024 .bf16) (ix2 k d) := by
    blk_ext [iblk, e.2.2.2.2.2.2.1]
  rw [h, cols_v]
  pointwise

/-- The rows against a column of the weights, as the reference has them. -/
theorem product (r : Fin 512) (f : Fin 1024 → EReal) (col : Fin 3072) (hf : ∀ k, f k = aW m c (ix2 k col)) :
    ∑ k, k0_pay4 (F := Ideal) (iblk m c 0 t) (iblk m c 1 t) (iblk m c 2 t) (iblk m c 3 t) (ix2 r k) * f k
      = proj (aX m c) (aG m c) (aSh m c) (aSc m c) (aW m c) r col := by
  refine Finset.sum_congr rfl fun k _ => ?_
  rw [hf, normed_at, funext (blk_x m c t r), funext (blk_g m c t), funext (blk_sh m c t r), funext (blk_sc m c t r)]
  rfl

end Windows

/-! ## The whole arrays -/

section Arrays

variable (m : (ℓ : Loc nD τ sig) → Buf (Elt Ideal) ℓ) (c : Dev nD)

/-- An index of a block by its coordinates. -/
theorem ix_eq (y : S512x1024.Idx) : y = ix2 (⟨(y 0).val, (y 0).isLt⟩ : Fin 512) (⟨(y 1).val, (y 1).isLt⟩ : Fin 1024) := by
  funext a
  match a with
  | ⟨0, _⟩ => rfl
  | ⟨1, _⟩ => rfl

/-- After the run the array of the queries is the reference's. -/
theorem final_7 : (dats (F := Ideal) m 0 c).arrAt 7 cfg0.N
    = (val_main_v32 (F := Ideal) (aX m c) (aG m c) (aSh m c) (aSc m c) (aW m c) : FVec Ideal S512x1024 .bf16) := by
  refine (dats m 0 c).arrAt_eq_of_covers 7 _ (by decide +kernel) fun t _ y => ?_
  blk_simp
  rw [after0_7]
  frame_out [k0_pay7, k0_pay8]
  rw [ix_eq y]
  generalize (⟨(y 0).val, (y 0).isLt⟩ : Fin 512) = r
  generalize (⟨(y 1).val, (y 1).isLt⟩ : Fin 1024) = d
  have hi : ((View.whole main_v11_0).slice (win0_7.rect t)).emb (ix2 r d) = ix2 r d := by
    have e := index_eq t
    blk_ext [e]
  rw [hi]
  refine Eq.trans (q_block _ _ _ _ _ r d) (Eq.trans ?_ (q_at _ _ _ _ _ r d).symm)
  exact congrArg (· * _) (product m c t r (fun k => (iblk (F := Ideal) m c 4 t : FVec Ideal S1024x1024 .bf16) (ix2 k d)) _ fun k => blk_wq m c t k d)

/-- After the run the array of the keys is the reference's. -/
theorem final_8 : (dats (F := Ideal) m 0 c).arrAt 8 cfg0.N
    = (val_main_v27 (F := Ideal) (aX m c) (aG m c) (aSh m c) (aSc m c) (aW m c) : FVec Ideal S512x1024 .f32) := by
  refine (dats m 0 c).arrAt_eq_of_covers 8 _ (by decide +kernel) fun t _ y => ?_
  blk_simp
  rw [after0_8]
  frame_out [k0_pay7, k0_pay8]
  rw [ix_eq y]
  generalize (⟨(y 0).val, (y 0).isLt⟩ : Fin 512) = r
  generalize (⟨(y 1).val, (y 1).isLt⟩ : Fin 1024) = d
  have hi : ((View.whole main_v11_1).slice (win0_8.rect t)).emb (ix2 r d) = ix2 r d := by
    have e := index_eq t
    blk_ext [e]
  rw [hi]
  refine Eq.trans (k_block _ _ _ _ _ r d) (Eq.trans ?_ (k_at _ _ _ _ _ r d).symm)
  exact product m c t r (fun k => (iblk (F := Ideal) m c 5 t : FVec Ideal S1024x1024 .bf16) (ix2 k d)) _ fun k => blk_wk m c t k d

/-- After the run the array of the rounded keys is the reference's. -/
theorem final_9 : (dats (F := Ideal) m 0 c).arrAt 9 cfg0.N
    = (val_main_v33 (F := Ideal) (aX m c) (aG m c) (aSh m c) (aSc m c) (aW m c) : FVec Ideal S512x1024 .bf16) := by
  refine (dats m 0 c).arrAt_eq_of_covers 9 _ (by decide +kernel) fun t _ y => ?_
  blk_simp
  rw [after0_9]
  frame_out [k0_pay7, k0_pay8]
  rw [ix_eq y]
  generalize (⟨(y 0).val, (y 0).isLt⟩ : Fin 512) = r
  generalize (⟨(y 1).val, (y 1).isLt⟩ : Fin 1024) = d
  have hi : ((View.whole main_v11_2).slice (win0_9.rect t)).emb (ix2 r d) = ix2 r d := by
    have e := index_eq t
    blk_ext [e]
  rw [hi]
  refine Eq.trans (kb_block _ _ _ _ _ r d) (Eq.trans ?_ (kb_at _ _ _ _ _ r d).symm)
  exact product m c t r (fun k => (iblk (F := Ideal) m c 5 t : FVec Ideal S1024x1024 .bf16) (ix2 k d)) _ fun k => blk_wk m c t k d

/-- After the run the array of the values is the reference's. -/
theorem final_10 : (dats (F := Ideal) m 0 c).arrAt 10 cfg0.N
    = (val_main_v29 (F := Ideal) (aX m c) (aG m c) (aSh m c) (aSc m c) (aW m c) : FVec Ideal S512x1024 .f32) := by
  refine (dats m 0 c).arrAt_eq_of_covers 10 _ (by decide +kernel) fun t _ y => ?_
  blk_simp
  rw [after0_10]
  frame_out [k0_pay7, k0_pay8]
  rw [ix_eq y]
  generalize (⟨(y 0).val, (y 0).isLt⟩ : Fin 512) = r
  generalize (⟨(y 1).val, (y 1).isLt⟩ : Fin 1024) = d
  have hi : ((View.whole main_v11_3).slice (win0_10.rect t)).emb (ix2 r d) = ix2 r d := by
    have e := index_eq t
    blk_ext [e]
  rw [hi]
  refine Eq.trans (v_block _ _ r d) (Eq.trans ?_ (v_at _ _ _ _ _ r d).symm)
  exact product m c t r (fun k => (iblk (F := Ideal) m c 6 t : FVec Ideal S1024x1024 .bf16) (ix2 k d)) _ fun k => blk_wv m c t k d

/-- After the run the array of the rounded values is the reference's. -/
theorem final_11 : (dats (F := Ideal) m 0 c).arrAt 11 cfg0.N
    = (val_main_v34 (F := Ideal) (aX m c) (aG m c) (aSh m c) (aSc m c) (aW m c) : FVec Ideal S512x1024 .bf16) := by
  refine (dats m 0 c).arrAt_eq_of_covers 11 _ (by decide +kernel) fun t _ y => ?_
  blk_simp
  rw [after0_11]
  frame_out [k0_pay7, k0_pay8]
  rw [ix_eq y]
  generalize (⟨(y 0).val, (y 0).isLt⟩ : Fin 512) = r
  generalize (⟨(y 1).val, (y 1).isLt⟩ : Fin 1024) = d
  have hi : ((View.whole main_v11_4).slice (win0_11.rect t)).emb (ix2 r d) = ix2 r d := by
    have e := index_eq t
    blk_ext [e]
  rw [hi]
  refine Eq.trans (vb_block _ _ r d) (Eq.trans ?_ (vb_at _ _ _ _ _ r d).symm)
  exact product m c t r (fun k => (iblk (F := Ideal) m c 6 t : FVec Ideal S1024x1024 .bf16) (ix2 k d)) _ fun k => blk_wv m c t k d

end Arrays

end Cert.QkvSampleIdeal.QkvSampleValue

end
-- ==== Proof.MixInValue.lean ====
/-
  The input projections of the even layer's recurrences: each grid point's block of 512 rows is the modulated norm of its rows
  against the weights' columns, which is the reference's product at those rows; the blocks make up the whole arrays. The gate's
  16 columns are widened to 128 with zeros, in the weights by the kernel's host, in the result by the reference.
-/
module

public import proofs.«01_k».proof.Proof.Gen.MixInIdeal.Value
public import proofs.«01_k».proof.Proof.Gen.MixInReferenceIdeal.Read
public import proofs.«01_k».proof.Proof.NormMath
public import Idealize.ShloMosaic.Lib.Pointwise
public import Idealize.ShloMosaic.Lib.Pipeline.Covers
public import Idealize.ShloMosaic.Lib.Pipeline.ValueKit.Acc
public import Idealize.ShloMosaic.Lib.Pipeline.ValueKit.Geometry
public import Idealize.ShloMosaic.Lib.Claim

@[expose] public section

set_option maxRecDepth 16384

noncomputable section

namespace Cert.MixInReferenceIdeal.MixInRef

open Cert.MixInReferenceIdeal Cert.MixInReferenceIdeal.Gen Cert.MixInReferenceIdeal.Read Cert.NormMath
open Idealize.ShloMosaic Idealize.ShloMosaic.TcCoe Idealize.SL.Sem Finset

variable (x : (⟨S65536x1024, .f32⟩ : BufTy).Contents (Elt Ideal)) (g : (⟨S1024, .f32⟩ : BufTy).Contents (Elt Ideal))
  (sh sc : (⟨S8x1024, .f32⟩ : BufTy).Contents (Elt Ideal)) (w : (⟨S1024x2576, .f32⟩ : BufTy).Contents (Elt Ideal))

/-- The reference's modulated norm at an element. -/
theorem normed_at (b : Fin 8) (s : Fin 8192) (d : Fin 1024) :
    val_main_v21 (F := Ideal) x g sh sc (ix3 b s d)
      = normAt (fun k => x (ix2 ⟨b.val * 8192 + s.val, by have := b.isLt; have := s.isLt; omega⟩ k)) (fun k => g (ix1 k))
          (fun k => sc (ix2 b k)) (fun k => sh (ix2 b k)) d := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  rfl

/-- A row of the reference's norm against a column of the weights. -/
def proj (r : Fin 65536) (e : Fin 2576) : EReal :=
  ∑ k : Fin 1024, normAt (fun k => x (ix2 r k)) (fun k => g (ix1 k)) (fun k => sc (ix2 ⟨r.val / 8192, by have := r.isLt; omega⟩ k))
    (fun k => sh (ix2 ⟨r.val / 8192, by have := r.isLt; omega⟩ k)) k * w (ix2 k e)

/-- The reference's product at an element. -/
theorem proj_eq (r : Fin 65536) (e : Fin 2576) :
    ∑ k : Fin 1024, (val_main_v21 (F := Ideal) x g sh sc (ix3 ⟨r.val / 8192, by have := r.isLt; omega⟩ ⟨r.val % 8192, by omega⟩ k) : EReal)
      * w (ix2 k e) = proj x g sh sc w r e := by
  refine Finset.sum_congr rfl fun k _ => ?_
  rw [normed_at]
  congr 3
  funext k
  congr 2
  exact Fin.ext (by show r.val / 8192 * 8192 + r.val % 8192 = r.val; omega)

/-- The same with the column given by its number. -/
theorem proj_eq' (r : Fin 65536) (e e' : Fin 2576) (h : e.val = e'.val) :
    ∑ k : Fin 1024, (val_main_v21 (F := Ideal) x g sh sc (ix3 ⟨r.val / 8192, by have := r.isLt; omega⟩ ⟨r.val % 8192, by omega⟩ k) : EReal)
      * w (ix2 k e) = proj x g sh sc w r e' := by
  rw [proj_eq, Fin.ext h]

/-- The column of the weights under a column of a 512-wide piece that begins at `o`. -/
def col (o : ℕ) (ho : o ≤ 2064) (d : Fin 512) : Fin 2576 := ⟨o + d.val, by have := d.isLt; omega⟩

/-- The word zero as a float. -/
theorem sitofp_zero : (FloatOps.sitofp (F := Ideal) .f32 0#32 : EReal) = 0 := by
  show (((0#32 : BitVec 32).toInt : ℝ) : EReal) = 0
  simp

/-- The reference's queries and keys at an element. -/
theorem at_0 (r : Fin 65536) (d : Fin 512) :
    val_main_v24 (F := Ideal) x g sh sc w (ix2 r d) = proj x g sh sc w r (col 0 (by decide) d) := by
  pointwise [val_main_v24, val_main_v23, val_main_v22]
  exact proj_eq' x g sh sc w r _ _ (by show d.val = 0 + d.val; omega)

/-- The reference's values at an element. -/
theorem at_1 (r : Fin 65536) (d : Fin 512) :
    val_main_v25 (F := Ideal) x g sh sc w (ix2 r d) = proj x g sh sc w r (col 512 (by decide) d) := by
  pointwise [val_main_v25, val_main_v23, val_main_v22]
  exact proj_eq' x g sh sc w r _ _ (rfl)

/-- The reference's output gate at an element. -/
theorem at_2 (r : Fin 65536) (d : Fin 512) :
    val_main_v26 (F := Ideal) x g sh sc w (ix2 r d) = proj x g sh sc w r (col 1024 (by decide) d) := by
  pointwise [val_main_v26, val_main_v23, val_main_v22]
  exact proj_eq' x g sh sc w r _ _ (rfl)

/-- The reference's decay gate at an element, widened. -/
theorem at_3 (r : Fin 65536) (d : Fin 128) :
    val_main_v30 (F := Ideal) x g sh sc w (ix2 r d)
      = if h : d.val < 16 then proj x g sh sc w r ⟨1536 + d.val, by omega⟩ else (0 : EReal) := by
  pointwise [val_main_v30, val_main_v27, val_main_v23, val_main_v22, val_main_call0_v0, val_main_c]
  split
  · exact proj_eq x g sh sc w r _
  · exact sitofp_zero

/-- The reference's recurrence input at an element. -/
theorem at_4 (r : Fin 65536) (d : Fin 512) :
    val_main_v28 (F := Ideal) x g sh sc w (ix2 r d) = proj x g sh sc w r (col 1552 (by decide) d) := by
  pointwise [val_main_v28, val_main_v23, val_main_v22]
  exact proj_eq' x g sh sc w r _ _ (rfl)

/-- The reference's recurrence gate at an element. -/
theorem at_5 (r : Fin 65536) (d : Fin 512) :
    val_main_v29 (F := Ideal) x g sh sc w (ix2 r d) = proj x g sh sc w r (col 2064 (by decide) d) := by
  pointwise [val_main_v29, val_main_v23, val_main_v22]
  exact proj_eq' x g sh sc w r _ _ (rfl)

end Cert.MixInReferenceIdeal.MixInRef

namespace Cert.MixInIdeal.MixInValue

open Cert.MixInIdeal Cert.MixInIdeal.Gen Cert.NormMath Cert.MixInReferenceIdeal.MixInRef
open Idealize.ShloMosaic Idealize.ShloMosaic.TcCoe Idealize.SL.Sem Finset
open Cert.MixInReferenceIdeal.Read (val_main_v24 val_main_v25 val_main_v26 val_main_v28 val_main_v29 val_main_v30)

/-! ## One block -/

section Block

variable (x : FVec Ideal S512x1024 .f32) (g : FVec Ideal S1x1024 .f32) (sh sc : FVec Ideal S1x1x1024 .f32)

/-- The kernel's modulated norm at an element of a block. -/
theorem normed_at (r : Fin 512) (d : Fin 1024) :
    k0_pay5 (F := Ideal) x g sh sc (ix2 r d)
      = normAt (fun k => x (ix2 r k)) (fun k => g (ix2 0 k)) (fun k => sc (ix3 0 0 k)) (fun k => sh (ix3 0 0 k)) d := by
  pointwise [k0_pay5]
  rfl

/-- The kernel's queries and keys at an element of a block. -/
theorem block_0 (w : FVec Ideal S1024x512 .bf16) (r : Fin 512) (d : Fin 512) :
    k0_pay6 (F := Ideal) x g sh sc w (ix2 r d) = ∑ k, k0_pay5 (F := Ideal) x g sh sc (ix2 r k) * w (ix2 k d) := by
  pointwise [k0_pay6]

/-- The kernel's values at an element of a block. -/
theorem block_1 (w : FVec Ideal S1024x512 .bf16) (r : Fin 512) (d : Fin 512) :
    k0_pay7 (F := Ideal) x g sh sc w (ix2 r d) = ∑ k, k0_pay5 (F := Ideal) x g sh sc (ix2 r k) * w (ix2 k d) := by
  pointwise [k0_pay7]

/-- The kernel's output gate at an element of a block. -/
theorem block_2 (h : FVec Ideal S512x1024 .bf16) (w : FVec Ideal S1024x512 .bf16) (r : Fin 512) (d : Fin 512) :
    k0_pay1 (F := Ideal) h w (ix2 r d) = ∑ k, h (ix2 r k) * w (ix2 k d) := by
  pointwise [k0_pay1]

/-- The kernel's decay gate at an element of a block. -/
theorem block_3 (h : FVec Ideal S512x1024 .bf16) (w : FVec Ideal S1024x128 .bf16) (r : Fin 512) (d : Fin 128) :
    k0_pay2 (F := Ideal) h w (ix2 r d) = ∑ k, h (ix2 r k) * w (ix2 k d) := by
  pointwise [k0_pay2]

/-- The kernel's recurrence input at an element of a block. -/
theorem block_4 (h : FVec Ideal S512x1024 .bf16) (w : FVec Ideal S1024x512 .bf16) (r : Fin 512) (d : Fin 512) :
    k0_pay3 (F := Ideal) h w (ix2 r d) = ∑ k, h (ix2 r k) * w (ix2 k d) := by
  pointwise [k0_pay3]

/-- The kernel's recurrence gate at an element of a block. -/
theorem block_5 (h : FVec Ideal S512x1024 .bf16) (w : FVec Ideal S1024x512 .bf16) (r : Fin 512) (d : Fin 512) :
    k0_pay4 (F := Ideal) h w (ix2 r d) = ∑ k, h (ix2 r k) * w (ix2 k d) := by
  pointwise [k0_pay4]

end Block

/-! ## The windows' blocks -/

section Windows

variable (m : (ℓ : Loc nD τ sig) → Buf (Elt Ideal) ℓ) (c : Dev nD)

/-- The layer's input. -/
abbrev aX : FVec Ideal S65536x1024 .f32 := m ((c.tc : Thread nD τ).loc main_arg0)
/-- The norm's gain. -/
abbrev aG : FVec Ideal S1024 .f32 := m ((c.tc : Thread nD τ).loc main_arg1)
/-- The modulation's shift. -/
abbrev aSh : FVec Ideal S8x1024 .f32 := m ((c.tc : Thread nD τ).loc main_arg2)
/-- The modulation's scale. -/
abbrev aSc : FVec Ideal S8x1024 .f32 := m ((c.tc : Thread nD τ).loc main_arg3)
/-- The weights. -/
abbrev aW : FVec Ideal S1024x2576 .f32 := m ((c.tc : Thread nD τ).loc main_arg4)

/-- The gain as a row. -/
theorem row_gain : (V (F := Ideal) m c main_v15 : FVec Ideal S1x1024 .f32) = broadcastInDim S1x1024 ![1] bcast_S1024_S1x1024_1 (aG m c) := by
  unfold_abbrev_sides
  simp only [hostOps0, hostOps0_1, hostOps0_2, List.flatten_cons, List.flatten_nil, List.append_nil, List.cons_append, List.nil_append]
  after_results

/-- The shift with an axis put in. -/
theorem row_shift : (V (F := Ideal) m c main_v13 : FVec Ideal S8x1x1024 .f32)
    = broadcastInDim S8x1x1024 ![0, 2] bcast_S8x1024_S8x1x1024_0_2 (aSh m c) := by
  unfold_abbrev_sides
  simp only [hostOps0, hostOps0_1, hostOps0_2, List.flatten_cons, List.flatten_nil, List.append_nil, List.cons_append, List.nil_append]
  after_results

/-- The scale with an axis put in. -/
theorem row_scale : (V (F := Ideal) m c main_v14 : FVec Ideal S8x1x1024 .f32)
    = broadcastInDim S8x1x1024 ![0, 2] bcast_S8x1024_S8x1x1024_0_2 (aSc m c) := by
  unfold_abbrev_sides
  simp only [hostOps0, hostOps0_1, hostOps0_2, List.flatten_cons, List.flatten_nil, List.append_nil, List.cons_append, List.nil_append]
  after_results

/-- The queries and keys' columns of the weights. -/
theorem cols_0 : (V (F := Ideal) m c main_v7 : FVec Ideal S1024x512 .bf16)
    = truncf .bf16 (extractStridedSlice S1024x512 ![0, 0] (aW m c) slices_S1024x2576_S1024x512_0_0 : FVec Ideal S1024x512 .f32) bitsLt_bf16_f32 := by
  unfold_abbrev_sides
  simp only [hostOps0, hostOps0_1, hostOps0_2, List.flatten_cons, List.flatten_nil, List.append_nil, List.cons_append, List.nil_append]
  after_results

/-- The values' columns of the weights. -/
theorem cols_1 : (V (F := Ideal) m c main_v8 : FVec Ideal S1024x512 .bf16)
    = truncf .bf16 (extractStridedSlice S1024x512 ![0, 512] (aW m c) slices_S1024x2576_S1024x512_0_512 : FVec Ideal S1024x512 .f32) bitsLt_bf16_f32 := by
  unfold_abbrev_sides
  simp only [hostOps0, hostOps0_1, hostOps0_2, List.flatten_cons, List.flatten_nil, List.append_nil, List.cons_append, List.nil_append]
  after_results

/-- The output gate's columns of the weights. -/
theorem cols_2 : (V (F := Ideal) m c main_v9 : FVec Ideal S1024x512 .bf16)
    = truncf .bf16 (extractStridedSlice S1024x512 ![0, 1024] (aW m c) slices_S1024x2576_S1024x512_0_1024 : FVec Ideal S1024x512 .f32) bitsLt_bf16_f32 := by
  unfold_abbrev_sides
  simp only [hostOps0, hostOps0_1, hostOps0_2, List.flatten_cons, List.flatten_nil, List.append_nil, List.cons_append, List.nil_append]
  after_results

/-- The decay gate's columns of the weights, widened. -/
theorem cols_3 : (V (F := Ideal) m c main_v10 : FVec Ideal S1024x128 .bf16)
    = truncf .bf16 (pad S1024x128 ![0, 0] ![0, 112] ![0, 0] (extractStridedSlice S1024x16 ![0, 1536] (aW m c) slices_S1024x2576_S1024x16_0_1536 : FVec Ideal S1024x16 .f32) (sitofp .f32 (constantI S_ 32 0#32) : FVec Ideal S_ .f32) pads_S1024x16_S1024x128_000_01120 h_S_ : FVec Ideal S1024x128 .f32) bitsLt_bf16_f32 := by
  unfold_abbrev_sides
  simp only [hostOps0, hostOps0_1, hostOps0_2, List.flatten_cons, List.flatten_nil, List.append_nil, List.cons_append, List.nil_append]
  after_results
  rfl

/-- The recurrence input's columns of the weights. -/
theorem cols_4 : (V (F := Ideal) m c main_v11 : FVec Ideal S1024x512 .bf16)
    = truncf .bf16 (extractStridedSlice S1024x512 ![0, 1552] (aW m c) slices_S1024x2576_S1024x512_0_1552 : FVec Ideal S1024x512 .f32) bitsLt_bf16_f32 := by
  unfold_abbrev_sides
  simp only [hostOps0, hostOps0_1, hostOps0_2, List.flatten_cons, List.flatten_nil, List.append_nil, List.cons_append, List.nil_append]
  after_results

/-- The recurrence gate's columns of the weights. -/
theorem cols_5 : (V (F := Ideal) m c main_v12 : FVec Ideal S1024x512 .bf16)
    = truncf .bf16 (extractStridedSlice S1024x512 ![0, 2064] (aW m c) slices_S1024x2576_S1024x512_0_2064 : FVec Ideal S1024x512 .f32) bitsLt_bf16_f32 := by
  unfold_abbrev_sides
  simp only [hostOps0, hostOps0_1, hostOps0_2, List.flatten_cons, List.flatten_nil, List.append_nil, List.cons_append, List.nil_append]
  after_results

/-- Where the windows' blocks lie at a grid point. -/
theorem index_eq : ∀ t : Fin cfg0.N, win0_0.index t = ![t.val, 0] ∧ win0_1.index t = ![0, 0] ∧ win0_2.index t = ![t.val / 16, 0, 0]
    ∧ win0_3.index t = ![t.val / 16, 0, 0] ∧ win0_4.index t = ![0, 0] ∧ win0_5.index t = ![0, 0] ∧ win0_6.index t = ![0, 0]
    ∧ win0_7.index t = ![0, 0] ∧ win0_8.index t = ![0, 0] ∧ win0_9.index t = ![0, 0] := by decide +kernel

/-- Where the results' blocks lie at a grid point. -/
theorem index_out : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![t.val, 0] := by decide +kernel

/-- There are 128 grid points. -/
theorem point_lt (t : Fin cfg0.N) : t.val < 128 := t.isLt

variable (t : Fin cfg0.N)

/-- The row of the whole array under a row of the point's block. -/
def row (r : Fin 512) : Fin 65536 := ⟨t.val * 512 + r.val, by have := point_lt t; have := r.isLt; omega⟩

/-- The input's block. -/
theorem blk_x (r : Fin 512) (d : Fin 1024) : (iblk (F := Ideal) m c 0 t : FVec Ideal S512x1024 .f32) (ix2 r d) = aX m c (ix2 (row t r) d) := by
  have e := index_eq t
  unfold row
  blk_ext [iblk, V_main_arg0, e.1]

/-- The gain's block. -/
theorem blk_g (d : Fin 1024) : (iblk (F := Ideal) m c 1 t : FVec Ideal S1x1024 .f32) (ix2 0 d) = aG m c (ix1 d) := by
  have e := index_eq t
  have h : (iblk (F := Ideal) m c 1 t : FVec Ideal S1x1024 .f32) (ix2 0 d) = (V (F := Ideal) m c main_v15 : FVec Ideal S1x1024 .f32) (ix2 0 d) := by
    blk_ext [iblk, e.2.1]
  rw [h, row_gain]
  pointwise

/-- The batch of the point's rows. -/
def bat : Fin 8 := ⟨t.val / 16, by have := point_lt t; omega⟩

/-- The shift's block. -/
theorem blk_sh (d : Fin 1024) : (iblk (F := Ideal) m c 2 t : FVec Ideal S1x1x1024 .f32) (ix3 0 0 d) = aSh m c (ix2 (bat t) d) := by
  have e := index_eq t
  have h : (iblk (F := Ideal) m c 2 t : FVec Ideal S1x1x1024 .f32) (ix3 0 0 d) = (V (F := Ideal) m c main_v13 : FVec Ideal S8x1x1024 .f32) (ix3 (bat t) 0 d) := by
    unfold bat
    blk_ext [iblk, e.2.2.1]
  rw [h, row_shift]
  pointwise

/-- The scale's block. -/
theorem blk_sc (d : Fin 1024) : (iblk (F := Ideal) m c 3 t : FVec Ideal S1x1x1024 .f32) (ix3 0 0 d) = aSc m c (ix2 (bat t) d) := by
  have e := index_eq t
  have h : (iblk (F := Ideal) m c 3 t : FVec Ideal S1x1x1024 .f32) (ix3 0 0 d) = (V (F := Ideal) m c main_v14 : FVec Ideal S8x1x1024 .f32) (ix3 (bat t) 0 d) := by
    unfold bat
    blk_ext [iblk, e.2.2.2.1]
  rw [h, row_scale]
  pointwise

/-- The queries and keys' weights. -/
theorem blk_w0 (k : Fin 1024) (d : Fin 512) : (iblk (F := Ideal) m c 4 t : FVec Ideal S1024x512 .bf16) (ix2 k d)
    = aW m c (ix2 k (col 0 (by decide) d)) := by
  have e := index_eq t
  have h : (iblk (F := Ideal) m c 4 t : FVec Ideal S1024x512 .bf16) (ix2 k d) = (V (F := Ideal) m c main_v7 : FVec Ideal S1024x512 .bf16) (ix2 k d) := by
    blk_ext [iblk, e.2.2.2.2.1]
  rw [h, cols_0]
  unfold col
  pointwise

/-- The values' weights. -/
theorem blk_w1 (k : Fin 1024) (d : Fin 512) : (iblk (F := Ideal) m c 5 t : FVec Ideal S1024x512 .bf16) (ix2 k d)
    = aW m c (ix2 k (col 512 (by decide) d)) := by
  have e := index_eq t
  have h : (iblk (F := Ideal) m c 5 t : FVec Ideal S1024x512 .bf16) (ix2 k d) = (V (F := Ideal) m c main_v8 : FVec Ideal S1024x512 .bf16) (ix2 k d) := by
    blk_ext [iblk, e.2.2.2.2.2.1]
  rw [h, cols_1]
  unfold col
  pointwise

/-- The output gate's weights. -/
theorem blk_w2 (k : Fin 1024) (d : Fin 512) : (iblk (F := Ideal) m c 6 t : FVec Ideal S1024x512 .bf16) (ix2 k d)
    = aW m c (ix2 k (col 1024 (by decide) d)) := by
  have e := index_eq t
  have h : (iblk (F := Ideal) m c 6 t : FVec Ideal S1024x512 .bf16) (ix2 k d) = (V (F := Ideal) m c main_v9 : FVec Ideal S1024x512 .bf16) (ix2 k d) := by
    blk_ext [iblk, e.2.2.2.2.2.2.1]
  rw [h, cols_2]
  unfold col
  pointwise

/-- The decay gate's weights. -/
theorem blk_w3 (k : Fin 1024) (d : Fin 128) : (iblk (F := Ideal) m c 7 t : FVec Ideal S1024x128 .bf16) (ix2 k d)
    = if h : d.val < 16 then aW m c (ix2 k ⟨1536 + d.val, by omega⟩) else (0 : EReal) := by
  have e := index_eq t
  have h : (iblk (F := Ideal) m c 7 t : FVec Ideal S1024x128 .bf16) (ix2 k d) = (V (F := Ideal) m c main_v10 : FVec Ideal S1024x128 .bf16) (ix2 k d) := by
    blk_ext [iblk, e.2.2.2.2.2.2.2.1]
  rw [h, cols_3]
  pointwise
  simp only [sitofp_zero]

/-- The recurrence input's weights. -/
theorem blk_w4 (k : Fin 1024) (d : Fin 512) : (iblk (F := Ideal) m c 8 t : FVec Ideal S1024x512 .bf16) (ix2 k d)
    = aW m c (ix2 k (col 1552 (by decide) d)) := by
  have e := index_eq t
  have h : (iblk (F := Ideal) m c 8 t : FVec Ideal S1024x512 .bf16) (ix2 k d) = (V (F := Ideal) m c main_v11 : FVec Ideal S1024x512 .bf16) (ix2 k d) := by
    blk_ext [iblk, e.2.2.2.2.2.2.2.2.1]
  rw [h, cols_4]
  unfold col
  pointwise

/-- The recurrence gate's weights. -/
theorem blk_w5 (k : Fin 1024) (d : Fin 512) : (iblk (F := Ideal) m c 9 t : FVec Ideal S1024x512 .bf16) (ix2 k d)
    = aW m c (ix2 k (col 2064 (by decide) d)) := by
  have e := index_eq t
  have h : (iblk (F := Ideal) m c 9 t : FVec Ideal S1024x512 .bf16) (ix2 k d) = (V (F := Ideal) m c main_v12 : FVec Ideal S1024x512 .bf16) (ix2 k d) := by
    blk_ext [iblk, e.2.2.2.2.2.2.2.2.2]
  rw [h, cols_5]
  unfold col
  pointwise

/-- A point's rows against a column of the weights, as the reference has them. -/
theorem product (r : Fin 512) (f : Fin 1024 → EReal) (col : Fin 2576) (hf : ∀ k, f k = aW m c (ix2 k col)) :
    ∑ k, k0_pay5 (F := Ideal) (iblk m c 0 t) (iblk m c 1 t) (iblk m c 2 t) (iblk m c 3 t) (ix2 r k) * f k
      = proj (aX m c) (aG m c) (aSh m c) (aSc m c) (aW m c) (row t r) col := by
  refine Finset.sum_congr rfl fun k _ => ?_
  have hb : (⟨(row t r).val / 8192, by have := (row t r).isLt; omega⟩ : Fin 8) = bat t := by
    refine Fin.ext ?_
    have := r.isLt
    show (t.val * 512 + r.val) / 8192 = t.val / 16
    omega
  rw [hf, normed_at, hb, funext (blk_x m c t r), funext (blk_g m c t), funext (blk_sh m c t), funext (blk_sc m c t)]

/-- A row against a column of zeros. -/
theorem product_zero (f h : Fin 1024 → EReal) (hf : ∀ k, f k = 0) : ∑ k, h k * f k = 0 :=
  Finset.sum_eq_zero fun k _ => by rw [hf, mul_zero]

end Windows

/-! ## The whole arrays -/

section Arrays

variable (m : (ℓ : Loc nD τ sig) → Buf (Elt Ideal) ℓ) (c : Dev nD)

/-- An index of a block by its coordinates. -/
theorem ix_eq512 (y : S512x512.Idx) : y = ix2 (⟨(y 0).val, (y 0).isLt⟩ : Fin 512) (⟨(y 1).val, (y 1).isLt⟩ : Fin 512) := by
  funext a
  match a with
  | ⟨0, _⟩ => rfl
  | ⟨1, _⟩ => rfl

/-- An index of a block by its coordinates. -/
theorem ix_eq128 (y : S512x128.Idx) : y = ix2 (⟨(y 0).val, (y 0).isLt⟩ : Fin 512) (⟨(y 1).val, (y 1).isLt⟩ : Fin 128) := by
  funext a
  match a with
  | ⟨0, _⟩ => rfl
  | ⟨1, _⟩ => rfl

/-- After the run the array of the queries and keys is the reference's. -/
theorem final_10 : (dats (F := Ideal) m 0 c).arrAt 10 cfg0.N
    = (val_main_v24 (F := Ideal) (aX m c) (aG m c) (aSh m c) (aSc m c) (aW m c) : FVec Ideal S65536x512 .f32) := by
  refine (dats m 0 c).arrAt_eq_of_covers 10 _ (by decide +kernel) fun t _ y => ?_
  blk_simp
  rw [after0_10]
  frame_out [k0_pay8]
  rw [ix_eq512 y]
  generalize (⟨(y 0).val, (y 0).isLt⟩ : Fin 512) = r
  generalize (⟨(y 1).val, (y 1).isLt⟩ : Fin 512) = d
  have hi : ((View.whole main_v16_0).slice (win0_10.rect t)).emb (ix2 r d) = ix2 (row t r) d := by
    have e := index_out t
    unfold row
    blk_ext [e.1]
  rw [hi]
  refine Eq.trans (block_0 _ _ _ _ _ r d) (Eq.trans ?_ (at_0 _ _ _ _ _ (row t r) d).symm)
  exact product m c t r (fun k => (iblk (F := Ideal) m c 4 t : FVec Ideal S1024x512 .bf16) (ix2 k d)) _ fun k => blk_w0 m c t k d

/-- After the run the array of the values is the reference's. -/
theorem final_11 : (dats (F := Ideal) m 0 c).arrAt 11 cfg0.N
    = (val_main_v25 (F := Ideal) (aX m c) (aG m c) (aSh m c) (aSc m c) (aW m c) : FVec Ideal S65536x512 .f32) := by
  refine (dats m 0 c).arrAt_eq_of_covers 11 _ (by decide +kernel) fun t _ y => ?_
  blk_simp
  rw [after0_11]
  frame_out [k0_pay8]
  rw [ix_eq512 y]
  generalize (⟨(y 0).val, (y 0).isLt⟩ : Fin 512) = r
  generalize (⟨(y 1).val, (y 1).isLt⟩ : Fin 512) = d
  have hi : ((View.whole main_v16_1).slice (win0_11.rect t)).emb (ix2 r d) = ix2 (row t r) d := by
    have e := index_out t
    unfold row
    blk_ext [e.2.1]
  rw [hi]
  refine Eq.trans (block_1 _ _ _ _ _ r d) (Eq.trans ?_ (at_1 _ _ _ _ _ (row t r) d).symm)
  exact product m c t r (fun k => (iblk (F := Ideal) m c 5 t : FVec Ideal S1024x512 .bf16) (ix2 k d)) _ fun k => blk_w1 m c t k d

/-- After the run the array of the output gate is the reference's. -/
theorem final_12 : (dats (F := Ideal) m 0 c).arrAt 12 cfg0.N
    = (val_main_v26 (F := Ideal) (aX m c) (aG m c) (aSh m c) (aSc m c) (aW m c) : FVec Ideal S65536x512 .f32) := by
  refine (dats m 0 c).arrAt_eq_of_covers 12 _ (by decide +kernel) fun t _ y => ?_
  blk_simp
  rw [after0_12]
  frame_out [k0_pay8]
  rw [ix_eq512 y]
  generalize (⟨(y 0).val, (y 0).isLt⟩ : Fin 512) = r
  generalize (⟨(y 1).val, (y 1).isLt⟩ : Fin 512) = d
  have hi : ((View.whole main_v16_2).slice (win0_12.rect t)).emb (ix2 r d) = ix2 (row t r) d := by
    have e := index_out t
    unfold row
    blk_ext [e.2.2.1]
  rw [hi]
  refine Eq.trans (block_2 _ _ r d) (Eq.trans ?_ (at_2 _ _ _ _ _ (row t r) d).symm)
  exact product m c t r (fun k => (iblk (F := Ideal) m c 6 t : FVec Ideal S1024x512 .bf16) (ix2 k d)) _ fun k => blk_w2 m c t k d

/-- After the run the array of the decay gate is the reference's. -/
theorem final_13 : (dats (F := Ideal) m 0 c).arrAt 13 cfg0.N
    = (val_main_v30 (F := Ideal) (aX m c) (aG m c) (aSh m c) (aSc m c) (aW m c) : FVec Ideal S65536x128 .f32) := by
  refine (dats m 0 c).arrAt_eq_of_covers 13 _ (by decide +kernel) fun t _ y => ?_
  blk_simp
  rw [after0_13]
  frame_out [k0_pay8]
  rw [ix_eq128 y]
  generalize (⟨(y 0).val, (y 0).isLt⟩ : Fin 512) = r
  generalize (⟨(y 1).val, (y 1).isLt⟩ : Fin 128) = d
  have hi : ((View.whole main_v16_3).slice (win0_13.rect t)).emb (ix2 r d) = ix2 (row t r) d := by
    have e := index_out t
    unfold row
    blk_ext [e.2.2.2.1]
  rw [hi]
  refine Eq.trans (block_3 _ _ r d) (Eq.trans ?_ (at_3 _ _ _ _ _ (row t r) d).symm)
  by_cases h : d.val < 16
  · rw [dif_pos h]
    exact product m c t r (fun k => (iblk (F := Ideal) m c 7 t : FVec Ideal S1024x128 .bf16) (ix2 k d)) _ fun k => (blk_w3 m c t k d).trans (dif_pos h)
  · rw [dif_neg h]
    exact product_zero (fun k => (iblk (F := Ideal) m c 7 t : FVec Ideal S1024x128 .bf16) (ix2 k d)) _ fun k => (blk_w3 m c t k d).trans (dif_neg h)

/-- After the run the array of the recurrence input is the reference's. -/
theorem final_14 : (dats (F := Ideal) m 0 c).arrAt 14 cfg0.N
    = (val_main_v28 (F := Ideal) (aX m c) (aG m c) (aSh m c) (aSc m c) (aW m c) : FVec Ideal S65536x512 .f32) := by
  refine (dats m 0 c).arrAt_eq_of_covers 14 _ (by decide +kernel) fun t _ y => ?_
  blk_simp
  rw [after0_14]
  frame_out [k0_pay8]
  rw [ix_eq512 y]
  generalize (⟨(y 0).val, (y 0).isLt⟩ : Fin 512) = r
  generalize (⟨(y 1).val, (y 1).isLt⟩ : Fin 512) = d
  have hi : ((View.whole main_v16_4).slice (win0_14.rect t)).emb (ix2 r d) = ix2 (row t r) d := by
    have e := index_out t
    unfold row
    blk_ext [e.2.2.2.2.1]
  rw [hi]
  refine Eq.trans (block_4 _ _ r d) (Eq.trans ?_ (at_4 _ _ _ _ _ (row t r) d).symm)
  exact product m c t r (fun k => (iblk (F := Ideal) m c 8 t : FVec Ideal S1024x512 .bf16) (ix2 k d)) _ fun k => blk_w4 m c t k d

/-- After the run the array of the recurrence gate is the reference's. -/
theorem final_15 : (dats (F := Ideal) m 0 c).arrAt 15 cfg0.N
    = (val_main_v29 (F := Ideal) (aX m c) (aG m c) (aSh m c) (aSc m c) (aW m c) : FVec Ideal S65536x512 .f32) := by
  refine (dats m 0 c).arrAt_eq_of_covers 15 _ (by decide +kernel) fun t _ y => ?_
  blk_simp
  rw [after0_15]
  frame_out [k0_pay8]
  rw [ix_eq512 y]
  generalize (⟨(y 0).val, (y 0).isLt⟩ : Fin 512) = r
  generalize (⟨(y 1).val, (y 1).isLt⟩ : Fin 512) = d
  have hi : ((View.whole main_v16_5).slice (win0_15.rect t)).emb (ix2 r d) = ix2 (row t r) d := by
    have e := index_out t
    unfold row
    blk_ext [e.2.2.2.2.2]
  rw [hi]
  refine Eq.trans (block_5 _ _ r d) (Eq.trans ?_ (at_5 _ _ _ _ _ (row t r) d).symm)
  exact product m c t r (fun k => (iblk (F := Ideal) m c 9 t : FVec Ideal S1024x512 .bf16) (ix2 k d)) _ fun k => blk_w5 m c t k d

end Arrays

end Cert.MixInIdeal.MixInValue

end
-- ==== Proof.MixOutValue.lean ====
/-
  The layer's output projection: each grid point's block of 512 rows of the stream is its rows plus the gated product with the
  weights, and the second result is the modulated norm of the first; both are the reference's at those rows, and the blocks make
  up the whole arrays.
-/
module

public import proofs.«01_k».proof.Proof.Gen.MixOutIdeal.Value
public import proofs.«01_k».proof.Proof.Gen.MixOutReferenceIdeal.Read
public import proofs.«01_k».proof.Proof.NormMath
public import Idealize.ShloMosaic.Lib.Pointwise
public import Idealize.ShloMosaic.Lib.Pipeline.Covers
public import Idealize.ShloMosaic.Lib.Pipeline.ValueKit.Acc
public import Idealize.ShloMosaic.Lib.Pipeline.ValueKit.Geometry
public import Idealize.ShloMosaic.Lib.Claim

@[expose] public section

set_option maxRecDepth 16384

noncomputable section

namespace Cert.MixOutReferenceIdeal.MixOutRef

open Cert.MixOutReferenceIdeal Cert.MixOutReferenceIdeal.Gen Cert.MixOutReferenceIdeal.Read Cert.NormMath
open Idealize.ShloMosaic Idealize.ShloMosaic.TcCoe Idealize.SL.Sem Finset

variable (a : (⟨S65536x1024, .bf16⟩ : BufTy).Contents (Elt Ideal)) (w : (⟨S1024x1024, .f32⟩ : BufTy).Contents (Elt Ideal))
  (x : (⟨S65536x1024, .f32⟩ : BufTy).Contents (Elt Ideal)) (g : (⟨S8x1024, .f32⟩ : BufTy).Contents (Elt Ideal))
  (n : (⟨S1024, .f32⟩ : BufTy).Contents (Elt Ideal)) (sh sc : (⟨S8x1024, .f32⟩ : BufTy).Contents (Elt Ideal))

/-- The batch a row lies in. -/
def batOf (r : Fin 65536) : Fin 8 := ⟨r.val / 8192, by have := r.isLt; omega⟩

/-- The stream after the layer at an element: what it was, plus the gate times the row of `a` against a column of the weights. -/
def streamAt (r : Fin 65536) (d : Fin 1024) : EReal := x (ix2 r d) + g (ix2 (batOf r) d) * ∑ k : Fin 1024, a (ix2 r k) * w (ix2 k d)

/-- A row by its batch and its number in it. -/
theorem row_eq (r : Fin 65536) (h : r.val / 8192 * 8192 + r.val % 8192 < 65536) :
    (⟨r.val / 8192 * 8192 + r.val % 8192, h⟩ : Fin 65536) = r :=
  Fin.ext (by show r.val / 8192 * 8192 + r.val % 8192 = r.val; omega)

/-- The reference's stream at an element, by batch. -/
theorem stream_at (b : Fin 8) (s : Fin 8192) (d : Fin 1024) :
    val_main_v7 (F := Ideal) a w x g (ix3 b s d)
      = x (ix2 ⟨b.val * 8192 + s.val, by have := b.isLt; have := s.isLt; omega⟩ d)
        + g (ix2 b d) * ∑ k : Fin 1024, a (ix2 ⟨b.val * 8192 + s.val, by have := b.isLt; have := s.isLt; omega⟩ k) * w (ix2 k d) := by
  pointwise [val_main_v7, val_main_v6, val_main_v5, val_main_v4, val_main_v3, val_main_v2, val_main_v1, val_main_v0]

/-- The reference's modulated norm of the stream at an element, by batch. -/
theorem normed_at (b : Fin 8) (s : Fin 8192) (d : Fin 1024) :
    val_main_v28 (F := Ideal) a w x g n sh sc (ix3 b s d)
      = normAt (fun k => val_main_v7 (F := Ideal) a w x g (ix3 b s k)) (fun k => n (ix1 k))
          (fun k => sc (ix2 b k)) (fun k => sh (ix2 b k)) d := by
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_cst, val_main_cst_0, val_main_cst_1, val_main_cst_2]
  rfl

/-- The reference's stream at an element, by row. -/
theorem stream_row (r : Fin 65536) (d : Fin 1024) :
    val_main_v7 (F := Ideal) a w x g (ix3 (batOf r) ⟨r.val % 8192, by omega⟩ d) = streamAt a w x g r d := by
  rw [stream_at]
  have e := row_eq r (by have := r.isLt; omega)
  exact congrArg (fun q => x (ix2 q d) + g (ix2 (batOf r) d) * ∑ k : Fin 1024, a (ix2 q k) * w (ix2 k d)) e

/-- The reference's first result at an element. -/
theorem at_0 (r : Fin 65536) (d : Fin 1024) : val_main_v29 (F := Ideal) a w x g (ix2 r d) = streamAt a w x g r d := by
  refine Eq.trans ?_ (stream_row a w x g r d)
  pointwise [val_main_v29]
  rfl

/-- The reference's second result at an element. -/
theorem at_1 (r : Fin 65536) (d : Fin 1024) :
    val_main_v30 (F := Ideal) a w x g n sh sc (ix2 r d)
      = normAt (streamAt a w x g r) (fun k => n (ix1 k)) (fun k => sc (ix2 (batOf r) k)) (fun k => sh (ix2 (batOf r) k)) d := by
  have h : val_main_v30 (F := Ideal) a w x g n sh sc (ix2 r d)
      = val_main_v28 (F := Ideal) a w x g n sh sc (ix3 (batOf r) ⟨r.val % 8192, by omega⟩ d) := by
    pointwise [val_main_v30]
    rfl
  rw [h, normed_at]
  simp only [stream_row]

end Cert.MixOutReferenceIdeal.MixOutRef

namespace Cert.MixOutIdeal.MixOutValue

open Cert.MixOutIdeal Cert.MixOutIdeal.Gen Cert.NormMath Cert.MixOutReferenceIdeal.MixOutRef
open Idealize.ShloMosaic Idealize.ShloMosaic.TcCoe Idealize.SL.Sem Finset
open Cert.MixOutReferenceIdeal.Read (val_main_v29 val_main_v30)

/-! ## One block -/

section Block

variable (a : FVec Ideal S512x1024 .bf16) (w : FVec Ideal S1024x1024 .bf16) (x : FVec Ideal S512x1024 .f32)
  (g : FVec Ideal S1x1x1024 .f32) (n : FVec Ideal S1x1024 .f32) (sh sc : FVec Ideal S1x1x1024 .f32)

/-- The kernel's stream at an element of a block. -/
theorem stream_block (r : Fin 512) (d : Fin 1024) :
    k0_pay3 (F := Ideal) a w x g (ix2 r d) = x (ix2 r d) + g (ix3 0 0 d) * ∑ k, a (ix2 r k) * w (ix2 k d) := by
  pointwise [k0_pay3]

/-- The kernel's modulated norm at an element of a block. -/
theorem normed_block (r : Fin 512) (d : Fin 1024) :
    k0_pay6 (F := Ideal) (k0_pay4 (F := Ideal) a w x g n sc) (k0_pay5 (F := Ideal) sh) (ix2 r d)
      = normAt (fun k => k0_pay3 (F := Ideal) a w x g (ix2 r k)) (fun k => n (ix2 0 k)) (fun k => sc (ix3 0 0 k)) (fun k => sh (ix3 0 0 k)) d := by
  pointwise [k0_pay6, k0_pay4, k0_pay5]
  rfl

end Block

/-! ## The windows' blocks -/

section Windows

variable (m : (ℓ : Loc nD τ sig) → Buf (Elt Ideal) ℓ) (c : Dev nD)

/-- The mixer's output. -/
abbrev aA : FVec Ideal S65536x1024 .bf16 := m ((c.tc : Thread nD τ).loc main_arg0)
/-- The weights. -/
abbrev aW : FVec Ideal S1024x1024 .f32 := m ((c.tc : Thread nD τ).loc main_arg1)
/-- The stream. -/
abbrev aX : FVec Ideal S65536x1024 .f32 := m ((c.tc : Thread nD τ).loc main_arg2)
/-- The gate. -/
abbrev aG : FVec Ideal S8x1024 .f32 := m ((c.tc : Thread nD τ).loc main_arg3)
/-- The norm's gain. -/
abbrev aN : FVec Ideal S1024 .f32 := m ((c.tc : Thread nD τ).loc main_arg4)
/-- The modulation's shift. -/
abbrev aSh : FVec Ideal S8x1024 .f32 := m ((c.tc : Thread nD τ).loc main_arg5)
/-- The modulation's scale. -/
abbrev aSc : FVec Ideal S8x1024 .f32 := m ((c.tc : Thread nD τ).loc main_arg6)

/-- The weights at the kernel's type. -/
theorem host_w : (V (F := Ideal) m c main_v0 : FVec Ideal S1024x1024 .bf16) = truncf .bf16 (aW m c) bitsLt_bf16_f32 := by
  unfold_abbrev_sides
  simp only [hostOps0, hostOps0_1, hostOps0_2, List.flatten_cons, List.flatten_nil, List.append_nil, List.cons_append, List.nil_append]
  after_results

/-- The gain as a row. -/
theorem row_gain : (V (F := Ideal) m c main_v9 : FVec Ideal S1x1024 .f32) = broadcastInDim S1x1024 ![1] bcast_S1024_S1x1024_1 (aN m c) := by
  unfold_abbrev_sides
  simp only [hostOps0, hostOps0_1, hostOps0_2, List.flatten_cons, List.flatten_nil, List.append_nil, List.cons_append, List.nil_append]
  after_results

/-- The gate with an axis put in. -/
theorem row_gate : (V (F := Ideal) m c main_v1 : FVec Ideal S8x1x1024 .f32)
    = broadcastInDim S8x1x1024 ![0, 2] bcast_S8x1024_S8x1x1024_0_2 (aG m c) := by
  unfold_abbrev_sides
  simp only [hostOps0, hostOps0_1, hostOps0_2, List.flatten_cons, List.flatten_nil, List.append_nil, List.cons_append, List.nil_append]
  after_results

/-- The shift with an axis put in. -/
theorem row_shift : (V (F := Ideal) m c main_v2 : FVec Ideal S8x1x1024 .f32)
    = broadcastInDim S8x1x1024 ![0, 2] bcast_S8x1024_S8x1x1024_0_2 (aSh m c) := by
  unfold_abbrev_sides
  simp only [hostOps0, hostOps0_1, hostOps0_2, List.flatten_cons, List.flatten_nil, List.append_nil, List.cons_append, List.nil_append]
  after_results

/-- The scale with an axis put in. -/
theorem row_scale : (V (F := Ideal) m c main_v3 : FVec Ideal S8x1x1024 .f32)
    = broadcastInDim S8x1x1024 ![0, 2] bcast_S8x1024_S8x1x1024_0_2 (aSc m c) := by
  unfold_abbrev_sides
  simp only [hostOps0, hostOps0_1, hostOps0_2, List.flatten_cons, List.flatten_nil, List.append_nil, List.cons_append, List.nil_append]
  after_results

/-- Where the windows' blocks lie at a grid point. -/
theorem index_eq : ∀ t : Fin cfg0.N, win0_0.index t = ![t.val, 0] ∧ win0_1.index t = ![0, 0] ∧ win0_2.index t = ![t.val, 0]
    ∧ win0_3.index t = ![t.val / 16, 0, 0] ∧ win0_4.index t = ![0, 0] ∧ win0_5.index t = ![t.val / 16, 0, 0]
    ∧ win0_6.index t = ![t.val / 16, 0, 0] ∧ win0_10.index t = ![t.val, 0] ∧ win0_11.index t = ![t.val, 0] := by decide +kernel

/-- There are 128 grid points. -/
theorem point_lt (t : Fin cfg0.N) : t.val < 128 := t.isLt

variable (t : Fin cfg0.N)

/-- The row of the whole array under a row of the point's block. -/
def row (r : Fin 512) : Fin 65536 := ⟨t.val * 512 + r.val, by have := point_lt t; have := r.isLt; omega⟩

/-- The batch of the point's rows. -/
def bat : Fin 8 := ⟨t.val / 16, by have := point_lt t; omega⟩

/-- A row of the point's block lies in the point's batch. -/
theorem bat_row (r : Fin 512) : batOf (row t r) = bat t :=
  Fin.ext (by show (t.val * 512 + r.val) / 8192 = t.val / 16; have := r.isLt; omega)

/-- The block of the mixer's output. -/
theorem blk_a (r : Fin 512) (d : Fin 1024) : (iblk (F := Ideal) m c 0 t : FVec Ideal S512x1024 .bf16) (ix2 r d) = aA m c (ix2 (row t r) d) := by
  have e := index_eq t
  unfold row
  blk_ext [iblk, V_main_arg0, e.1]

/-- The weights' block. -/
theorem blk_w (k d : Fin 1024) : (iblk (F := Ideal) m c 1 t : FVec Ideal S1024x1024 .bf16) (ix2 k d) = aW m c (ix2 k d) := by
  have e := index_eq t
  have h : (iblk (F := Ideal) m c 1 t : FVec Ideal S1024x1024 .bf16) (ix2 k d) = (V (F := Ideal) m c main_v0 : FVec Ideal S1024x1024 .bf16) (ix2 k d) := by
    blk_ext [iblk, e.2.1]
  rw [h, host_w]
  pointwise

/-- The stream's block. -/
theorem blk_x (r : Fin 512) (d : Fin 1024) : (iblk (F := Ideal) m c 2 t : FVec Ideal S512x1024 .f32) (ix2 r d) = aX m c (ix2 (row t r) d) := by
  have e := index_eq t
  unfold row
  blk_ext [iblk, V_main_arg2, e.2.2.1]

/-- The gain's block. -/
theorem blk_n (d : Fin 1024) : (iblk (F := Ideal) m c 4 t : FVec Ideal S1x1024 .f32) (ix2 0 d) = aN m c (ix1 d) := by
  have e := index_eq t
  have h : (iblk (F := Ideal) m c 4 t : FVec Ideal S1x1024 .f32) (ix2 0 d) = (V (F := Ideal) m c main_v9 : FVec Ideal S1x1024 .f32) (ix2 0 d) := by
    blk_ext [iblk, e.2.2.2.2.1]
  rw [h, row_gain]
  pointwise

/-- The gate's block. -/
theorem blk_g (d : Fin 1024) : (iblk (F := Ideal) m c 3 t : FVec Ideal S1x1x1024 .f32) (ix3 0 0 d) = aG m c (ix2 (bat t) d) := by
  have e := index_eq t
  have h : (iblk (F := Ideal) m c 3 t : FVec Ideal S1x1x1024 .f32) (ix3 0 0 d) = (V (F := Ideal) m c main_v1 : FVec Ideal S8x1x1024 .f32) (ix3 (bat t) 0 d) := by
    unfold bat
    blk_ext [iblk, e.2.2.2.1]
  rw [h, row_gate]
  pointwise

/-- The shift's block. -/
theorem blk_sh (d : Fin 1024) : (iblk (F := Ideal) m c 5 t : FVec Ideal S1x1x1024 .f32) (ix3 0 0 d) = aSh m c (ix2 (bat t) d) := by
  have e := index_eq t
  have h : (iblk (F := Ideal) m c 5 t : FVec Ideal S1x1x1024 .f32) (ix3 0 0 d) = (V (F := Ideal) m c main_v2 : FVec Ideal S8x1x1024 .f32) (ix3 (bat t) 0 d) := by
    unfold bat
    blk_ext [iblk, e.2.2.2.2.2.1]
  rw [h, row_shift]
  pointwise

/-- The scale's block. -/
theorem blk_sc (d : Fin 1024) : (iblk (F := Ideal) m c 6 t : FVec Ideal S1x1x1024 .f32) (ix3 0 0 d) = aSc m c (ix2 (bat t) d) := by
  have e := index_eq t
  have h : (iblk (F := Ideal) m c 6 t : FVec Ideal S1x1x1024 .f32) (ix3 0 0 d) = (V (F := Ideal) m c main_v3 : FVec Ideal S8x1x1024 .f32) (ix3 (bat t) 0 d) := by
    unfold bat
    blk_ext [iblk, e.2.2.2.2.2.2.1]
  rw [h, row_scale]
  pointwise

/-- The kernel's stream at an element of the point's block is the reference's. -/
theorem stream_eq (r : Fin 512) (d : Fin 1024) :
    k0_pay3 (F := Ideal) (iblk (F := Ideal) m c 0 t) (iblk (F := Ideal) m c 1 t) (iblk (F := Ideal) m c 2 t) (iblk (F := Ideal) m c 3 t) (ix2 r d)
      = streamAt (aA m c) (aW m c) (aX m c) (aG m c) (row t r) d := by
  refine (stream_block _ _ _ _ r d).trans ?_
  unfold streamAt
  rw [bat_row]
  refine congrArg₂ _ (blk_x m c t r d) (congrArg₂ _ (blk_g m c t d) (Finset.sum_congr rfl fun k _ => congrArg₂ _ (blk_a m c t r k) (blk_w m c t k d)))

/-- An index of a block by its coordinates. -/
theorem ix_eq (y : S512x1024.Idx) : y = ix2 (⟨(y 0).val, (y 0).isLt⟩ : Fin 512) (⟨(y 1).val, (y 1).isLt⟩ : Fin 1024) := by
  funext a
  match a with
  | ⟨0, _⟩ => rfl
  | ⟨1, _⟩ => rfl

end Windows

/-! ## The arrays after the run -/

section Arrays

variable (m : (ℓ : Loc nD τ sig) → Buf (Elt Ideal) ℓ) (c : Dev nD)

/-- After the run the first array is the reference's stream. -/
theorem final_10 : (dats (F := Ideal) m 0 c).arrAt 10 cfg0.N
    = (val_main_v29 (F := Ideal) (aA m c) (aW m c) (aX m c) (aG m c) : FVec Ideal S65536x1024 .f32) := by
  refine (dats m 0 c).arrAt_eq_of_covers 10 _ (by decide +kernel) fun t _ y => ?_
  blk_simp
  rw [after0_10]
  frame_out []
  rw [ix_eq y]
  generalize (⟨(y 0).val, (y 0).isLt⟩ : Fin 512) = r
  generalize (⟨(y 1).val, (y 1).isLt⟩ : Fin 1024) = d
  have hi : ((View.whole main_v11_0).slice (win0_10.rect t)).emb (ix2 r d) = ix2 (row t r) d := by
    have e := index_eq t
    unfold row
    blk_ext [e.2.2.2.2.2.2.2.1]
  rw [hi]
  exact (stream_eq m c t r d).trans (at_0 _ _ _ _ (row t r) d).symm

/-- After the run the second array is the reference's norm of the stream. -/
theorem final_11 : (dats (F := Ideal) m 0 c).arrAt 11 cfg0.N
    = (val_main_v30 (F := Ideal) (aA m c) (aW m c) (aX m c) (aG m c) (aN m c) (aSh m c) (aSc m c) : FVec Ideal S65536x1024 .f32) := by
  refine (dats m 0 c).arrAt_eq_of_covers 11 _ (by decide +kernel) fun t _ y => ?_
  blk_simp
  rw [after0_11]
  frame_out [k0_pay55, k0_pay56]
  rw [ix_eq y]
  generalize (⟨(y 0).val, (y 0).isLt⟩ : Fin 512) = r
  generalize (⟨(y 1).val, (y 1).isLt⟩ : Fin 1024) = d
  have hi : ((View.whole main_v11_1).slice (win0_11.rect t)).emb (ix2 r d) = ix2 (row t r) d := by
    have e := index_eq t
    unfold row
    blk_ext [e.2.2.2.2.2.2.2.2]
  rw [hi]
  refine Eq.trans (normed_block _ _ _ _ _ _ _ r d) (Eq.trans ?_ (at_1 _ _ _ _ _ _ _ (row t r) d).symm)
  rw [bat_row]
  have hs := fun k => stream_eq m c t r k
  have hn := blk_n m c t
  have hc := blk_sc m c t
  have hh := blk_sh m c t
  exact congr (congr (congr (congr (congrArg normAt (funext hs)) (funext hn)) (funext hc)) (funext hh)) rfl

end Arrays

end Cert.MixOutIdeal.MixOutValue

end
-- ==== Proof.MixerMath.lean ====
/-
  The arithmetic behind the recurrences over a frame of sixteen rows, over the extended reals: the running sum by doubling
  shifts, the linear recurrence by doubling compositions, a product with a block-diagonal matrix, and the gates' scalar forms.
-/
module

public import proofs.«01_k».proof.Proof.SbMath
public import Idealize.ShloMosaic.Lib.Pointwise
public import Idealize.ShloMosaic.Lib.WordCmp

@[expose] public section

noncomputable section

namespace Cert.MixerMath

open Idealize.ShloMosaic Finset Cert.SbMath

/-! ## The running sum -/

/-- A row `n` rows earlier, or `z` where there is none. -/
def sh {M : Type} (n : ℕ) (z : M) (f : ℕ → M) (t : ℕ) : M := if n ≤ t then f (t - n) else z

/-- One step of the running sum: a row plus the one `n` rows earlier. -/
def dbl {M : Type} [AddCommMonoid M] (n : ℕ) (f : ℕ → M) (t : ℕ) : M := f t + sh n 0 f t

/-- Four doubling steps sum all rows up to one of sixteen. -/
theorem running_sum {M : Type} [AddCommMonoid M] (f : ℕ → M) (t : ℕ) (ht : t < 16) :
    dbl 8 (dbl 4 (dbl 2 (dbl 1 f))) t = ∑ s : Fin 16, if s.val ≤ t then f s.val else 0 := by
  interval_cases t <;> simp [dbl, sh, Fin.sum_univ_succ] <;> abel

/-! ## The recurrence -/

/-- Two affine steps whose second factor is real and not negative are one. -/
theorem comp (A B A' B' x : EReal) (h : 0 ≤ A) (h' : A ≠ ⊤) : A * (A' * x + B') + B = (A * A') * x + (A * B' + B) := by
  rw [EReal.left_distrib_of_nonneg_of_ne_top h h', mul_assoc, add_assoc]

/-- A factor that is real and not negative. -/
def Ok (x : EReal) : Prop := 0 ≤ x ∧ x ≠ ⊤

theorem Ok.mul {x y : EReal} (hx : Ok x) (hy : Ok y) : Ok (x * y) := by
  refine ⟨mul_nonneg hx.1 hy.1, ?_⟩
  lift x to ℝ using ⟨hx.2, fun h => by simp [h] at hx; exact absurd hx.1 (by simp)⟩
  lift y to ℝ using ⟨hy.2, fun h => by simp [h] at hy; exact absurd hy.1 (by simp)⟩
  exact EReal.coe_ne_top _

/-- The recurrence's state after `n` rows. -/
def steps (a b : ℕ → EReal) (h : EReal) : ℕ → EReal
  | 0 => h
  | n + 1 => a n * steps a b h n + b n

/-- One step of the doubled factors. -/
def fa (n : ℕ) (A : ℕ → EReal) (t : ℕ) : EReal := A t * sh n 1 A t

/-- One step of the doubled terms. -/
def fb (n : ℕ) (A B : ℕ → EReal) (t : ℕ) : EReal := A t * sh n 0 B t + B t

/-- A shifted row depends on the rows up to it alone. -/
theorem sh_congr {M : Type} (n : ℕ) (z : M) {f g : ℕ → M} {t : ℕ} (h : ∀ s, s ≤ t → f s = g s) : sh n z f t = sh n z g t := by
  unfold sh
  split
  · exact h _ (Nat.sub_le _ _)
  · rfl

theorem dbl_congr {M : Type} [AddCommMonoid M] (n : ℕ) {f g : ℕ → M} {t : ℕ} (h : ∀ s, s ≤ t → f s = g s) : dbl n f t = dbl n g t := by
  unfold dbl
  rw [h t le_rfl, sh_congr n 0 h]

theorem fa_congr (n : ℕ) {A A' : ℕ → EReal} {t : ℕ} (h : ∀ s, s ≤ t → A s = A' s) : fa n A t = fa n A' t := by
  unfold fa
  rw [h t le_rfl, sh_congr n 1 h]

theorem fb_congr (n : ℕ) {A A' B B' : ℕ → EReal} {t : ℕ} (h : ∀ s, s ≤ t → A s = A' s) (h' : ∀ s, s ≤ t → B s = B' s) :
    fb n A B t = fb n A' B' t := by
  unfold fb
  rw [h t le_rfl, h' t le_rfl, sh_congr n 0 h']

/-- Two doubled affine steps at a row. -/
theorem act_step (n : ℕ) (A B : ℕ → EReal) (x : EReal) (t : ℕ) (hn : n ≤ t) (hA : Ok (A t)) :
    fa n A t * x + fb n A B t = A t * (A (t - n) * x + B (t - n)) + B t := by
  rw [comp _ _ _ _ _ hA.1 hA.2]
  simp [fa, fb, sh, hn]

theorem fa_ok (n : ℕ) (A : ℕ → EReal) (t : ℕ) (hA : ∀ t, Ok (A t)) : Ok (fa n A t) := by
  refine (hA t).mul ?_
  unfold sh
  split
  · exact hA _
  · exact ⟨zero_le_one, EReal.coe_ne_top 1⟩

/-- Four doubling compositions at the last of sixteen rows are the recurrence's sixteen steps. -/
theorem scan (a b : ℕ → EReal) (h : EReal) (ha : ∀ t, Ok (a t)) :
    fa 8 (fa 4 (fa 2 (fa 1 a))) 15 * h
        + fb 8 (fa 4 (fa 2 (fa 1 a))) (fb 4 (fa 2 (fa 1 a)) (fb 2 (fa 1 a) (fb 1 a b))) 15
      = steps a b h 16 := by
  have h1 := fun t => fa_ok 1 a t ha
  have h2 := fun t => fa_ok 2 _ t h1
  have h4 := fun t => fa_ok 4 _ t h2
  rw [act_step 8 _ _ _ 15 (by omega) (h4 _)]
  rw [act_step 4 _ _ _ (15 - 8) (by omega) (h2 _), act_step 4 _ _ _ 15 (by omega) (h2 _)]
  rw [act_step 2 _ _ _ (15 - 8 - 4) (by omega) (h1 _), act_step 2 _ _ _ (15 - 8) (by omega) (h1 _),
    act_step 2 _ _ _ (15 - 4) (by omega) (h1 _), act_step 2 _ _ _ 15 (by omega) (h1 _)]
  rw [act_step 1 _ _ _ (15 - 8 - 4 - 2) (by omega) (ha _), act_step 1 _ _ _ (15 - 8 - 4) (by omega) (ha _),
    act_step 1 _ _ _ (15 - 8 - 2) (by omega) (ha _), act_step 1 _ _ _ (15 - 8) (by omega) (ha _),
    act_step 1 _ _ _ (15 - 4 - 2) (by omega) (ha _), act_step 1 _ _ _ (15 - 4) (by omega) (ha _),
    act_step 1 _ _ _ (15 - 2) (by omega) (ha _), act_step 1 _ _ _ 15 (by omega) (ha _)]
  rfl

/-! ## The shifted rows as the programs read them -/

/-- A choice by two row numbers compared. -/
theorem sel_ge (a b : ℕ) (ha : a < 1024) (hb : b < 1024) (x y : EReal) :
    Scalar.select (IntOp.cmpi .sge (BitVec.ofNat 32 a) (BitVec.ofNat 32 b)) x y = if b ≤ a then x else y := by
  word_cmp

/-- A choice by two head numbers equal. -/
theorem sel_eq (a b : ℕ) (ha : a < 1024) (hb : b < 1024) (x y : EReal) :
    Scalar.select (IntOp.cmpi .eq (IntOp.addi (BitVec.ofNat 32 a) 0#32) (BitVec.ofNat 32 b)) x y = if a = b then x else y := by
  rw [show IntOp.addi (BitVec.ofNat 32 a) 0#32 = BitVec.ofNat 32 a from BitVec.add_zero _]
  word_cmp

/-- A function of sixteen rows, by number. -/
def rows (f : Fin 16 → EReal) (n : ℕ) : EReal := f (Fin.ofNat 16 n)

theorem rows_val (f : Fin 16 → EReal) (t : Fin 16) : rows f t.val = f t := congrArg f (Fin.ext (Nat.mod_eq_of_lt t.isLt))

/-- A row shifted down and filled, as the programs read it. -/
theorem sh_row (f : Fin 16 → EReal) (n : ℕ) (hn : n < 16) (z : EReal) (t : Fin 16) (h : (t.val + 16 - n) % 16 < 16) :
    Scalar.select (IntOp.cmpi .sge (BitVec.ofNat 32 t.val) (BitVec.ofNat 32 n)) (f ⟨(t.val + 16 - n) % 16, h⟩) z = sh n z (rows f) t.val := by
  have := t.isLt
  rw [sel_ge _ _ (by omega) (by omega)]
  unfold sh rows
  split
  · refine congrArg f (Fin.ext ?_)
    show (t.val + 16 - n) % 16 = (t.val - n) % 16
    omega
  · rfl

theorem dbl_row (f : Fin 16 → EReal) (n : ℕ) (hn : n < 16) (t : Fin 16) (h : (t.val + 16 - n) % 16 < 16) :
    f t + Scalar.select (IntOp.cmpi .sge (BitVec.ofNat 32 t.val) (BitVec.ofNat 32 n)) (f ⟨(t.val + 16 - n) % 16, h⟩) 0 = dbl n (rows f) t.val := by
  rw [sh_row f n hn]
  unfold dbl
  rw [rows_val]

theorem fa_row (f : Fin 16 → EReal) (n : ℕ) (hn : n < 16) (t : Fin 16) (h : (t.val + 16 - n) % 16 < 16) :
    f t * Scalar.select (IntOp.cmpi .sge (BitVec.ofNat 32 t.val) (BitVec.ofNat 32 n)) (f ⟨(t.val + 16 - n) % 16, h⟩) 1 = fa n (rows f) t.val := by
  rw [sh_row f n hn]
  unfold fa
  rw [rows_val]

theorem fb_row (f g : Fin 16 → EReal) (n : ℕ) (hn : n < 16) (t : Fin 16) (h : (t.val + 16 - n) % 16 < 16) :
    Scalar.select (IntOp.cmpi .sge (BitVec.ofNat 32 t.val) (BitVec.ofNat 32 n)) (f t * g ⟨(t.val + 16 - n) % 16, h⟩) 0 + g t = fb n (rows f) (rows g) t.val := by
  have e : Scalar.select (IntOp.cmpi .sge (BitVec.ofNat 32 t.val) (BitVec.ofNat 32 n)) (f t * g ⟨(t.val + 16 - n) % 16, h⟩) 0
      = f t * Scalar.select (IntOp.cmpi .sge (BitVec.ofNat 32 t.val) (BitVec.ofNat 32 n)) (g ⟨(t.val + 16 - n) % 16, h⟩) 0 := by
    have := t.isLt
    rw [sel_ge _ _ (by omega) (by omega), sel_ge _ _ (by omega) (by omega)]
    split
    · rfl
    · rw [mul_zero]
  rw [e, sh_row g n hn]
  unfold fb
  rw [rows_val, rows_val]

/-- Rows that agree with a sequence wherever there are rows. -/
theorem rows_eq {f : Fin 16 → EReal} {g : ℕ → EReal} (h : ∀ t : Fin 16, f t = g t.val) {t : ℕ} (ht : t < 16) : ∀ s, s ≤ t → rows f s = g s := by
  intro s hs
  have hv : (Fin.ofNat 16 s).val = s := Nat.mod_eq_of_lt (by omega)
  unfold rows
  rw [h, hv]

/-! ## Constants -/

theorem c_neg8 : Ideal.ofBits FTy.f32 3238002688#32 = -8 := by
  simp [Ideal.ofBits, Ideal.ieee]
  rw [← EReal.coe_mul, show (8 : EReal) = ((8 : ℝ) : EReal) from rfl]
  norm_num
theorem c_two : Ideal.ofBits FTy.f32 1073741824#32 = 2 := by
  simp [Ideal.ofBits, Ideal.ieee]
  rw [← EReal.coe_mul, show (2 : EReal) = ((2 : ℝ) : EReal) from rfl]
  norm_num
theorem c_sixteen : Ideal.ofBits FTy.f32 1098907648#32 = 16 := by
  simp [Ideal.ofBits, Ideal.ieee]
  rw [← EReal.coe_mul, show (16 : EReal) = ((16 : ℝ) : EReal) from rfl]
  norm_num
theorem c_sixteenth : Ideal.ofBits FTy.f32 1031798784#32 = ((1 / 16 : ℝ) : EReal) := by
  simp [Ideal.ofBits, Ideal.ieee]
  rw [← EReal.coe_mul]
  norm_num

/-! ## A block-diagonal product -/

/-- A sum over the rows of a matrix whose entries outside one block of 64 rows are zero is the sum over the block. -/
theorem block_sum (f g : Fin 256 → EReal) (m : Fin 4) :
    ∑ k : Fin 256, f k * (g k * if k.val / 64 = m.val then 1 else 0)
      = ∑ i : Fin 64, f ⟨64 * m.val + i.val, by have := m.isLt; have := i.isLt; omega⟩
          * g ⟨64 * m.val + i.val, by have := m.isLt; have := i.isLt; omega⟩ := by
  rw [← (finProdFinEquiv (m := 4) (n := 64)).sum_comp, Fintype.sum_prod_type, Finset.sum_eq_single m]
  · refine Finset.sum_congr rfl fun i _ => ?_
    have e : (finProdFinEquiv (m := 4) (n := 64) (m, i)) = ⟨64 * m.val + i.val, by have := m.isLt; have := i.isLt; omega⟩ :=
      Fin.ext (by simp [finProdFinEquiv]; omega)
    rw [e, if_pos (by have := i.isLt; show (64 * m.val + i.val) / 64 = _; omega), mul_one]
  · intro n _ hn
    refine Finset.sum_eq_zero fun i _ => ?_
    rw [if_neg, mul_zero, mul_zero]
    intro h
    refine hn (Fin.ext ?_)
    have h' : (i.val + 64 * n.val) / 64 = m.val := h
    have := i.isLt
    omega
  · intro h
    exact absurd (Finset.mem_univ _) h

/-- A sum whose terms from the seventeenth on are zero. -/
theorem sum_low (f : Fin 128 → EReal) (hf : ∀ k : Fin 128, 16 ≤ k.val → f k = 0) :
    ∑ k : Fin 128, f k = ∑ k : Fin 16, f ⟨k.val, by have := k.isLt; omega⟩ := by
  rw [show (∑ k : Fin 128, f k) = ∑ k : Fin (16 + 112), f k from rfl, Fin.sum_univ_add]
  rw [Finset.sum_eq_zero (f := fun i : Fin 112 => f (Fin.natAdd 16 i)) fun i _ => hf _ (by simp), add_zero]
  rfl

/-! ## Scalars -/

theorem exp_bot : Ideal.exp (⊥ : EReal) = 0 := rfl
theorem exp_top : Ideal.exp (⊤ : EReal) = ⊤ := rfl
theorem exp_real (x : ℝ) : Ideal.exp (x : EReal) = (Real.exp x : EReal) := rfl

theorem log1p_zero : Ideal.log1p (0 : EReal) = 0 := by
  unfold Ideal.log1p
  rw [add_zero]
  show (if (1 : ℝ) ≤ 0 then (⊥ : EReal) else (Real.log 1 : EReal)) = 0
  rw [if_neg (by norm_num), Real.log_one]; rfl

/-- The log-sigmoid written as minus a softplus, at any score. -/
theorem log_sigmoid (u : EReal) :
    min u 0 - Ideal.log1p (Ideal.exp (0 - max u (-u)))
      = -(max (-u) 0 + Ideal.log1p (Ideal.exp (-(max (-u - 0) (-(-u - 0)))))) := by
  induction u with
  | bot => simp [exp_bot, log1p_zero]
  | top => simp [exp_bot, log1p_zero]
  | coe z => rw [ls_coe, softplus_coe]

/-- A sigmoid lies between zero and one. -/
theorem sigmoid_ok (z : EReal) : ∃ r : ℝ, 0 ≤ r ∧ Ideal.div 1 (1 + Ideal.exp z) = r := by
  induction z with
  | bot => exact ⟨1, zero_le_one, by simp [exp_bot, Ideal.div]⟩
  | top => exact ⟨0, le_rfl, by rw [exp_top, Ideal.div, EReal.add_top_of_ne_bot (by decide)]; simp⟩
  | coe x =>
    refine ⟨(1 + Real.exp x)⁻¹, by positivity, ?_⟩
    have e : (1 : EReal) + Ideal.exp (x : EReal) = ((1 + Real.exp x : ℝ) : EReal) := by
      rw [EReal.coe_add]; rfl
    have hp : (0 : ℝ) < 1 + Real.exp x := by positivity
    rw [e, Ideal.div, if_neg (by exact_mod_cast hp.ne'), one_mul, EReal.coe_inv]

/-- A softplus as a program writes it. -/
def softplus (z : EReal) : EReal := max z 0 + Ideal.log1p (Ideal.exp (0 - max z (-z)))

/-- A softplus is not negative. -/
theorem softplus_nonneg (z : EReal) : 0 ≤ softplus z := by
  unfold softplus
  refine add_nonneg (le_max_right _ _) ?_
  induction z with
  | bot => simp [exp_bot, log1p_zero]
  | top => simp [exp_bot, log1p_zero]
  | coe x =>
    rw [max_neg_coe, zero_sub, ← EReal.coe_neg, log1p_exp]
    exact_mod_cast Real.log_nonneg (by have := Real.exp_pos (-|x|); linarith)

/-- The decay `exp l` of a logarithm `l` that isn't positive is a real from zero on, and its square is `exp (2 l)`. -/
theorem exp_ok (l : EReal) (h : l ≤ 0) : Ok (Ideal.exp l) := by
  induction l with
  | bot => exact ⟨le_rfl, EReal.zero_ne_top⟩
  | top => exact absurd h (by simp)
  | coe x => exact ⟨by rw [exp_real]; exact_mod_cast (Real.exp_pos x).le, EReal.coe_ne_top _⟩

theorem one_sub_sq (l : EReal) (h : l ≤ 0) :
    1 - Ideal.exp l * Ideal.exp l = -(Ideal.exp (2 * l) - 1) := by
  induction l with
  | bot =>
    rw [EReal.mul_bot_of_pos (by norm_num)]
    simp [exp_bot]
  | top => exact absurd h (by simp)
  | coe x =>
    have e : (2 : EReal) * (x : EReal) = ((2 * x : ℝ) : EReal) := by rw [EReal.coe_mul]; rfl
    rw [e]
    show (1 : EReal) - (Real.exp x : EReal) * (Real.exp x : EReal) = -((Real.exp (2 * x) : EReal) - 1)
    rw [← EReal.coe_mul, ← EReal.coe_one, ← EReal.coe_sub, ← EReal.coe_sub, ← EReal.coe_neg]
    congr 1
    rw [two_mul, Real.exp_add]
    ring

/-- The decay's logarithm isn't positive. -/
theorem log_decay (z y : EReal) (hy : 0 ≤ y) : (-8 : EReal) * Ideal.div 1 (1 + Ideal.exp z) * y ≤ 0 := by
  obtain ⟨r, hr, e⟩ := sigmoid_ok z
  rw [e]
  refine EReal.mul_nonpos_iff.2 (Or.inr ⟨?_, hy⟩)
  have : (-8 : EReal) * (r : EReal) = ((-8 * r : ℝ) : EReal) := by rw [EReal.coe_mul]; rfl
  rw [this]
  exact_mod_cast (by linarith : -8 * r ≤ 0)

/-- A sixteenth. -/
theorem div_sixteen (x : EReal) : Ideal.div x 16 = x * ((1 / 16 : ℝ) : EReal) := by
  rw [Ideal.div, if_neg (by norm_num)]
  congr 1
  rw [show (16 : EReal) = ((16 : ℝ) : EReal) from rfl, ← EReal.coe_inv]
  norm_num

end Cert.MixerMath
-- ==== Proof.MixerPay.lean ====
/-
  The recurrences' kernel at an element of one stream's frame: the convolution's output, the gates, the decay, the doubled
  factors and terms of the recurrence, the running sum of the log-decay, and the new states.
-/
module

public import proofs.«01_k».proof.Proof.Gen.MixerSampleIdeal.Skeleton
public import proofs.«01_k».proof.Proof.MixerMath
public import Idealize.ShloMosaic.Lib.Pointwise
public import Idealize.ShloMosaic.Lib.WordCmp
public import Idealize.ShloMosaic.Lib.Pipeline.ReadBack
public import Idealize.ShloMosaic.Lib.WritesUnit

@[expose] public section

set_option maxRecDepth 16384

noncomputable section

namespace Cert.MixerSampleIdeal.MixerPay

open Cert.MixerSampleIdeal Cert.MixerSampleIdeal.Gen Cert.MixerMath
open Idealize.ShloMosaic Idealize.ShloMosaic.TcCoe Idealize.SL.Sem Finset

/-- A column of a frame of 512 lanes, row by row. -/
def seq (x : FVec Ideal S16x512 .f32) (d : Fin 512) : ℕ → EReal := rows fun s => x (ix2 s d)

/-- A column of a frame of 256 lanes, row by row. -/
def seqk (x : FVec Ideal S16x256 .f32) (d : Fin 256) : ℕ → EReal := rows fun s => x (ix2 s d)

/-! ## The convolution's rows -/

section Rows

/-- A row of the convolution's scratch: the eight rows from before, then the sixteen new ones. -/
def padAt (p : FVec Ideal S8x512 .f32) (q : FVec Ideal S16x512 .f32) (n : ℕ) (d : Fin 512) : EReal :=
  if h : n < 8 then p (ix2 ⟨n, h⟩ d) else q (ix2 (Fin.ofNat 16 (n - 8)) d)

/-- The new rows are the scratch's from the eighth on. -/
theorem pad_rows (p : FVec Ideal S8x512 .f32) (q : FVec Ideal S16x512 .f32) (t : Fin 16) (d : Fin 512) : q (ix2 t d) = padAt p q (8 + t.val) d := by
  unfold padAt
  rw [dif_neg (by omega)]
  exact congrArg (fun r => q (ix2 r d)) (Fin.ext (by have := t.isLt; show t.val = (8 + t.val - 8) % 16; omega))

/-- What the two stores leave in the scratch. -/
theorem pad_canon (p : FVec Ideal S8x512 .f32) (q : FVec Ideal S16x512 .f32) (L : List (View.Piece (Elt Ideal) S24x512 .f32))
    (y : S24x512.Idx) :
    (View.canon (Val := Elt Ideal) (s := S24x512) (e := .f32) (⟨Rect.unit (s := S24x512) ![8, 0] S16x512.size inb_S24x512_S16x512_8_0, q⟩
      :: ⟨Rect.unit (s := S24x512) ![0, 0] S8x512.size inb_S24x512_S8x512_0_0, p⟩ :: L) y : EReal) = padAt p q (y 0).val (y 1) := by
  have h24 : (y 0).val < 24 := (y 0).isLt
  unfold padAt
  by_cases hy : (y 0).val < 8
  · rw [dif_pos hy]
    refine (View.canon_cons_of_not_mem _ _ fun hm => ?_).trans ?_
    · have := (Rect.mem_set_unit.1 (show y ∈ (Rect.unit (s := S24x512) ![8, 0] S16x512.size inb_S24x512_S16x512_8_0).set from hm) 0).1
      exact absurd hy (Nat.not_lt.2 this)
    · have e : y = (Rect.unit (s := S24x512) ![0, 0] S8x512.size inb_S24x512_S8x512_0_0).emb (ix2 (⟨(y 0).val, hy⟩ : Fin 8) (y 1)) := by
        funext a
        match a with
        | ⟨0, _⟩ => exact Fin.ext (by show (y 0).val = 0 + 1 * (y 0).val; omega)
        | ⟨1, _⟩ => exact Fin.ext (by show (y 1).val = 0 + 1 * (y 1).val; omega)
      exact (congrArg _ e).trans (View.canon_cons_emb _ _ _ _)
  · rw [dif_neg hy]
    have e : y = (Rect.unit (s := S24x512) ![8, 0] S16x512.size inb_S24x512_S16x512_8_0).emb (ix2 (Fin.ofNat 16 ((y 0).val - 8)) (y 1)) := by
      funext a
      match a with
      | ⟨0, _⟩ => exact Fin.ext (by show (y 0).val = 8 + 1 * (((y 0).val - 8) % 16); omega)
      | ⟨1, _⟩ => exact Fin.ext (by show (y 1).val = 0 + 1 * (y 1).val; omega)
    exact (congrArg _ e).trans (View.canon_cons_emb _ _ _ _)

/-- A load of sixteen rows of the scratch. -/
theorem load_rows {sig : RefSig} {κ : Kind} {sp : Space} (v : View sig κ sp S24x512 .f32)
    (p : FVec Ideal S8x512 .f32) (q : FVec Ideal S16x512 .f32) (L : List (View.Piece (Elt Ideal) S24x512 .f32)) (k : ℕ)
    (inb : ∀ a, (![k, 0] : Fin 2 → ℕ) a + S16x512.size a ≤ S24x512.size a) (t : Fin 16) (d : Fin 512) :
    (v.readCov (Val := Elt Ideal) (⟨Rect.unit (s := S24x512) ![8, 0] S16x512.size inb_S24x512_S16x512_8_0, q⟩
      :: ⟨Rect.unit (s := S24x512) ![0, 0] S8x512.size inb_S24x512_S8x512_0_0, p⟩ :: L)
      (Rect.unit (s := S24x512) ![k, 0] S16x512.size inb).toLoadRect (ix2 t d) : EReal) = padAt p q (k + t.val) d := by
  rw [View.readCov_eq_canon']
  refine (pad_canon p q L _).trans ?_
  show padAt p q (k + 1 * t.val) ⟨0 + 1 * d.val, _⟩ = _
  have hd : (⟨0 + 1 * d.val, by have := d.isLt; omega⟩ : Fin 512) = d := Fin.ext (by show 0 + 1 * d.val = d.val; omega)
  rw [Nat.one_mul, hd]

/-- A load of the scratch's last eight rows. -/
theorem load_tail {sig : RefSig} {κ : Kind} {sp : Space} (v : View sig κ sp S24x512 .f32)
    (p : FVec Ideal S8x512 .f32) (q : FVec Ideal S16x512 .f32) (L : List (View.Piece (Elt Ideal) S24x512 .f32))
    (inb : ∀ a, (![16, 0] : Fin 2 → ℕ) a + S8x512.size a ≤ S24x512.size a) (t : Fin 8) (d : Fin 512) :
    (v.readCov (Val := Elt Ideal) (⟨Rect.unit (s := S24x512) ![8, 0] S16x512.size inb_S24x512_S16x512_8_0, q⟩
      :: ⟨Rect.unit (s := S24x512) ![0, 0] S8x512.size inb_S24x512_S8x512_0_0, p⟩ :: L)
      (Rect.unit (s := S24x512) ![16, 0] S8x512.size inb).toLoadRect (ix2 t d) : EReal) = padAt p q (16 + t.val) d := by
  rw [View.readCov_eq_canon']
  refine (pad_canon p q L _).trans ?_
  show padAt p q (16 + 1 * t.val) ⟨0 + 1 * d.val, _⟩ = _
  have hd : (⟨0 + 1 * d.val, by have := d.isLt; omega⟩ : Fin 512) = d := Fin.ext (by show 0 + 1 * d.val = d.val; omega)
  rw [Nat.one_mul, hd]

end Rows

/-! ## Loads and stores of one stream's blocks -/

section Blocks

theorem out_state (x : FVec Ideal S512x256 .f32) (r : Fin 512) (e : Fin 256) : k0_pay2 (F := Ideal) x (ix3 0 r e) = x (ix2 r e) := by
  pointwise [k0_pay2]
theorem out_h (x : FVec Ideal S1x512 .f32) (d : Fin 512) : k0_pay3 (F := Ideal) x (ix3 0 0 d) = x (ix2 0 d) := by
  pointwise [k0_pay3]
theorem out_conv (x : FVec Ideal S8x512 .f32) (r : Fin 8) (d : Fin 512) : k0_pay4 (F := Ideal) x (ix3 0 r d) = x (ix2 r d) := by
  pointwise [k0_pay4]
theorem in_state (x : FVec Ideal S1x512x256 .f32) (r : Fin 512) (e : Fin 256) : k0_pay5 (F := Ideal) x (ix2 r e) = x (ix3 0 r e) := by
  pointwise [k0_pay5]
theorem in_h (x : FVec Ideal S1x1x512 .f32) (d : Fin 512) : k0_pay6 (F := Ideal) x (ix2 0 d) = x (ix3 0 0 d) := by
  pointwise [k0_pay6]
theorem in_conv (x : FVec Ideal S1x8x512 .f32) (r : Fin 8) (d : Fin 512) : k0_pay7 (F := Ideal) x (ix2 r d) = x (ix3 0 r d) := by
  pointwise [k0_pay7]
theorem in_rows (x : FVec Ideal S16x512 .f32) (r : Fin 16) (d : Fin 512) : k0_pay8 (F := Ideal) x (ix2 r d) = x (ix2 r d) := by
  pointwise [k0_pay8]
theorem keep_rows (x : FVec Ideal S8x512 .f32) (r : Fin 8) (d : Fin 512) : k0_pay10 (F := Ideal) x (ix2 r d) = x (ix2 r d) := by
  pointwise [k0_pay10]
theorem in_values (x : FVec Ideal S16x512 .f32) (r : Fin 16) (d : Fin 512) : k0_pay29 (F := Ideal) x (ix2 r d) = x (ix2 r d) := by
  pointwise [k0_pay29]

/-- A row of the convolution's weights. -/
theorem load_weight (x : FVec Ideal S4x512 .f32) (k : Fin 4) (inb : ∀ a, (![k.val, 0] : Fin 2 → ℕ) a + S1x512.size a ≤ S4x512.size a) (d : Fin 512) :
    (View.ld (Val := Elt Ideal) (e' := .f32) x (Rect.unit (s := S4x512) ![k.val, 0] S1x512.size inb) (ix2 0 d) : EReal) = x (ix2 k d) := by
  refine congrArg x (funext fun a => ?_)
  match a with
  | ⟨0, _⟩ => exact Fin.ext (by show k.val + 1 * 0 = k.val; omega)
  | ⟨1, _⟩ => exact Fin.ext (by show 0 + 1 * d.val = d.val; omega)

/-- A half of a gate's weights. -/
theorem load_gate (x : FVec Ideal S2x256x256 .bf16) (g : Fin 2) (inb : ∀ a, (![g.val, 0, 0] : Fin 3 → ℕ) a + S1x256x256.size a ≤ S2x256x256.size a) (k d : Fin 256) :
    (View.ld (Val := Elt Ideal) (e' := .bf16) x (Rect.unit (s := S2x256x256) ![g.val, 0, 0] S1x256x256.size inb) (ix3 0 k d) : EReal) = x (ix3 g k d) := by
  refine congrArg x (funext fun a => ?_)
  match a with
  | ⟨0, _⟩ => exact Fin.ext (by show g.val + 1 * 0 = g.val; omega)
  | ⟨1, _⟩ => exact Fin.ext (by show 0 + 1 * k.val = k.val; omega)
  | ⟨2, _⟩ => exact Fin.ext (by show 0 + 1 * d.val = d.val; omega)

/-- The keys' half of the queries and keys. -/
theorem load_keys (x : FVec Ideal S16x512 .f32) (inb : ∀ a, (![0, 256] : Fin 2 → ℕ) a + S16x256.size a ≤ S16x512.size a) (t : Fin 16) (e : Fin 256) :
    (View.ld (Val := Elt Ideal) (e' := .f32) x (Rect.unit (s := S16x512) ![0, 256] S16x256.size inb) (ix2 t e) : EReal)
      = x (ix2 t ⟨256 + e.val, by have := e.isLt; omega⟩) := by
  refine congrArg x (funext fun a => ?_)
  match a with
  | ⟨0, _⟩ => exact Fin.ext (by show 0 + 1 * t.val = t.val; omega)
  | ⟨1, _⟩ => exact Fin.ext (by show 256 + 1 * e.val = 256 + e.val; omega)

end Blocks

/-! ## The recurrence -/

section Recurrence

variable (a b : FVec Ideal S16x512 .f32) (d : Fin 512) (t : Fin 16)

theorem a1_at : k0_pay17 (F := Ideal) a k0_pay16 1#32 (ix2 t d) = fa 1 (seq a d) t.val := by
  pointwise [k0_pay17, k0_pay16]
  exact fa_row (fun s => a (ix2 s d)) 1 (by omega) t (by omega)

theorem a2_at : k0_pay18 (F := Ideal) a k0_pay16 1#32 (ix2 t d) = fa 2 (fa 1 (seq a d)) t.val := by
  pointwise [k0_pay18]
  exact (fa_row (fun s => k0_pay17 (F := Ideal) a k0_pay16 1#32 (ix2 s d)) 2 (by omega) t (by omega)).trans
    (fa_congr 2 (rows_eq (a1_at a d) t.isLt))

theorem a4_at : k0_pay19 (F := Ideal) a k0_pay16 1#32 (ix2 t d) = fa 4 (fa 2 (fa 1 (seq a d))) t.val := by
  pointwise [k0_pay19]
  exact (fa_row (fun s => k0_pay18 (F := Ideal) a k0_pay16 1#32 (ix2 s d)) 4 (by omega) t (by omega)).trans
    (fa_congr 4 (rows_eq (a2_at a d) t.isLt))

/-- The terms after the second doubling. -/
theorem b2_row (s : Fin 16) :
    Scalar.select (IntOp.cmpi .sge (BitVec.ofNat 32 s.val) 2#32)
        (k0_pay17 (F := Ideal) a k0_pay16 1#32 (ix2 s d) * b (ix2 ⟨(s.val + 16 - 2) % 16, by omega⟩ d)) 0 + b (ix2 s d)
      = fb 2 (fa 1 (seq a d)) (seq b d) s.val :=
  (fb_row (fun s => k0_pay17 (F := Ideal) a k0_pay16 1#32 (ix2 s d)) (fun s => b (ix2 s d)) 2 (by omega) s (by omega)).trans
    (fb_congr 2 (rows_eq (a1_at a d) s.isLt) fun _ _ => rfl)

/-- The terms after the third doubling. -/
theorem b4_row (f : Fin 16 → EReal) (hf : ∀ s, f s = fb 2 (fa 1 (seq a d)) (seq b d) s.val) (s : Fin 16) :
    Scalar.select (IntOp.cmpi .sge (BitVec.ofNat 32 s.val) 4#32)
        (k0_pay18 (F := Ideal) a k0_pay16 1#32 (ix2 s d) * f ⟨(s.val + 16 - 4) % 16, by omega⟩) 0 + f s
      = fb 4 (fa 2 (fa 1 (seq a d))) (fb 2 (fa 1 (seq a d)) (seq b d)) s.val :=
  (fb_row (fun s => k0_pay18 (F := Ideal) a k0_pay16 1#32 (ix2 s d)) f 4 (by omega) s (by omega)).trans
    (fb_congr 4 (rows_eq (a2_at a d) s.isLt) (rows_eq hf s.isLt))

/-- The terms after the last doubling. -/
theorem b8_row (f : Fin 16 → EReal) (hf : ∀ s, f s = fb 4 (fa 2 (fa 1 (seq a d))) (fb 2 (fa 1 (seq a d)) (seq b d)) s.val) (s : Fin 16) :
    Scalar.select (IntOp.cmpi .sge (BitVec.ofNat 32 s.val) 8#32)
        (k0_pay19 (F := Ideal) a k0_pay16 1#32 (ix2 s d) * f ⟨(s.val + 16 - 8) % 16, by omega⟩) 0 + f s
      = fb 8 (fa 4 (fa 2 (fa 1 (seq a d)))) (fb 4 (fa 2 (fa 1 (seq a d))) (fb 2 (fa 1 (seq a d)) (seq b d))) s.val :=
  (fb_row (fun s => k0_pay19 (F := Ideal) a k0_pay16 1#32 (ix2 s d)) f 8 (by omega) s (by omega)).trans
    (fb_congr 8 (rows_eq (a4_at a d) s.isLt) (rows_eq hf s.isLt))

theorem b8_at : k0_pay20 (F := Ideal) a b k0_pay16 1#32 (ix2 t d)
    = fb 8 (fa 4 (fa 2 (fa 1 (seq a d)))) (fb 4 (fa 2 (fa 1 (seq a d))) (fb 2 (fa 1 (seq a d)) (seq b d))) t.val := by
  pointwise [k0_pay20]
  exact b8_row a b d _ (b4_row a b d _ (b2_row a b d)) t

/-- The new state: the doubled factor at the last row times the state, plus the doubled term there. -/
theorem h_at (h0 : FVec Ideal S1x512 .f32) (x y : FVec Ideal S16x512 .f32) :
    k0_pay22 (F := Ideal) x y (iota .tc S16x512 32 [0] iota_S16x512_d0_w32) 8#32 h0 (ix2 0 d)
      = fa 8 (seq x d) 15 * h0 (ix2 0 d) + y (ix2 15 d) := by
  pointwise [k0_pay22, k0_pay21]
  rfl

end Recurrence

/-! ## The convolution and the gates -/

section Gates

variable (t : Fin 16) (d : Fin 512)

theorem xc_at (cb w0 w1 w2 w3 : FVec Ideal S1x512 .f32) (y0 y1 y2 y3 : FVec Ideal S16x512 .f32) :
    k0_pay9 (F := Ideal) cb w0 y0 w1 y1 w2 y2 w3 y3 (ix2 t d)
      = cb (ix2 0 d) + w0 (ix2 0 d) * y0 (ix2 t d) + w1 (ix2 0 d) * y1 (ix2 t d) + w2 (ix2 0 d) * y2 (ix2 t d) + w3 (ix2 0 d) * y3 (ix2 t d) := by
  pointwise [k0_pay9]

theorem lin_at (xc : FVec Ideal S16x512 .f32) (w0 w1 : FVec Ideal S1x256x256 .bf16) :
    k0_pay12 (F := Ideal) xc w0 w1 (ix2 t d)
      = if h : d.val < 256 then ∑ k : Fin 256, xc (ix2 t ⟨k.val, by have := k.isLt; omega⟩) * w0 (ix3 0 k ⟨d.val, h⟩)
        else ∑ k : Fin 256, xc (ix2 t ⟨256 + k.val, by have := k.isLt; omega⟩) * w1 (ix3 0 k ⟨d.val - 256, by have := d.isLt; omega⟩) := by
  pointwise [k0_pay12, k0_pay11]

theorem r_at (xc : FVec Ideal S16x512 .f32) (w0 w1 : FVec Ideal S1x256x256 .bf16) (ba : FVec Ideal S1x512 .f32) :
    k0_pay13 (F := Ideal) xc w0 w1 ba (ix2 t d)
      = Ideal.div 1 (1 + Ideal.exp (0 - (k0_pay12 (F := Ideal) xc w0 w1 (ix2 t d) + ba (ix2 0 d)))) := by
  pointwise [k0_pay13, k0_pay12]

theorem a_at (r : FVec Ideal S16x512 .f32) (lam : FVec Ideal S1x512 .f32) :
    k0_pay14 (F := Ideal) r lam (ix2 t d)
      = Ideal.exp (-8 * r (ix2 t d) * softplus (0 - lam (ix2 0 d))) := by
  pointwise [k0_pay14]
  rw [c_neg8]
  rfl

/-- The recurrence's input at an element. -/
def termK (xc wi r : FVec Ideal S16x512 .f32) (bi lam : FVec Ideal S1x512 .f32) (s : Fin 16) : EReal :=
  Ideal.sqrt (1 - k0_pay14 (F := Ideal) r lam (ix2 s d) * k0_pay14 (F := Ideal) r lam (ix2 s d))
    * (Ideal.div 1 (1 + Ideal.exp (0 - (wi (ix2 s d) + bi (ix2 0 d)))) * xc (ix2 s d))

theorem b1_at (xc wi r : FVec Ideal S16x512 .f32) (bi lam : FVec Ideal S1x512 .f32) :
    k0_pay15 (F := Ideal) xc wi r bi lam (ix2 t d)
      = fb 1 (seq (k0_pay14 (F := Ideal) r lam) d) (rows (termK d xc wi r bi lam)) t.val := by
  pointwise [k0_pay15]
  exact fb_row (fun s => k0_pay14 (F := Ideal) r lam (ix2 s d)) (termK d xc wi r bi lam) 1 (by omega) t (by omega)

/-- The recurrence's new state is what its sixteen steps leave. -/
theorem lru_at (xc wi r : FVec Ideal S16x512 .f32) (bi lam h0 : FVec Ideal S1x512 .f32)
    (ha : ∀ s : Fin 16, Ok (k0_pay14 (F := Ideal) r lam (ix2 s d))) :
    k0_pay22 (F := Ideal) (k0_pay19 (F := Ideal) (k0_pay14 (F := Ideal) r lam) k0_pay16 1#32)
        (k0_pay20 (F := Ideal) (k0_pay14 (F := Ideal) r lam) (k0_pay15 (F := Ideal) xc wi r bi lam) k0_pay16 1#32)
        (iota .tc S16x512 32 [0] iota_S16x512_d0_w32) 8#32 h0 (ix2 0 d)
      = steps (seq (k0_pay14 (F := Ideal) r lam) d) (rows (termK d xc wi r bi lam)) (h0 (ix2 0 d)) 16 := by
  rw [h_at, b8_at]
  rw [← scan (seq (k0_pay14 (F := Ideal) r lam) d) _ _ fun n => ha _]
  refine congrArg₂ (· + ·) (congrArg (· * _) (fa_congr 8 (rows_eq (a4_at _ d) (by omega)))) ?_
  exact fb_congr 8 (t := 15) (fun _ _ => rfl) fun s hs => fb_congr 4 (t := s) (fun _ _ => rfl) fun u hu =>
    fb_congr 2 (t := u) (fun _ _ => rfl) (rows_eq (fun s => b1_at s d xc wi r bi lam) (by omega))

end Gates

/-! ## The attention's state -/

section State

variable (t : Fin 16) (e : Fin 256)

/-- Two bits' conjunction. -/
theorem and_bit (p q : Bool) : IntOp.andi (BitVec.ofBool p) (BitVec.ofBool q) = BitVec.ofBool (p && q) := by cases p <;> cases q <;> rfl
/-- Two bits' disjunction. -/
theorem or_bit (p q : Bool) : IntOp.ori (BitVec.ofBool p) (BitVec.ofBool q) = BitVec.ofBool (p || q) := by cases p <;> cases q <;> rfl
theorem ge_bit (a b : ℕ) (ha : a < 1024) (hb : b < 1024) : IntOp.cmpi .sge (BitVec.ofNat 32 a) (BitVec.ofNat 32 b) = BitVec.ofBool (decide (b ≤ a)) := by
  word_cmp
theorem lt_bit (a b : ℕ) (ha : a < 1024) (hb : b < 1024) : IntOp.cmpi .slt (BitVec.ofNat 32 a) (BitVec.ofNat 32 b) = BitVec.ofBool (decide (a < b)) := by
  word_cmp

/-- The mask: set where the row's head is the column's. -/
theorem in_block (r : Fin 512) (e : Fin 256) :
    k0_pay26 (iota .tc S512x256 32 [0] iota_S512x256_d0_w32) (iota .tc S512x256 32 [1] iota_S512x256_d1_w32) k0_pay24 k0_pay25 (ix2 r e)
      = BitVec.ofBool (decide (r.val / 128 = e.val / 64)) := by
  pointwise [k0_pay26, k0_pay25, k0_pay24]
  have hr := r.isLt; have he := e.isLt
  rw [ge_bit r.val 0 (by omega) (by omega), ge_bit r.val 128 (by omega) (by omega), ge_bit r.val 256 (by omega) (by omega), ge_bit r.val 384 (by omega) (by omega),
    lt_bit r.val 128 (by omega) (by omega), lt_bit r.val 256 (by omega) (by omega), lt_bit r.val 384 (by omega) (by omega), lt_bit r.val 512 (by omega) (by omega),
    ge_bit e.val 0 (by omega) (by omega), ge_bit e.val 64 (by omega) (by omega), ge_bit e.val 128 (by omega) (by omega), ge_bit e.val 192 (by omega) (by omega),
    lt_bit e.val 64 (by omega) (by omega), lt_bit e.val 128 (by omega) (by omega), lt_bit e.val 192 (by omega) (by omega), lt_bit e.val 256 (by omega) (by omega)]
  simp only [and_bit, or_bit]
  congr 1
  rw [Bool.eq_iff_iff]
  simp only [Bool.or_eq_true, Bool.and_eq_true, decide_eq_true_eq]
  omega

/-- A step's log-decay. -/
def ldK (g : FVec Ideal S16x128 .f32) (w : FVec Ideal S128x256 .bf16) (bg : FVec Ideal S1x256 .f32) (s : Fin 16) : EReal :=
  (min ((∑ k, g (ix2 s k) * w (ix2 k e)) + bg (ix2 0 e)) 0
    - Ideal.log1p (Ideal.exp (0 - max ((∑ k, g (ix2 s k) * w (ix2 k e)) + bg (ix2 0 e)) (-((∑ k, g (ix2 s k) * w (ix2 k e)) + bg (ix2 0 e))))))
    * ((1 / 16 : ℝ) : EReal)

theorem d2_at (g : FVec Ideal S16x128 .f32) (w : FVec Ideal S128x256 .bf16) (bg : FVec Ideal S1x256 .f32) :
    k0_pay30 (F := Ideal) g w bg (ix2 t e) = dbl 2 (dbl 1 (rows (ldK e g w bg))) t.val := by
  pointwise [k0_pay30]
  simp only [c_sixteenth]
  exact (dbl_row (fun s => ldK e g w bg s + Scalar.select (IntOp.cmpi .sge (BitVec.ofNat 32 s.val) 1#32) (ldK e g w bg ⟨(s.val + 16 - 1) % 16, by omega⟩) 0)
    2 (by omega) t (by omega)).trans (dbl_congr 2 (rows_eq (fun s => dbl_row (ldK e g w bg) 1 (by omega) s (by omega)) t.isLt))

theorem b_at (x : FVec Ideal S16x256 .f32) :
    k0_pay31 (F := Ideal) x (iota .tc S16x256 32 [0] iota_S16x256_d0_w32) 4#32 (ix2 t e) = dbl 8 (dbl 4 (seqk x e)) t.val := by
  pointwise [k0_pay31]
  exact (dbl_row (fun s => x (ix2 s e) + Scalar.select (IntOp.cmpi .sge (BitVec.ofNat 32 s.val) 4#32) (x (ix2 ⟨(s.val + 16 - 4) % 16, by omega⟩ e)) 0)
    8 (by omega) t (by omega)).trans (dbl_congr 8 (rows_eq (fun s => dbl_row (fun s => x (ix2 s e)) 4 (by omega) s (by omega)) t.isLt))

/-- The log-decay summed up to a row. -/
theorem decay_at (g : FVec Ideal S16x128 .f32) (w : FVec Ideal S128x256 .bf16) (bg : FVec Ideal S1x256 .f32) :
    k0_pay31 (F := Ideal) (k0_pay30 (F := Ideal) g w bg) (iota .tc S16x256 32 [0] iota_S16x256_d0_w32) 4#32 (ix2 t e)
      = ∑ s : Fin 16, if s.val ≤ t.val then ldK e g w bg s else 0 := by
  have ht := t.isLt
  refine (b_at t e _).trans ((dbl_congr 8 (t := t.val) fun s hs => dbl_congr 4 (t := s) (rows_eq (fun s => d2_at s e g w bg) (by omega))).trans ?_)
  rw [running_sum _ _ ht]
  refine Finset.sum_congr rfl fun s _ => ?_
  rw [rows_val]

theorem last_at (x : FVec Ideal S16x256 .f32) :
    k0_pay33 (F := Ideal) x (iota .tc S16x256 32 [0] iota_S16x256_d0_w32) 4#32 (ix2 0 e)
      = k0_pay31 (F := Ideal) x (iota .tc S16x256 32 [0] iota_S16x256_d0_w32) 4#32 (ix2 15 e) := by
  pointwise [k0_pay33]

theorem tail_at (k : FVec Ideal S16x256 .f32) (x : FVec Ideal S16x256 .f32) :
    k0_pay36 (F := Ideal) k x (iota .tc S16x256 32 [0] iota_S16x256_d0_w32) 4#32 (ix2 t e)
      = k (ix2 t e) * Ideal.exp (k0_pay31 (F := Ideal) x (iota .tc S16x256 32 [0] iota_S16x256_d0_w32) 4#32 (ix2 15 e)
          - k0_pay31 (F := Ideal) x (iota .tc S16x256 32 [0] iota_S16x256_d0_w32) 4#32 (ix2 t e)) := by
  pointwise [k0_pay36]
  rw [last_at]

theorem state_at (msk : IVec S512x256 1) (v : FVec Ideal S16x512 .bf16) (bl : FVec Ideal S1x256 .f32) (kt : FVec Ideal S16x256 .bf16)
    (s : FVec Ideal S512x256 .f32) (r : Fin 512) :
    k0_pay45 (F := Ideal) msk v bl kt s (ix2 r e)
      = s (ix2 r e) * Ideal.exp (bl (ix2 0 e)) + Scalar.select (msk (ix2 r e)) (∑ t : Fin 16, v (ix2 t r) * kt (ix2 t e) : EReal) 0 := by
  pointwise [k0_pay45]

end State

end Cert.MixerSampleIdeal.MixerPay
-- ==== Proof.MixerWin.lean ====
/-
  The recurrences' blocks at a grid point, by the call's arguments: the stream's rows, its states, and the weights as the host
  prepares them.
-/
module

public import proofs.«01_k».proof.Proof.Gen.MixerSampleIdeal.Frame.Runs
public import proofs.«01_k».proof.Proof.MixerMath
public import Idealize.ShloMosaic.Lib.Pointwise
public import Idealize.ShloMosaic.Lib.WordCmp
public import Idealize.ShloMosaic.Lib.Claim
public import Idealize.ShloMosaic.Lib.Pipeline.Covers
public import Idealize.ShloMosaic.Lib.Pipeline.ValueKit.Acc
public import Idealize.ShloMosaic.Lib.Pipeline.ValueKit.Geometry

@[expose] public section

set_option maxRecDepth 16384

noncomputable section

namespace Cert.MixerSampleIdeal.MixerWin

open Cert.MixerSampleIdeal Cert.MixerSampleIdeal.Gen Cert.MixerMath
open Idealize.ShloMosaic Idealize.ShloMosaic.TcCoe Idealize.SL.Sem Finset

variable (m : (ℓ : Loc nD τ sig) → Buf (Elt Ideal) ℓ) (c : Dev nD)

/-- The queries and keys. -/
abbrev aX0 : FVec Ideal S512x512 .f32 := m ((c.tc : Thread nD τ).loc main_arg0)
/-- The values. -/
abbrev aX1 : FVec Ideal S512x512 .f32 := m ((c.tc : Thread nD τ).loc main_arg1)
/-- The decay gate. -/
abbrev aX3 : FVec Ideal S512x128 .f32 := m ((c.tc : Thread nD τ).loc main_arg3)
/-- The recurrence's input. -/
abbrev aX4 : FVec Ideal S512x512 .f32 := m ((c.tc : Thread nD τ).loc main_arg4)
/-- The attention's state. -/
abbrev aX6 : FVec Ideal S32x4x64x128 .f32 := m ((c.tc : Thread nD τ).loc main_arg6)
/-- The recurrence's state. -/
abbrev aX7 : FVec Ideal S32x512 .f32 := m ((c.tc : Thread nD τ).loc main_arg7)
/-- The convolution's rows. -/
abbrev aX8 : FVec Ideal S32x3x512 .f32 := m ((c.tc : Thread nD τ).loc main_arg8)
/-- The decay gate's weights. -/
abbrev aX9 : FVec Ideal S16x256 .f32 := m ((c.tc : Thread nD τ).loc main_arg9)
/-- The decay gate's bias. -/
abbrev aX10 : FVec Ideal S256 .f32 := m ((c.tc : Thread nD τ).loc main_arg10)
/-- The convolution's weights. -/
abbrev aX12 : FVec Ideal S4x512 .f32 := m ((c.tc : Thread nD τ).loc main_arg12)
/-- The convolution's bias. -/
abbrev aX13 : FVec Ideal S512 .f32 := m ((c.tc : Thread nD τ).loc main_arg13)
/-- The first gate's weights. -/
abbrev aX14 : FVec Ideal S8x64x64 .f32 := m ((c.tc : Thread nD τ).loc main_arg14)
/-- The first gate's bias. -/
abbrev aX15 : FVec Ideal S512 .f32 := m ((c.tc : Thread nD τ).loc main_arg15)
/-- The second gate's weights. -/
abbrev aX16 : FVec Ideal S8x64x64 .f32 := m ((c.tc : Thread nD τ).loc main_arg16)
/-- The second gate's bias. -/
abbrev aX17 : FVec Ideal S512 .f32 := m ((c.tc : Thread nD τ).loc main_arg17)
/-- The decay's parameter. -/
abbrev aX18 : FVec Ideal S512 .f32 := m ((c.tc : Thread nD τ).loc main_arg18)

/-- The state with each head's block put on the diagonal. -/
theorem host_state : (V (F := Ideal) m c main_v12 : FVec Ideal S32x512x256 .f32)
    = shapeCast S32x512x256 (mulf (broadcastInDim S32x4x128x4x64 ![0, 1, 2, 3, 4] bcast_S32x4x128x1x64_S32x4x128x4x64_0_1_2_3_4 (broadcastInDim S32x4x128x1x64 ![0, 1, 2, 4] bcast_S32x4x128x64_S32x4x128x1x64_0_1_2_4 (transpose S32x4x128x64 [0, 1, 3, 2] (aX6 m c) transposes_S32x4x64x128_S32x4x128x64_0_1_3_2)))
      (broadcastInDim S32x4x128x4x64 ![0, 1, 2, 3, 4] bcast_S1x4x1x4x1_S32x4x128x4x64_0_1_2_3_4 (broadcastInDim S1x4x1x4x1 ![1, 3] bcast_S4x4_S1x4x1x4x1_1_3 (uitofp .f32 (cmpi .eq (addi (iotaInDim S4x4 32 0) (broadcastInDim S4x4 ![] bcast_S_S4x4 (constantI S_ 32 0#32))) (iotaInDim S4x4 32 1)) : FVec Ideal S4x4 .f32))) : FVec Ideal S32x4x128x4x64 .f32) shapeCasts_S32x4x128x4x64_S32x512x256 := by
  unfold_abbrev_sides
  simp only [hostOps0, hostOps0_1, hostOps0_2, hostOps0_3, hostOps0_4, List.flatten_cons, List.flatten_nil, List.append_nil, List.cons_append, List.nil_append]
  after_results
  rfl

/-- The convolution's rows, five rows of zeros put before. -/
theorem host_conv : (V (F := Ideal) m c main_v13 : FVec Ideal S32x8x512 .f32)
    = pad S32x8x512 ![0, 5, 0] ![0, 0, 0] ![0, 0, 0] (aX8 m c) (sitofp .f32 (constantI S_ 32 0#32) : FVec Ideal S_ .f32) pads_S32x3x512_S32x8x512_000_500_000 h_S_ := by
  unfold_abbrev_sides
  simp only [hostOps0, hostOps0_1, hostOps0_2, hostOps0_3, hostOps0_4, List.flatten_cons, List.flatten_nil, List.append_nil, List.cons_append, List.nil_append]
  after_results
  rfl

/-- The decay gate's weights, widened with rows of zeros. -/
theorem host_decay : (V (F := Ideal) m c main_v15 : FVec Ideal S128x256 .bf16)
    = truncf .bf16 (pad S128x256 ![0, 0] ![112, 0] ![0, 0] (aX9 m c) (sitofp .f32 (constantI S_ 32 0#32) : FVec Ideal S_ .f32) pads_S16x256_S128x256_01120_000 h_S_ : FVec Ideal S128x256 .f32) bitsLt_bf16_f32 := by
  unfold_abbrev_sides
  simp only [hostOps0, hostOps0_1, hostOps0_2, hostOps0_3, hostOps0_4, List.flatten_cons, List.flatten_nil, List.append_nil, List.cons_append, List.nil_append]
  after_results
  rfl

/-- The recurrence's state with an axis put in. -/
theorem host_h : (V (F := Ideal) m c main_v16 : FVec Ideal S32x1x512 .f32)
    = broadcastInDim S32x1x512 ![0, 2] bcast_S32x512_S32x1x512_0_2 (aX7 m c) := by
  unfold_abbrev_sides
  simp only [hostOps0, hostOps0_1, hostOps0_2, hostOps0_3, hostOps0_4, List.flatten_cons, List.flatten_nil, List.append_nil, List.cons_append, List.nil_append]
  after_results

/-- The decay gate's bias as a row. -/
theorem host_bg : (V (F := Ideal) m c main_v17 : FVec Ideal S1x256 .f32)
    = broadcastInDim S1x256 ![1] bcast_S256_S1x256_1 (aX10 m c) := by
  unfold_abbrev_sides
  simp only [hostOps0, hostOps0_1, hostOps0_2, hostOps0_3, hostOps0_4, List.flatten_cons, List.flatten_nil, List.append_nil, List.cons_append, List.nil_append]
  after_results

/-- The convolution's bias as a row. -/
theorem host_cb : (V (F := Ideal) m c main_v19 : FVec Ideal S1x512 .f32)
    = broadcastInDim S1x512 ![1] bcast_S512_S1x512_1 (aX13 m c) := by
  unfold_abbrev_sides
  simp only [hostOps0, hostOps0_1, hostOps0_2, hostOps0_3, hostOps0_4, List.flatten_cons, List.flatten_nil, List.append_nil, List.cons_append, List.nil_append]
  after_results

/-- The first gate's bias as a row. -/
theorem host_ba : (V (F := Ideal) m c main_v48 : FVec Ideal S1x512 .f32)
    = broadcastInDim S1x512 ![1] bcast_S512_S1x512_1 (aX15 m c) := by
  unfold_abbrev_sides
  simp only [hostOps0, hostOps0_1, hostOps0_2, hostOps0_3, hostOps0_4, List.flatten_cons, List.flatten_nil, List.append_nil, List.cons_append, List.nil_append]
  after_results

/-- The second gate's bias as a row. -/
theorem host_bi : (V (F := Ideal) m c main_v49 : FVec Ideal S1x512 .f32)
    = broadcastInDim S1x512 ![1] bcast_S512_S1x512_1 (aX17 m c) := by
  unfold_abbrev_sides
  simp only [hostOps0, hostOps0_1, hostOps0_2, hostOps0_3, hostOps0_4, List.flatten_cons, List.flatten_nil, List.append_nil, List.cons_append, List.nil_append]
  after_results

/-- The decay's parameter as a row. -/
theorem host_lam : (V (F := Ideal) m c main_v50 : FVec Ideal S1x512 .f32)
    = broadcastInDim S1x512 ![1] bcast_S512_S1x512_1 (aX18 m c) := by
  unfold_abbrev_sides
  simp only [hostOps0, hostOps0_1, hostOps0_2, hostOps0_3, hostOps0_4, List.flatten_cons, List.flatten_nil, List.append_nil, List.cons_append, List.nil_append]
  after_results

/-- The first gate's weights, four blocks on the diagonal of each half. -/
theorem host_wa : (V (F := Ideal) m c main_v33 : FVec Ideal S2x256x256 .bf16)
    = truncf .bf16 (shapeCast S2x256x256 (mulf (broadcastInDim S2x4x64x4x64 ![0, 1, 2, 3, 4] bcast_S2x4x64x1x64_S2x4x64x4x64_0_1_2_3_4 (broadcastInDim S2x4x64x1x64 ![0, 1, 2, 4] bcast_S2x4x64x64_S2x4x64x1x64_0_1_2_4 (shapeCast S2x4x64x64 (aX14 m c) shapeCasts_S8x64x64_S2x4x64x64)))
      (broadcastInDim S2x4x64x4x64 ![0, 1, 2, 3, 4] bcast_S1x4x1x4x1_S2x4x64x4x64_0_1_2_3_4 (broadcastInDim S1x4x1x4x1 ![1, 3] bcast_S4x4_S1x4x1x4x1_1_3 (uitofp .f32 (cmpi .eq (addi (iotaInDim S4x4 32 0) (broadcastInDim S4x4 ![] bcast_S_S4x4 (constantI S_ 32 0#32))) (iotaInDim S4x4 32 1)) : FVec Ideal S4x4 .f32))) : FVec Ideal S2x4x64x4x64 .f32) shapeCasts_S2x4x64x4x64_S2x256x256 : FVec Ideal S2x256x256 .f32) bitsLt_bf16_f32 := by
  unfold_abbrev_sides
  simp only [hostOps0, hostOps0_1, hostOps0_2, hostOps0_3, hostOps0_4, List.flatten_cons, List.flatten_nil, List.append_nil, List.cons_append, List.nil_append]
  after_results
  rfl

/-- The second gate's weights, four blocks on the diagonal of each half. -/
theorem host_wi : (V (F := Ideal) m c main_v47 : FVec Ideal S2x256x256 .bf16)
    = truncf .bf16 (shapeCast S2x256x256 (mulf (broadcastInDim S2x4x64x4x64 ![0, 1, 2, 3, 4] bcast_S2x4x64x1x64_S2x4x64x4x64_0_1_2_3_4 (broadcastInDim S2x4x64x1x64 ![0, 1, 2, 4] bcast_S2x4x64x64_S2x4x64x1x64_0_1_2_4 (shapeCast S2x4x64x64 (aX16 m c) shapeCasts_S8x64x64_S2x4x64x64)))
      (broadcastInDim S2x4x64x4x64 ![0, 1, 2, 3, 4] bcast_S1x4x1x4x1_S2x4x64x4x64_0_1_2_3_4 (broadcastInDim S1x4x1x4x1 ![1, 3] bcast_S4x4_S1x4x1x4x1_1_3 (uitofp .f32 (cmpi .eq (addi (iotaInDim S4x4 32 0) (broadcastInDim S4x4 ![] bcast_S_S4x4 (constantI S_ 32 0#32))) (iotaInDim S4x4 32 1)) : FVec Ideal S4x4 .f32))) : FVec Ideal S2x4x64x4x64 .f32) shapeCasts_S2x4x64x4x64_S2x256x256 : FVec Ideal S2x256x256 .f32) bitsLt_bf16_f32 := by
  unfold_abbrev_sides
  simp only [hostOps0, hostOps0_1, hostOps0_2, hostOps0_3, hostOps0_4, List.flatten_cons, List.flatten_nil, List.append_nil, List.cons_append, List.nil_append]
  after_results
  rfl

/-- The word zero as a float. -/
theorem sitofp_zero : (FloatOps.sitofp (F := Ideal) .f32 0#32 : EReal) = 0 := by
  show (((0#32 : BitVec 32).toInt : ℝ) : EReal) = 0
  simp

/-- Two head numbers equal, as a float. -/
theorem one_hot (a b : ℕ) (ha : a < 1024) (hb : b < 1024) :
    (FloatOps.uitofp (F := Ideal) .f32 (IntOp.cmpi .eq (IntOp.addi (BitVec.ofNat 32 a) 0#32) (BitVec.ofNat 32 b)) : EReal) = if a = b then 1 else 0 := by
  have e : IntOp.cmpi .eq (IntOp.addi (BitVec.ofNat 32 a) 0#32) (BitVec.ofNat 32 b) = BitVec.ofBool (decide (a = b)) := by
    rw [show IntOp.addi (BitVec.ofNat 32 a) 0#32 = BitVec.ofNat 32 a from BitVec.add_zero _]
    word_cmp
  rw [e]
  show (((BitVec.ofBool (decide (a = b))).toNat : ℝ) : EReal) = _
  by_cases h : a = b
  · simp [h]
  · simp [h]

/-- Where the streams' blocks lie at a grid point. -/
theorem index_rows : ∀ t : Fin cfg0.N, win0_0.index t = ![t.val, 0] ∧ win0_1.index t = ![t.val, 0] ∧ win0_3.index t = ![t.val, 0]
    ∧ win0_4.index t = ![t.val, 0] ∧ win0_6.index t = ![t.val, 0, 0] ∧ win0_7.index t = ![t.val, 0, 0] ∧ win0_8.index t = ![t.val, 0, 0] := by decide +kernel

/-- Where the weights' blocks lie at a grid point. -/
theorem index_weights : ∀ t : Fin cfg0.N, win0_9.index t = ![0, 0] ∧ win0_10.index t = ![0, 0] ∧ win0_12.index t = ![0, 0]
    ∧ win0_13.index t = ![0, 0] ∧ win0_14.index t = ![0, 0, 0] ∧ win0_15.index t = ![0, 0, 0] ∧ win0_16.index t = ![0, 0]
    ∧ win0_17.index t = ![0, 0] ∧ win0_18.index t = ![0, 0] := by decide +kernel

/-- Where the results' blocks lie at a grid point. -/
theorem index_out : ∀ t : Fin cfg0.N, win0_20.index t = ![t.val, 0, 0] ∧ win0_21.index t = ![t.val, 0, 0] ∧ win0_22.index t = ![t.val, 0, 0] := by
  decide +kernel

/-- There are 32 grid points. -/
theorem point_lt (t : Fin cfg0.N) : t.val < 32 := t.isLt

variable (t : Fin cfg0.N)

/-- The point's stream. -/
def str : Fin 32 := ⟨t.val, point_lt t⟩

/-- The row of the sample under a row of the point's block. -/
def row (r : Fin 16) : Fin 512 := ⟨t.val * 16 + r.val, by have := point_lt t; have := r.isLt; omega⟩

theorem blk_0 (r : Fin 16) (d : Fin 512) : (iblk (F := Ideal) m c 0 t : FVec Ideal S16x512 .f32) (ix2 r d) = aX0 m c (ix2 (row t r) d) := by
  have e := index_rows t
  unfold row
  blk_ext [iblk, V_main_arg0, e.1]

theorem blk_1 (r : Fin 16) (d : Fin 512) : (iblk (F := Ideal) m c 1 t : FVec Ideal S16x512 .f32) (ix2 r d) = aX1 m c (ix2 (row t r) d) := by
  have e := index_rows t
  unfold row
  blk_ext [iblk, V_main_arg1, e.2.1]

theorem blk_3 (r : Fin 16) (d : Fin 128) : (iblk (F := Ideal) m c 3 t : FVec Ideal S16x128 .f32) (ix2 r d) = aX3 m c (ix2 (row t r) d) := by
  have e := index_rows t
  unfold row
  blk_ext [iblk, V_main_arg3, e.2.2.1]

theorem blk_4 (r : Fin 16) (d : Fin 512) : (iblk (F := Ideal) m c 4 t : FVec Ideal S16x512 .f32) (ix2 r d) = aX4 m c (ix2 (row t r) d) := by
  have e := index_rows t
  unfold row
  blk_ext [iblk, V_main_arg4, e.2.2.2.1]

set_option maxHeartbeats 1000000 in
theorem blk_6 (r : Fin 512) (e' : Fin 256) : (iblk (F := Ideal) m c 6 t : FVec Ideal S1x512x256 .f32) (ix3 0 r e') = aX6 m c (ix4 (str t) ⟨r.val / 128, by have := r.isLt; omega⟩ ⟨e'.val % 64, by omega⟩ ⟨r.val % 128, by omega⟩)
      * (if r.val / 128 = e'.val / 64 then 1 else 0 : EReal) := by
  have e := index_rows t
  have h : (iblk (F := Ideal) m c 6 t : FVec Ideal S1x512x256 .f32) (ix3 0 r e') = (V (F := Ideal) m c main_v12 : FVec Ideal S32x512x256 .f32) (ix3 (str t) r e') := by
    unfold str
    blk_ext [iblk, e.2.2.2.2.1]
  rw [h, host_state]
  pointwise
  have := r.isLt; have := e'.isLt
  exact congrArg (HMul.hMul (α := EReal) _) (one_hot _ _ (by omega) (by omega))

theorem blk_7 (d : Fin 512) : (iblk (F := Ideal) m c 7 t : FVec Ideal S1x1x512 .f32) (ix3 0 0 d) = aX7 m c (ix2 (str t) d) := by
  have e := index_rows t
  have h : (iblk (F := Ideal) m c 7 t : FVec Ideal S1x1x512 .f32) (ix3 0 0 d) = (V (F := Ideal) m c main_v16 : FVec Ideal S32x1x512 .f32) (ix3 (str t) 0 d) := by
    unfold str
    blk_ext [iblk, e.2.2.2.2.2.1]
  rw [h, host_h]
  pointwise

theorem blk_8 (r : Fin 8) (d : Fin 512) : (iblk (F := Ideal) m c 8 t : FVec Ideal S1x8x512 .f32) (ix3 0 r d) = if h : 5 ≤ r.val then aX8 m c (ix3 (str t) ⟨r.val - 5, by have := r.isLt; omega⟩ d) else (0 : EReal) := by
  have e := index_rows t
  have h : (iblk (F := Ideal) m c 8 t : FVec Ideal S1x8x512 .f32) (ix3 0 r d) = (V (F := Ideal) m c main_v13 : FVec Ideal S32x8x512 .f32) (ix3 (str t) r d) := by
    unfold str
    blk_ext [iblk, e.2.2.2.2.2.2]
  rw [h, host_conv]
  pointwise
  rw [sitofp_zero]
  have := r.isLt
  by_cases h5 : 5 ≤ r.val
  · rw [dif_pos ⟨h5, by omega⟩, dif_pos h5]
  · rw [dif_neg fun h => h5 h.1, dif_neg h5]

theorem blk_9 (k : Fin 128) (d : Fin 256) : (iblk (F := Ideal) m c 9 t : FVec Ideal S128x256 .bf16) (ix2 k d) = if h : k.val < 16 then aX9 m c (ix2 ⟨k.val, h⟩ d) else (0 : EReal) := by
  have e := index_weights t
  have h : (iblk (F := Ideal) m c 9 t : FVec Ideal S128x256 .bf16) (ix2 k d) = (V (F := Ideal) m c main_v15 : FVec Ideal S128x256 .bf16) (ix2 k d) := by
    blk_ext [iblk, e.1]
  rw [h, host_decay]
  pointwise
  rw [sitofp_zero]

theorem blk_10 (d : Fin 256) : (iblk (F := Ideal) m c 10 t : FVec Ideal S1x256 .f32) (ix2 0 d) = aX10 m c (ix1 d) := by
  have e := index_weights t
  have h : (iblk (F := Ideal) m c 10 t : FVec Ideal S1x256 .f32) (ix2 0 d) = (V (F := Ideal) m c main_v17 : FVec Ideal S1x256 .f32) (ix2 0 d) := by
    blk_ext [iblk, e.2.1]
  rw [h, host_bg]
  pointwise

theorem blk_12 (r : Fin 4) (d : Fin 512) : (iblk (F := Ideal) m c 12 t : FVec Ideal S4x512 .f32) (ix2 r d) = aX12 m c (ix2 r d) := by
  have e := index_weights t
  blk_ext [iblk, V_main_arg12, e.2.2.1]

theorem blk_13 (d : Fin 512) : (iblk (F := Ideal) m c 13 t : FVec Ideal S1x512 .f32) (ix2 0 d) = aX13 m c (ix1 d) := by
  have e := index_weights t
  have h : (iblk (F := Ideal) m c 13 t : FVec Ideal S1x512 .f32) (ix2 0 d) = (V (F := Ideal) m c main_v19 : FVec Ideal S1x512 .f32) (ix2 0 d) := by
    blk_ext [iblk, e.2.2.2.1]
  rw [h, host_cb]
  pointwise

theorem blk_14 (g : Fin 2) (k d : Fin 256) : (iblk (F := Ideal) m c 14 t : FVec Ideal S2x256x256 .bf16) (ix3 g k d) = aX14 m c (ix3 ⟨g.val * 4 + k.val / 64, by have := g.isLt; have := k.isLt; omega⟩ ⟨k.val % 64, by omega⟩ ⟨d.val % 64, by omega⟩)
      * (if k.val / 64 = d.val / 64 then 1 else 0 : EReal) := by
  have e := index_weights t
  have h : (iblk (F := Ideal) m c 14 t : FVec Ideal S2x256x256 .bf16) (ix3 g k d) = (V (F := Ideal) m c main_v33 : FVec Ideal S2x256x256 .bf16) (ix3 g k d) := by
    blk_ext [iblk, e.2.2.2.2.1]
  rw [h, host_wa]
  pointwise
  have := k.isLt; have := d.isLt
  rw [one_hot _ _ (by omega) (by omega)]

theorem blk_15 (g : Fin 2) (k d : Fin 256) : (iblk (F := Ideal) m c 15 t : FVec Ideal S2x256x256 .bf16) (ix3 g k d) = aX16 m c (ix3 ⟨g.val * 4 + k.val / 64, by have := g.isLt; have := k.isLt; omega⟩ ⟨k.val % 64, by omega⟩ ⟨d.val % 64, by omega⟩)
      * (if k.val / 64 = d.val / 64 then 1 else 0 : EReal) := by
  have e := index_weights t
  have h : (iblk (F := Ideal) m c 15 t : FVec Ideal S2x256x256 .bf16) (ix3 g k d) = (V (F := Ideal) m c main_v47 : FVec Ideal S2x256x256 .bf16) (ix3 g k d) := by
    blk_ext [iblk, e.2.2.2.2.2.1]
  rw [h, host_wi]
  pointwise
  have := k.isLt; have := d.isLt
  rw [one_hot _ _ (by omega) (by omega)]

theorem blk_16 (d : Fin 512) : (iblk (F := Ideal) m c 16 t : FVec Ideal S1x512 .f32) (ix2 0 d) = aX15 m c (ix1 d) := by
  have e := index_weights t
  have h : (iblk (F := Ideal) m c 16 t : FVec Ideal S1x512 .f32) (ix2 0 d) = (V (F := Ideal) m c main_v48 : FVec Ideal S1x512 .f32) (ix2 0 d) := by
    blk_ext [iblk, e.2.2.2.2.2.2.1]
  rw [h, host_ba]
  pointwise

theorem blk_17 (d : Fin 512) : (iblk (F := Ideal) m c 17 t : FVec Ideal S1x512 .f32) (ix2 0 d) = aX17 m c (ix1 d) := by
  have e := index_weights t
  have h : (iblk (F := Ideal) m c 17 t : FVec Ideal S1x512 .f32) (ix2 0 d) = (V (F := Ideal) m c main_v49 : FVec Ideal S1x512 .f32) (ix2 0 d) := by
    blk_ext [iblk, e.2.2.2.2.2.2.2.1]
  rw [h, host_bi]
  pointwise

theorem blk_18 (d : Fin 512) : (iblk (F := Ideal) m c 18 t : FVec Ideal S1x512 .f32) (ix2 0 d) = aX18 m c (ix1 d) := by
  have e := index_weights t
  have h : (iblk (F := Ideal) m c 18 t : FVec Ideal S1x512 .f32) (ix2 0 d) = (V (F := Ideal) m c main_v50 : FVec Ideal S1x512 .f32) (ix2 0 d) := by
    blk_ext [iblk, e.2.2.2.2.2.2.2.2]
  rw [h, host_lam]
  pointwise

end Cert.MixerSampleIdeal.MixerWin
-- ==== Proof.MixerRef.lean ====
/-
  The recurrences' reference at an element: the convolution's rows and its output, the gates, the decay and the input of the
  gated recurrence, its sixteen steps, the running sum of the attention's log-decay, and the three states.
-/
module

public import proofs.«01_k».proof.Proof.Gen.MixerSampleReferenceIdeal.Read
public import proofs.«01_k».proof.Proof.MixerMath
public import Idealize.ShloMosaic.Lib.Pointwise

@[expose] public section

set_option maxRecDepth 16384

noncomputable section

namespace Cert.MixerSampleReferenceIdeal.MixRef

open Cert.MixerSampleReferenceIdeal Cert.MixerSampleReferenceIdeal.Gen Cert.MixerSampleReferenceIdeal.Read Cert.MixerMath
open Idealize.ShloMosaic Idealize.ShloMosaic.TcCoe Idealize.SL.Sem Finset

variable (x0 x1 : (⟨S512x512, .f32⟩ : BufTy).Contents (Elt Ideal)) (x3 : (⟨S512x128, .f32⟩ : BufTy).Contents (Elt Ideal))
  (x4 : (⟨S512x512, .f32⟩ : BufTy).Contents (Elt Ideal)) (x6 : (⟨S32x4x64x128, .f32⟩ : BufTy).Contents (Elt Ideal))
  (x7 : (⟨S32x512, .f32⟩ : BufTy).Contents (Elt Ideal)) (x8 : (⟨S32x3x512, .f32⟩ : BufTy).Contents (Elt Ideal))
  (x9 : (⟨S16x256, .f32⟩ : BufTy).Contents (Elt Ideal)) (x10 : (⟨S256, .f32⟩ : BufTy).Contents (Elt Ideal))
  (x12 : (⟨S4x512, .f32⟩ : BufTy).Contents (Elt Ideal)) (x13 : (⟨S512, .f32⟩ : BufTy).Contents (Elt Ideal))
  (x14 : (⟨S8x64x64, .f32⟩ : BufTy).Contents (Elt Ideal)) (x15 : (⟨S512, .f32⟩ : BufTy).Contents (Elt Ideal))
  (x16 : (⟨S8x64x64, .f32⟩ : BufTy).Contents (Elt Ideal)) (x17 x18 : (⟨S512, .f32⟩ : BufTy).Contents (Elt Ideal))

/-- The row of the sample under a step of a stream. -/
def row (b : Fin 32) (t : Fin 16) : Fin 512 := ⟨b.val * 16 + t.val, by have := b.isLt; have := t.isLt; omega⟩

/-! ## The convolution -/

/-- The convolution's rows of a stream: the three from before, then the sixteen new ones. -/
def xpAt (b : Fin 32) (j : Fin 19) (d : Fin 512) : EReal :=
  if h : j.val < 3 then x8 (ix3 b ⟨j.val, h⟩ d) else x4 (ix2 (row b ⟨j.val - 3, by have := j.isLt; omega⟩) d)

theorem xp_at (b : Fin 32) (j : Fin 19) (d : Fin 512) : val_main_v38 (F := Ideal) x4 x8 (ix3 b j d) = xpAt x4 x8 b j d := by
  pointwise [val_main_v38, val_main_v37]
  unfold xpAt row
  rfl

/-- The convolution's output. -/
def xcAt (b : Fin 32) (t : Fin 16) (d : Fin 512) : EReal :=
  x13 (ix1 d) + (x12 (ix2 0 d) * xpAt x4 x8 b ⟨t.val, by have := t.isLt; omega⟩ d
    + x12 (ix2 1 d) * xpAt x4 x8 b ⟨1 + t.val, by have := t.isLt; omega⟩ d
    + x12 (ix2 2 d) * xpAt x4 x8 b ⟨2 + t.val, by have := t.isLt; omega⟩ d
    + x12 (ix2 3 d) * xpAt x4 x8 b ⟨3 + t.val, by have := t.isLt; omega⟩ d)

theorem xc_at (b : Fin 32) (t : Fin 16) (d : Fin 512) :
    val_main_v70 (F := Ideal) x4 x8 x12 x13 (ix3 b t d) = xcAt x4 x8 x12 x13 b t d := by
  pointwise [val_main_v70, val_main_v69, val_main_v68, val_main_v67, val_main_v66, val_main_v65, val_main_v64, val_main_v63, val_main_v62, val_main_v61,
    val_main_v60, val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42, val_main_v41,
    val_main_v40, val_main_v39, val_main_cst_2]
  rw [xp_at, xp_at, xp_at, xp_at]
  rfl

/-! ## The gates -/

/-- A gate's product: the block of the convolution's output against the block's matrix. -/
def gateAt (w : (⟨S8x64x64, .f32⟩ : BufTy).Contents (Elt Ideal)) (b : Fin 32) (t : Fin 16) (e : Fin 512) : EReal :=
  ∑ k : Fin 64, w (ix3 ⟨e.val / 64, by have := e.isLt; omega⟩ k ⟨e.val % 64, by omega⟩)
    * xcAt x4 x8 x12 x13 b t ⟨e.val / 64 * 64 + k.val, by have := e.isLt; have := k.isLt; omega⟩

theorem r_at (b : Fin 32) (t : Fin 16) (e : Fin 512) :
    val_main_v83 (F := Ideal) x4 x8 x12 x13 x14 x15 (ix3 b t e)
      = Ideal.div 1 (1 + Ideal.exp (-(gateAt x4 x8 x12 x13 x14 b t e + x15 (ix1 e)))) := by
  pointwise [val_main_v83, val_main_v82, val_main_v81, val_main_v80, val_main_v79, val_main_v78, val_main_v77, val_main_v76, val_main_v75,
    val_main_v74, val_main_v73, val_main_v72, val_main_v71, val_main_cst_3, val_main_cst_4]
  unfold gateAt
  simp only [xc_at]

theorem i_at (b : Fin 32) (t : Fin 16) (e : Fin 512) :
    val_main_v95 (F := Ideal) x4 x8 x12 x13 x16 x17 (ix3 b t e)
      = Ideal.div 1 (1 + Ideal.exp (-(gateAt x4 x8 x12 x13 x16 b t e + x17 (ix1 e)))) := by
  pointwise [val_main_v95, val_main_v94, val_main_v93, val_main_v92, val_main_v91, val_main_v90, val_main_v89, val_main_v88, val_main_v87,
    val_main_v86, val_main_v85, val_main_v84, val_main_v71, val_main_cst_5, val_main_cst_6]
  unfold gateAt
  simp only [xc_at]

/-- The decay's logarithm. -/
def logAt (b : Fin 32) (t : Fin 16) (e : Fin 512) : EReal :=
  -8 * Ideal.div 1 (1 + Ideal.exp (-(gateAt x4 x8 x12 x13 x14 b t e + x15 (ix1 e)))) * softplus (-x18 (ix1 e))

theorem sp_at (e : Fin 512) : val_main_v99 (F := Ideal) x18 (ix1 e) = softplus (-x18 (ix1 e)) := by
  pointwise [val_main_v99, val_main_call2_v11, val_main_call2_v10, val_main_call2_v9, val_main_call2_v8, val_main_call2_v7,
    val_main_call2_v6, val_main_call2_v5, val_main_call2_v4, val_main_call2_v3, val_main_call2_v2, val_main_call2_v1, val_main_call2_v0,
    val_main_v98, val_main_call2_cst]
  rw [if_neg (not_not.2 rfl)]
  unfold softplus
  rw [zero_sub]
  rfl

theorem log_at (b : Fin 32) (t : Fin 16) (e : Fin 512) :
    val_main_v102 (F := Ideal) x4 x8 x12 x13 x14 x15 x18 (ix3 b t e) = logAt x4 x8 x12 x13 x14 x15 x18 b t e := by
  pointwise [val_main_v102, val_main_v97, val_main_v96, val_main_v101, val_main_v100, val_main_cst_7]
  rw [r_at, sp_at, c_neg8]
  rfl

theorem a_at (b : Fin 32) (t : Fin 16) (e : Fin 512) :
    val_main_v103 (F := Ideal) x4 x8 x12 x13 x14 x15 x18 (ix3 b t e) = Ideal.exp (logAt x4 x8 x12 x13 x14 x15 x18 b t e) := by
  pointwise [val_main_v103]
  rw [log_at]

/-- The recurrence's input. -/
def termAt (b : Fin 32) (t : Fin 16) (e : Fin 512) : EReal :=
  Ideal.sqrt (-(Ideal.exp (2 * logAt x4 x8 x12 x13 x14 x15 x18 b t e) - 1))
    * (Ideal.div 1 (1 + Ideal.exp (-(gateAt x4 x8 x12 x13 x16 b t e + x17 (ix1 e)))) * xcAt x4 x8 x12 x13 b t e)

theorem term_at (b : Fin 32) (t : Fin 16) (e : Fin 512) :
    val_main_v110 (F := Ideal) x4 x8 x12 x13 x14 x15 x16 x17 x18 (ix3 b t e) = termAt x4 x8 x12 x13 x14 x15 x16 x17 x18 b t e := by
  pointwise [val_main_v110, val_main_v109, val_main_v108, val_main_v107, val_main_v106, val_main_v105, val_main_v104, val_main_cst_8]
  rw [log_at, i_at, xc_at, c_two]
  rfl

/-! ## The recurrence -/
/-- The recurrence's state after some of the sixteen steps. -/
def recAt (b : Fin 32) (e : Fin 512) (n : ℕ) : EReal :=
  steps (fun t => Ideal.exp (logAt x4 x8 x12 x13 x14 x15 x18 b (Fin.ofNat 16 t) e))
    (fun t => termAt x4 x8 x12 x13 x14 x15 x16 x17 x18 b (Fin.ofNat 16 t) e) (x7 (ix2 b e)) n

theorem rec_1 (b : Fin 32) (e : Fin 512) : val_main_v116 (F := Ideal) x4 x7 x8 x12 x13 x14 x15 x16 x17 x18 (ix2 b e) = recAt x4 x7 x8 x12 x13 x14 x15 x16 x17 x18 b e 1 := by
  pointwise [val_main_v116, val_main_v115, val_main_v114, val_main_v113, val_main_v112, val_main_v111]
  rw [a_at, term_at]
  rfl

theorem rec_2 (b : Fin 32) (e : Fin 512) : val_main_v122 (F := Ideal) x4 x7 x8 x12 x13 x14 x15 x16 x17 x18 (ix2 b e) = recAt x4 x7 x8 x12 x13 x14 x15 x16 x17 x18 b e 2 := by
  pointwise [val_main_v122, val_main_v121, val_main_v120, val_main_v119, val_main_v118, val_main_v117]
  rw [a_at, term_at, rec_1]
  rfl

theorem rec_3 (b : Fin 32) (e : Fin 512) : val_main_v128 (F := Ideal) x4 x7 x8 x12 x13 x14 x15 x16 x17 x18 (ix2 b e) = recAt x4 x7 x8 x12 x13 x14 x15 x16 x17 x18 b e 3 := by
  pointwise [val_main_v128, val_main_v127, val_main_v126, val_main_v125, val_main_v124, val_main_v123]
  rw [a_at, term_at, rec_2]
  rfl

theorem rec_4 (b : Fin 32) (e : Fin 512) : val_main_v134 (F := Ideal) x4 x7 x8 x12 x13 x14 x15 x16 x17 x18 (ix2 b e) = recAt x4 x7 x8 x12 x13 x14 x15 x16 x17 x18 b e 4 := by
  pointwise [val_main_v134, val_main_v133, val_main_v132, val_main_v131, val_main_v130, val_main_v129]
  rw [a_at, term_at, rec_3]
  rfl

theorem rec_5 (b : Fin 32) (e : Fin 512) : val_main_v140 (F := Ideal) x4 x7 x8 x12 x13 x14 x15 x16 x17 x18 (ix2 b e) = recAt x4 x7 x8 x12 x13 x14 x15 x16 x17 x18 b e 5 := by
  pointwise [val_main_v140, val_main_v139, val_main_v138, val_main_v137, val_main_v136, val_main_v135]
  rw [a_at, term_at, rec_4]
  rfl

theorem rec_6 (b : Fin 32) (e : Fin 512) : val_main_v146 (F := Ideal) x4 x7 x8 x12 x13 x14 x15 x16 x17 x18 (ix2 b e) = recAt x4 x7 x8 x12 x13 x14 x15 x16 x17 x18 b e 6 := by
  pointwise [val_main_v146, val_main_v145, val_main_v144, val_main_v143, val_main_v142, val_main_v141]
  rw [a_at, term_at, rec_5]
  rfl

theorem rec_7 (b : Fin 32) (e : Fin 512) : val_main_v152 (F := Ideal) x4 x7 x8 x12 x13 x14 x15 x16 x17 x18 (ix2 b e) = recAt x4 x7 x8 x12 x13 x14 x15 x16 x17 x18 b e 7 := by
  pointwise [val_main_v152, val_main_v151, val_main_v150, val_main_v149, val_main_v148, val_main_v147]
  rw [a_at, term_at, rec_6]
  rfl

theorem rec_8 (b : Fin 32) (e : Fin 512) : val_main_v158 (F := Ideal) x4 x7 x8 x12 x13 x14 x15 x16 x17 x18 (ix2 b e) = recAt x4 x7 x8 x12 x13 x14 x15 x16 x17 x18 b e 8 := by
  pointwise [val_main_v158, val_main_v157, val_main_v156, val_main_v155, val_main_v154, val_main_v153]
  rw [a_at, term_at, rec_7]
  rfl

theorem rec_9 (b : Fin 32) (e : Fin 512) : val_main_v164 (F := Ideal) x4 x7 x8 x12 x13 x14 x15 x16 x17 x18 (ix2 b e) = recAt x4 x7 x8 x12 x13 x14 x15 x16 x17 x18 b e 9 := by
  pointwise [val_main_v164, val_main_v163, val_main_v162, val_main_v161, val_main_v160, val_main_v159]
  rw [a_at, term_at, rec_8]
  rfl

theorem rec_10 (b : Fin 32) (e : Fin 512) : val_main_v170 (F := Ideal) x4 x7 x8 x12 x13 x14 x15 x16 x17 x18 (ix2 b e) = recAt x4 x7 x8 x12 x13 x14 x15 x16 x17 x18 b e 10 := by
  pointwise [val_main_v170, val_main_v169, val_main_v168, val_main_v167, val_main_v166, val_main_v165]
  rw [a_at, term_at, rec_9]
  rfl

theorem rec_11 (b : Fin 32) (e : Fin 512) : val_main_v176 (F := Ideal) x4 x7 x8 x12 x13 x14 x15 x16 x17 x18 (ix2 b e) = recAt x4 x7 x8 x12 x13 x14 x15 x16 x17 x18 b e 11 := by
  pointwise [val_main_v176, val_main_v175, val_main_v174, val_main_v173, val_main_v172, val_main_v171]
  rw [a_at, term_at, rec_10]
  rfl

theorem rec_12 (b : Fin 32) (e : Fin 512) : val_main_v182 (F := Ideal) x4 x7 x8 x12 x13 x14 x15 x16 x17 x18 (ix2 b e) = recAt x4 x7 x8 x12 x13 x14 x15 x16 x17 x18 b e 12 := by
  pointwise [val_main_v182, val_main_v181, val_main_v180, val_main_v179, val_main_v178, val_main_v177]
  rw [a_at, term_at, rec_11]
  rfl

theorem rec_13 (b : Fin 32) (e : Fin 512) : val_main_v188 (F := Ideal) x4 x7 x8 x12 x13 x14 x15 x16 x17 x18 (ix2 b e) = recAt x4 x7 x8 x12 x13 x14 x15 x16 x17 x18 b e 13 := by
  pointwise [val_main_v188, val_main_v187, val_main_v186, val_main_v185, val_main_v184, val_main_v183]
  rw [a_at, term_at, rec_12]
  rfl

theorem rec_14 (b : Fin 32) (e : Fin 512) : val_main_v194 (F := Ideal) x4 x7 x8 x12 x13 x14 x15 x16 x17 x18 (ix2 b e) = recAt x4 x7 x8 x12 x13 x14 x15 x16 x17 x18 b e 14 := by
  pointwise [val_main_v194, val_main_v193, val_main_v192, val_main_v191, val_main_v190, val_main_v189]
  rw [a_at, term_at, rec_13]
  rfl

theorem rec_15 (b : Fin 32) (e : Fin 512) : val_main_v200 (F := Ideal) x4 x7 x8 x12 x13 x14 x15 x16 x17 x18 (ix2 b e) = recAt x4 x7 x8 x12 x13 x14 x15 x16 x17 x18 b e 15 := by
  pointwise [val_main_v200, val_main_v199, val_main_v198, val_main_v197, val_main_v196, val_main_v195]
  rw [a_at, term_at, rec_14]
  rfl

theorem rec_16 (b : Fin 32) (e : Fin 512) : val_main_v206 (F := Ideal) x4 x7 x8 x12 x13 x14 x15 x16 x17 x18 (ix2 b e) = recAt x4 x7 x8 x12 x13 x14 x15 x16 x17 x18 b e 16 := by
  pointwise [val_main_v206, val_main_v205, val_main_v204, val_main_v203, val_main_v202, val_main_v201]
  rw [a_at, term_at, rec_15]
  rfl

/-- The recurrence's new state. -/
theorem h_at (b : Fin 32) (e : Fin 512) : val_main_v218 (F := Ideal) x4 x7 x8 x12 x13 x14 x15 x16 x17 x18 (ix3 b 0 e) = recAt x4 x7 x8 x12 x13 x14 x15 x16 x17 x18 b e 16 := by
  pointwise [val_main_v218]
  rw [rec_16]

/-- The convolution's rows kept for the next frame. -/
theorem kept_at (b : Fin 32) (r : Fin 8) (d : Fin 512) :
    val_main_v219 (F := Ideal) x4 x8 (ix3 b r d) = xpAt x4 x8 b ⟨11 + r.val, by have := r.isLt; omega⟩ d := by
  pointwise [val_main_v219]
  rw [xp_at]

/-! ## The attention's state -/

/-- The decay gate's score. -/
def uAt (b : Fin 32) (t : Fin 16) (e : Fin 256) : EReal := (∑ k : Fin 16, x3 (ix2 (row b t) ⟨k.val, by have := k.isLt; omega⟩) * x9 (ix2 k e)) + x10 (ix1 e)

theorem u_at (b : Fin 32) (t : Fin 16) (e : Fin 256) : val_main_v7 (F := Ideal) x3 x9 x10 (ix3 b t e) = uAt x3 x9 x10 b t e := by
  pointwise [val_main_v7, val_main_v6, val_main_v5, val_main_v4, val_main_v3, val_main_v2]
  rfl

/-- A step's log-decay. -/
def ldAt (b : Fin 32) (t : Fin 16) (e : Fin 256) : EReal :=
  (min (uAt x3 x9 x10 b t e) 0 - Ideal.log1p (Ideal.exp (0 - max (uAt x3 x9 x10 b t e) (-uAt x3 x9 x10 b t e)))) * ((1 / 16 : ℝ) : EReal)

/-- The column of a head's lane. -/
def colk (h : Fin 4) (d : Fin 64) : Fin 256 := ⟨h.val * 64 + d.val, by have := h.isLt; have := d.isLt; omega⟩

theorem ls_at (b : Fin 32) (t : Fin 16) (e : Fin 256) :
    val_main_v8 (F := Ideal) x3 x9 x10 (ix3 b t e)
      = min (uAt x3 x9 x10 b t e) 0 - Ideal.log1p (Ideal.exp (0 - max (uAt x3 x9 x10 b t e) (-uAt x3 x9 x10 b t e))) := by
  pointwise [val_main_v8, val_main_call0_v1, val_main_call0_v0, val_main_call0_call0_v11, val_main_call0_call0_v10, val_main_call0_call0_v9,
    val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst]
  rw [log_sigmoid, u_at]
  rw [if_neg (not_not.2 rfl), sub_zero]
  rfl

theorem ld_at (b : Fin 32) (t : Fin 16) (h : Fin 4) (d : Fin 64) :
    val_main_v11 (F := Ideal) x3 x9 x10 (ix4 b t h d) = ldAt x3 x9 x10 b t (colk h d) := by
  pointwise [val_main_v11, val_main_v10, val_main_v9, val_main_cst]
  rw [ls_at, c_sixteen, div_sixteen]
  rfl

/-- The log-decay summed up to a step. -/
def bAt (b : Fin 32) (t : Fin 16) (e : Fin 256) : EReal := ∑ s : Fin 16, if s.val ≤ t.val then ldAt x3 x9 x10 b s e else 0

theorem b_at (b : Fin 32) (t : Fin 16) (h : Fin 4) (d : Fin 64) :
    val_main_v22 (F := Ideal) x3 x9 x10 (ix4 b t h d) = bAt x3 x9 x10 b t (colk h d) := by
  pointwise [val_main_v22, val_main_v21, val_main_call1_v3, val_main_call1_v2, val_main_call1_v1, val_main_call1_v0, val_main_v20, val_main_v19, val_main_v18,
    val_main_v17, val_main_v16, val_main_v15, val_main_v14, val_main_v13, val_main_v12, val_main_cst_0, val_main_cst_1]
  refine Finset.sum_congr rfl fun s _ => ?_
  have := t.isLt; have := s.isLt
  rw [sel_ge _ _ (by omega) (by omega), ld_at]
  refine if_congr Iff.rfl rfl ?_
  exact Ideal.ofBits_zero_f32

/-- The keys' part that lasts to the end of the frame. -/
def tailAt (b : Fin 32) (t : Fin 16) (e : Fin 256) : EReal :=
  x0 (ix2 (row b t) ⟨256 + e.val, by have := e.isLt; omega⟩) * Ideal.exp (bAt x3 x9 x10 b 15 e - bAt x3 x9 x10 b t e)

theorem tail_at (b : Fin 32) (t : Fin 16) (h : Fin 4) (d : Fin 64) :
    val_main_v29 (F := Ideal) x0 x3 x9 x10 (ix4 b t h d) = tailAt x0 x3 x9 x10 b t (colk h d) := by
  pointwise [val_main_v29, val_main_v28, val_main_v27, val_main_v26, val_main_v25, val_main_v24, val_main_v23, val_main_v1, val_main_v0]
  rw [b_at, b_at]
  rfl

/-- The new state. -/
def stateAt (b : Fin 32) (r : Fin 512) (e : Fin 256) : EReal :=
  if r.val / 128 = e.val / 64 then
    x6 (ix4 b ⟨e.val / 64, by have := e.isLt; omega⟩ ⟨e.val % 64, by omega⟩ ⟨r.val % 128, by omega⟩) * Ideal.exp (bAt x3 x9 x10 b 15 e)
      + ∑ t : Fin 16, tailAt x0 x3 x9 x10 b t e * x1 (ix2 (row b t) r)
  else 0

theorem state_at (b : Fin 32) (r : Fin 512) (e : Fin 256) :
    val_main_v216 (F := Ideal) x0 x1 x3 x6 x9 x10 (ix3 b r e) = stateAt x0 x1 x3 x6 x9 x10 b r e := by
  pointwise [val_main_v216, val_main_v215, val_main_call3_v3, val_main_call3_v2, val_main_call3_v1, val_main_call3_v0, val_main_v214, val_main_v213,
    val_main_v212, val_main_v211, val_main_v210, val_main_v209, val_main_v208, val_main_v207, val_main_c, val_main_cst_9,
    val_main_v36, val_main_v35, val_main_v34, val_main_v33, val_main_v32, val_main_v31, val_main_v30, val_main_v24, val_main_v23]
  have hr := r.isLt; have he := e.isLt
  rw [sel_eq _ _ (by omega) (by omega)]
  unfold stateAt
  split
  · rename_i hh
    have hq : (⟨r.val / 128, by omega⟩ : Fin 4) = ⟨e.val / 64, by omega⟩ := Fin.ext hh
    have hc : colk ⟨e.val / 64, by omega⟩ ⟨e.val % 64, by omega⟩ = e := Fin.ext (by show e.val / 64 * 64 + e.val % 64 = e.val; omega)
    simp only [hq, b_at, tail_at, hc]
    rfl
  · exact Ideal.ofBits_zero_f32

end Cert.MixerSampleReferenceIdeal.MixRef
-- ==== Proof.MixerPoint.lean ====
/-
  The recurrences over the sample at one grid point: the blocks are read by the call's arguments, the convolution's scratch by its
  rows, and the kernel's doublings by the reference's steps and sums.
-/
module

public import proofs.«01_k».proof.Proof.MixerPay
public import proofs.«01_k».proof.Proof.MixerWin
public import proofs.«01_k».proof.Proof.MixerRef
public import Idealize.ShloMosaic.Lib.Pointwise
public import Idealize.ShloMosaic.Lib.Claim
public import Idealize.ShloMosaic.Lib.Pipeline.ReadBack
public import Idealize.ShloMosaic.Lib.Pipeline.Covers
public import Idealize.ShloMosaic.Lib.Pipeline.ValueKit.Acc
public import Idealize.ShloMosaic.Lib.Pipeline.ValueKit.Geometry

@[expose] public section

set_option maxRecDepth 16384

noncomputable section

namespace Cert.MixerSampleIdeal.MixerPoint

open Cert.MixerSampleIdeal Cert.MixerSampleIdeal.Gen Cert.MixerMath Cert.MixerSampleIdeal.MixerPay Cert.MixerSampleIdeal.MixerWin
open Cert.MixerSampleReferenceIdeal.Read
open Idealize.ShloMosaic Idealize.ShloMosaic.TcCoe Idealize.SL.Sem Finset

variable (m : (ℓ : Loc nD τ sig) → Buf (Elt Ideal) ℓ) (c : Dev nD) (t : Fin cfg0.N)

/-! ## One grid point -/

/-- A row of the convolution's scratch is the reference's. -/
theorem pad_eq (n : ℕ) (h5 : 5 ≤ n) (h : n < 24) (d : Fin 512) :
    padAt (k0_pay7 (F := Ideal) (iblk m c 8 t)) (k0_pay8 (F := Ideal) (iblk m c 4 t)) n d
      = Cert.MixerSampleReferenceIdeal.MixRef.xpAt (aX4 m c) (aX8 m c) (str t) ⟨n - 5, by omega⟩ d := by
  unfold padAt Cert.MixerSampleReferenceIdeal.MixRef.xpAt
  by_cases h8 : n < 8
  · rw [dif_pos h8, dif_pos (show n - 5 < 3 by omega), in_conv, blk_8, dif_pos (show 5 ≤ n from h5)]
  · rw [dif_neg h8, dif_neg (show ¬(n - 5 < 3) by omega), in_rows, blk_4]
    refine congrArg (aX4 m c) (congrArg (fun r => ix2 r d) (Fin.ext ?_))
    show t.val * 16 + (n - 8) % 16 = t.val * 16 + (n - 5 - 3)
    omega

/-- The convolution's output is the reference's. -/
theorem xc_eq (w0 w1 w2 w3 : FVec Ideal S1x512 .f32) (y0 y1 y2 y3 : FVec Ideal S16x512 .f32)
    (hw0 : ∀ d, w0 (ix2 0 d) = aX12 m c (ix2 0 d)) (hw1 : ∀ d, w1 (ix2 0 d) = aX12 m c (ix2 1 d))
    (hw2 : ∀ d, w2 (ix2 0 d) = aX12 m c (ix2 2 d)) (hw3 : ∀ d, w3 (ix2 0 d) = aX12 m c (ix2 3 d))
    (hy0 : ∀ s d, y0 (ix2 s d) = padAt (k0_pay7 (F := Ideal) (iblk m c 8 t)) (k0_pay8 (F := Ideal) (iblk m c 4 t)) (5 + s.val) d)
    (hy1 : ∀ s d, y1 (ix2 s d) = padAt (k0_pay7 (F := Ideal) (iblk m c 8 t)) (k0_pay8 (F := Ideal) (iblk m c 4 t)) (6 + s.val) d)
    (hy2 : ∀ s d, y2 (ix2 s d) = padAt (k0_pay7 (F := Ideal) (iblk m c 8 t)) (k0_pay8 (F := Ideal) (iblk m c 4 t)) (7 + s.val) d)
    (hy3 : ∀ s d, y3 (ix2 s d) = padAt (k0_pay7 (F := Ideal) (iblk m c 8 t)) (k0_pay8 (F := Ideal) (iblk m c 4 t)) (8 + s.val) d)
    (s : Fin 16) (d : Fin 512) :
    k0_pay9 (F := Ideal) (iblk m c 13 t) w0 y0 w1 y1 w2 y2 w3 y3 (ix2 s d)
      = Cert.MixerSampleReferenceIdeal.MixRef.xcAt (aX4 m c) (aX8 m c) (aX12 m c) (aX13 m c) (str t) s d := by
  have hs := s.isLt
  rw [MixerPay.xc_at, hw0, hw1, hw2, hw3, hy0, hy1, hy2, hy3, blk_13, pad_eq m c t _ (by omega) (by omega), pad_eq m c t _ (by omega) (by omega),
    pad_eq m c t _ (by omega) (by omega), pad_eq m c t _ (by omega) (by omega)]
  have i0 : (⟨5 + s.val - 5, by omega⟩ : Fin 19) = ⟨s.val, by omega⟩ := Fin.ext (by show 5 + s.val - 5 = s.val; omega)
  have i1 : (⟨6 + s.val - 5, by omega⟩ : Fin 19) = ⟨1 + s.val, by omega⟩ := Fin.ext (by show 6 + s.val - 5 = 1 + s.val; omega)
  have i2 : (⟨7 + s.val - 5, by omega⟩ : Fin 19) = ⟨2 + s.val, by omega⟩ := Fin.ext (by show 7 + s.val - 5 = 2 + s.val; omega)
  have i3 : (⟨8 + s.val - 5, by omega⟩ : Fin 19) = ⟨3 + s.val, by omega⟩ := Fin.ext (by show 8 + s.val - 5 = 3 + s.val; omega)
  rw [i0, i1, i2, i3]
  unfold Cert.MixerSampleReferenceIdeal.MixRef.xcAt
  simp only [add_assoc]

/-- A gate's product: four blocks of the diagonal matrix are one block each. -/
theorem gate_sum (w : FVec Ideal S8x64x64 .f32) (x : Fin 512 → EReal) (g : Fin 2) (d : Fin 256) :
    ∑ k : Fin 256, x ⟨256 * g.val + k.val, by have := g.isLt; have := k.isLt; omega⟩
        * (w (ix3 ⟨g.val * 4 + k.val / 64, by have := g.isLt; have := k.isLt; omega⟩ ⟨k.val % 64, by omega⟩ ⟨d.val % 64, by omega⟩)
          * if k.val / 64 = d.val / 64 then 1 else 0)
      = ∑ k : Fin 64, w (ix3 ⟨(256 * g.val + d.val) / 64, by have := g.isLt; have := d.isLt; omega⟩ k ⟨(256 * g.val + d.val) % 64, by omega⟩)
        * x ⟨(256 * g.val + d.val) / 64 * 64 + k.val, by have := g.isLt; have := d.isLt; have := k.isLt; omega⟩ := by
  have hg := g.isLt; have hd := d.isLt
  refine (block_sum (fun k => x ⟨256 * g.val + k.val, by have := k.isLt; omega⟩)
    (fun k => w (ix3 ⟨g.val * 4 + k.val / 64, by have := k.isLt; omega⟩ ⟨k.val % 64, by omega⟩ ⟨d.val % 64, by omega⟩)) ⟨d.val / 64, by omega⟩).trans ?_
  refine Finset.sum_congr rfl fun k _ => ?_
  have hk := k.isLt
  rw [mul_comm]
  have e0 : (⟨g.val * 4 + (64 * (d.val / 64) + k.val) / 64, by omega⟩ : Fin 8) = ⟨(256 * g.val + d.val) / 64, by omega⟩ := Fin.ext (by
    show g.val * 4 + (64 * (d.val / 64) + k.val) / 64 = (256 * g.val + d.val) / 64; omega)
  have e1 : (⟨(64 * (d.val / 64) + k.val) % 64, by omega⟩ : Fin 64) = k := Fin.ext (by show (64 * (d.val / 64) + k.val) % 64 = k.val; omega)
  have e2 : (⟨d.val % 64, by omega⟩ : Fin 64) = ⟨(256 * g.val + d.val) % 64, by omega⟩ := Fin.ext (by show d.val % 64 = (256 * g.val + d.val) % 64; omega)
  have e3 : (⟨256 * g.val + (64 * (d.val / 64) + k.val), by omega⟩ : Fin 512) = ⟨(256 * g.val + d.val) / 64 * 64 + k.val, by omega⟩ := Fin.ext (by
    show 256 * g.val + (64 * (d.val / 64) + k.val) = (256 * g.val + d.val) / 64 * 64 + k.val; omega)
  show w (ix3 ⟨g.val * 4 + (64 * (d.val / 64) + k.val) / 64, _⟩ ⟨(64 * (d.val / 64) + k.val) % 64, _⟩ ⟨d.val % 64, _⟩)
    * x ⟨256 * g.val + (64 * (d.val / 64) + k.val), _⟩ = _
  rw [e0, e1, e2, e3]

/-- A gate's product is the reference's. -/
theorem lin_eq (a : FVec Ideal S8x64x64 .f32) (xc : FVec Ideal S16x512 .f32) (w0 w1 : FVec Ideal S1x256x256 .bf16)
    (hx : ∀ s d, xc (ix2 s d) = Cert.MixerSampleReferenceIdeal.MixRef.xcAt (aX4 m c) (aX8 m c) (aX12 m c) (aX13 m c) (str t) s d)
    (h0 : ∀ k d, w0 (ix3 0 k d) = a (ix3 ⟨0 * 4 + k.val / 64, by have := k.isLt; omega⟩ ⟨k.val % 64, by omega⟩ ⟨d.val % 64, by omega⟩)
      * if k.val / 64 = d.val / 64 then 1 else 0)
    (h1 : ∀ k d, w1 (ix3 0 k d) = a (ix3 ⟨1 * 4 + k.val / 64, by have := k.isLt; omega⟩ ⟨k.val % 64, by omega⟩ ⟨d.val % 64, by omega⟩)
      * if k.val / 64 = d.val / 64 then 1 else 0)
    (s : Fin 16) (d : Fin 512) :
    k0_pay12 (F := Ideal) xc w0 w1 (ix2 s d)
      = Cert.MixerSampleReferenceIdeal.MixRef.gateAt (aX4 m c) (aX8 m c) (aX12 m c) (aX13 m c) a (str t) s d := by
  have hd := d.isLt
  rw [lin_at]
  unfold Cert.MixerSampleReferenceIdeal.MixRef.gateAt
  simp only [← hx]
  split
  · rename_i hl
    simp only [h0]
    have e := gate_sum a (fun k => xc (ix2 s k)) 0 ⟨d.val, hl⟩
    have i0 : (256 * (0 : Fin 2).val + d.val) = d.val := by show 256 * 0 + d.val = d.val; omega
    simp only [i0] at e
    refine Eq.trans (Finset.sum_congr rfl fun k _ => ?_) e
    have i1 : (⟨256 * (0 : Fin 2).val + k.val, by have := k.isLt; show 256 * 0 + k.val < 512; omega⟩ : Fin 512) = ⟨k.val, by have := k.isLt; omega⟩ :=
      Fin.ext (by show 256 * 0 + k.val = k.val; omega)
    show xc (ix2 s ⟨k.val, _⟩) * _ = xc (ix2 s ⟨256 * (0 : Fin 2).val + k.val, _⟩) * _
    rw [i1]
    rfl
  · rename_i hl
    simp only [h1]
    have e := gate_sum a (fun k => xc (ix2 s k)) 1 ⟨d.val - 256, by omega⟩
    have i0 : (256 * (1 : Fin 2).val + (d.val - 256)) = d.val := by show 256 * 1 + (d.val - 256) = d.val; omega
    simp only [i0] at e
    exact e

/-- The decay's factor and the recurrence's input are the reference's. -/
theorem factor_eq (xc : FVec Ideal S16x512 .f32) (w0 w1 : FVec Ideal S1x256x256 .bf16) (s : Fin 16) (d : Fin 512)
    (hr : k0_pay12 (F := Ideal) xc w0 w1 (ix2 s d)
      = Cert.MixerSampleReferenceIdeal.MixRef.gateAt (aX4 m c) (aX8 m c) (aX12 m c) (aX13 m c) (aX14 m c) (str t) s d) :
    k0_pay14 (F := Ideal) (k0_pay13 (F := Ideal) xc w0 w1 (iblk m c 16 t)) (iblk m c 18 t) (ix2 s d)
      = Ideal.exp (Cert.MixerSampleReferenceIdeal.MixRef.logAt (aX4 m c) (aX8 m c) (aX12 m c) (aX13 m c) (aX14 m c) (aX15 m c) (aX18 m c) (str t) s d) := by
  rw [MixerPay.a_at, MixerPay.r_at, hr, blk_16, blk_18, zero_sub, zero_sub]
  rfl

theorem log_le (s : Fin 16) (d : Fin 512) :
    Cert.MixerSampleReferenceIdeal.MixRef.logAt (aX4 m c) (aX8 m c) (aX12 m c) (aX13 m c) (aX14 m c) (aX15 m c) (aX18 m c) (str t) s d ≤ 0 :=
  log_decay _ _ (softplus_nonneg _)

theorem input_eq (xc : FVec Ideal S16x512 .f32) (w0 w1 u0 u1 : FVec Ideal S1x256x256 .bf16) (s : Fin 16) (d : Fin 512)
    (hx : xc (ix2 s d) = Cert.MixerSampleReferenceIdeal.MixRef.xcAt (aX4 m c) (aX8 m c) (aX12 m c) (aX13 m c) (str t) s d)
    (hr : k0_pay12 (F := Ideal) xc w0 w1 (ix2 s d)
      = Cert.MixerSampleReferenceIdeal.MixRef.gateAt (aX4 m c) (aX8 m c) (aX12 m c) (aX13 m c) (aX14 m c) (str t) s d)
    (hi : k0_pay12 (F := Ideal) xc u0 u1 (ix2 s d)
      = Cert.MixerSampleReferenceIdeal.MixRef.gateAt (aX4 m c) (aX8 m c) (aX12 m c) (aX13 m c) (aX16 m c) (str t) s d) :
    termK d xc (k0_pay12 (F := Ideal) xc u0 u1) (k0_pay13 (F := Ideal) xc w0 w1 (iblk m c 16 t)) (iblk m c 17 t) (iblk m c 18 t) s
      = Cert.MixerSampleReferenceIdeal.MixRef.termAt (aX4 m c) (aX8 m c) (aX12 m c) (aX13 m c) (aX14 m c) (aX15 m c) (aX16 m c) (aX17 m c) (aX18 m c) (str t) s d := by
  unfold termK Cert.MixerSampleReferenceIdeal.MixRef.termAt
  rw [factor_eq m c t xc w0 w1 s d hr, hi, hx, blk_17, zero_sub, one_sub_sq _ (log_le m c t s d)]

/-- The recurrence's new state is the reference's. -/
theorem lru_eq (xc : FVec Ideal S16x512 .f32) (w0 w1 u0 u1 : FVec Ideal S1x256x256 .bf16)
    (hx : ∀ s d, xc (ix2 s d) = Cert.MixerSampleReferenceIdeal.MixRef.xcAt (aX4 m c) (aX8 m c) (aX12 m c) (aX13 m c) (str t) s d)
    (hr : ∀ s d, k0_pay12 (F := Ideal) xc w0 w1 (ix2 s d)
      = Cert.MixerSampleReferenceIdeal.MixRef.gateAt (aX4 m c) (aX8 m c) (aX12 m c) (aX13 m c) (aX14 m c) (str t) s d)
    (hi : ∀ s d, k0_pay12 (F := Ideal) xc u0 u1 (ix2 s d)
      = Cert.MixerSampleReferenceIdeal.MixRef.gateAt (aX4 m c) (aX8 m c) (aX12 m c) (aX13 m c) (aX16 m c) (str t) s d)
    (d : Fin 512) :
    k0_pay22 (F := Ideal)
        (k0_pay19 (F := Ideal) (k0_pay14 (F := Ideal) (k0_pay13 (F := Ideal) xc w0 w1 (iblk m c 16 t)) (iblk m c 18 t)) k0_pay16 1#32)
        (k0_pay20 (F := Ideal) (k0_pay14 (F := Ideal) (k0_pay13 (F := Ideal) xc w0 w1 (iblk m c 16 t)) (iblk m c 18 t))
          (k0_pay15 (F := Ideal) xc (k0_pay12 (F := Ideal) xc u0 u1) (k0_pay13 (F := Ideal) xc w0 w1 (iblk m c 16 t)) (iblk m c 17 t) (iblk m c 18 t)) k0_pay16 1#32)
        (iota .tc S16x512 32 [0] iota_S16x512_d0_w32) 8#32 (k0_pay6 (F := Ideal) (iblk m c 7 t)) (ix2 0 d)
      = Cert.MixerSampleReferenceIdeal.MixRef.recAt (aX4 m c) (aX7 m c) (aX8 m c) (aX12 m c) (aX13 m c) (aX14 m c) (aX15 m c) (aX16 m c) (aX17 m c) (aX18 m c) (str t) d 16 := by
  rw [lru_at d _ _ _ _ _ _ fun s => by rw [factor_eq m c t xc w0 w1 s d (hr s d)]; exact exp_ok _ (log_le m c t s d)]
  rw [in_h, blk_7]
  unfold Cert.MixerSampleReferenceIdeal.MixRef.recAt
  have e1 : seq (k0_pay14 (F := Ideal) (k0_pay13 (F := Ideal) xc w0 w1 (iblk m c 16 t)) (iblk m c 18 t)) d
      = fun n => Ideal.exp (Cert.MixerSampleReferenceIdeal.MixRef.logAt (aX4 m c) (aX8 m c) (aX12 m c) (aX13 m c) (aX14 m c) (aX15 m c) (aX18 m c) (str t) (Fin.ofNat 16 n) d) :=
    funext fun n => factor_eq m c t xc w0 w1 (Fin.ofNat 16 n) d (hr _ d)
  have e2 : rows (termK d xc (k0_pay12 (F := Ideal) xc u0 u1) (k0_pay13 (F := Ideal) xc w0 w1 (iblk m c 16 t)) (iblk m c 17 t) (iblk m c 18 t))
      = fun n => Cert.MixerSampleReferenceIdeal.MixRef.termAt (aX4 m c) (aX8 m c) (aX12 m c) (aX13 m c) (aX14 m c) (aX15 m c) (aX16 m c) (aX17 m c) (aX18 m c) (str t) (Fin.ofNat 16 n) d :=
    funext fun n => input_eq m c t xc w0 w1 u0 u1 (Fin.ofNat 16 n) d (hx _ d) (hr _ d) (hi _ d)
  rw [e1, e2]

/-- The recurrence's new state from the convolution's output and the gates' weights. -/
theorem lru_whole (xc : FVec Ideal S16x512 .f32) (w0 w1 u0 u1 : FVec Ideal S1x256x256 .bf16)
    (hx : ∀ s d, xc (ix2 s d) = Cert.MixerSampleReferenceIdeal.MixRef.xcAt (aX4 m c) (aX8 m c) (aX12 m c) (aX13 m c) (str t) s d)
    (hw0 : ∀ k d, w0 (ix3 0 k d) = aX14 m c (ix3 ⟨0 * 4 + k.val / 64, by have := k.isLt; omega⟩ ⟨k.val % 64, by omega⟩ ⟨d.val % 64, by omega⟩)
      * if k.val / 64 = d.val / 64 then 1 else 0)
    (hw1 : ∀ k d, w1 (ix3 0 k d) = aX14 m c (ix3 ⟨1 * 4 + k.val / 64, by have := k.isLt; omega⟩ ⟨k.val % 64, by omega⟩ ⟨d.val % 64, by omega⟩)
      * if k.val / 64 = d.val / 64 then 1 else 0)
    (hu0 : ∀ k d, u0 (ix3 0 k d) = aX16 m c (ix3 ⟨0 * 4 + k.val / 64, by have := k.isLt; omega⟩ ⟨k.val % 64, by omega⟩ ⟨d.val % 64, by omega⟩)
      * if k.val / 64 = d.val / 64 then 1 else 0)
    (hu1 : ∀ k d, u1 (ix3 0 k d) = aX16 m c (ix3 ⟨1 * 4 + k.val / 64, by have := k.isLt; omega⟩ ⟨k.val % 64, by omega⟩ ⟨d.val % 64, by omega⟩)
      * if k.val / 64 = d.val / 64 then 1 else 0)
    (d : Fin 512) :
    k0_pay22 (F := Ideal)
        (k0_pay19 (F := Ideal) (k0_pay14 (F := Ideal) (k0_pay13 (F := Ideal) xc w0 w1 (iblk m c 16 t)) (iblk m c 18 t)) k0_pay16 1#32)
        (k0_pay20 (F := Ideal) (k0_pay14 (F := Ideal) (k0_pay13 (F := Ideal) xc w0 w1 (iblk m c 16 t)) (iblk m c 18 t))
          (k0_pay15 (F := Ideal) xc (k0_pay12 (F := Ideal) xc u0 u1) (k0_pay13 (F := Ideal) xc w0 w1 (iblk m c 16 t)) (iblk m c 17 t) (iblk m c 18 t)) k0_pay16 1#32)
        (iota .tc S16x512 32 [0] iota_S16x512_d0_w32) 8#32 (k0_pay6 (F := Ideal) (iblk m c 7 t)) (ix2 0 d)
      = Cert.MixerSampleReferenceIdeal.MixRef.recAt (aX4 m c) (aX7 m c) (aX8 m c) (aX12 m c) (aX13 m c) (aX14 m c) (aX15 m c) (aX16 m c) (aX17 m c) (aX18 m c) (str t) d 16 :=
  lru_eq m c t xc w0 w1 u0 u1 hx (lin_eq m c t (aX14 m c) xc w0 w1 hx hw0 hw1) (lin_eq m c t (aX16 m c) xc u0 u1 hx hu0 hu1) d

/-- A step's log-decay is the reference's. -/
theorem ld_eq (g : FVec Ideal S16x128 .f32) (w : FVec Ideal S128x256 .bf16) (bg : FVec Ideal S1x256 .f32)
    (hg : ∀ s k, g (ix2 s k) = aX3 m c (ix2 (row t s) k)) (hw : ∀ k d, w (ix2 k d) = if h : k.val < 16 then aX9 m c (ix2 ⟨k.val, h⟩ d) else (0 : EReal))
    (hb : ∀ d, bg (ix2 0 d) = aX10 m c (ix1 d)) (s : Fin 16) (e : Fin 256) :
    ldK e g w bg s = Cert.MixerSampleReferenceIdeal.MixRef.ldAt (aX3 m c) (aX9 m c) (aX10 m c) (str t) s e := by
  have hu : (∑ k : Fin 128, g (ix2 s k) * w (ix2 k e) : EReal) + bg (ix2 0 e)
      = Cert.MixerSampleReferenceIdeal.MixRef.uAt (aX3 m c) (aX9 m c) (aX10 m c) (str t) s e := by
    rw [sum_low _ fun k hk => by rw [hw, dif_neg (by omega), mul_zero], hb]
    unfold Cert.MixerSampleReferenceIdeal.MixRef.uAt
    refine congrArg (fun x : EReal => x + aX10 m c (ix1 e)) (Finset.sum_congr rfl fun k _ => ?_)
    rw [hg, hw, dif_pos (show k.val < 16 from k.isLt)]
    rfl
  unfold ldK Cert.MixerSampleReferenceIdeal.MixRef.ldAt
  rw [hu]

/-- The log-decay summed up to a row is the reference's. -/
theorem decay_eq (s : Fin 16) (e : Fin 256) :
    k0_pay31 (F := Ideal) (k0_pay30 (F := Ideal) (iblk m c 3 t) (iblk m c 9 t) (iblk m c 10 t)) (iota .tc S16x256 32 [0] iota_S16x256_d0_w32) 4#32 (ix2 s e)
      = Cert.MixerSampleReferenceIdeal.MixRef.bAt (aX3 m c) (aX9 m c) (aX10 m c) (str t) s e := by
  rw [decay_at]
  unfold Cert.MixerSampleReferenceIdeal.MixRef.bAt
  exact Finset.sum_congr rfl fun s' _ => if_congr Iff.rfl (ld_eq m c t _ _ _ (blk_3 m c t) (blk_9 m c t) (blk_10 m c t) s' e) rfl

/-- A choice by a set bit. -/
theorem pick_set (x y : EReal) : Scalar.select (BitVec.ofBool true) x y = x := rfl
/-- A choice by a clear bit. -/
theorem pick_clear (x y : EReal) : Scalar.select (BitVec.ofBool false) x y = y := rfl

/-- The attention's new state is the reference's. -/
theorem gla_eq (k : FVec Ideal S16x256 .f32) (hk : ∀ s e, k (ix2 s e) = (iblk (F := Ideal) m c 0 t : FVec Ideal S16x512 .f32) (ix2 s ⟨256 + e.val, by have := e.isLt; omega⟩))
    (r : Fin 512) (e : Fin 256) :
    k0_pay45 (F := Ideal) (k0_pay26 (iota .tc S512x256 32 [0] iota_S512x256_d0_w32) (iota .tc S512x256 32 [1] iota_S512x256_d1_w32) k0_pay24 k0_pay25)
        (k0_pay29 (F := Ideal) (iblk m c 1 t))
        (k0_pay33 (F := Ideal) (k0_pay30 (F := Ideal) (iblk m c 3 t) (iblk m c 9 t) (iblk m c 10 t)) (iota .tc S16x256 32 [0] iota_S16x256_d0_w32) 4#32)
        (k0_pay36 (F := Ideal) k (k0_pay30 (F := Ideal) (iblk m c 3 t) (iblk m c 9 t) (iblk m c 10 t)) (iota .tc S16x256 32 [0] iota_S16x256_d0_w32) 4#32)
        (k0_pay5 (F := Ideal) (iblk m c 6 t)) (ix2 r e)
      = Cert.MixerSampleReferenceIdeal.MixRef.stateAt (aX0 m c) (aX1 m c) (aX3 m c) (aX6 m c) (aX9 m c) (aX10 m c) (str t) r e := by
  have hr := r.isLt; have he := e.isLt
  rw [MixerPay.state_at, in_block, in_state, blk_6, last_at, decay_eq]
  unfold Cert.MixerSampleReferenceIdeal.MixRef.stateAt
  by_cases h : r.val / 128 = e.val / 64
  · rw [if_pos h, if_pos h, mul_one, decide_eq_true h]
    have hq : (⟨r.val / 128, by omega⟩ : Fin 4) = ⟨e.val / 64, by omega⟩ := Fin.ext h
    rw [hq]
    rw [pick_set]
    refine congrArg₂ (· + ·) rfl ?_
    refine Finset.sum_congr rfl fun s _ => ?_
    rw [MixerPay.tail_at, decay_eq, decay_eq, hk, blk_0, in_values, blk_1, mul_comm]
    rfl
  · rw [if_neg h, if_neg h, mul_zero, zero_mul, zero_add, decide_eq_false h, pick_clear]

end Cert.MixerSampleIdeal.MixerPoint

end
-- ==== Proof.MixerSampleValue.lean ====
/-
  The recurrences over the sample: after the run the three arrays of states are the reference's. Every block of the arrays is
  written by one grid point.
-/
module

public import proofs.«01_k».proof.Proof.MixerFrameIdeal
public import proofs.«01_k».proof.Proof.MixerPoint
public import Idealize.ShloMosaic.Lib.Pointwise
public import Idealize.ShloMosaic.Lib.Claim
public import Idealize.ShloMosaic.Lib.Pipeline.ReadBack
public import Idealize.ShloMosaic.Lib.Pipeline.Covers
public import Idealize.ShloMosaic.Lib.Pipeline.ValueKit.Acc
public import Idealize.ShloMosaic.Lib.Pipeline.ValueKit.Geometry

@[expose] public section

set_option maxRecDepth 16384

noncomputable section

namespace Cert.MixerSampleIdeal.MixerSampleValue

open Cert.MixerSampleIdeal Cert.MixerSampleIdeal.Gen Cert.MixerMath Cert.MixerSampleIdeal.MixerPay Cert.MixerSampleIdeal.MixerWin
open Cert.MixerSampleIdeal.MixerPoint
open Cert.MixerSampleReferenceIdeal.Read
open Idealize.ShloMosaic Idealize.ShloMosaic.TcCoe Idealize.SL.Sem Finset

variable (m : (ℓ : Loc nD τ sig) → Buf (Elt Ideal) ℓ) (c : Dev nD) (t : Fin cfg0.N)

/-! ## The whole arrays -/

/-- An index of a block by its coordinates. -/
theorem ix_conv (y : S1x8x512.Idx) : y = ix3 (0 : Fin 1) (⟨(y 1).val, (y 1).isLt⟩ : Fin 8) (⟨(y 2).val, (y 2).isLt⟩ : Fin 512) := by
  funext a
  match a with
  | ⟨0, _⟩ => exact Fin.ext (Nat.lt_one_iff.1 (y 0).isLt)
  | ⟨1, _⟩ => rfl
  | ⟨2, _⟩ => rfl

/-- An index of a block by its coordinates. -/
theorem ix_h (y : S1x1x512.Idx) : y = ix3 (0 : Fin 1) (0 : Fin 1) (⟨(y 2).val, (y 2).isLt⟩ : Fin 512) := by
  funext a
  match a with
  | ⟨0, _⟩ => exact Fin.ext (Nat.lt_one_iff.1 (y 0).isLt)
  | ⟨1, _⟩ => exact Fin.ext (Nat.lt_one_iff.1 (y 1).isLt)
  | ⟨2, _⟩ => rfl

/-- An index of a block by its coordinates. -/
theorem ix_state (y : S1x512x256.Idx) : y = ix3 (0 : Fin 1) (⟨(y 1).val, (y 1).isLt⟩ : Fin 512) (⟨(y 2).val, (y 2).isLt⟩ : Fin 256) := by
  funext a
  match a with
  | ⟨0, _⟩ => exact Fin.ext (Nat.lt_one_iff.1 (y 0).isLt)
  | ⟨1, _⟩ => rfl
  | ⟨2, _⟩ => rfl

/-- After the run the convolution's rows are the reference's. -/
theorem final_22 : (dats (F := Ideal) m 0 c).arrAt 22 cfg0.N
    = (val_main_v219 (F := Ideal) (aX4 m c) (aX8 m c) : FVec Ideal S32x8x512 .f32) := by
  refine (dats m 0 c).arrAt_eq_of_covers 22 _ (by decide +kernel) fun t _ y => ?_
  blk_simp
  rw [after0_22]
  simp only [outsAt0]
  frame_open
  simp (disch := decide) only [↓ View.readCov_skip, ↓ View.readCov_cons_toLoadRect, ↓ View.readCov_fill]
  frame_out
  obtain ⟨r, d, e⟩ : ∃ r d, y = ix3 (0 : Fin 1) (r : Fin 8) (d : Fin 512) := ⟨_, _, ix_conv y⟩
  subst e
  have hi : ((View.whole main_v51_3).slice (win0_22.rect t)).emb (ix3 0 r d) = ix3 (str t) r d := by
    have e := index_out t
    unfold str
    blk_ext [e.2.2]
  rw [hi]

  refine (out_conv _ r d).trans ?_
  refine (keep_rows _ r d).trans ?_
  refine (load_tail _ _ _ [] _ r d).trans ?_
  have hr := r.isLt
  rw [pad_eq m c t _ (by omega) (by omega), Cert.MixerSampleReferenceIdeal.MixRef.kept_at]
  exact congrArg (fun j => Cert.MixerSampleReferenceIdeal.MixRef.xpAt (aX4 m c) (aX8 m c) (str t) j d)
    (Fin.ext (by show 16 + r.val - 5 = 11 + r.val; omega))

/-- After the run the recurrence's states are the reference's. -/
theorem final_21 : (dats (F := Ideal) m 0 c).arrAt 21 cfg0.N
    = (val_main_v218 (F := Ideal) (aX4 m c) (aX7 m c) (aX8 m c) (aX12 m c) (aX13 m c) (aX14 m c) (aX15 m c) (aX16 m c) (aX17 m c) (aX18 m c) : FVec Ideal S32x1x512 .f32) := by
  refine (dats m 0 c).arrAt_eq_of_covers 21 _ (by decide +kernel) fun t _ y => ?_
  blk_simp
  rw [after0_21]
  simp only [outsAt0]
  frame_open
  simp (disch := decide) only [↓ View.readCov_skip, ↓ View.readCov_cons_toLoadRect, ↓ View.readCov_fill]
  frame_out
  obtain ⟨d, e⟩ : ∃ d, y = ix3 (0 : Fin 1) (0 : Fin 1) (d : Fin 512) := ⟨_, ix_h y⟩
  subst e
  have hi : ((View.whole main_v51_2).slice (win0_21.rect t)).emb (ix3 0 0 d) = ix3 (str t) 0 d := by
    have e := index_out t
    unfold str
    blk_ext [e.2.1]
  rw [hi, Cert.MixerSampleReferenceIdeal.MixRef.h_at]
  refine (out_h _ d).trans ?_
  exact lru_whole m c t _ _ _ _ _
    (xc_eq m c t _ _ _ _ _ _ _ _
      (fun d => (load_weight _ 0 _ d).trans (blk_12 m c t 0 d)) (fun d => (load_weight _ 1 _ d).trans (blk_12 m c t 1 d))
      (fun d => (load_weight _ 2 _ d).trans (blk_12 m c t 2 d)) (fun d => (load_weight _ 3 _ d).trans (blk_12 m c t 3 d))
      (fun s d => load_rows _ _ _ [] 5 _ s d) (fun s d => load_rows _ _ _ [] 6 _ s d) (fun s d => load_rows _ _ _ [] 7 _ s d)
      (fun s d => pad_rows _ _ s d))
    (fun k d => (load_gate _ 0 _ k d).trans (blk_14 m c t 0 k d)) (fun k d => (load_gate _ 1 _ k d).trans (blk_14 m c t 1 k d))
    (fun k d => (load_gate _ 0 _ k d).trans (blk_15 m c t 0 k d)) (fun k d => (load_gate _ 1 _ k d).trans (blk_15 m c t 1 k d)) d

/-- After the run the attention's states are the reference's. -/
theorem final_20 : (dats (F := Ideal) m 0 c).arrAt 20 cfg0.N
    = (val_main_v216 (F := Ideal) (aX0 m c) (aX1 m c) (aX3 m c) (aX6 m c) (aX9 m c) (aX10 m c) : FVec Ideal S32x512x256 .f32) := by
  refine (dats m 0 c).arrAt_eq_of_covers 20 _ (by decide +kernel) fun t _ y => ?_
  blk_simp
  rw [after0_20]
  simp only [outsAt0]
  frame_open
  simp (disch := decide) only [↓ View.readCov_skip, ↓ View.readCov_cons_toLoadRect, ↓ View.readCov_fill]
  frame_out
  obtain ⟨r, d, e⟩ : ∃ r d, y = ix3 (0 : Fin 1) (r : Fin 512) (d : Fin 256) := ⟨_, _, ix_state y⟩
  subst e
  have hi : ((View.whole main_v51_1).slice (win0_20.rect t)).emb (ix3 0 r d) = ix3 (str t) r d := by
    have e := index_out t
    unfold str
    blk_ext [e.1]
  rw [hi, Cert.MixerSampleReferenceIdeal.MixRef.state_at]
  refine (out_state _ r d).trans ?_
  exact gla_eq m c t _ (fun s e => load_keys _ _ s e) r d

end Cert.MixerSampleIdeal.MixerSampleValue

end
-- ==== Proof.lean ====
/-
  The certificate of six calls of the layers' trunk: the stick-breaking attention over the prompt, whose tiled kernel walks the
  blocks of keys backwards, the modulated norms with their projections into the odd layer's mixer (over the prompt and over the
  sample) and into the even layer's, the even layer's recurrences over the sample, and the output projection with the norm before
  the experts. `Proof/SbMath` has the attention's weights over the reals, `Proof/SbPay` and `Proof/SbRun` what one grid point
  leaves, `Proof/SbRef` the reference at an element, `Proof/SbValue` the two arrays' equality. `Proof/QkvValue`,
  `Proof/QkvSampleValue`, `Proof/MixInValue` and `Proof/MixOutValue` have four of the others. For the recurrences `Proof/MixerRun`
  and `Proof/MixerFrame` (and the same of the idealized program) have the run, `Proof/MixerMath` the doublings, `Proof/MixerPay`
  and `Proof/MixerWin` the kernel's arithmetic and blocks, `Proof/MixerRef` the reference at an element, `Proof/MixerPoint` and
  `Proof/MixerSampleValue` the states' equality. Here the claims are put together.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Qkv.Frame
public import proofs.«01_k».proof.Proof.Gen.QkvIdeal.Value
public import proofs.«01_k».proof.Proof.Gen.QkvReferenceIdeal.Run
public import proofs.«01_k».proof.Proof.Gen.QkvReferenceIdeal.Read
public import proofs.«01_k».proof.Proof.Gen.QkvSample.Frame
public import proofs.«01_k».proof.Proof.Gen.QkvSampleIdeal.Value
public import proofs.«01_k».proof.Proof.Gen.QkvSampleReferenceIdeal.Run
public import proofs.«01_k».proof.Proof.Gen.QkvSampleReferenceIdeal.Read
public import proofs.«01_k».proof.Proof.Gen.MixIn.Frame
public import proofs.«01_k».proof.Proof.Gen.MixInIdeal.Value
public import proofs.«01_k».proof.Proof.Gen.MixInReferenceIdeal.Run
public import proofs.«01_k».proof.Proof.Gen.MixInReferenceIdeal.Read
public import proofs.«01_k».proof.Proof.MixerFrame
public import proofs.«01_k».proof.Proof.MixerFrameIdeal
public import proofs.«01_k».proof.Proof.Gen.MixerSampleReferenceIdeal.Run
public import proofs.«01_k».proof.Proof.Gen.MixerSampleReferenceIdeal.Read
public import proofs.«01_k».proof.Proof.Gen.MixOut.Frame
public import proofs.«01_k».proof.Proof.Gen.MixOutIdeal.Value
public import proofs.«01_k».proof.Proof.Gen.MixOutReferenceIdeal.Run
public import proofs.«01_k».proof.Proof.Gen.MixOutReferenceIdeal.Read
public import proofs.«01_k».proof.Proof.SbValue
public import proofs.«01_k».proof.Proof.SbFinite
public import proofs.«01_k».proof.Proof.QkvValue
public import proofs.«01_k».proof.Proof.QkvSampleValue
public import proofs.«01_k».proof.Proof.MixInValue
public import proofs.«01_k».proof.Proof.MixOutValue
public import proofs.«01_k».proof.Proof.MixerSampleValue
public import Idealize.ShloMosaic.Lib.Quiescent
public import Idealize.ShloMosaic.Adequacy
public import Idealize.ShloMosaic.Init

@[expose] public section

noncomputable section

namespace Cert.Proof

open Idealize.ShloMosaic Idealize.SL.Sem

/-- The facts the precondition's function states. -/
theorem pre_facts : Cert.Pre_finite_qk.Facts := ⟨by decide, by decide⟩

instance : Cert.Pre_finite_qk.Facts := pre_facts

/-- The facts the recurrences' mask states. -/
theorem states_only_facts : Cert.On_states_only.Facts := ⟨by decide, by decide, by decide, by decide⟩

instance : Cert.On_states_only.Facts := states_only_facts

/-- The facts the output projection's mask states. -/
theorem stream_only_facts : Cert.On_stream_only.Facts := ⟨by decide, by decide⟩

instance : Cert.On_stream_only.Facts := stream_only_facts

/-- The reference runs without fault and leaves its arguments and the counters as they were. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- Where every query and key is finite, kernel and reference leave the same result. -/
theorem attention : Cert.algebraic_KernelIdeal_ReferenceIdeal_pre_finite_qk (hKernelIdeal := Cert.KernelIdeal.Gen.facts)
    (hReferenceIdeal := Cert.ReferenceIdeal.Gen.facts) (hPre_finite_qk := pre_facts) := by
  intro m g m' g' hpre hagree
  refine ⟨fun c => Cert.KernelIdeal.SbValue.goal m c, ?_, ?_⟩
  · refine (θ_run _ _ _).mono (fun r h c => ⟨(h c).1.trans ?_, (h c).2⟩) (Cert.KernelIdeal.Value.run_blocks m g)
    obtain ⟨⟨qr, hq⟩, kr, hk⟩ := Cert.SbFinite.reals _ _ _ (hpre c)
    exact Cert.KernelIdeal.SbValue.final m c qr kr hq hk
  · refine (θ_run _ _ _).mono (fun r h c => ⟨(h c).1.trans ?_, (h c).2⟩) (Cert.ReferenceIdeal.Value.run m' g')
    rw [Cert.ReferenceIdeal.Read.val_main_v32_eq, (hagree c).1, (hagree c).2.1, (hagree c).2.2]

/-- The reference runs without fault and leaves its arguments and the counters as they were. -/
theorem qkv_reference_frame : Cert.quiescent_QkvReferenceIdeal (hQkvReferenceIdeal := Cert.QkvReferenceIdeal.Gen.facts) := fun m ρ _ =>
  (θ_run _ _ _).mono (fun r h => ⟨fun c => (h c).2.2.2.2.2, sem_eq_zero_of_no_sems (by decide) r.2⟩) (Cert.QkvReferenceIdeal.Value.run m ρ)

/-- The reference runs without fault and leaves its arguments and the counters as they were. -/
theorem qkv_sample_reference_frame : Cert.quiescent_QkvSampleReferenceIdeal (hQkvSampleReferenceIdeal := Cert.QkvSampleReferenceIdeal.Gen.facts) := fun m ρ _ =>
  (θ_run _ _ _).mono (fun r h => ⟨fun c => (h c).2.2.2.2.2, sem_eq_zero_of_no_sems (by decide) r.2⟩) (Cert.QkvSampleReferenceIdeal.Value.run m ρ)

/-- The reference runs without fault and leaves its arguments and the counters as they were. -/
theorem mix_in_reference_frame : Cert.quiescent_MixInReferenceIdeal (hMixInReferenceIdeal := Cert.MixInReferenceIdeal.Gen.facts) := fun m ρ _ =>
  (θ_run _ _ _).mono (fun r h => ⟨fun c => (h c).2.2.2.2.2.2, sem_eq_zero_of_no_sems (by decide) r.2⟩) (Cert.MixInReferenceIdeal.Value.run m ρ)

/-- The reference runs without fault and leaves its arguments and the counters as they were. -/
theorem mixer_sample_reference_frame : Cert.quiescent_MixerSampleReferenceIdeal (hMixerSampleReferenceIdeal := Cert.MixerSampleReferenceIdeal.Gen.facts) := fun m ρ _ =>
  (θ_run _ _ _).mono (fun r h => ⟨fun c => (h c).2.2.2.2, sem_eq_zero_of_no_sems (by decide) r.2⟩) (Cert.MixerSampleReferenceIdeal.Value.run m ρ)

/-- The reference runs without fault and leaves its arguments and the counters as they were. -/
theorem mix_out_reference_frame : Cert.quiescent_MixOutReferenceIdeal (hMixOutReferenceIdeal := Cert.MixOutReferenceIdeal.Gen.facts) := fun m ρ _ =>
  (θ_run _ _ _).mono (fun r h => ⟨fun c => (h c).2.2.2.2, sem_eq_zero_of_no_sems (by decide) r.2⟩) (Cert.MixOutReferenceIdeal.Value.run m ρ)

/-- Kernel and reference leave the same queries, keys and values. -/
theorem qkv : Cert.algebraic_QkvIdeal_QkvReferenceIdeal (hQkvIdeal := Cert.QkvIdeal.Gen.facts)
    (hQkvReferenceIdeal := Cert.QkvReferenceIdeal.Gen.facts) := by
  intro m g m' g' _ hagree
  refine ⟨fun c => Cert.QkvReferenceIdeal.Read.val_main_v32 (F := Ideal) (Cert.QkvIdeal.QkvValue.aX m c) (Cert.QkvIdeal.QkvValue.aG m c) (Cert.QkvIdeal.QkvValue.aSh m c) (Cert.QkvIdeal.QkvValue.aSc m c) (Cert.QkvIdeal.QkvValue.aW m c),
    fun c => Cert.QkvReferenceIdeal.Read.val_main_v27 (F := Ideal) (Cert.QkvIdeal.QkvValue.aX m c) (Cert.QkvIdeal.QkvValue.aG m c) (Cert.QkvIdeal.QkvValue.aSh m c) (Cert.QkvIdeal.QkvValue.aSc m c) (Cert.QkvIdeal.QkvValue.aW m c),
    fun c => Cert.QkvReferenceIdeal.Read.val_main_v33 (F := Ideal) (Cert.QkvIdeal.QkvValue.aX m c) (Cert.QkvIdeal.QkvValue.aG m c) (Cert.QkvIdeal.QkvValue.aSh m c) (Cert.QkvIdeal.QkvValue.aSc m c) (Cert.QkvIdeal.QkvValue.aW m c),
    fun c => Cert.QkvReferenceIdeal.Read.val_main_v29 (F := Ideal) (Cert.QkvIdeal.QkvValue.aX m c) (Cert.QkvIdeal.QkvValue.aG m c) (Cert.QkvIdeal.QkvValue.aSh m c) (Cert.QkvIdeal.QkvValue.aSc m c) (Cert.QkvIdeal.QkvValue.aW m c),
    fun c => Cert.QkvReferenceIdeal.Read.val_main_v34 (F := Ideal) (Cert.QkvIdeal.QkvValue.aX m c) (Cert.QkvIdeal.QkvValue.aG m c) (Cert.QkvIdeal.QkvValue.aSh m c) (Cert.QkvIdeal.QkvValue.aSc m c) (Cert.QkvIdeal.QkvValue.aW m c), ?_, ?_⟩
  · refine (θ_run _ _ _).mono (fun r h c => ?_) (Cert.QkvIdeal.Value.run_blocks m g)
    obtain ⟨h0, h1, h2, h3, h4, h⟩ := h c
    exact ⟨h0.trans (Cert.QkvIdeal.QkvValue.final_7 m c), h1.trans (Cert.QkvIdeal.QkvValue.final_8 m c), h2.trans (Cert.QkvIdeal.QkvValue.final_9 m c), h3.trans (Cert.QkvIdeal.QkvValue.final_10 m c), h4.trans (Cert.QkvIdeal.QkvValue.final_11 m c), h⟩
  · refine (θ_run _ _ _).mono (fun r h c => ?_) (Cert.QkvReferenceIdeal.Value.run m' g')
    obtain ⟨h0, h1, h2, h3, h4, h⟩ := h c
    obtain ⟨e0, e1, e2, e3, e4⟩ := hagree c
    exact ⟨h0.trans (by rw [Cert.QkvReferenceIdeal.Read.val_main_v32_eq, e0, e1, e2, e3, e4]),
      h1.trans (by rw [Cert.QkvReferenceIdeal.Read.val_main_v27_eq, e0, e1, e2, e3, e4]),
      h2.trans (by rw [Cert.QkvReferenceIdeal.Read.val_main_v33_eq, e0, e1, e2, e3, e4]),
      h3.trans (by rw [Cert.QkvReferenceIdeal.Read.val_main_v29_eq, e0, e1, e2, e3, e4]),
      h4.trans (by rw [Cert.QkvReferenceIdeal.Read.val_main_v34_eq, e0, e1, e2, e3, e4]), h⟩

/-- Kernel and reference leave the same queries, keys and values of the sample. -/
theorem qkv_sample : Cert.algebraic_QkvSampleIdeal_QkvSampleReferenceIdeal (hQkvSampleIdeal := Cert.QkvSampleIdeal.Gen.facts)
    (hQkvSampleReferenceIdeal := Cert.QkvSampleReferenceIdeal.Gen.facts) := by
  intro m g m' g' _ hagree
  refine ⟨fun c => Cert.QkvSampleReferenceIdeal.Read.val_main_v32 (F := Ideal) (Cert.QkvSampleIdeal.QkvSampleValue.aX m c) (Cert.QkvSampleIdeal.QkvSampleValue.aG m c) (Cert.QkvSampleIdeal.QkvSampleValue.aSh m c) (Cert.QkvSampleIdeal.QkvSampleValue.aSc m c) (Cert.QkvSampleIdeal.QkvSampleValue.aW m c),
    fun c => Cert.QkvSampleReferenceIdeal.Read.val_main_v27 (F := Ideal) (Cert.QkvSampleIdeal.QkvSampleValue.aX m c) (Cert.QkvSampleIdeal.QkvSampleValue.aG m c) (Cert.QkvSampleIdeal.QkvSampleValue.aSh m c) (Cert.QkvSampleIdeal.QkvSampleValue.aSc m c) (Cert.QkvSampleIdeal.QkvSampleValue.aW m c),
    fun c => Cert.QkvSampleReferenceIdeal.Read.val_main_v33 (F := Ideal) (Cert.QkvSampleIdeal.QkvSampleValue.aX m c) (Cert.QkvSampleIdeal.QkvSampleValue.aG m c) (Cert.QkvSampleIdeal.QkvSampleValue.aSh m c) (Cert.QkvSampleIdeal.QkvSampleValue.aSc m c) (Cert.QkvSampleIdeal.QkvSampleValue.aW m c),
    fun c => Cert.QkvSampleReferenceIdeal.Read.val_main_v29 (F := Ideal) (Cert.QkvSampleIdeal.QkvSampleValue.aX m c) (Cert.QkvSampleIdeal.QkvSampleValue.aG m c) (Cert.QkvSampleIdeal.QkvSampleValue.aSh m c) (Cert.QkvSampleIdeal.QkvSampleValue.aSc m c) (Cert.QkvSampleIdeal.QkvSampleValue.aW m c),
    fun c => Cert.QkvSampleReferenceIdeal.Read.val_main_v34 (F := Ideal) (Cert.QkvSampleIdeal.QkvSampleValue.aX m c) (Cert.QkvSampleIdeal.QkvSampleValue.aG m c) (Cert.QkvSampleIdeal.QkvSampleValue.aSh m c) (Cert.QkvSampleIdeal.QkvSampleValue.aSc m c) (Cert.QkvSampleIdeal.QkvSampleValue.aW m c), ?_, ?_⟩
  · refine (θ_run _ _ _).mono (fun r h c => ?_) (Cert.QkvSampleIdeal.Value.run_blocks m g)
    obtain ⟨h0, h1, h2, h3, h4, h⟩ := h c
    exact ⟨h0.trans (Cert.QkvSampleIdeal.QkvSampleValue.final_7 m c), h1.trans (Cert.QkvSampleIdeal.QkvSampleValue.final_8 m c), h2.trans (Cert.QkvSampleIdeal.QkvSampleValue.final_9 m c), h3.trans (Cert.QkvSampleIdeal.QkvSampleValue.final_10 m c), h4.trans (Cert.QkvSampleIdeal.QkvSampleValue.final_11 m c), h⟩
  · refine (θ_run _ _ _).mono (fun r h c => ?_) (Cert.QkvSampleReferenceIdeal.Value.run m' g')
    obtain ⟨h0, h1, h2, h3, h4, h⟩ := h c
    obtain ⟨e0, e1, e2, e3, e4⟩ := hagree c
    exact ⟨h0.trans (by rw [Cert.QkvSampleReferenceIdeal.Read.val_main_v32_eq, e0, e1, e2, e3, e4]),
      h1.trans (by rw [Cert.QkvSampleReferenceIdeal.Read.val_main_v27_eq, e0, e1, e2, e3, e4]),
      h2.trans (by rw [Cert.QkvSampleReferenceIdeal.Read.val_main_v33_eq, e0, e1, e2, e3, e4]),
      h3.trans (by rw [Cert.QkvSampleReferenceIdeal.Read.val_main_v29_eq, e0, e1, e2, e3, e4]),
      h4.trans (by rw [Cert.QkvSampleReferenceIdeal.Read.val_main_v34_eq, e0, e1, e2, e3, e4]), h⟩

/-- Kernel and reference leave the same six inputs of the even layer's mixer. -/
theorem mix_in : Cert.algebraic_MixInIdeal_MixInReferenceIdeal (hMixInIdeal := Cert.MixInIdeal.Gen.facts)
    (hMixInReferenceIdeal := Cert.MixInReferenceIdeal.Gen.facts) := by
  intro m g m' g' _ hagree
  refine ⟨fun c => Cert.MixInReferenceIdeal.Read.val_main_v24 (F := Ideal) (Cert.MixInIdeal.MixInValue.aX m c) (Cert.MixInIdeal.MixInValue.aG m c) (Cert.MixInIdeal.MixInValue.aSh m c) (Cert.MixInIdeal.MixInValue.aSc m c) (Cert.MixInIdeal.MixInValue.aW m c),
    fun c => Cert.MixInReferenceIdeal.Read.val_main_v25 (F := Ideal) (Cert.MixInIdeal.MixInValue.aX m c) (Cert.MixInIdeal.MixInValue.aG m c) (Cert.MixInIdeal.MixInValue.aSh m c) (Cert.MixInIdeal.MixInValue.aSc m c) (Cert.MixInIdeal.MixInValue.aW m c),
    fun c => Cert.MixInReferenceIdeal.Read.val_main_v26 (F := Ideal) (Cert.MixInIdeal.MixInValue.aX m c) (Cert.MixInIdeal.MixInValue.aG m c) (Cert.MixInIdeal.MixInValue.aSh m c) (Cert.MixInIdeal.MixInValue.aSc m c) (Cert.MixInIdeal.MixInValue.aW m c),
    fun c => Cert.MixInReferenceIdeal.Read.val_main_v30 (F := Ideal) (Cert.MixInIdeal.MixInValue.aX m c) (Cert.MixInIdeal.MixInValue.aG m c) (Cert.MixInIdeal.MixInValue.aSh m c) (Cert.MixInIdeal.MixInValue.aSc m c) (Cert.MixInIdeal.MixInValue.aW m c),
    fun c => Cert.MixInReferenceIdeal.Read.val_main_v28 (F := Ideal) (Cert.MixInIdeal.MixInValue.aX m c) (Cert.MixInIdeal.MixInValue.aG m c) (Cert.MixInIdeal.MixInValue.aSh m c) (Cert.MixInIdeal.MixInValue.aSc m c) (Cert.MixInIdeal.MixInValue.aW m c),
    fun c => Cert.MixInReferenceIdeal.Read.val_main_v29 (F := Ideal) (Cert.MixInIdeal.MixInValue.aX m c) (Cert.MixInIdeal.MixInValue.aG m c) (Cert.MixInIdeal.MixInValue.aSh m c) (Cert.MixInIdeal.MixInValue.aSc m c) (Cert.MixInIdeal.MixInValue.aW m c), ?_, ?_⟩
  · refine (θ_run _ _ _).mono (fun r h c => ?_) (Cert.MixInIdeal.Value.run_blocks m g)
    obtain ⟨h0, h1, h2, h3, h4, h5, h⟩ := h c
    exact ⟨h0.trans (Cert.MixInIdeal.MixInValue.final_10 m c), h1.trans (Cert.MixInIdeal.MixInValue.final_11 m c), h2.trans (Cert.MixInIdeal.MixInValue.final_12 m c), h3.trans (Cert.MixInIdeal.MixInValue.final_13 m c), h4.trans (Cert.MixInIdeal.MixInValue.final_14 m c), h5.trans (Cert.MixInIdeal.MixInValue.final_15 m c), h⟩
  · refine (θ_run _ _ _).mono (fun r h c => ?_) (Cert.MixInReferenceIdeal.Value.run m' g')
    obtain ⟨h0, h1, h2, h3, h4, h5, h⟩ := h c
    obtain ⟨e0, e1, e2, e3, e4⟩ := hagree c
    exact ⟨h0.trans (by rw [Cert.MixInReferenceIdeal.Read.val_main_v24_eq, e0, e1, e2, e3, e4]),
      h1.trans (by rw [Cert.MixInReferenceIdeal.Read.val_main_v25_eq, e0, e1, e2, e3, e4]),
      h2.trans (by rw [Cert.MixInReferenceIdeal.Read.val_main_v26_eq, e0, e1, e2, e3, e4]),
      h3.trans (by rw [Cert.MixInReferenceIdeal.Read.val_main_v30_eq, e0, e1, e2, e3, e4]),
      h4.trans (by rw [Cert.MixInReferenceIdeal.Read.val_main_v28_eq, e0, e1, e2, e3, e4]),
      h5.trans (by rw [Cert.MixInReferenceIdeal.Read.val_main_v29_eq, e0, e1, e2, e3, e4]), h⟩

/-- Kernel and reference leave the same states of the attention, of the recurrence and of the convolution. -/
theorem mixer_sample : Cert.algebraic_MixerSampleIdeal_MixerSampleReferenceIdeal_on_states_only (hMixerSampleIdeal := Cert.MixerSampleIdeal.Gen.facts)
    (hMixerSampleReferenceIdeal := Cert.MixerSampleReferenceIdeal.Gen.facts) (hOn_states_only := states_only_facts) := by
  intro m g m' g' _ hagree
  refine ⟨fun c => (Cert.MixerSampleIdeal.Gen.dats (F := Ideal) m 0 c).arrAt 19 Cert.MixerSampleIdeal.cfg0.N,
    fun c => Cert.MixerSampleReferenceIdeal.Read.val_main_v216 (F := Ideal) (Cert.MixerSampleIdeal.MixerWin.aX0 m c) (Cert.MixerSampleIdeal.MixerWin.aX1 m c) (Cert.MixerSampleIdeal.MixerWin.aX3 m c) (Cert.MixerSampleIdeal.MixerWin.aX6 m c) (Cert.MixerSampleIdeal.MixerWin.aX9 m c) (Cert.MixerSampleIdeal.MixerWin.aX10 m c),
    fun c => Cert.MixerSampleReferenceIdeal.Read.val_main_v218 (F := Ideal) (Cert.MixerSampleIdeal.MixerWin.aX4 m c) (Cert.MixerSampleIdeal.MixerWin.aX7 m c) (Cert.MixerSampleIdeal.MixerWin.aX8 m c) (Cert.MixerSampleIdeal.MixerWin.aX12 m c) (Cert.MixerSampleIdeal.MixerWin.aX13 m c) (Cert.MixerSampleIdeal.MixerWin.aX14 m c) (Cert.MixerSampleIdeal.MixerWin.aX15 m c) (Cert.MixerSampleIdeal.MixerWin.aX16 m c) (Cert.MixerSampleIdeal.MixerWin.aX17 m c) (Cert.MixerSampleIdeal.MixerWin.aX18 m c),
    fun c => Cert.MixerSampleReferenceIdeal.Read.val_main_v219 (F := Ideal) (Cert.MixerSampleIdeal.MixerWin.aX4 m c) (Cert.MixerSampleIdeal.MixerWin.aX8 m c), ?_, ?_⟩
  · refine (θ_run _ _ _).mono (fun r h c => ?_) (Cert.MixerSampleIdeal.Value.run_blocks m g)
    obtain ⟨h0, h1, h2, h3, h⟩ := h c
    exact ⟨fun i _ => congrFun h0 i, fun i _ => congrFun (h1.trans (Cert.MixerSampleIdeal.MixerSampleValue.final_20 m c)) i, fun i _ => congrFun (h2.trans (Cert.MixerSampleIdeal.MixerSampleValue.final_21 m c)) i, fun i _ => congrFun (h3.trans (Cert.MixerSampleIdeal.MixerSampleValue.final_22 m c)) i, h⟩
  · refine (θ_run _ _ _).mono (fun r h c => ?_) (Cert.MixerSampleReferenceIdeal.Value.run m' g')
    obtain ⟨h0, h1, h2, h3, h⟩ := h c
    obtain ⟨e0, e1, e2, e3, e4, e5, e6, e7, e8, e9, e10, e11, e12, e13, e14, e15, e16, e17, e18⟩ := hagree c
    exact ⟨fun i hi => absurd hi (show ¬((0#1 : BitVec 1) = 1#1) by decide),
      fun i _ => congrFun (h1.trans ((Cert.MixerSampleReferenceIdeal.Read.val_main_v216_eq _).trans (congr (congr (congr (congr (congr (congrArg (Cert.MixerSampleReferenceIdeal.Read.val_main_v216 (F := Ideal)) e0) e1) e3) e6) e9) e10))) i,
      fun i _ => congrFun (h2.trans ((Cert.MixerSampleReferenceIdeal.Read.val_main_v218_eq _).trans (congr (congr (congr (congr (congr (congr (congr (congr (congr (congrArg (Cert.MixerSampleReferenceIdeal.Read.val_main_v218 (F := Ideal)) e4) e7) e8) e12) e13) e14) e15) e16) e17) e18))) i,
      fun i _ => congrFun (h3.trans ((Cert.MixerSampleReferenceIdeal.Read.val_main_v219_eq _).trans (congr (congrArg (Cert.MixerSampleReferenceIdeal.Read.val_main_v219 (F := Ideal)) e4) e8))) i, h⟩

/-- Kernel and reference leave the same stream and the same norm of it. -/
theorem mix_out : Cert.algebraic_MixOutIdeal_MixOutReferenceIdeal_on_stream_only (hMixOutIdeal := Cert.MixOutIdeal.Gen.facts)
    (hMixOutReferenceIdeal := Cert.MixOutReferenceIdeal.Gen.facts) (hOn_stream_only := stream_only_facts) := by
  intro m g m' g' _ hagree
  refine ⟨fun c => Cert.MixOutReferenceIdeal.Read.val_main_v29 (F := Ideal) (Cert.MixOutIdeal.MixOutValue.aA m c) (Cert.MixOutIdeal.MixOutValue.aW m c) (Cert.MixOutIdeal.MixOutValue.aX m c) (Cert.MixOutIdeal.MixOutValue.aG m c),
    fun c => Cert.MixOutReferenceIdeal.Read.val_main_v30 (F := Ideal) (Cert.MixOutIdeal.MixOutValue.aA m c) (Cert.MixOutIdeal.MixOutValue.aW m c) (Cert.MixOutIdeal.MixOutValue.aX m c) (Cert.MixOutIdeal.MixOutValue.aG m c) (Cert.MixOutIdeal.MixOutValue.aN m c) (Cert.MixOutIdeal.MixOutValue.aSh m c) (Cert.MixOutIdeal.MixOutValue.aSc m c),
    fun c => (Cert.MixOutIdeal.Gen.dats (F := Ideal) m 0 c).arrAt 12 Cert.MixOutIdeal.cfg0.N,
    fun c => (Cert.MixOutIdeal.Gen.dats (F := Ideal) m 0 c).arrAt 13 Cert.MixOutIdeal.cfg0.N, ?_, ?_⟩
  · refine (θ_run _ _ _).mono (fun r h c => ?_) (Cert.MixOutIdeal.Value.run_blocks m g)
    obtain ⟨h0, h1, h2, h3, h⟩ := h c
    exact ⟨fun i _ => congrFun (h0.trans (Cert.MixOutIdeal.MixOutValue.final_10 m c)) i, fun i _ => congrFun (h1.trans (Cert.MixOutIdeal.MixOutValue.final_11 m c)) i, fun i _ => congrFun h2 i, fun i _ => congrFun h3 i, h⟩
  · refine (θ_run _ _ _).mono (fun r h c => ?_) (Cert.MixOutReferenceIdeal.Value.run m' g')
    obtain ⟨h0, h1, h2, h3, h⟩ := h c
    obtain ⟨e0, e1, e2, e3, e4, e5, e6, e7, e8⟩ := hagree c
    exact ⟨fun i _ => congrFun (h0.trans (by rw [Cert.MixOutReferenceIdeal.Read.val_main_v29_eq, e0, e1, e2, e3])) i,
      fun i _ => congrFun (h1.trans (by rw [Cert.MixOutReferenceIdeal.Read.val_main_v30_eq, e0, e1, e2, e3, e4, e5, e6])) i,
      fun i hi => absurd hi (show ¬((0#1 : BitVec 1) = 1#1) by decide),
      fun i hi => absurd hi (show ¬((0#1 : BitVec 1) = 1#1) by decide), h⟩

theorem claim : Cert.Claim :=
  ⟨Cert.Kernel.Gen.facts, Cert.KernelIdeal.Gen.facts, Cert.ReferenceIdeal.Gen.facts,
    Cert.Qkv.Gen.facts, Cert.QkvIdeal.Gen.facts, Cert.QkvReferenceIdeal.Gen.facts,
    Cert.QkvSample.Gen.facts, Cert.QkvSampleIdeal.Gen.facts, Cert.QkvSampleReferenceIdeal.Gen.facts,
    Cert.MixIn.Gen.facts, Cert.MixInIdeal.Gen.facts, Cert.MixInReferenceIdeal.Gen.facts,
    Cert.MixerSample.Gen.facts, Cert.MixerSampleIdeal.Gen.facts, Cert.MixerSampleReferenceIdeal.Gen.facts,
    Cert.MixOut.Gen.facts, Cert.MixOutIdeal.Gen.facts, Cert.MixOutReferenceIdeal.Gen.facts,
    pre_facts, states_only_facts, stream_only_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Qkv.Gen.frame m ρ,
    fun m ρ _ => Cert.QkvIdeal.Gen.frame m ρ,
    qkv_reference_frame,
    fun m ρ _ => Cert.QkvSample.Gen.frame m ρ,
    fun m ρ _ => Cert.QkvSampleIdeal.Gen.frame m ρ,
    qkv_sample_reference_frame,
    fun m ρ _ => Cert.MixIn.Gen.frame m ρ,
    fun m ρ _ => Cert.MixInIdeal.Gen.frame m ρ,
    mix_in_reference_frame,
    fun m ρ _ => Cert.MixerSample.Gen.frame m ρ,
    fun m ρ _ => Cert.MixerSampleIdeal.Gen.frame m ρ,
    mixer_sample_reference_frame,
    fun m ρ _ => Cert.MixOut.Gen.frame m ρ,
    fun m ρ _ => Cert.MixOutIdeal.Gen.frame m ρ,
    mix_out_reference_frame,
    trivial,
    attention,
    trivial,
    qkv,
    trivial,
    qkv_sample,
    trivial,
    mix_in,
    trivial,
    mixer_sample,
    trivial,
    mix_out⟩

end Cert.Proof

end
